-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_log_f [hPre_finite_log_f : Cert.Pre_finite_log_f.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_log_f.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_log_f [hPre_finite_log_f : Cert.Pre_finite_log_f.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_log_f.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_log_f [hKernel6Ideal : Cert.Kernel6Ideal.Facts] [hPre_finite_log_f : Cert.Pre_finite_log_f.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_log_f m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_log_f [hReference6Ideal : Cert.Reference6Ideal.Facts] [hPre_finite_log_f : Cert.Pre_finite_log_f.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_log_f m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_v4_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v43) = v3 c
          ∧ r.2.mem ((c.tc : Thread Cert.Reference3Ideal.nD Cert.Reference3Ideal.τ).loc Cert.Reference3Ideal.main_v46) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_v48) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_log_f [hKernel6Ideal : Cert.Kernel6Ideal.Facts] [hReference6Ideal : Cert.Reference6Ideal.Facts] [hPre_finite_log_f : Cert.Pre_finite_log_f.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_log_f m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_weights : Cert.Pre_finite_weights.Facts) (hPre_finite_log_f : Cert.Pre_finite_log_f.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ quiescent_Kernel6 (hKernel6 := hKernel6)
    ∧ quiescent_Kernel6Ideal (hKernel6Ideal := hKernel6Ideal)
    ∧ quiescent_Kernel6Ideal_pre_finite_log_f (hKernel6Ideal := hKernel6Ideal) (hPre_finite_log_f := hPre_finite_log_f)
    ∧ quiescent_Reference6Ideal (hReference6Ideal := hReference6Ideal)
    ∧ quiescent_Reference6Ideal_pre_finite_log_f (hReference6Ideal := hReference6Ideal) (hPre_finite_log_f := hPre_finite_log_f)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
    ∧ preserves_Kernel6_Kernel6Ideal
    ∧ algebraic_Kernel6Ideal_Reference6Ideal_pre_finite_log_f (hKernel6Ideal := hKernel6Ideal) (hReference6Ideal := hReference6Ideal) (hPre_finite_log_f := hPre_finite_log_f)
    ∧ preserves_Kernel7_Kernel7Ideal
    ∧ algebraic_Kernel7Ideal_Reference7Ideal (hKernel7Ideal := hKernel7Ideal) (hReference7Ideal := hReference7Ideal)
-- ==== Pre_finite_log_f.lean ====
abbrev S16384x512 : Shape := ⟨2, ![16384, 512]⟩
abbrev S512 : Shape := ⟨1, ![512]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .bf16) (main_arg1 : FVec F S16384x512 .f32) (main_arg2 : FVec F S16384x512 .bf16) (main_arg3 : FVec F S16384x512 .bf16) (main_arg4 : FVec F S512 .f32) : IVec S16384x512 1 :=
  let main_v0 : FVec F S16384x512 .f32 := Host.absf main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_finite_weights.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S1024x32 : S_.BroadcastsInDim S1024x32 (![] : Fin 0 → Fin S1024x32.rank)

variable [Facts]

def fn {F : FTy → Type} [FloatOps F] (main_arg0 : FVec F S16384x512 .bf16) (main_arg1 : FVec F S16384x512 .bf16) (main_arg2 : FVec F S16384x1024 .f32) (main_arg3 : FVec F S1024x1024 .f32) (main_arg4 : FVec F S1024 .f32) (main_arg5 : FVec F S1024x4 .f32) (main_arg6 : FVec F S1024x32 .f32) : IVec S1024 1 × IVec S1024x4 1 × IVec S1024x32 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg5
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S1024x32 .f32 := Host.absf main_arg6
  let main_cst_1 : FVec F S_ .f32 := constant S_ .f32 0x7F800000#32
  let main_v7 : FVec F S1024x32 .f32 := broadcastInDim S1024x32 ![] bcast_S_S1024x32 main_cst_1
  let main_v8 : IVec S1024x32 1 := cmpf .olt main_v6 main_v7
  (main_v2, main_v5, main_v8)
-- ==== Kernel.lean ====
abbrev S16384x512 : Shape := ⟨2, ![16384, 512]⟩
abbrev S8x257 : Shape := ⟨2, ![8, 257]⟩
abbrev S512 : Shape := ⟨1, ![512]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S8x256x768 : Shape := ⟨3, ![8, 256, 768]⟩
abbrev S1x256x768 : Shape := ⟨3, ![1, 256, 768]⟩
abbrev S1x512 : Shape := ⟨2, ![1, 512]⟩
abbrev S256x512 : Shape := ⟨2, ![256, 512]⟩
abbrev S1x128 : Shape := ⟨2, ![1, 128]⟩
abbrev S256x128 : Shape := ⟨2, ![256, 128]⟩
abbrev S768x128 : Shape := ⟨2, ![768, 128]⟩

abbrev nBuf : Space → Nat
  | .hbm => 92
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x257, .f32⟩
  | .hbm, ⟨4, _⟩ => ⟨S512, .f32⟩
  | .hbm, ⟨5, _⟩ => ⟨S256, .i32⟩
  | .hbm, ⟨6, _⟩ => ⟨S256x1, .i32⟩
  | .hbm, ⟨7, _⟩ => ⟨S768, .i32⟩
  | .hbm, ⟨8, _⟩ => ⟨S1x768, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x768, .i32⟩
  | .hbm, ⟨13, _⟩ => ⟨S256x768, .i32⟩
  | .hbm, ⟨14, _⟩ => ⟨S256x768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i32⟩
  | .hbm, ⟨26, _⟩ => ⟨S_, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S_, .i32⟩
  | .hbm, ⟨49, _⟩ => ⟨S1x768, .i32⟩
  | .hbm, ⟨50, _⟩ => ⟨S1x768, .i32⟩
  | .hbm, ⟨51, _⟩ => ⟨S1x768, .i32⟩
  | .hbm, ⟨52, _⟩ => ⟨S_, .i32⟩
  | .hbm, ⟨53, _⟩ => ⟨S1x768, .i32⟩
  | .hbm, ⟨54, _⟩ => ⟨S1x768, .i1⟩
  | .hbm, ⟨55, _⟩ => ⟨S1x768, .i32⟩
  | .hbm, ⟨56, _⟩ => ⟨S1x768, .i32⟩
  | .hbm, ⟨57, _⟩ => ⟨S_, .i32⟩
  | .hbm, ⟨58, _⟩ => ⟨S1x768, .i32⟩
  | .hbm, ⟨59, _⟩ => ⟨S1x768, .i1⟩
  | .hbm, ⟨60, _⟩ => ⟨S1x768, .i1⟩
  | .hbm, ⟨61, _⟩ => ⟨S_, .i32⟩
  | .hbm, ⟨62, _⟩ => ⟨S1x768, .i32⟩
  | .hbm, ⟨63, _⟩ => ⟨S1x768, .i32⟩
  | .hbm, ⟨64, _⟩ => ⟨S1x768, .i32⟩
  | .hbm, ⟨65, _⟩ => ⟨S256x768, .i32⟩
  | .hbm, ⟨66, _⟩ => ⟨S256x768, .i32⟩
  | .hbm, ⟨67, _⟩ => ⟨S256x768, .i32⟩
  | .hbm, ⟨68, _⟩ => ⟨S_, .i32⟩
  | .hbm, ⟨69, _⟩ => ⟨S256x768, .i32⟩
  | .hbm, ⟨70, _⟩ => ⟨S256x768, .i1⟩
  | .hbm, ⟨71, _⟩ => ⟨S_, .i32⟩
  | .hbm, ⟨72, _⟩ => ⟨S256x768, .i32⟩
  | .hbm, ⟨73, _⟩ => ⟨S256x768, .i1⟩
  | .hbm, ⟨74, _⟩ => ⟨S256x768, .i1⟩
  | .hbm, ⟨75, _⟩ => ⟨S_, .i32⟩
  | .hbm, ⟨76, _⟩ => ⟨S256x768, .i32⟩
  | .hbm, ⟨77, _⟩ => ⟨S256x768, .i1⟩
  | .hbm, ⟨78, _⟩ => ⟨S_, .i32⟩
  | .hbm, ⟨79, _⟩ => ⟨S256x768, .i32⟩
  | .hbm, ⟨80, _⟩ => ⟨S256x768, .i32⟩
  | .hbm, ⟨81, _⟩ => ⟨S256x768, .i32⟩
  | .hbm, ⟨82, _⟩ => ⟨S256x768x1, .i32⟩
  | .hbm, ⟨83, _⟩ => ⟨S8x256x768, .f32⟩
  | .hbm, ⟨84, _⟩ => ⟨S1x256x768, .i1⟩
  | .hbm, ⟨85, _⟩ => ⟨S_, .f32⟩
  | .hbm, ⟨86, _⟩ => ⟨S_, .f32⟩
  | .hbm, ⟨87, _⟩ => ⟨S8x256x768, .i1⟩
  | .hbm, ⟨88, _⟩ => ⟨S8x256x768, .f32⟩
  | .hbm, ⟨89, _⟩ => ⟨S8x256x768, .f32⟩
  | .hbm, ⟨90, _⟩ => ⟨S1x512, .f32⟩
  | .hbm, ⟨91, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_c : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_0 : Ref sig .tc := ⟨.hbm, 61, rfl⟩
abbrev main_call2_v12 : Ref sig .tc := ⟨.hbm, 62, rfl⟩
abbrev main_call2_v13 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_6 : Ref sig .tc := ⟨.hbm, 68, rfl⟩
abbrev main_v19 : Ref sig .tc := ⟨.hbm, 69, rfl⟩
abbrev main_v20 : Ref sig .tc := ⟨.hbm, 70, rfl⟩
abbrev main_c_7 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_c_8 : Ref sig .tc := ⟨.hbm, 75, rfl⟩
abbrev main_v24 : Ref sig .tc := ⟨.hbm, 76, rfl⟩
abbrev main_v25 : Ref sig .tc := ⟨.hbm, 77, rfl⟩
abbrev main_c_9 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S8x257 : Shape := ⟨2, ![8, 257]⟩
abbrev S512 : Shape := ⟨1, ![512]⟩
abbrev S8x32x64x8x64 : Shape := ⟨5, ![8, 32, 64, 8, 64]⟩
abbrev S_ : Shape := ⟨0, ![]⟩
abbrev S8x40x64x8x64 : Shape := ⟨5, ![8, 40, 64, 8, 64]⟩
abbrev S8x32x576x8x64 : Shape := ⟨5, ![8, 32, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S8x8x32x64x576 : Shape := ⟨5, ![8, 8, 32, 64, 576]⟩
abbrev S8x1x64x576 : Shape := ⟨4, ![8, 1, 64, 576]⟩
abbrev S1x8x1x64x576 : Shape := ⟨5, ![1, 8, 1, 64, 576]⟩
abbrev S1x1x32x1x576 : Shape := ⟨5, ![1, 1, 32, 1, 576]⟩
abbrev S8x8x32x64 : Shape := ⟨4, ![8, 8, 32, 64]⟩
abbrev S8x8x32x64x1 : Shape := ⟨5, ![8, 8, 32, 64, 1]⟩
abbrev S8x32x8x64x64 : Shape := ⟨5, ![8, 32, 8, 64, 64]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S8x64 : Shape := ⟨2, ![8, 64]⟩
abbrev S1x1x8x64 : Shape := ⟨4, ![1, 1, 8, 64]⟩

abbrev nBuf : Space → Nat
  | .hbm => 143
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S8x257, .f32⟩
  | 4 => ⟨S512, .f32⟩
  | 5 => ⟨S16384x512, .f32⟩
  | 6 => ⟨S8x32x64x8x64, .f32⟩
  | 7 => ⟨S16384x512, .f32⟩
  | 8 => ⟨S8x32x64x8x64, .f32⟩
  | 9 => ⟨S16384x512, .f32⟩
  | 10 => ⟨S8x32x64x8x64, .f32⟩
  | 11 => ⟨S_, .i32⟩
  | 12 => ⟨S_, .f32⟩
  | 13 => ⟨S8x40x64x8x64, .f32⟩
  | 14 => ⟨S_, .i32⟩
  | 15 => ⟨S_, .f32⟩
  | 16 => ⟨S8x40x64x8x64, .f32⟩
  | 17 => ⟨S8x32x64x8x64, .f32⟩
  | 18 => ⟨S8x32x64x8x64, .f32⟩
  | 19 => ⟨S8x32x64x8x64, .f32⟩
  | 20 => ⟨S8x32x64x8x64, .f32⟩
  | 21 => ⟨S8x32x64x8x64, .f32⟩
  | 22 => ⟨S8x32x64x8x64, .f32⟩
  | 23 => ⟨S8x32x64x8x64, .f32⟩
  | 24 => ⟨S8x32x64x8x64, .f32⟩
  | 25 => ⟨S8x32x64x8x64, .f32⟩
  | 26 => ⟨S8x32x576x8x64, .f32⟩
  | 27 => ⟨S8x32x64x8x64, .f32⟩
  | 28 => ⟨S8x32x64x8x64, .f32⟩
  | 29 => ⟨S8x32x64x8x64, .f32⟩
  | 30 => ⟨S8x32x64x8x64, .f32⟩
  | 31 => ⟨S8x32x64x8x64, .f32⟩
  | 32 => ⟨S8x32x64x8x64, .f32⟩
  | 33 => ⟨S8x32x64x8x64, .f32⟩
  | 34 => ⟨S8x32x64x8x64, .f32⟩
  | 35 => ⟨S8x32x64x8x64, .f32⟩
  | 36 => ⟨S8x32x576x8x64, .f32⟩
  | 37 => ⟨S64, .i32⟩
  | 38 => ⟨S64x1, .i32⟩
  | 39 => ⟨S576, .i32⟩
  | 40 => ⟨S1x576, .i32⟩
  | 41 => ⟨S_, .i32⟩
  | 42 => ⟨S64x1, .i32⟩
  | 43 => ⟨S64x1, .i32⟩
  | 44 => ⟨S64x576, .i32⟩
  | 45 => ⟨S64x576, .i32⟩
  | 46 => ⟨S64x576, .i32⟩
  | 47 => ⟨S_, .i32⟩
  | 48 => ⟨S_, .i32⟩
  | 49 => ⟨S_, .i32⟩
  | 50 => ⟨S64x576, .i32⟩
  | 51 => ⟨S64x576, .i32⟩
  | 52 => ⟨S_, .i32⟩
  | 53 => ⟨S64x576, .i32⟩
  | 54 => ⟨S64x576, .i32⟩
  | 55 => ⟨S_, .i32⟩
  | 56 => ⟨S64x576, .i32⟩
  | 57 => ⟨S64x576, .i32⟩
  | 58 => ⟨S_, .i32⟩
  | 59 => ⟨S64x576, .i32⟩
  | 60 => ⟨S64x576, .i1⟩
  | 61 => ⟨S_, .i32⟩
  | 62 => ⟨S64x576, .i32⟩
  | 63 => ⟨S64x576, .i32⟩
  | 64 => ⟨S64x576, .i32⟩
  | 65 => ⟨S64x576x1, .i32⟩
  | 66 => ⟨S8x64x576, .f32⟩
  | 67 => ⟨S32, .i32⟩
  | 68 => ⟨S32x1, .i32⟩
  | 69 => ⟨S_, .i32⟩
  | 70 => ⟨S32x1, .i32⟩
  | 71 => ⟨S32x1, .i32⟩
  | 72 => ⟨S_, .i32⟩
  | 73 => ⟨S_, .i32⟩
  | 74 => ⟨S1x576, .i32⟩
  | 75 => ⟨S1x576, .i32⟩
  | 76 => ⟨S1x576, .i32⟩
  | 77 => ⟨S_, .i32⟩
  | 78 => ⟨S1x576, .i32⟩
  | 79 => ⟨S1x576, .i1⟩
  | 80 => ⟨S1x576, .i32⟩
  | 81 => ⟨S1x576, .i32⟩
  | 82 => ⟨S_, .i32⟩
  | 83 => ⟨S1x576, .i32⟩
  | 84 => ⟨S1x576, .i1⟩
  | 85 => ⟨S1x576, .i1⟩
  | 86 => ⟨S_, .i32⟩
  | 87 => ⟨S1x576, .i32⟩
  | 88 => ⟨S1x576, .i32⟩
  | 89 => ⟨S1x576, .i32⟩
  | 90 => ⟨S32x576, .i32⟩
  | 91 => ⟨S32x576, .i32⟩
  | 92 => ⟨S32x576, .i32⟩
  | 93 => ⟨S_, .i32⟩
  | 94 => ⟨S32x576, .i32⟩
  | 95 => ⟨S32x576, .i1⟩
  | 96 => ⟨S8x8x32x64x576, .f32⟩
  | 97 => ⟨S8x1x64x576, .f32⟩
  | 98 => ⟨S1x8x1x64x576, .f32⟩
  | 99 => ⟨S8x8x32x64x576, .f32⟩
  | 100 => ⟨S8x8x32x64x576, .f32⟩
  | 101 => ⟨S1x1x32x1x576, .i1⟩
  | 102 => ⟨S_, .f32⟩
  | 103 => ⟨S_, .f32⟩
  | 104 => ⟨S8x8x32x64x576, .i1⟩
  | 105 => ⟨S8x8x32x64x576, .f32⟩
  | 106 => ⟨S8x8x32x64x576, .f32⟩
  | 107 => ⟨S_, .f32⟩
  | 108 => ⟨S8x8x32x64, .f32⟩
  | 109 => ⟨S_, .f32⟩
  | 110 => ⟨S8x8x32x64, .f32⟩
  | 111 => ⟨S8x8x32x64, .f32⟩
  | 112 => ⟨S8x8x32x64x1, .f32⟩
  | 113 => ⟨S8x8x32x64x576, .f32⟩
  | 114 => ⟨S8x8x32x64x576, .f32⟩
  | 115 => ⟨S8x8x32x64x576, .f32⟩
  | 116 => ⟨S_, .f32⟩
  | 117 => ⟨S8x8x32x64, .f32⟩
  | 118 => ⟨S8x8x32x64x1, .f32⟩
  | 119 => ⟨S8x8x32x64x576, .f32⟩
  | 120 => ⟨S8x8x32x64x576, .f32⟩
  | 121 => ⟨S8x32x8x64x64, .f32⟩
  | 122 => ⟨S8x32x64x8x64, .f32⟩
  | 123 => ⟨S8x2048x8x64, .f32⟩
  | 124 => ⟨S8x2048x8x64, .f32⟩
  | 125 => ⟨S_, .f32⟩
  | 126 => ⟨S8x2048x8, .f32⟩
  | 127 => ⟨S8x2048x8x1, .f32⟩
  | _ => ⟨S16384x512, .bf16⟩

abbrev hbmTy0_1 (i : Nat) : BufTy := match i % 128 with
  | 0 => ⟨S_, .f32⟩
  | 1 => ⟨S8x2048x8x1, .f32⟩
  | 2 => ⟨S8x2048x8x1, .f32⟩
  | 3 => ⟨S_, .f32⟩
  | 4 => ⟨S8x2048x8x1, .f32⟩
  | 5 => ⟨S8x2048x8x1, .f32⟩
  | 6 => ⟨S8x2048x8x1, .f32⟩
  | 7 => ⟨S8x2048x8x64, .f32⟩
  | 8 => ⟨S8x2048x8x64, .f32⟩
  | 9 => ⟨S8x64, .f32⟩
  | 10 => ⟨S1x1x8x64, .f32⟩
  | 11 => ⟨S8x2048x8x64, .f32⟩
  | 12 => ⟨S8x2048x8x64, .f32⟩
  | 13 => ⟨S16384x512, .f32⟩
  | 14 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v63 : Ref sig .tc := ⟨.hbm, 106, rfl⟩
abbrev main_cst_10 : Ref sig .tc := ⟨.hbm, 107, rfl⟩
abbrev main_v64 : Ref sig .tc := ⟨.hbm, 108, rfl⟩
abbrev main_cst_11 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_12 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_13 : Ref sig .tc := ⟨.hbm, 125, rfl⟩
abbrev main_v79 : Ref sig .tc := ⟨.hbm, 126, rfl⟩
abbrev main_v80 : Ref sig .tc := ⟨.hbm, 127, rfl⟩
abbrev main_cst_14 : Ref sig .tc := ⟨.hbm, 128, rfl⟩
abbrev main_v81 : Ref sig .tc := ⟨.hbm, 129, rfl⟩
abbrev main_v82 : Ref sig .tc := ⟨.hbm, 130, rfl⟩
abbrev main_cst_15 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩

abbrev nD : Nat := 1
abbrev τ : Topo := Topo.v7x

variable {F : FTy → Type} [FloatOps F]
-- ==== Kernel2.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S4x256x1024 : Shape := ⟨3, ![4, 256, 1024]⟩
abbrev S1x1024x256 : Shape := ⟨3, ![1, 1024, 256]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S1x1024, .f32⟩
  | .hbm, ⟨11, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v118 : BitVec 1 := Scalar.cmpi .eq arg1 c7_i32
  let v119 : BitVec 32 := Scalar.extui v118
  let c0_i32_76 : BitVec 32 := 0#32
  let v120 : BitVec 1 := Scalar.cmpi .ne v119 c0_i32_76
  v120

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S16384x32x256 : Shape := ⟨3, ![16384, 32, 256]⟩
abbrev S_ : Shape := ⟨0, ![]⟩
abbrev S16384x32 : Shape := ⟨2, ![16384, 32]⟩
abbrev S16384x32x1 : Shape := ⟨3, ![16384, 32, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S16384x1024, .f32⟩
  | .hbm, ⟨8, _⟩ => ⟨S16384x32x256, .f32⟩
  | .hbm, ⟨9, _⟩ => ⟨S16384x32x256, .f32⟩
  | .hbm, ⟨10, _⟩ => ⟨S16384x32x256, .f32⟩
  | .hbm, ⟨11, _⟩ => ⟨S_, .f32⟩
  | .hbm, ⟨12, _⟩ => ⟨S16384x32x256, .f32⟩
  | .hbm, ⟨13, _⟩ => ⟨S16384x32x256, .f32⟩
  | .hbm, ⟨14, _⟩ => ⟨S_, .f32⟩
  | .hbm, ⟨15, _⟩ => ⟨S16384x32x256, .f32⟩
  | .hbm, ⟨16, _⟩ => ⟨S16384x32x256, .f32⟩
  | .hbm, ⟨17, _⟩ => ⟨S16384x32x256, .f32⟩
  | .hbm, ⟨18, _⟩ => ⟨S16384x32x256, .f32⟩
  | .hbm, ⟨19, _⟩ => ⟨S16384x32x256, .f32⟩
  | .hbm, ⟨20, _⟩ => ⟨S16384x32, .f32⟩
  | .hbm, ⟨21, _⟩ => ⟨S16384x32x1, .f32⟩
  | .hbm, ⟨22, _⟩ => ⟨S16384x32x256, .f32⟩
  | .hbm, ⟨23, _⟩ => ⟨S16384x32x256, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3584 : Shape := ⟨2, ![1024, 3584]⟩
abbrev S512 : Shape := ⟨1, ![512]⟩
abbrev S1x1024 : Shape := ⟨2, ![1, 1024]⟩
abbrev S1x512 : Shape := ⟨2, ![1, 512]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩
abbrev S1024x512 : Shape := ⟨2, ![1024, 512]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S512, .f32⟩
  | .hbm, ⟨4, _⟩ => ⟨S512, .f32⟩
  | .hbm, ⟨5, _⟩ => ⟨S1x1024, .f32⟩
  | .hbm, ⟨6, _⟩ => ⟨S1024x3584, .bf16⟩
  | .hbm, ⟨7, _⟩ => ⟨S1x512, .f32⟩
  | .hbm, ⟨8, _⟩ => ⟨S1x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S1024 : Shape := ⟨1, ![1024]⟩
abbrev S1024x3584 : Shape := ⟨2, ![1024, 3584]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩
abbrev S16384x512 : Shape := ⟨2, ![16384, 512]⟩
abbrev S1x512 : Shape := ⟨2, ![1, 512]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S512, .f32⟩
  | .hbm, ⟨4, _⟩ => ⟨S512, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3584, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .i1⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S1x512, .f32⟩
  | .hbm, ⟨55, _⟩ => ⟨S16384x512, .f32⟩
  | .hbm, ⟨56, _⟩ => ⟨S16384x512, .f32⟩
  | .hbm, ⟨57, _⟩ => ⟨S1x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .i1⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .bf16⟩
  | .hbm, ⟨72, _⟩ => ⟨S16384x512, .bf16⟩
  | .hbm, ⟨73, _⟩ => ⟨S16384x512, .f32⟩
  | .hbm, ⟨74, _⟩ => ⟨S16384x512, .f32⟩
  | .hbm, ⟨75, _⟩ => ⟨S_, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .bf16⟩
  | .hbm, ⟨83, _⟩ => ⟨S_, .f32⟩
  | .hbm, ⟨84, _⟩ => ⟨S16384x512, .f32⟩
  | .hbm, ⟨85, _⟩ => ⟨S16384x512, .f32⟩
  | .hbm, ⟨86, _⟩ => ⟨S16384x512, .bf16⟩
  | .hbm, ⟨87, _⟩ => ⟨S16384x512, .bf16⟩
  | .hbm, ⟨88, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v42 : Ref sig .tc := ⟨.hbm, 81, rfl⟩
abbrev main_v43 : Ref sig .tc := ⟨.hbm, 82, rfl⟩
abbrev main_cst_2 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S16384x128 : Shape := ⟨2, ![16384, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S_, .f32⟩
  | .hbm, ⟨8, _⟩ => ⟨S1024x92, .f32⟩
  | .hbm, ⟨9, _⟩ => ⟨S1024x128, .f32⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel5.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1x1024 : Shape := ⟨2, ![1, 1024]⟩
abbrev S16384x128 : Shape := ⟨2, ![16384, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S_, .f32⟩
  | .hbm, ⟨8, _⟩ => ⟨S1024x92, .f32⟩
  | .hbm, ⟨9, _⟩ => ⟨S1024x128, .f32⟩
  | .hbm, ⟨10, _⟩ => ⟨S1024x1024, .bf16⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S16384x32 : Shape := ⟨2, ![16384, 32]⟩
abbrev S16384x4x8 : Shape := ⟨3, ![16384, 4, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x8 : Shape := ⟨2, ![16384, 8]⟩
abbrev S16384x2 : Shape := ⟨2, ![16384, 2]⟩
abbrev S16384x2x1 : Shape := ⟨3, ![16384, 2, 1]⟩
abbrev S1x1x32 : Shape := ⟨3, ![1, 1, 32]⟩
abbrev S16384x2x32 : Shape := ⟨3, ![16384, 2, 32]⟩
abbrev S16384x128 : Shape := ⟨2, ![16384, 128]⟩

abbrev nBuf : Space → Nat
  | .hbm => 108
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S1024x32, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x4, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x4, .f32⟩
  | .hbm, ⟨36, _⟩ => ⟨S16384x4, .f32⟩
  | .hbm, ⟨37, _⟩ => ⟨S16384x4, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x4, .f32⟩
  | .hbm, ⟨42, _⟩ => ⟨S16384x4, .f32⟩
  | .hbm, ⟨43, _⟩ => ⟨S16384x1, .f32⟩
  | .hbm, ⟨44, _⟩ => ⟨S16384x1, .i32⟩
  | .hbm, ⟨45, _⟩ => ⟨S16384x32, .f32⟩
  | .hbm, ⟨46, _⟩ => ⟨S16384x4x8, .f32⟩
  | .hbm, ⟨47, _⟩ => ⟨S16384x1x1, .i32⟩
  | .hbm, ⟨48, _⟩ => ⟨S_, .i32⟩
  | .hbm, ⟨49, _⟩ => ⟨S16384x1x1, .i32⟩
  | .hbm, ⟨50, _⟩ => ⟨S16384x1x1, .i1⟩
  | .hbm, ⟨51, _⟩ => ⟨S_, .i32⟩
  | .hbm, ⟨52, _⟩ => ⟨S16384x1x1, .i32⟩
  | .hbm, ⟨53, _⟩ => ⟨S16384x1x1, .i32⟩
  | .hbm, ⟨54, _⟩ => ⟨S16384x1x1, .i32⟩
  | .hbm, ⟨55, _⟩ => ⟨S1, .i32⟩
  | .hbm, ⟨56, _⟩ => ⟨S_, .i32⟩
  | .hbm, ⟨57, _⟩ => ⟨S16384x1x1, .i32⟩
  | .hbm, ⟨58, _⟩ => ⟨S16384x1x1, .i1⟩
  | .hbm, ⟨59, _⟩ => ⟨S1x1x1, .i32⟩
  | .hbm, ⟨60, _⟩ => ⟨S16384x1x1, .i32⟩
  | .hbm, ⟨61, _⟩ => ⟨S16384x1x1, .i1⟩
  | .hbm, ⟨62, _⟩ => ⟨S16384x1x1, .i1⟩
  | .hbm, ⟨63, _⟩ => ⟨S_, .i1⟩
  | .hbm, ⟨64, _⟩ => ⟨S16384x1, .i1⟩
  | .hbm, ⟨65, _⟩ => ⟨S16384x1x8, .f32⟩
  | .hbm, ⟨66, _⟩ => ⟨S16384x1x8, .i1⟩
  | .hbm, ⟨67, _⟩ => ⟨S_, .f32⟩
  | .hbm, ⟨68, _⟩ => ⟨S16384x1x8, .f32⟩
  | .hbm, ⟨69, _⟩ => ⟨S16384x1x8, .f32⟩
  | .hbm, ⟨70, _⟩ => ⟨S16384x8, .f32⟩
  | .hbm, ⟨71, _⟩ => ⟨S16384x2, .f32⟩
  | .hbm, ⟨72, _⟩ => ⟨S16384x2, .i32⟩
  | .hbm, ⟨73, _⟩ => ⟨S_, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384x1, .f32⟩
  | .hbm, ⟨79, _⟩ => ⟨S16384x2, .f32⟩
  | .hbm, ⟨80, _⟩ => ⟨S16384x2, .f32⟩
  | .hbm, ⟨81, _⟩ => ⟨S16384x2, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x2, .f32⟩
  | .hbm, ⟨86, _⟩ => ⟨S16384x2, .f32⟩
  | .hbm, ⟨87, _⟩ => ⟨S16384x2, .f32⟩
  | .hbm, ⟨88, _⟩ => ⟨S16384x2, .f32⟩
  | .hbm, ⟨89, _⟩ => ⟨S_, .i32⟩
  | .hbm, ⟨90, _⟩ => ⟨S16384x1, .i32⟩
  | .hbm, ⟨91, _⟩ => ⟨S16384x1, .i32⟩
  | .hbm, ⟨92, _⟩ => ⟨S16384x2, .i32⟩
  | .hbm, ⟨93, _⟩ => ⟨S16384x2, .i32⟩
  | .hbm, ⟨94, _⟩ => ⟨S16384x2x1, .i32⟩
  | .hbm, ⟨95, _⟩ => ⟨S1x1x32, .i32⟩
  | .hbm, ⟨96, _⟩ => ⟨S16384x2x32, .i32⟩
  | .hbm, ⟨97, _⟩ => ⟨S16384x2x32, .i32⟩
  | .hbm, ⟨98, _⟩ => ⟨S16384x2x32, .i1⟩
  | .hbm, ⟨99, _⟩ => ⟨S16384x2x32, .f32⟩
  | .hbm, ⟨100, _⟩ => ⟨S16384x2x1, .f32⟩
  | .hbm, ⟨101, _⟩ => ⟨S16384x2x32, .f32⟩
  | .hbm, ⟨102, _⟩ => ⟨S16384x2x32, .f32⟩
  | .hbm, ⟨103, _⟩ => ⟨S_, .f32⟩
  | .hbm, ⟨104, _⟩ => ⟨S16384x32, .f32⟩
  | .hbm, ⟨105, _⟩ => ⟨S_, .i32⟩
  | .hbm, ⟨106, _⟩ => ⟨S_, .f32⟩
  | .hbm, ⟨107, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_values : Ref sig .tc := ⟨.hbm, 43, rfl⟩
abbrev main_indices : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_1 : Ref sig .tc := ⟨.hbm, 55, rfl⟩
abbrev main_call0_c_2 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_c_3 : Ref sig .tc := ⟨.hbm, 63, rfl⟩
abbrev main_call0_v11 : Ref sig .tc := ⟨.hbm, 64, rfl⟩
abbrev main_call0_v12 : Ref sig .tc := ⟨.hbm, 65, rfl⟩
abbrev main_call0_v13 : Ref sig .tc := ⟨.hbm, 66, rfl⟩
abbrev main_call0_cst : Ref sig .tc := ⟨.hbm, 67, rfl⟩
abbrev main_call0_v14 : Ref sig .tc := ⟨.hbm, 68, rfl⟩
abbrev main_v33 : Ref sig .tc := ⟨.hbm, 69, rfl⟩
abbrev main_v34 : Ref sig .tc := ⟨.hbm, 70, rfl⟩
abbrev main_values_5 : Ref sig .tc := ⟨.hbm, 71, rfl⟩
abbrev main_indices_6 : Ref sig .tc := ⟨.hbm, 72, rfl⟩
abbrev main_cst_7 : Ref sig .tc := ⟨.hbm, 73, rfl⟩
abbrev main_v35 : Ref sig .tc := ⟨.hbm, 74, rfl⟩
abbrev main_cst_8 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_10 : Ref sig .tc := ⟨.hbm, 103, rfl⟩
abbrev main_v56 : Ref sig .tc := ⟨.hbm, 104, rfl⟩
abbrev main_c_11 : Ref sig .tc := ⟨.hbm, 105, rfl⟩
abbrev main_call2_v0 : Ref sig .tc := ⟨.hbm, 106, rfl⟩
abbrev main_v57 : Ref sig .tc := ⟨.hbm, 107, rfl⟩

abbrev nD : Nat := 1
abbrev τ : Topo := Topo.v7x

variable {F : FTy → Type} [FloatOps F]
-- ==== Kernel6.lean ====
abbrev S16384x512 : Shape := ⟨2, ![16384, 512]⟩
abbrev S512 : Shape := ⟨1, ![512]⟩
abbrev S1x512 : Shape := ⟨2, ![1, 512]⟩
abbrev S512x512 : Shape := ⟨2, ![512, 512]⟩
abbrev S4x128x128 : Shape := ⟨3, ![4, 128, 128]⟩
abbrev S64x128 : Shape := ⟨2, ![64, 128]⟩
abbrev S64x64 : Shape := ⟨2, ![64, 64]⟩
abbrev S1x64x128 : Shape := ⟨3, ![1, 64, 128]⟩
abbrev S1x1x128 : Shape := ⟨3, ![1, 1, 128]⟩
abbrev S2x32x128 : Shape := ⟨3, ![2, 32, 128]⟩
abbrev S2x1x128 : Shape := ⟨3, ![2, 1, 128]⟩
abbrev S4x16x128 : Shape := ⟨3, ![4, 16, 128]⟩
abbrev S4x1x128 : Shape := ⟨3, ![4, 1, 128]⟩
abbrev S8x8x128 : Shape := ⟨3, ![8, 8, 128]⟩
abbrev S8x1x128 : Shape := ⟨3, ![8, 1, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S512, .f32⟩
  | .hbm, ⟨5, _⟩ => ⟨S1x512, .f32⟩
  | .hbm, ⟨6, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  v7
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v276 : Index := Scalar.indexCast v8
  let c128 : Index := 128#32
  ![v276.toNat, 128]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v543 : Index := Scalar.indexCast v8
  let c256 : Index := 256#32
  ![v543.toNat, 256]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c64_i32 : BitVec 32 := 64#32
  let v7 : BitVec 32 := Scalar.muli arg9 c64_i32
  let v8 : BitVec 32 := v7
  let v810 : Index := Scalar.indexCast v8
  let c384 : Index := 384#32
  ![v810.toNat, 384]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x512 : Shape := ⟨2, ![16384, 512]⟩
abbrev S512 : Shape := ⟨1, ![512]⟩
abbrev S8x32x64x4x128 : Shape := ⟨5, ![8, 32, 64, 4, 128]⟩
abbrev S32x8x4x64x128 : Shape := ⟨5, ![32, 8, 4, 64, 128]⟩
abbrev S_ : Shape := ⟨0, ![]⟩
abbrev S64x64 : Shape := ⟨2, ![64, 64]⟩
abbrev S8x4x128x128 : Shape := ⟨4, ![8, 4, 128, 128]⟩
abbrev S1x8x4x64x128 : Shape := ⟨5, ![1, 8, 4, 64, 128]⟩
abbrev S8x4x64x128 : Shape := ⟨4, ![8, 4, 64, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S1x1x64x64x1 : Shape := ⟨5, ![1, 1, 64, 64, 1]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S4x128 : Shape := ⟨2, ![4, 128]⟩
abbrev S1x1x4x128 : Shape := ⟨4, ![1, 1, 4, 128]⟩
abbrev S8x2048x512 : Shape := ⟨3, ![8, 2048, 512]⟩

abbrev nBuf : Space → Nat
  | .hbm => 140
  | .vmem => 0
  | .smem => 0
  | _ => 0

abbrev hbmTy0_0 (i : Nat) : BufTy := match i % 128 with
  | 0 => ⟨S16384x512, .bf16⟩
  | 1 => ⟨S16384x512, .f32⟩
  | 2 => ⟨S16384x512, .bf16⟩
  | 3 => ⟨S16384x512, .bf16⟩
  | 4 => ⟨S512, .f32⟩
  | 5 => ⟨S16384x512, .f32⟩
  | 6 => ⟨S16384x512, .f32⟩
  | 7 => ⟨S16384x512, .f32⟩
  | 8 => ⟨S8x32x64x4x128, .f32⟩
  | 9 => ⟨S32x8x4x64x128, .f32⟩
  | 10 => ⟨S8x32x64x4x128, .f32⟩
  | 11 => ⟨S32x8x4x64x128, .f32⟩
  | 12 => ⟨S16384x512, .f32⟩
  | 13 => ⟨S8x32x64x4x128, .f32⟩
  | 14 => ⟨S32x8x4x64x128, .f32⟩
  | 15 => ⟨S8x32x64x4x128, .f32⟩
  | 16 => ⟨S32x8x4x64x128, .f32⟩
  | 17 => ⟨S_, .i1⟩
  | 18 => ⟨S64x64, .i1⟩
  | 19 => ⟨S64x64, .i32⟩
  | 20 => ⟨S_, .i32⟩
  | 21 => ⟨S64x64, .i32⟩
  | 22 => ⟨S64x64, .i32⟩
  | 23 => ⟨S64x64, .i32⟩
  | 24 => ⟨S64x64, .i1⟩
  | 25 => ⟨S_, .i1⟩
  | 26 => ⟨S64x64, .i1⟩
  | 27 => ⟨S64x64, .i1⟩
  | 28 => ⟨S_, .f32⟩
  | 29 => ⟨S8x4x128x128, .f32⟩
  | 30 => ⟨S_, .f32⟩
  | 31 => ⟨S32x8x4x64x128, .f32⟩
  | 32 => ⟨S_, .i32⟩
  | 33 => ⟨S32x8x4x64x128, .f32⟩
  | 34 => ⟨S32x8x4x64x128, .f32⟩
  | 35 => ⟨S32x8x4x64x128, .f32⟩
  | 36 => ⟨S32x8x4x64x128, .f32⟩
  | 37 => ⟨S64x64, .i1⟩
  | 38 => ⟨S_, .i32⟩
  | 39 => ⟨S8x4x128x128, .f32⟩
  | 40 => ⟨S32x8x4x64x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x8x4x64x128, .f32⟩
  | 48 => ⟨S8x4x64x128, .f32⟩
  | 49 => ⟨S_, .i32⟩
  | 50 => ⟨S_, .i32⟩
  | 51 => ⟨S_, .i32⟩
  | 52 => ⟨S_, .i32⟩
  | 53 => ⟨S1x8x4x64x128, .f32⟩
  | 54 => ⟨S8x4x64x128, .f32⟩
  | 55 => ⟨S_, .i32⟩
  | 56 => ⟨S_, .i32⟩
  | 57 => ⟨S_, .i32⟩
  | 58 => ⟨S_, .i32⟩
  | 59 => ⟨S1x8x4x64x128, .f32⟩
  | 60 => ⟨S8x4x64x128, .f32⟩
  | 61 => ⟨S_, .i32⟩
  | 62 => ⟨S_, .i32⟩
  | 63 => ⟨S_, .i32⟩
  | 64 => ⟨S_, .i32⟩
  | 65 => ⟨S1x8x4x64x128, .f32⟩
  | 66 => ⟨S8x4x64x128, .f32⟩
  | 67 => ⟨S_, .f32⟩
  | 68 => ⟨S_, .f32⟩
  | 69 => ⟨S8x4x64x128, .f32⟩
  | 70 => ⟨S8x4x64x1x128, .f32⟩
  | 71 => ⟨S8x4x1x64x128, .f32⟩
  | 72 => ⟨S8x4x64x64x128, .f32⟩
  | 73 => ⟨S8x4x64x64x128, .f32⟩
  | 74 => ⟨S8x4x64x64x128, .f32⟩
  | 75 => ⟨S1x1x64x64x1, .i1⟩
  | 76 => ⟨S_, .f32⟩
  | 77 => ⟨S_, .f32⟩
  | 78 => ⟨S8x4x64x64x128, .i1⟩
  | 79 => ⟨S8x4x64x64x128, .f32⟩
  | 80 => ⟨S8x4x64x64x128, .f32⟩
  | 81 => ⟨S8x4x64x64x128, .f32⟩
  | 82 => ⟨S8x4x64x1x128, .f32⟩
  | 83 => ⟨S8x4x1x64x128, .f32⟩
  | 84 => ⟨S8x4x64x64x128, .f32⟩
  | 85 => ⟨S8x4x64x64x128, .f32⟩
  | 86 => ⟨S8x4x64x64x128, .f32⟩
  | 87 => ⟨S8x4x64x64x128, .f32⟩
  | 88 => ⟨S_, .f32⟩
  | 89 => ⟨S8x4x64x64, .f32⟩
  | 90 => ⟨S8x4x64x128, .f32⟩
  | 91 => ⟨S8x4x64x128, .f32⟩
  | 92 => ⟨S8x4x64x128, .f32⟩
  | 93 => ⟨S8x4x64x128, .f32⟩
  | 94 => ⟨S8x4x1x128, .f32⟩
  | 95 => ⟨S8x4x64x128, .f32⟩
  | 96 => ⟨S8x4x64x128, .f32⟩
  | 97 => ⟨S8x4x64x128, .f32⟩
  | 98 => ⟨S8x4x64x128, .f32⟩
  | 99 => ⟨S8x4x128, .f32⟩
  | 100 => ⟨S8x4x128, .f32⟩
  | 101 => ⟨S8x4x128x1, .f32⟩
  | 102 => ⟨S8x4x128x128, .f32⟩
  | 103 => ⟨S8x4x128x128, .f32⟩
  | 104 => ⟨S8x4x128x128, .f32⟩
  | 105 => ⟨S8x4x128x128, .f32⟩
  | 106 => ⟨S8x4x64x128, .f32⟩
  | 107 => ⟨S1x8x4x64x128, .f32⟩
  | 108 => ⟨S_, .i32⟩
  | 109 => ⟨S_, .i32⟩
  | 110 => ⟨S_, .i32⟩
  | 111 => ⟨S_, .i32⟩
  | 112 => ⟨S32x8x4x64x128, .f32⟩
  | 113 => ⟨S_, .i32⟩
  | 114 => ⟨S_, .i32⟩
  | 115 => ⟨S8x32x64x4x128, .f32⟩
  | 116 => ⟨S8x2048x4x128, .f32⟩
  | 117 => ⟨S8x2048x4x128, .f32⟩
  | 118 => ⟨S_, .f32⟩
  | 119 => ⟨S8x2048x4, .f32⟩
  | 120 => ⟨S8x2048x4x1, .f32⟩
  | 121 => ⟨S_, .f32⟩
  | 122 => ⟨S8x2048x4x1, .f32⟩
  | 123 => ⟨S8x2048x4x1, .f32⟩
  | 124 => ⟨S_, .f32⟩
  | 125 => ⟨S8x2048x4x1, .f32⟩
  | 126 => ⟨S8x2048x4x1, .f32⟩
  | 127 => ⟨S8x2048x4x1, .f32⟩
  | _ => ⟨S16384x512, .bf16⟩

abbrev hbmTy0_1 (i : Nat) : BufTy := match i % 128 with
  | 0 => ⟨S8x2048x4x128, .f32⟩
  | 1 => ⟨S8x2048x4x128, .f32⟩
  | 2 => ⟨S4x128, .f32⟩
  | 3 => ⟨S1x1x4x128, .f32⟩
  | 4 => ⟨S8x2048x4x128, .f32⟩
  | 5 => ⟨S8x2048x4x128, .f32⟩
  | 6 => ⟨S8x2048x512, .f32⟩
  | 7 => ⟨S16384x512, .f32⟩
  | 8 => ⟨S8x2048x512, .f32⟩
  | 9 => ⟨S8x2048x512, .f32⟩
  | 10 => ⟨S16384x512, .f32⟩
  | 11 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_c_1 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev main_v16_7 : Ref sig .tc := ⟨.hbm, 40, rfl⟩
abbrev main_while0c_c_12 : Ref sig .tc := ⟨.hbm, 41, rfl⟩
abbrev main_while0c_v39 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v39 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v40 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v41 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v42 : Ref sig .tc := ⟨.hbm, 66, rfl⟩
abbrev main_while0b_call5_call0_cst : Ref sig .tc := ⟨.hbm, 67, rfl⟩
abbrev main_while0b_call5_call0_v0 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_cst_12 : Ref sig .tc := ⟨.hbm, 76, rfl⟩
abbrev main_while0b_call6_v0 : Ref sig .tc := ⟨.hbm, 77, rfl⟩
abbrev main_while0b_call6_v1 : Ref sig .tc := ⟨.hbm, 78, rfl⟩
abbrev main_while0b_call6_v2 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_cst_13 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_v61 : Ref sig .tc := ⟨.hbm, 92, rfl⟩
abbrev main_while0b_v62 : Ref sig .tc := ⟨.hbm, 93, rfl⟩
abbrev main_while0b_v63 : Ref sig .tc := ⟨.hbm, 94, rfl⟩
abbrev main_while0b_v64 : Ref sig .tc := ⟨.hbm, 95, rfl⟩
abbrev main_while0b_v65 : Ref sig .tc := ⟨.hbm, 96, rfl⟩
abbrev main_while0b_v66 : Ref sig .tc := ⟨.hbm, 97, rfl⟩
abbrev main_while0b_v67 : Ref sig .tc := ⟨.hbm, 98, rfl⟩
abbrev main_while0b_v68 : Ref sig .tc := ⟨.hbm, 99, rfl⟩
abbrev main_while0b_v69 : Ref sig .tc := ⟨.hbm, 100, rfl⟩
abbrev main_while0b_v70 : Ref sig .tc := ⟨.hbm, 101, rfl⟩
abbrev main_while0b_v71 : Ref sig .tc := ⟨.hbm, 102, rfl⟩
abbrev main_while0b_v72 : Ref sig .tc := ⟨.hbm, 103, rfl⟩
abbrev main_while0b_v73 : Ref sig .tc := ⟨.hbm, 104, rfl⟩
abbrev main_while0b_v74 : Ref sig .tc := ⟨.hbm, 105, rfl⟩
abbrev main_while0b_v75 : Ref sig .tc := ⟨.hbm, 106, rfl⟩
abbrev main_while0b_call7_v0 : Ref sig .tc := ⟨.hbm, 107, rfl⟩
abbrev main_while0b_call7_c : Ref sig .tc := ⟨.hbm, 108, rfl⟩
abbrev main_while0b_call7_c_0 : Ref sig .tc := ⟨.hbm, 109, rfl⟩
abbrev main_while0b_call7_c_1 : Ref sig .tc := ⟨.hbm, 110, rfl⟩
abbrev main_while0b_call7_c_2 : Ref sig .tc := ⟨.hbm, 111, rfl⟩
abbrev main_while0b_v76 : Ref sig .tc := ⟨.hbm, 112, rfl⟩
abbrev main_while0b_c_14 : Ref sig .tc := ⟨.hbm, 113, rfl⟩
abbrev main_while0b_v77 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_cst_2 : Ref sig .tc := ⟨.hbm, 118, rfl⟩
abbrev main_v20 : Ref sig .tc := ⟨.hbm, 119, rfl⟩
abbrev main_v21 : Ref sig .tc := ⟨.hbm, 120, rfl⟩
abbrev main_cst_3 : Ref sig .tc := ⟨.hbm, 121, rfl⟩
abbrev main_v22 : Ref sig .tc := ⟨.hbm, 122, rfl⟩
abbrev main_v23 : Ref sig .tc := ⟨.hbm, 123, rfl⟩
abbrev main_cst_4 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩

abbrev nD : Nat := 1
abbrev τ : Topo := Topo.v7x

variable {F : FTy → Type} [FloatOps F]

abbrev main_while0_count : Scf.Loop 32 := ⟨0#32, 32#32, 1#32⟩
-- ==== Kernel7.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S4x256x1024 : Shape := ⟨3, ![4, 256, 1024]⟩
abbrev S1x1024x256 : Shape := ⟨3, ![1, 1024, 256]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S1x1024, .f32⟩
  | .hbm, ⟨11, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v118 : BitVec 1 := Scalar.cmpi .eq arg1 c7_i32
  let v119 : BitVec 32 := Scalar.extui v118
  let c0_i32_76 : BitVec 32 := 0#32
  let v120 : BitVec 1 := Scalar.cmpi .ne v119 c0_i32_76
  v120

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S16384x32x256 : Shape := ⟨3, ![16384, 32, 256]⟩
abbrev S_ : Shape := ⟨0, ![]⟩
abbrev S16384x32 : Shape := ⟨2, ![16384, 32]⟩
abbrev S16384x32x1 : Shape := ⟨3, ![16384, 32, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S16384x1024, .f32⟩
  | .hbm, ⟨8, _⟩ => ⟨S16384x32x256, .f32⟩
  | .hbm, ⟨9, _⟩ => ⟨S16384x32x256, .f32⟩
  | .hbm, ⟨10, _⟩ => ⟨S16384x32x256, .f32⟩
  | .hbm, ⟨11, _⟩ => ⟨S_, .f32⟩
  | .hbm, ⟨12, _⟩ => ⟨S16384x32x256, .f32⟩
  | .hbm, ⟨13, _⟩ => ⟨S16384x32x256, .f32⟩
  | .hbm, ⟨14, _⟩ => ⟨S_, .f32⟩
  | .hbm, ⟨15, _⟩ => ⟨S16384x32x256, .f32⟩
  | .hbm, ⟨16, _⟩ => ⟨S16384x32x256, .f32⟩
  | .hbm, ⟨17, _⟩ => ⟨S16384x32x256, .f32⟩
  | .hbm, ⟨18, _⟩ => ⟨S16384x32x256, .f32⟩
  | .hbm, ⟨19, _⟩ => ⟨S16384x32x256, .f32⟩
  | .hbm, ⟨20, _⟩ => ⟨S16384x32, .f32⟩
  | .hbm, ⟨21, _⟩ => ⟨S16384x32x1, .f32⟩
  | .hbm, ⟨22, _⟩ => ⟨S16384x32x256, .f32⟩
  | .hbm, ⟨23, _⟩ => ⟨S16384x32x256, .f32⟩
  | .hbm, ⟨24, _⟩ => ⟨S16384x1024, .f32⟩
  | .hbm, ⟨25, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== Proof.HeadsTrip.lean ====
module

public import proofs.«01_k».proof.Proof.Gen.Kernel6Ideal.Loops
public import Idealize.ShloMosaic.Lib.ValueIdx
public import Idealize.ShloMosaic.Lib.Pipeline.Value
public import Idealize.ShloMosaic.Lib.WritesUnit
public import Idealize.ShloMosaic.Lib.Ring
public import Idealize.ShloMosaic.Lib.Tactic
public import Idealize.ShloMosaic.PureOps.Ideal.Laws

@[expose] public section

set_option maxRecDepth 16384

noncomputable section

open Idealize.ShloMosaic Idealize.ShloMosaic.TcCoe Idealize.SL.Sem

namespace Cert.Kernel6Ideal.Heads

open Cert.Kernel6Ideal Cert.Kernel6Ideal.Gen

variable {F : FTy → Type} [FloatOps F]

/-- The running sums of one head's log forget gates down the rows of a chunk. -/
def hBc (v3 : IVec S64x128 32) (l : Vec F S64x128 .f32) : FVec F S64x128 .f32 :=
  k0_pay8 v3 (k0_pay5 v3 l) (k0_pay6 v3) (k0_pay7 v3 l) (FloatOps.ofBits FTy.f32 0#32)

/-- One head's state after a chunk. -/
def hSt (v3 : IVec S64x128 32) (l : Vec F S64x128 .f32) (v : Vec F S64x128 .bf16) (st : Vec F S1x128x128 .f32) : FVec F S1x128x128 .f32 :=
  k0_pay25 v (k0_pay4 l) (hBc v3 l) (k0_pay21 st)

/-- One head's scores of the first two halvings. -/
def hSc3 (v3 : IVec S64x128 32) (v4 v5 : IVec S64x64 32) (q : Vec F S64x128 .bf16) (l : Vec F S64x128 .f32) : FVec F S64x64 .f32 :=
  k0_pay14 v3 v4 v5 (k0_pay2 q) (k0_pay4 l) (hBc v3 l)
    (k0_pay9 v3 (k0_pay2 q) (k0_pay4 l) (k0_pay5 v3 l) (k0_pay6 v3) (k0_pay7 v3 l) (FloatOps.ofBits FTy.f32 0#32)) (k0_pay10 v3)
    (k0_pay12 v3 (k0_pay2 q) (k0_pay5 v3 l) (k0_pay6 v3) (k0_pay7 v3 l) (FloatOps.ofBits FTy.f32 0#32))
    (k0_pay13 v3 (k0_pay4 l) (k0_pay5 v3 l) (k0_pay6 v3) (k0_pay7 v3 l) (FloatOps.ofBits FTy.f32 0#32))

/-- One head's scores below the diagonal applied to the values. -/
def hIntra (v3 : IVec S64x128 32) (v4 v5 : IVec S64x64 32) (q : Vec F S64x128 .bf16) (l : Vec F S64x128 .f32) (v : Vec F S64x128 .bf16) : FVec F S64x128 .f32 :=
  k0_pay22 v3 v4 v5 (k0_pay2 q) v (k0_pay3 l) (k0_pay4 l)
    (k0_pay17 v4 v5 (k0_pay2 q) (k0_pay4 l) (hBc v3 l) (hSc3 v3 v4 v5 q l) (k0_pay15 v3) k0_pay16)
    (k0_pay18 v3) (k0_pay19 v3 (hBc v3 l)) (k0_pay20 v3 (k0_pay2 q) (hBc v3 l))

/-- One head's output rows of a chunk. -/
def hOut (v3 : IVec S64x128 32) (v4 v5 : IVec S64x64 32) (q : Vec F S64x128 .bf16) (l : Vec F S64x128 .f32) (v g : Vec F S64x128 .bf16)
    (w : Vec F S1x128 .f32) (st : Vec F S1x128x128 .f32) : FVec F S64x128 .bf16 :=
  k0_pay26 (k0_pay2 q) (hBc v3 l) (k0_pay21 st) (hIntra v3 v4 v5 q l v) (k0_pay23 (k0_pay2 q) (k0_pay4 l)) (k0_pay24 v) w g

/-- The output pieces of one trip, of the state it finds. -/
def oPieces (v3 : IVec S64x128 32) (v4 v5 : IVec S64x64 32) (x0 : Vec F S512x512 .bf16) (x1 : Vec F S512x512 .f32) (x2 x3 : Vec F S512x512 .bf16) (x4 : Vec F S1x512 .f32) (k : Fin k0_t1_loop.trips) (st : Vec F S4x128x128 .f32) : List (View.Piece (Elt F) S512x512 .bf16) :=
  [⟨(Rect.unit (s := S512x512) (k0_off4 k) S64x128.size (k0_off4_inb k)), hOut v3 v4 v5 (View.ld x0 (Rect.unit (s := S512x512) (k0_off4 k) S64x128.size (k0_off4_inb k))) (View.ld x1 (Rect.unit (s := S512x512) (k0_off4 k) S64x128.size (k0_off4_inb k))) (View.ld x2 (Rect.unit (s := S512x512) (k0_off4 k) S64x128.size (k0_off4_inb k))) (View.ld x3 (Rect.unit (s := S512x512) (k0_off4 k) S64x128.size (k0_off4_inb k))) (View.ld x4 (Rect.unit (s := S1x512) ![0, 384] S1x128.size inb_S1x512_S1x128_0_384)) (View.ld st (Rect.unit (s := S4x128x128) ![3, 0, 0] S1x128x128.size inb_S4x128x128_S1x128x128_3_0_0))⟩,
   ⟨(Rect.unit (s := S512x512) (k0_off3 k) S64x128.size (k0_off3_inb k)), hOut v3 v4 v5 (View.ld x0 (Rect.unit (s := S512x512) (k0_off3 k) S64x128.size (k0_off3_inb k))) (View.ld x1 (Rect.unit (s := S512x512) (k0_off3 k) S64x128.size (k0_off3_inb k))) (View.ld x2 (Rect.unit (s := S512x512) (k0_off3 k) S64x128.size (k0_off3_inb k))) (View.ld x3 (Rect.unit (s := S512x512) (k0_off3 k) S64x128.size (k0_off3_inb k))) (View.ld x4 (Rect.unit (s := S1x512) ![0, 256] S1x128.size inb_S1x512_S1x128_0_256)) (View.ld st (Rect.unit (s := S4x128x128) ![2, 0, 0] S1x128x128.size inb_S4x128x128_S1x128x128_2_0_0))⟩,
   ⟨(Rect.unit (s := S512x512) (k0_off2 k) S64x128.size (k0_off2_inb k)), hOut v3 v4 v5 (View.ld x0 (Rect.unit (s := S512x512) (k0_off2 k) S64x128.size (k0_off2_inb k))) (View.ld x1 (Rect.unit (s := S512x512) (k0_off2 k) S64x128.size (k0_off2_inb k))) (View.ld x2 (Rect.unit (s := S512x512) (k0_off2 k) S64x128.size (k0_off2_inb k))) (View.ld x3 (Rect.unit (s := S512x512) (k0_off2 k) S64x128.size (k0_off2_inb k))) (View.ld x4 (Rect.unit (s := S1x512) ![0, 128] S1x128.size inb_S1x512_S1x128_0_128)) (View.ld st (Rect.unit (s := S4x128x128) ![1, 0, 0] S1x128x128.size inb_S4x128x128_S1x128x128_1_0_0))⟩,
   ⟨(Rect.unit (s := S512x512) (k0_off1 k) S64x128.size (k0_off1_inb k)), hOut v3 v4 v5 (View.ld x0 (Rect.unit (s := S512x512) (k0_off1 k) S64x128.size (k0_off1_inb k))) (View.ld x1 (Rect.unit (s := S512x512) (k0_off1 k) S64x128.size (k0_off1_inb k))) (View.ld x2 (Rect.unit (s := S512x512) (k0_off1 k) S64x128.size (k0_off1_inb k))) (View.ld x3 (Rect.unit (s := S512x512) (k0_off1 k) S64x128.size (k0_off1_inb k))) (View.ld x4 (Rect.unit (s := S1x512) ![0, 0] S1x128.size inb_S1x512_S1x128_0_0)) (View.ld st (Rect.unit (s := S4x128x128) ![0, 0, 0] S1x128x128.size inb_S4x128x128_S1x128x128_0_0_0))⟩]

/-- The state pieces of one trip, of the state it finds. -/
def sPieces (v3 : IVec S64x128 32) (x1 : Vec F S512x512 .f32) (x2 : Vec F S512x512 .bf16) (k : Fin k0_t1_loop.trips) (st : Vec F S4x128x128 .f32) : List (View.Piece (Elt F) S4x128x128 .f32) :=
  [⟨(Rect.unit (s := S4x128x128) ![3, 0, 0] S1x128x128.size inb_S4x128x128_S1x128x128_3_0_0), hSt v3 (View.ld x1 (Rect.unit (s := S512x512) (k0_off4 k) S64x128.size (k0_off4_inb k))) (View.ld x2 (Rect.unit (s := S512x512) (k0_off4 k) S64x128.size (k0_off4_inb k))) (View.ld st (Rect.unit (s := S4x128x128) ![3, 0, 0] S1x128x128.size inb_S4x128x128_S1x128x128_3_0_0))⟩,
   ⟨(Rect.unit (s := S4x128x128) ![2, 0, 0] S1x128x128.size inb_S4x128x128_S1x128x128_2_0_0), hSt v3 (View.ld x1 (Rect.unit (s := S512x512) (k0_off3 k) S64x128.size (k0_off3_inb k))) (View.ld x2 (Rect.unit (s := S512x512) (k0_off3 k) S64x128.size (k0_off3_inb k))) (View.ld st (Rect.unit (s := S4x128x128) ![2, 0, 0] S1x128x128.size inb_S4x128x128_S1x128x128_2_0_0))⟩,
   ⟨(Rect.unit (s := S4x128x128) ![1, 0, 0] S1x128x128.size inb_S4x128x128_S1x128x128_1_0_0), hSt v3 (View.ld x1 (Rect.unit (s := S512x512) (k0_off2 k) S64x128.size (k0_off2_inb k))) (View.ld x2 (Rect.unit (s := S512x512) (k0_off2 k) S64x128.size (k0_off2_inb k))) (View.ld st (Rect.unit (s := S4x128x128) ![1, 0, 0] S1x128x128.size inb_S4x128x128_S1x128x128_1_0_0))⟩,
   ⟨(Rect.unit (s := S4x128x128) ![0, 0, 0] S1x128x128.size inb_S4x128x128_S1x128x128_0_0_0), hSt v3 (View.ld x1 (Rect.unit (s := S512x512) (k0_off1 k) S64x128.size (k0_off1_inb k))) (View.ld x2 (Rect.unit (s := S512x512) (k0_off1 k) S64x128.size (k0_off1_inb k))) (View.ld st (Rect.unit (s := S4x128x128) ![0, 0, 0] S1x128x128.size inb_S4x128x128_S1x128x128_0_0_0))⟩]

/-- One trip's pieces are functions of the blocks and the state it finds. -/
theorem trip_eq (𝒱 : Variants) (c : Dev nD) (bd : Option 𝒱.V) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (v3 : IVec S64x128 32) (v4 : IVec S64x64 32) (v5 : IVec S64x64 32) (x0 : Vec F S512x512 .bf16) (x1 : Vec F S512x512 .f32) (x2 : Vec F S512x512 .bf16) (x3 : Vec F S512x512 .bf16) (x4 : Vec F S1x512 .f32) (k : Fin k0_t1_loop.trips) (f_arg7 : BufTy.Contents (Elt F) arg7.view.ty) (f_arg8 : BufTy.Contents (Elt F) arg8.view.ty) :
    tripL_k0_t1 (F := F) 𝒱 c bd i arg2 harg2 arg3 harg3 arg4 harg4 arg5 harg5 arg6 harg6 arg7 harg7 arg8 harg8 v3 v4 v5 (harg2.unread x0) (harg3.unread x1) (harg4.unread x2) (harg5.unread x3) (harg6.unread x4) k f_arg7 f_arg8
      = (oPieces v3 v4 v5 x0 x1 x2 x3 x4 k (arg8.view.read (Elt F) f_arg8), sPieces v3 x1 x2 k (arg8.view.read (Elt F) f_arg8)) := by
  unfold tripL_k0_t1 trip_k0_t1
  dsimp only
  sl_unfold_words
  simp only [View.readAt_eq_ld, harg2.read_unread, harg3.read_unread, harg4.read_unread, harg5.read_unread, harg6.read_unread]
  rfl

/-- The state before trip `k`, of the state the loop finds. -/
def stK (v3 : IVec S64x128 32) (x1 : Vec F S512x512 .f32) (x2 : Vec F S512x512 .bf16) (st : Vec F S4x128x128 .f32) : ℕ → Vec F S4x128x128 .f32
  | 0 => st
  | k + 1 => if h : k < k0_t1_loop.trips then View.canon (sPieces v3 x1 x2 ⟨k, h⟩ (stK v3 x1 x2 st k)) else stK v3 x1 x2 st k

/-- The state pieces of the trips before `k`, last first. -/
def sL (v3 : IVec S64x128 32) (x1 : Vec F S512x512 .f32) (x2 : Vec F S512x512 .bf16) (st : Vec F S4x128x128 .f32) : ℕ → List (View.Piece (Elt F) S4x128x128 .f32)
  | 0 => []
  | k + 1 => if h : k < k0_t1_loop.trips then sPieces v3 x1 x2 ⟨k, h⟩ (stK v3 x1 x2 st k) ++ sL v3 x1 x2 st k else sL v3 x1 x2 st k

/-- The output pieces of the trips before `k`, last first. -/
def oL (v3 : IVec S64x128 32) (v4 v5 : IVec S64x64 32) (x0 : Vec F S512x512 .bf16) (x1 : Vec F S512x512 .f32) (x2 x3 : Vec F S512x512 .bf16) (x4 : Vec F S1x512 .f32) (st : Vec F S4x128x128 .f32) : ℕ → List (View.Piece (Elt F) S512x512 .bf16)
  | 0 => []
  | k + 1 => if h : k < k0_t1_loop.trips then oPieces v3 v4 v5 x0 x1 x2 x3 x4 ⟨k, h⟩ (stK v3 x1 x2 st k) ++ oL v3 v4 v5 x0 x1 x2 x3 x4 st k else oL v3 v4 v5 x0 x1 x2 x3 x4 st k

/-- One trip's state pieces cover the state. -/
theorem sPieces_cover (v3 : IVec S64x128 32) (x1 : Vec F S512x512 .f32) (x2 : Vec F S512x512 .bf16) (k : Fin k0_t1_loop.trips) (st : Vec F S4x128x128 .f32) (y : S4x128x128.Idx) :
    ∃ p ∈ sPieces v3 x1 x2 k st, y ∈ p.1.set :=
  View.cover_of_tiledL (sPieces v3 x1 x2 k st) S1x128x128.size (by sl_kernel_rfl) y

/-- The state read after the trips before `k`. -/
theorem read_sL (v : View sig .tc .vmem S4x128x128 .f32) (v3 : IVec S64x128 32) (x1 : Vec F S512x512 .f32) (x2 : Vec F S512x512 .bf16) (f : BufTy.Contents (Elt F) v.ty) (st : Vec F S4x128x128 .f32)
    (hf : v.read (Elt F) f = st) : ∀ k, k ≤ k0_t1_loop.trips → v.read (Elt F) (v.writes (Elt F) f (sL v3 x1 x2 st k)) = stK v3 x1 x2 st k
  | 0, _ => hf
  | k + 1, hk => by
    rw [sL, dif_pos (show k < k0_t1_loop.trips by omega), stK, dif_pos (show k < k0_t1_loop.trips by omega), View.writes_append]
    exact View.read_writes_eq_canon v _ _ (sPieces_cover v3 x1 x2 _ _)

/-- The loop's pieces are these lists. -/
theorem loop_eq (𝒱 : Variants) (c : Dev nD) (bd : Option 𝒱.V) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (v3 : IVec S64x128 32) (v4 : IVec S64x64 32) (v5 : IVec S64x64 32) (x0 : Vec F S512x512 .bf16) (x1 : Vec F S512x512 .f32) (x2 : Vec F S512x512 .bf16) (x3 : Vec F S512x512 .bf16) (x4 : Vec F S1x512 .f32) (f7 : BufTy.Contents (Elt F) arg7.view.ty) (f8 : BufTy.Contents (Elt F) arg8.view.ty) (st : Vec F S4x128x128 .f32) (hf : arg8.view.read (Elt F) f8 = st) :
    ∀ k, k ≤ k0_t1_loop.trips →
    pb_k0_t1 (F := F) 𝒱 c bd i arg2 harg2 arg3 harg3 arg4 harg4 arg5 harg5 arg6 harg6 arg7 harg7 arg8 harg8 v3 v4 v5 (harg2.unread x0) (harg3.unread x1) (harg4.unread x2) (harg5.unread x3) (harg6.unread x4) f7 f8 k
      = (oL v3 v4 v5 x0 x1 x2 x3 x4 st k, sL v3 x1 x2 st k)
  | 0, _ => by rw [pb_k0_t1, oL, sL]
  | k + 1, hk => by
    have hlt : k < k0_t1_loop.trips := by omega
    refine (pb_k0_t1_succ (F := F) 𝒱 c bd i arg2 harg2 arg3 harg3 arg4 harg4 arg5 harg5 arg6 harg6 arg7 harg7 arg8 harg8 v3 v4 v5 (harg2.unread x0) (harg3.unread x1) (harg4.unread x2) (harg5.unread x3) (harg6.unread x4) f7 f8 ⟨k, hlt⟩).trans ?_
    rw [trip_eq]
    dsimp only
    rw [loop_eq 𝒱 c bd i arg2 harg2 arg3 harg3 arg4 harg4 arg5 harg5 arg6 harg6 arg7 harg7 arg8 harg8 v3 v4 v5 x0 x1 x2 x3 x4 f7 f8 st hf k (by omega)]
    dsimp only
    rw [read_sL arg8.view v3 x1 x2 f8 st hf k (by omega), oL, dif_pos hlt, sL, dif_pos hlt]

/-- The output pieces cover the block. -/
theorem oL_cover (v3 : IVec S64x128 32) (v4 v5 : IVec S64x64 32) (x0 : Vec F S512x512 .bf16) (x1 : Vec F S512x512 .f32) (x2 x3 : Vec F S512x512 .bf16) (x4 : Vec F S1x512 .f32) (st : Vec F S4x128x128 .f32) (y : S512x512.Idx) :
    ∃ p ∈ oL v3 v4 v5 x0 x1 x2 x3 x4 st k0_t1_loop.trips, y ∈ p.1.set :=
  View.cover_of_tiledL (oL v3 v4 v5 x0 x1 x2 x3 x4 st k0_t1_loop.trips) S64x128.size (by sl_kernel_rfl) y

/-- The loop's state pieces cover the state. -/
theorem sL_cover (v3 : IVec S64x128 32) (x1 : Vec F S512x512 .f32) (x2 : Vec F S512x512 .bf16) (st : Vec F S4x128x128 .f32) (y : S4x128x128.Idx) :
    ∃ p ∈ sL v3 x1 x2 st k0_t1_loop.trips, y ∈ p.1.set :=
  View.cover_of_tiledL (sL v3 x1 x2 st k0_t1_loop.trips) S1x128x128.size (by sl_kernel_rfl) y

end Cert.Kernel6Ideal.Heads
-- ==== Proof.HeadsRun.lean ====
module

public import proofs.«01_k».proof.Proof.Gen.Kernel6Ideal.Frame.Runs
public import proofs.«01_k».proof.Proof.HeadsTrip

@[expose] public section

set_option maxRecDepth 16384

noncomputable section

namespace Cert.Kernel6Ideal.Heads

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row numbers of a chunk's rows. -/
abbrev iR : IVec S64x128 32 := iota .tc S64x128 32 [0] iota_S64x128_d0_w32
/-- The row numbers of a chunk's scores. -/
abbrev iA : IVec S64x64 32 := iota .tc S64x64 32 [0] iota_S64x64_d0_w32
/-- The column numbers of a chunk's scores. -/
abbrev iB : IVec S64x64 32 := iota .tc S64x64 32 [1] iota_S64x64_d1_w32

/-- A store of the whole state reads back as what was stored. -/
theorem read_reset (v : View sig .tc .vmem S4x128x128 .f32) (f : BufTy.Contents (Elt F) v.ty) (w : Vec F S4x128x128 .f32) :
    v.read (Elt F) (v.writes (Elt F) f [⟨Rect.unit (s := S4x128x128) ![0, 0, 0] S4x128x128.size inb_S4x128x128_S4x128x128_0_0_0, w⟩]) = w :=
  funext fun y => View.read_writes_cons_unit_of_mem v f _ w [] y y rfl fun a => by fin_cases a <;> exact (Nat.zero_add _).symm

set_option maxHeartbeats 1000000 in
/-- The body at the first point of a sequence: the state starts blank. -/
noncomputable def kernelRun0_A (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : cond0_0 i)
    (x0 : Vec F S512x512 .bf16) (x1 : Vec F S512x512 .f32) (x2 : Vec F S512x512 .bf16) (x3 : Vec F S512x512 .bf16) (x4 : Vec F S1x512 .f32) :
    Σ' (L5 : List (View.Piece (Elt F) S512x512 .bf16)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn2 i arg2 harg2 arg3 harg3 arg4 harg4 arg5 harg5 arg6 harg6 arg7 harg7 arg8 harg8) K } := by
  refine ⟨oL iR iA iB x0 x1 x2 x3 x4 (k0_pay1 (F := F)) k0_t1_loop.trips, sL iR x1 x2 (k0_pay1 (F := F)) k0_t1_loop.trips, fun E K => ?run⟩
  case run =>
    simp only [cc0_hgrn2_eq_skeleton]; unfold cc0_hgrn2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hp := loop_eq Variants.none c none i arg2 harg2 arg3 harg3 arg4 harg4 arg5 harg5 arg6 harg6 arg7 harg7 arg8 harg8 iR iA iB x0 x1 x2 x3 x4 f5 (arg8.view.writes (Elt F) arg8.view.junk [⟨Rect.unit (s := S4x128x128) ![0, 0, 0] S4x128x128.size inb_S4x128x128_S4x128x128_0_0_0, k0_pay1 (F := F)⟩]) (k0_pay1 (F := F)) (read_reset arg8.view _ _) k0_t1_loop.trips (le_refl _)
    have h5 := congrArg Prod.fst hp
    have h8 := congrArg Prod.snd hp
    dsimp only at h5 h8
    isplitl [H5]
    · iexists f5
      rw [← h5]; iexact H5
    iexists (arg8.view.writes (Elt F) arg8.view.junk [⟨Rect.unit (s := S4x128x128) ![0, 0, 0] S4x128x128.size inb_S4x128x128_S4x128x128_0_0_0, k0_pay1 (F := F)⟩])
    rw [← h8, ← View.writes_append]; iexact HS0

set_option maxHeartbeats 1000000 in
/-- The body at a later point: the state is the one the point before left. -/
noncomputable def kernelRun0_B (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : ¬cond0_0 i)
    (x0 : Vec F S512x512 .bf16) (x1 : Vec F S512x512 .f32) (x2 : Vec F S512x512 .bf16) (x3 : Vec F S512x512 .bf16) (x4 : Vec F S1x512 .f32) (xs0 : Vec F S4x128x128 .f32) :
    Σ' (L5 : List (View.Piece (Elt F) S512x512 .bf16)), { LS0 : List (View.Piece (Elt F) S4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_hgrn2 i arg2 harg2 arg3 harg3 arg4 harg4 arg5 harg5 arg6 harg6 arg7 harg7 arg8 harg8) K } := by
  refine ⟨oL iR iA iB x0 x1 x2 x3 x4 xs0 k0_t1_loop.trips, sL iR x1 x2 xs0 k0_t1_loop.trips, fun E K => ?run⟩
  case run =>
    simp only [cc0_hgrn2_eq_skeleton]; unfold cc0_hgrn2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hp := loop_eq Variants.none c none i arg2 harg2 arg3 harg3 arg4 harg4 arg5 harg5 arg6 harg6 arg7 harg7 arg8 harg8 iR iA iB x0 x1 x2 x3 x4 f5 (harg8.unread xs0) xs0 (harg8.read_unread _) k0_t1_loop.trips (le_refl _)
    have h5 := congrArg Prod.fst hp
    have h8 := congrArg Prod.snd hp
    dsimp only at h5 h8
    isplitl [H5]
    · iexists f5
      rw [← h5]; iexact H5
    iexists (harg8.unread xs0)
    rw [← h8]; iexact HS0

end Cert.Kernel6Ideal.Heads

end
-- ==== Proof.HeadsFrame.lean ====
module

public import proofs.«01_k».proof.Proof.HeadsRun
public import Idealize.ShloMosaic.Lib.Claim

@[expose] public section

set_option maxRecDepth 16384

noncomputable section

namespace Cert.Kernel6Ideal.Heads

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 cover it. -/
theorem cover0_A_5 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : cond0_0 i)
    (x0 : Vec F S512x512 .bf16) (x1 : Vec F S512x512 .f32) (x2 : Vec F S512x512 .bf16) (x3 : Vec F S512x512 .bf16) (x4 : Vec F S1x512 .f32) (y : S512x512.Idx) :
    ∃ pc ∈ (kernelRun0_A c i arg2 harg2 arg3 harg3 arg4 harg4 arg5 harg5 arg6 harg6 arg7 harg7 arg8 harg8 hc0 x0 x1 x2 x3 x4).1, y ∈ pc.1.set :=
  oL_cover iR iA iB x0 x1 x2 x3 x4 (k0_pay1 (F := F)) y

/-- What case A leaves in output 5's staging buffer: its pieces read back over junk. -/
def out0_A_5 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : cond0_0 i)
    (x0 : Vec F S512x512 .bf16) (x1 : Vec F S512x512 .f32) (x2 : Vec F S512x512 .bf16) (x3 : Vec F S512x512 .bf16) (x4 : Vec F S1x512 .f32) : Vec F S512x512 .bf16 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- Case A's pieces for scratch `arg8` cover it. -/
theorem scover0_A_0 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : cond0_0 i)
    (x0 : Vec F S512x512 .bf16) (x1 : Vec F S512x512 .f32) (x2 : Vec F S512x512 .bf16) (x3 : Vec F S512x512 .bf16) (x4 : Vec F S1x512 .f32) (y : S4x128x128.Idx) :
    ∃ pc ∈ (kernelRun0_A c i arg2 harg2 arg3 harg3 arg4 harg4 arg5 harg5 arg6 harg6 arg7 harg7 arg8 harg8 hc0 x0 x1 x2 x3 x4).2.1, y ∈ pc.1.set :=
  sL_cover iR x1 x2 (k0_pay1 (F := F)) y

/-- What case A leaves in scratch `arg8`: its pieces read back over junk. -/
def sout0_A_0 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : cond0_0 i)
    (x0 : Vec F S512x512 .bf16) (x1 : Vec F S512x512 .f32) (x2 : Vec F S512x512 .bf16) (x3 : Vec F S512x512 .bf16) (x4 : Vec F S1x512 .f32) : Vec F S4x128x128 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3 x4).2.1)

/-- Case B's pieces for output 5 cover it. -/
theorem cover0_B_5 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : ¬cond0_0 i)
    (x0 : Vec F S512x512 .bf16) (x1 : Vec F S512x512 .f32) (x2 : Vec F S512x512 .bf16) (x3 : Vec F S512x512 .bf16) (x4 : Vec F S1x512 .f32) (xs0 : Vec F S4x128x128 .f32) (y : S512x512.Idx) :
    ∃ pc ∈ (kernelRun0_B c i arg2 harg2 arg3 harg3 arg4 harg4 arg5 harg5 arg6 harg6 arg7 harg7 arg8 harg8 hc0 x0 x1 x2 x3 x4 xs0).1, y ∈ pc.1.set :=
  oL_cover iR iA iB x0 x1 x2 x3 x4 xs0 y

/-- What case B leaves in output 5's staging buffer: its pieces read back over junk. -/
def out0_B_5 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : ¬cond0_0 i)
    (x0 : Vec F S512x512 .bf16) (x1 : Vec F S512x512 .f32) (x2 : Vec F S512x512 .bf16) (x3 : Vec F S512x512 .bf16) (x4 : Vec F S1x512 .f32) (xs0 : Vec F S4x128x128 .f32) : Vec F S512x512 .bf16 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xs0).1)

/-- Case B's pieces for scratch `arg8` cover it. -/
theorem scover0_B_0 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : ¬cond0_0 i)
    (x0 : Vec F S512x512 .bf16) (x1 : Vec F S512x512 .f32) (x2 : Vec F S512x512 .bf16) (x3 : Vec F S512x512 .bf16) (x4 : Vec F S1x512 .f32) (xs0 : Vec F S4x128x128 .f32) (y : S4x128x128.Idx) :
    ∃ pc ∈ (kernelRun0_B c i arg2 harg2 arg3 harg3 arg4 harg4 arg5 harg5 arg6 harg6 arg7 harg7 arg8 harg8 hc0 x0 x1 x2 x3 x4 xs0).2.1, y ∈ pc.1.set :=
  sL_cover iR x1 x2 xs0 y

/-- What case B leaves in scratch `arg8`: its pieces read back over junk. -/
def sout0_B_0 (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S4x128x128 .f32) (harg8 : arg8.IsWhole) (hc0 : ¬cond0_0 i)
    (x0 : Vec F S512x512 .bf16) (x1 : Vec F S512x512 .f32) (x2 : Vec F S512x512 .bf16) (x3 : Vec F S512x512 .bf16) (x4 : Vec F S1x512 .f32) (xs0 : Vec F S4x128x128 .f32) : Vec F S4x128x128 .f32 :=
  VS0_0.read (Elt F) (VS0_0.writes (Elt F) VS0_0.junk (kernelRun0_B c i arg2 harg2 arg3 harg3 arg4 harg4 arg5 harg5 arg6 harg6 arg7 harg7 arg8 harg8 hc0 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .bf16 × Vec F S4x128x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
    · rw [PhiS_castSucc m c t, PhiS_pos m c _ _ hz]
      rw [outsAt0_A m c t h0]
      unfold out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel6Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel6Ideal.Heads

end
-- ==== Proof.HeadsValue.lean ====
module

public import proofs.«01_k».proof.Proof.HeadsFrame
public import Idealize.ShloMosaic.Lib.Pipeline.Value

@[expose] public section

noncomputable section

namespace Cert.Kernel6Ideal.Value

open Cert.Kernel6Ideal Cert.Kernel6Ideal.Gen Cert.Kernel6Ideal.Heads Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 4 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 4 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_B m c t h0]

/-- The index map sends distinct grid points to distinct block indices (decided over the 32 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S4x128x128 .f32) : Vec F S4x128x128 .f32 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2) 4 (fun n h => scAt0_0 m c n h (VS0_0.read (Elt F) VS0_0.junk)) (scAt0_0 m c)
    (fun n h hn => by
      have hN := lt_of_lt_of_eq h (show cfg0.N = 32 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 32 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x512 .bf16 × Vec F S4x128x128 .f32 :=
  ((VO0_5.read (Elt F) VO0_5.junk, VS0_0.read (Elt F) VS0_0.junk) : Vec F S512x512 .bf16 × Vec F S4x128x128 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x512 .bf16 × Vec F S4x128x128 .f32) : Vec F S512x512 .bf16 × Vec F S4x128x128 .f32 :=
  if h0 : n % 4 = 0 then
    (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2)

/-- `stAt0` at a point of case A: that case's contents. -/
theorem stAt0_A (c : Dev nD) (t : Fin cfg0.N) (acc : Vec F S512x512 .bf16 × Vec F S4x128x128 .f32) (h0 : t.val % 4 = 0) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) :=
  (dif_pos h0).trans rfl

/-- `stAt0` at a point of case B: that case's contents, over `acc`. -/
theorem stAt0_B (c : Dev nD) (t : Fin cfg0.N) (acc : Vec F S512x512 .bf16 × Vec F S4x128x128 .f32) (h0 : ¬t.val % 4 = 0) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S16384x512.Idx) : ℕ := 1 * ((i 0).val / 512 - 0) + 1 * ((i 1).val / 512 - 0)
set_option backward.proofsInPublic true in
abbrev loc5Of (i : S16384x512.Idx) : S512x512.Idx := fun a => match a with
  | ⟨0, _⟩ => ⟨(i 0).val % 512, Nat.mod_lt _ (by decide)⟩
  | ⟨1, _⟩ => ⟨(i 1).val % 512, Nat.mod_lt _ (by decide)⟩
abbrev pt5Of (i : S16384x512.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v1) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 31
    ∧ 0 ≤ win0_5.index t (1 : Fin 2) ∧ win0_5.index t (1 : Fin 2) ≤ 0
    ∧ 1 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 32) (q1 : Fin 1) : Fin grid0.N :=
  ⟨1 * q0.val + 1 * q1.val, lt_of_lt_of_eq (by omega) N_0.symm⟩
theorem idx_onto5 : ∀ (q0 : Fin 32) (q1 : Fin 1), ∃ t : Fin cfg0.N, (cfg0.win 5).flush t = true ∧ win0_5.index t = ![q0.val + 0, q1.val + 0] :=
  fun q0 q1 => ⟨onto5Pt q0 q1, (by decide +kernel : ∀ (q0 : Fin 32) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 512 := (y 0).isLt
  have hy1 : (y 1).val < 512 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 512 + 1 * (y 1).val := rfl
  have hr : run5Of (((cfg0.win 5).blk t).view.emb y) = t.val := by
    show 1 * ((((cfg0.win 5).blk t).view.emb y 0).val / 512 - 0) + 1 * ((((cfg0.win 5).blk t).view.emb y 1).val / 512 - 0) = _
    rw [hb0, hb1]
    rw [show (win0_5.index t (0 : Fin 2) * 512 + 1 * (y 0).val) / 512 = win0_5.index t (0 : Fin 2) from by omega]; rw [show (win0_5.index t (1 : Fin 2) * 512 + 1 * (y 1).val) / 512 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 512 = (y 0).val; rw [hb0]; omega
    | ⟨1, _⟩ => show (((cfg0.win 5).blk t).view.emb y 1).val % 512 = (y 1).val; rw [hb1]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

/-- THE COVERED INDICES: in some flushing point's block iff inside the box those blocks fill. -/
theorem covered_iff5 (i : S16384x512.Idx) :
    (∃ t : Fin cfg0.N, (cfg0.win 5).flush t = true ∧ i ∈ ((cfg0.win 5).blk t).view.set) ↔ 0 ≤ (i 0).val ∧ (i 0).val < 16384 ∧ 0 ≤ (i 1).val ∧ (i 1).val < 512 := by
  constructor
  · rintro ⟨t, -, hi⟩
    rw [mem_blk5] at hi
    have b0 : win0_5.index t (0 : Fin 2) * 512 ≤ (i 0).val ∧ (i 0).val < win0_5.index t (0 : Fin 2) * 512 + 512 := hi 0
    have b1 : win0_5.index t (1 : Fin 2) * 512 ≤ (i 1).val ∧ (i 1).val < win0_5.index t (1 : Fin 2) * 512 + 512 := hi 1
    obtain ⟨e0, e1, e2⟩ := idx_facts5 t
    omega
  · intro h
    have hi0 : (i 0).val < 16384 := (i 0).isLt
    have hi1 : (i 1).val < 512 := (i 1).isLt
    obtain ⟨t, hft, ht⟩ := idx_onto5 ⟨(i 0).val / 512 - 0, by omega⟩ ⟨(i 1).val / 512 - 0, by omega⟩
    have q0 : win0_5.index t (0 : Fin 2) = (i 0).val / 512 - 0 + 0 := congrFun ht 0
    have q1 : win0_5.index t (1 : Fin 2) = (i 1).val / 512 - 0 + 0 := congrFun ht 1
    refine ⟨t, hft, ?_⟩
    rw [mem_blk5]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 512 ≤ (i 1).val ∧ (i 1).val < win0_5.index t (1 : Fin 2) * 512 + 512; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 16384 := (i 0).isLt; have h1 : (i 1).val < 512 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.Kernel6Ideal.Value

end
-- ==== Proof.AttnMath.lean ====
module

public import Idealize.ShloMosaic.PureOps.Ideal
public import Idealize.ShloMosaic.PureOps.Ideal.Laws

@[expose] public section

noncomputable section

open Idealize.ShloMosaic

namespace Cert.AttnMath

/-- The exponential of a score after the largest score is taken off. -/
def wgt {n : ℕ} (s : Fin n → EReal) (c : Fin n) : EReal := Ideal.exp (s c - Finset.univ.sup s)

/-- The kernel's order: the weighted sum first, then the division. -/
def oK {n : ℕ} (s v : Fin n → EReal) : EReal := Ideal.div (∑ c, wgt s c * v c) (∑ c, wgt s c)

/-- The reference's order: the weights are divided first. -/
def oR {n : ℕ} (s v : Fin n → EReal) : EReal := ∑ c, v c * Ideal.div (wgt s c) (∑ c, wgt s c)

/-- The kernel's normalization over one head: the sum of squares times 1/64. -/
def nK (o w : Fin 64 → EReal) (d : Fin 64) : EReal :=
  o d * Ideal.rsqrt ((∑ j, o j * o j) * Ideal.ofBits .f32 0x3C800000#32 + Ideal.ofBits .f32 0x358637BD#32) * w d

/-- The reference's normalization over one head: the sum of squares divided by 64. -/
def nR (o w : Fin 64 → EReal) (d : Fin 64) : EReal :=
  o d * Ideal.rsqrt (Ideal.div (∑ j, o j * o j) (Ideal.ofBits .f32 0x42800000#32) + Ideal.ofBits .f32 0x358637BD#32) * w d

theorem bits_64 : Ideal.ofBits .f32 0x42800000#32 = ((64 : ℝ) : EReal) := by
  simp [Ideal.ofBits, Ideal.ieee, -EReal.coe_mul]; norm_num

theorem bits_inv64 : Ideal.ofBits .f32 0x3C800000#32 = ((1 / 64 : ℝ) : EReal) := by
  simp [Ideal.ofBits, Ideal.ieee, -EReal.coe_mul]; norm_num

theorem bits_eps : ∃ e : ℝ, Ideal.ofBits .f32 0x358637BD#32 = (e : EReal) := by
  refine ⟨8796093 / 8796093022208, ?_⟩
  simp [Ideal.ofBits, Ideal.ieee, -EReal.coe_mul]; norm_num

/-- The two normalizations agree. -/
theorem nK_eq_nR (o w : Fin 64 → EReal) (d : Fin 64) : nK o w d = nR o w d := by
  unfold nK nR
  rw [bits_64, bits_inv64, Ideal.div_coe (by norm_num)]

theorem exp_nonneg (x : EReal) : 0 ≤ Ideal.exp x := by
  induction x with
  | bot => simp
  | top => simp
  | coe r => simp only [Ideal.exp_coe]; exact_mod_cast (Real.exp_pos r).le

theorem wgt_nonneg {n : ℕ} (s : Fin n → EReal) (c : Fin n) : 0 ≤ wgt s c := exp_nonneg _

theorem wgt_of_bot {n : ℕ} (s : Fin n → EReal) (c : Fin n) (h : s c = ⊥) : wgt s c = 0 := by
  unfold wgt
  rw [h, sub_eq_add_neg, EReal.bot_add, Ideal.exp_bot]

/-- Every weight is 0 when the largest score is infinite. -/
theorem wgt_of_top {n : ℕ} (s : Fin n → EReal) (c : Fin n) (h : Finset.univ.sup s = ⊤) : wgt s c = 0 := by
  unfold wgt
  rw [h, sub_eq_add_neg, EReal.neg_top, EReal.add_bot, Ideal.exp_bot]

theorem wgt_of_sup_bot {n : ℕ} (s : Fin n → EReal) (c : Fin n) (h : Finset.univ.sup s = ⊥) : wgt s c = 0 := by
  refine wgt_of_bot s c ?_
  have := Finset.le_sup (f := s) (Finset.mem_univ c)
  rw [h] at this
  exact le_bot_iff.mp this

theorem sum_mul_real {n : ℕ} (f : Fin n → EReal) (y : ℝ) (hy : 0 ≤ y) : (∑ c, f c) * (y : EReal) = ∑ c, f c * (y : EReal) := by
  have key : ∀ t : Finset (Fin n), (∑ c ∈ t, f c) * (y : EReal) = ∑ c ∈ t, f c * (y : EReal) := by
    intro t
    induction t using Finset.induction_on with
    | empty => simp
    | insert a t ha ih =>
      rw [Finset.sum_insert ha, Finset.sum_insert ha, ← ih]
      exact EReal.right_distrib_of_nonneg_of_ne_top (by exact_mod_cast hy) (EReal.coe_ne_top y) _ _
  exact key _

theorem coe_sum {n : ℕ} (x : Fin n → ℝ) : (∑ c, (x c : EReal)) = ((∑ c, x c : ℝ) : EReal) := by
  have key : ∀ t : Finset (Fin n), (∑ c ∈ t, (x c : EReal)) = ((∑ c ∈ t, x c : ℝ) : EReal) := by
    intro t
    induction t using Finset.induction_on with
    | empty => simp
    | insert a t ha ih => rw [Finset.sum_insert ha, Finset.sum_insert ha, ih, EReal.coe_add]
  exact key _

/-- With a finite largest score the weights' sum is a positive real. -/
theorem den_real {n : ℕ} (s : Fin n → EReal) (m : ℝ) (h : Finset.univ.sup s = (m : EReal)) :
    ∃ y : ℝ, 0 < y ∧ (∑ c, wgt s c) = (y : EReal) := by
  have hr : ∀ c, ∃ x : ℝ, 0 ≤ x ∧ wgt s c = (x : EReal) ∧ (s c = (m : EReal) → x = 1) := by
    intro c
    have hle : s c ≤ (m : EReal) := h ▸ Finset.le_sup (f := s) (Finset.mem_univ c)
    unfold wgt
    rw [h]
    rcases hs : s c with _ | _ | x
    · exact ⟨0, le_refl _, by change Ideal.exp (⊥ - (m : EReal)) = _; rw [sub_eq_add_neg, EReal.bot_add, Ideal.exp_bot]; rfl,
        fun hh => absurd hh (EReal.bot_ne_coe m)⟩
    · rw [hs] at hle
      exact absurd (top_le_iff.mp hle) (EReal.coe_ne_top m)
    · refine ⟨Real.exp (x - m), (Real.exp_pos _).le, ?_, ?_⟩
      · change Ideal.exp ((x : EReal) - (m : EReal)) = _
        rw [← EReal.coe_sub, Ideal.exp_coe]
      · intro hh
        have : x = m := EReal.coe_injective hh
        rw [this]; simp
  choose x hx0 hx hx1 using hr
  have hne : (Finset.univ : Finset (Fin n)).Nonempty := by
    by_contra hn
    rw [Finset.not_nonempty_iff_eq_empty] at hn
    rw [hn, Finset.sup_empty] at h
    exact absurd h (EReal.bot_ne_coe m)
  obtain ⟨c0, -, hc0⟩ := Finset.exists_mem_eq_sup Finset.univ hne s
  have h1 : x c0 = 1 := hx1 c0 (hc0.symm.trans h)
  refine ⟨∑ c, x c, ?_, ?_⟩
  · exact lt_of_lt_of_le (by rw [h1]; exact one_pos) (Finset.single_le_sum (fun c _ => hx0 c) (Finset.mem_univ c0))
  · rw [Finset.sum_congr rfl (fun c _ => hx c)]
    exact coe_sum x

/-- Where the largest score is finite, dividing the weights or the sum is the same. -/
theorem oK_eq_oR {n : ℕ} (s v : Fin n → EReal) (m : ℝ) (h : Finset.univ.sup s = (m : EReal)) : oK s v = oR s v := by
  obtain ⟨y, hy, he⟩ := den_real s m h
  unfold oK oR
  rw [he, Ideal.div_coe hy.ne', sum_mul_real _ _ (by positivity)]
  refine Finset.sum_congr rfl fun c _ => ?_
  rw [Ideal.div_coe hy.ne', mul_comm (wgt s c), mul_assoc]

theorem mul_self_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- Once one square is infinite, the normalization is 0. -/
theorem nK_zero (o w : Fin 64 → EReal) (d j : Fin 64) (h : o j * o j = ⊤) : nK o w d = 0 := by
  have hs : (∑ j, o j * o j) = ⊤ := by
    refine top_le_iff.mp (h ▸ Finset.single_le_sum (f := fun j => o j * o j) (fun c _ => mul_self_nonneg' _) (Finset.mem_univ j))
  obtain ⟨e, he⟩ := bits_eps
  unfold nK
  rw [hs, bits_inv64, EReal.top_mul_coe_of_pos (by norm_num), he, EReal.top_add_coe, Ideal.rsqrt_top, mul_zero, zero_mul]

theorem div_zero_zero : Ideal.div 0 0 = ⊥ := by simp [Ideal.div]

/-- With every weight 0 the kernel's order normalizes to 0. -/
theorem nK_oK_zero {n : ℕ} (s : Fin n → EReal) (v : Fin 64 → Fin n → EReal) (w : Fin 64 → EReal) (d : Fin 64)
    (h : ∀ c, wgt s c = 0) : nK (fun d => oK s (v d)) w d = 0 := by
  refine nK_zero _ w d d ?_
  have : oK s (v d) = ⊥ := by
    unfold oK
    simp only [h, zero_mul, Finset.sum_const_zero]
    exact div_zero_zero
  rw [this, EReal.bot_mul_bot]

theorem sum_corner {n : ℕ} (f : Fin n → EReal) (h : ∀ c, f c = 0 ∨ f c = ⊤ ∨ f c = ⊥) :
    (∑ c, f c) = 0 ∨ (∑ c, f c) = ⊤ ∨ (∑ c, f c) = ⊥ := by
  have key : ∀ t : Finset (Fin n), (∑ c ∈ t, f c) = 0 ∨ (∑ c ∈ t, f c) = ⊤ ∨ (∑ c ∈ t, f c) = ⊥ := by
    intro t
    induction t using Finset.induction_on with
    | empty => simp
    | insert a t ha ih =>
      rw [Finset.sum_insert ha]
      rcases h a with h1 | h1 | h1 <;> rcases ih with h2 | h2 | h2 <;> simp [h1, h2]
  exact key _

/-- With every weight 0 the reference's order normalizes to 0. -/
theorem nK_oR_zero {n : ℕ} (s : Fin n → EReal) (v : Fin 64 → Fin n → EReal) (w : Fin 64 → EReal) (d : Fin 64)
    (h : ∀ c, wgt s c = 0) : nK (fun d => oR s (v d)) w d = 0 := by
  have hc : oR s (v d) = 0 ∨ oR s (v d) = ⊤ ∨ oR s (v d) = ⊥ := by
    unfold oR
    refine sum_corner _ fun c => ?_
    simp only [h, Finset.sum_const_zero, div_zero_zero]
    rcases lt_trichotomy (v d c) 0 with hv | hv | hv
    · right; left; exact EReal.mul_bot_of_neg hv
    · left; rw [hv, zero_mul]
    · right; right; exact EReal.mul_bot_of_pos hv
  rcases hc with hc | hc | hc
  · unfold nK
    simp only [hc, zero_mul]
  · refine nK_zero _ w d d ?_
    change oR s (v d) * oR s (v d) = ⊤
    rw [hc, EReal.top_mul_top]
  · refine nK_zero _ w d d ?_
    change oR s (v d) * oR s (v d) = ⊤
    rw [hc, EReal.bot_mul_bot]

/-- The kernel's head and the reference's head, over the same keys. -/
theorem head_eq {n : ℕ} (s : Fin n → EReal) (v : Fin 64 → Fin n → EReal) (w : Fin 64 → EReal) (d : Fin 64) :
    nK (fun d => oK s (v d)) w d = nR (fun d => oR s (v d)) w d := by
  rw [← nK_eq_nR]
  rcases hs : Finset.univ.sup s with _ | _ | m
  · have h : ∀ c, wgt s c = 0 := fun c => wgt_of_sup_bot s c hs
    rw [nK_oK_zero s v w d h, nK_oR_zero s v w d h]
  · have h : ∀ c, wgt s c = 0 := fun c => wgt_of_top s c hs
    rw [nK_oK_zero s v w d h, nK_oR_zero s v w d h]
  · have : (fun d => oK s (v d)) = fun d => oR s (v d) := funext fun d => oK_eq_oR s (v d) m hs
    rw [this]

/-- Keys whose score is ⊥ do not count: a longer row of keys, the extra ones masked, has the same weighted mean. -/
theorem oK_embed {n k : ℕ} (f : Fin n → Fin k) (hf : Function.Injective f) (s v : Fin k → EReal) (s' v' : Fin n → EReal)
    (hs : ∀ c, s (f c) = s' c) (hv : ∀ c, s' c = ⊥ ∨ v (f c) = v' c) (hout : ∀ c, (∀ c', f c' ≠ c) → s c = ⊥) :
    oK s v = oK s' v' := by
  have hsup : Finset.univ.sup s = Finset.univ.sup s' := by
    apply le_antisymm
    · refine Finset.sup_le fun c _ => ?_
      by_cases hc : ∃ c', f c' = c
      · obtain ⟨c', rfl⟩ := hc
        rw [hs]
        exact Finset.le_sup (f := s') (Finset.mem_univ c')
      · rw [hout c (fun c' h => hc ⟨c', h⟩)]
        exact bot_le
    · refine Finset.sup_le fun c _ => ?_
      rw [← hs]
      exact Finset.le_sup (f := s) (Finset.mem_univ (f c))
  have hw : ∀ c, wgt s (f c) = wgt s' c := fun c => by unfold wgt; rw [hs, hsup]
  have hw0 : ∀ c, c ∉ f '' (Finset.univ : Finset (Fin n)) → wgt s c = 0 := fun c hc => by
    refine wgt_of_bot s c (hout c fun c' h => hc ⟨c', by simp, h⟩)
  have h1 : (∑ c, wgt s c) = ∑ c, wgt s' c := by
    refine (Finset.sum_of_injOn f hf.injOn (by intro _ _; simp) (fun c _ hc => hw0 c hc) (fun c _ => (hw c).symm)).symm
  have h2 : (∑ c, wgt s c * v c) = ∑ c, wgt s' c * v' c := by
    refine (Finset.sum_of_injOn f hf.injOn (by intro _ _; simp) (fun c _ hc => by rw [hw0 c hc, zero_mul]) (fun c _ => ?_)).symm
    rw [hw]
    rcases hv c with h | h
    · rw [wgt_of_bot s' c h, zero_mul, zero_mul]
    · rw [h]
  unfold oK
  rw [h1, h2]

end Cert.AttnMath
-- ==== Proof.AttnBlock.lean ====
module

public import proofs.«01_k».proof.Proof.Gen.KernelIdeal.Value
public import Idealize.ShloMosaic.Lib.Pointwise
public import Idealize.ShloMosaic.PureOps.Ideal.Laws
public import proofs.«01_k».proof.Proof.AttnMath

@[expose] public section

noncomputable section

open Idealize.ShloMosaic Idealize.ShloMosaic.TcCoe Idealize.SL.Sem

namespace Cert.KernelIdeal.Attn

open Cert.KernelIdeal Cert.KernelIdeal.Gen

/-- The lane mask, laid over the rows. -/
def maskV (mask : IVec S1x128 1) : IVec S256x128 1 :=
  broadcastTo S256x128 (shapeCast S1x128 mask shapeCasts_S1x128_S1x128) broadcasts_S1x128_S256x128

/-- The scores of one head: masked queries times the keys, plus the bias, plus the padding mask. -/
def scoreV (pad : FVec Ideal S1x768 .f32) (mask : IVec S1x128 1) (q : Vec Ideal S256x128 .bf16) (kk : FVec Ideal S768x128 .bf16)
    (b : Vec Ideal S1x256x768 .f32) : FVec Ideal S256x768 .f32 :=
  addf (addf (matmul dot_S256x128_S768x128_S256x768_1_1_0_0_n_n none
      (select (maskV mask) q (broadcast S256x128 (Scalar.ofBits .bf16 0x0000#16 : Ideal .bf16))) kk
      (constant S256x768 .f32 0x00000000#32)) (shapeCast S256x768 b shapeCasts_S1x256x768_S256x768))
    (broadcastTo S256x768 pad broadcasts_S1x768_S256x768)

/-- The exponentials of the scores after the row's maximum is taken off. -/
def expV (s : FVec Ideal S256x768 .f32) : FVec Ideal S256x768 .f32 :=
  exp (subf s (broadcastTo S256x768 (shapeCast S256x1
    (multiReduction .maximumf [1] S256 s 0xFF800000#32 reduces_S256x768_S256 (.inl rfl) rfl) shapeCasts_S256_S256x1) broadcasts_S256x1_S256x768))

/-- One head's values, weighted and divided by the sum of the weights. -/
def headV (e : FVec Ideal S256x768 .f32) (vv : FVec Ideal S768x128 .bf16) : FVec Ideal S256x128 .f32 :=
  divf (matmul dot_S256x768_S768x128_S256x128_1_0_0_1_n_n none (truncf .bf16 e bitsLt_bf16_f32) vv
      (constant S256x128 .f32 0x00000000#32))
    (broadcastTo S256x128 (shapeCast S256x1
      (multiReduction .add [1] S256 e 0x00000000#32 reduces_S256x768_S256 (.inl rfl) rfl) shapeCasts_S256_S256x1) broadcasts_S256x1_S256x128)

/-- A sum over the lanes, standing in a column. -/
def rowV (x : FVec Ideal S256x128 .f32) : FVec Ideal S256x1 .f32 :=
  shapeCast S256x1 (multiReduction .add [1] S256 x 0x00000000#32 reduces_S256x128_S256 (.inl rfl) rfl) shapeCasts_S256_S256x1

/-- The normalization of a pair of heads standing side by side in the lanes. -/
def normV (mask : IVec S1x128 1) (o : FVec Ideal S256x128 .f32) (w : Vec Ideal S1x128 .f32) : FVec Ideal S256x128 .bf16 :=
  truncf .bf16 (mulf (mulf o (rsqrt (addf (mulf (select (maskV mask)
      (broadcastTo S256x128 (shapeCast S256x1 (rowV (select (maskV mask) (mulf o o) (broadcast S256x128 (Scalar.ofBits .f32 0x00000000#32 : Ideal .f32)))) shapeCasts_S256x1_S256x1) broadcasts_S256x1_S256x128)
      (broadcastTo S256x128 (shapeCast S256x1 (rowV (select (maskV mask) (broadcast S256x128 (Scalar.ofBits .f32 0x00000000#32 : Ideal .f32)) (mulf o o))) shapeCasts_S256x1_S256x1) broadcasts_S256x1_S256x128))
      (broadcast S256x128 (Scalar.ofBits .f32 0x3C800000#32 : Ideal .f32)))
      (broadcast S256x128 (Scalar.ofBits .f32 0x358637BD#32 : Ideal .f32)))))
    (broadcastTo S256x128 (shapeCast S1x128 w shapeCasts_S1x128_S1x128) broadcasts_S1x128_S256x128)) bitsLt_bf16_f32

/-- A pair of heads from its slabs. -/
def pairV (i : grid0.Coords) (q k0 k1 k2 v0 v1 v2 : Vec Ideal S256x128 .bf16) (b0 b1 : Vec Ideal S1x256x768 .f32)
    (w : Vec Ideal S1x128 .f32) : FVec Ideal S256x128 .bf16 :=
  normV k0_pay2 (select (maskV k0_pay2)
    (headV (expV (scoreV (k0_pay1 i) k0_pay2 q (k0_pay3 k0 k1 k2) b0)) (k0_pay4 v0 v1 v2))
    (headV (expV (scoreV (k0_pay1 i) (xori k0_pay2 (constantI S1x128 1 1#1)) q (k0_pay3 k0 k1 k2) b1)) (k0_pay4 v0 v1 v2))) w

set_option maxHeartbeats 2000000 in
set_option maxRecDepth 65536 in
/-- The four pieces of the result are the same pair of heads, each from its own slabs. -/
theorem out9_pieces (i : grid0.Coords) (x0 x1 x2 x3 x4 x5 x6 : Vec Ideal S256x512 .bf16) (x7 : Vec Ideal S8x256x768 .f32) (x8 : Vec Ideal S1x512 .f32) :
    out0_9 i x0 x1 x2 x3 x4 x5 x6 x7 x8 = View.canon
      [⟨r0_12, pairV i (View.ld x0 r0_12) (View.ld x1 r0_12) (View.ld x2 r0_12) (View.ld x3 r0_12) (View.ld x4 r0_12) (View.ld x5 r0_12) (View.ld x6 r0_12) (View.ld x7 r0_13) (View.ld x7 r0_14) (View.ld x8 r0_15)⟩,
       ⟨r0_8, pairV i (View.ld x0 r0_8) (View.ld x1 r0_8) (View.ld x2 r0_8) (View.ld x3 r0_8) (View.ld x4 r0_8) (View.ld x5 r0_8) (View.ld x6 r0_8) (View.ld x7 r0_9) (View.ld x7 r0_10) (View.ld x8 r0_11)⟩,
       ⟨r0_4, pairV i (View.ld x0 r0_4) (View.ld x1 r0_4) (View.ld x2 r0_4) (View.ld x3 r0_4) (View.ld x4 r0_4) (View.ld x5 r0_4) (View.ld x6 r0_4) (View.ld x7 r0_5) (View.ld x7 r0_6) (View.ld x8 r0_7)⟩,
       ⟨r0_0, pairV i (View.ld x0 r0_0) (View.ld x1 r0_0) (View.ld x2 r0_0) (View.ld x3 r0_0) (View.ld x4 r0_0) (View.ld x5 r0_0) (View.ld x6 r0_0) (View.ld x7 r0_1) (View.ld x7 r0_2) (View.ld x8 r0_3)⟩] := by
  unfold_out out0_9
  rfl

open Cert.AttnMath

theorem neg_inf_bits : Ideal.ofBits .f32 0xFF800000#32 = ⊥ := by simp [Ideal.ofBits, Ideal.ieee]

theorem expV_apply (s : S256x768.Idx → EReal) (r : Fin 256) (c : Fin 768) :
    expV s (ix2 r c) = wgt (fun c => s (ix2 r c)) c := by
  unfold expV
  simp only [pointwise, zero_add, neg_inf_bits]
  rfl

theorem headV_apply (s : S256x768.Idx → EReal) (v : S768x128.Idx → EReal) (r : Fin 256) (l : Fin 128) :
    headV (expV s) v (ix2 r l) = oK (fun c => s (ix2 r c)) (fun c => v (ix2 c l)) := by
  unfold headV
  simp only [pointwise, zero_add]
  change Ideal.div (∑ k, expV s (ix2 r k) * v (ix2 k l)) (∑ k, expV s (ix2 r k)) = _
  simp only [expV_apply]
  rfl

/-- Three blocks of keys, one after the other. -/
def cat (k0 k1 k2 : S256x128.Idx → EReal) (c : Fin 768) (l : Fin 128) : EReal :=
  if h : c.val < 256 then k0 (ix2 ⟨c.val, h⟩ l)
  else if h : c.val - 256 < 256 then k1 (ix2 ⟨c.val - 256, h⟩ l)
  else k2 (ix2 ⟨c.val - 256 - 256, by omega⟩ l)

theorem keys_apply (k0 k1 k2 : S256x128.Idx → EReal) (c : Fin 768) (l : Fin 128) :
    k0_pay3 (F := Ideal) k0 k1 k2 (ix2 c l) = cat k0 k1 k2 c l := by
  unfold k0_pay3
  simp only [pointwise, zero_add]
  rfl

theorem values_apply (k0 k1 k2 : S256x128.Idx → EReal) (c : Fin 768) (l : Fin 128) :
    k0_pay4 (F := Ideal) k0 k1 k2 (ix2 c l) = cat k0 k1 k2 c l := keys_apply k0 k1 k2 c l

/-- The padding mask: keys before the start of the sequence. -/
def padB (n : ℕ) (c : Fin 768) : EReal := if 512 ≤ n * 256 + c.val then 0 else ⊥

theorem pad_bits (n : Fin 8) (c : Fin 768) :
    IntOp.cmpi .sge (BitVec.ofNat 32 c.val) (Scalar.muli (Scalar.subi 2#32 (BitVec.ofNat 32 n.val)) 256#32)
      = if 512 ≤ n.val * 256 + c.val then 1#1 else 0#1 := by
  revert n c
  decide +kernel

theorem pad_apply (i : grid0.Coords) (c : Fin 768) :
    k0_pay1 (F := Ideal) i (ix2 0 c) = padB (i 1).val c := by
  unfold k0_pay1
  simp only [pointwise, zero_add]
  have h0 : List.foldl (fun n a => n * ![1, 768] a + ((ix2 (0 : Fin 1) c) a).val) 0 [1] = c.val := by
    simp [List.foldl]
  rw [h0, IdealRules.named_const.ideal_named_scalar _ _ _ _ rfl]
  rw [pad_bits (i 1) c]
  unfold padB Scalar.select
  split <;> simp

theorem lo_bits (c : Fin 128) : IntOp.cmpi .slt (BitVec.ofNat 32 c.val) 64#32 = if c.val < 64 then 1#1 else 0#1 := by
  revert c
  decide +kernel

theorem lo_apply (l : Fin 128) : k0_pay2 (ix2 0 l) = if l.val < 64 then 1#1 else 0#1 := by
  unfold k0_pay2
  simp only [pointwise, zero_add]
  have h0 : List.foldl (fun n a => n * ![1, 128] a + ((ix2 (0 : Fin 1) l) a).val) 0 [1] = l.val := by
    simp [List.foldl]
  rw [h0, lo_bits]

theorem hi_apply (l : Fin 128) : xori k0_pay2 (constantI S1x128 1 1#1) (ix2 0 l) = if l.val < 64 then 0#1 else 1#1 := by
  simp only [pointwise]
  rw [lo_apply]
  split <;> rfl

/-- Lane `d` of the first head of a pair. -/
def lane0 (d : Fin 64) : Fin 128 := ⟨d.val, by omega⟩
/-- Lane `d` of the second head of a pair. -/
def lane1 (d : Fin 64) : Fin 128 := ⟨64 + d.val, by omega⟩

theorem sum_lanes (f : Fin 128 → EReal) : (∑ l, f l) = (∑ d, f (lane0 d)) + ∑ d, f (lane1 d) :=
  Fin.sum_univ_add (a := 64) (b := 64) f

theorem sum_lo (f : Fin 128 → EReal) : (∑ l : Fin 128, Scalar.select (if l.val < 64 then 1#1 else 0#1) (f l) 0) = ∑ d, f (lane0 d) := by
  rw [sum_lanes]
  have h1 : (∑ d : Fin 64, Scalar.select (if (lane1 d).val < 64 then 1#1 else 0#1) (f (lane1 d)) 0) = 0 := by
    refine Finset.sum_eq_zero fun d _ => ?_
    rw [if_neg (by unfold lane1; simp)]; rfl
  rw [h1, add_zero]
  refine Finset.sum_congr rfl fun d _ => ?_
  rw [if_pos (by unfold lane0; exact d.isLt)]; rfl

theorem sum_hi (f : Fin 128 → EReal) : (∑ l : Fin 128, Scalar.select (if l.val < 64 then 0#1 else 1#1) (f l) 0) = ∑ d, f (lane1 d) := by
  rw [sum_lanes]
  have h1 : (∑ d : Fin 64, Scalar.select (if (lane0 d).val < 64 then 0#1 else 1#1) (f (lane0 d)) 0) = 0 := by
    refine Finset.sum_eq_zero fun d _ => ?_
    rw [if_pos (by unfold lane0; exact d.isLt)]; rfl
  rw [h1, zero_add]
  refine Finset.sum_congr rfl fun d _ => ?_
  rw [if_neg (by unfold lane1; simp)]; rfl

theorem sum_hi' (f : Fin 128 → EReal) : (∑ l : Fin 128, Scalar.select (if l.val < 64 then 1#1 else 0#1) 0 (f l)) = ∑ d, f (lane1 d) := by
  rw [← sum_hi f]
  refine Finset.sum_congr rfl fun d _ => ?_
  split <;> rfl

/-- The score of one key. -/
def scoreB (q : Fin 64 → EReal) (k : Fin 768 → Fin 64 → EReal) (b : Fin 768 → EReal) (n : ℕ) (c : Fin 768) : EReal :=
  (∑ d, q d * k c d) + b c + padB n c

theorem score_lo (i : grid0.Coords) (q k0 k1 k2 : S256x128.Idx → EReal) (b : S1x256x768.Idx → EReal) (r : Fin 256) (c : Fin 768) :
    scoreV (k0_pay1 i) k0_pay2 q (k0_pay3 (F := Ideal) k0 k1 k2) b (ix2 r c)
      = scoreB (fun d => q (ix2 r (lane0 d))) (fun c d => cat k0 k1 k2 c (lane0 d)) (fun c => b (ix3 0 r c)) (i 1).val c := by
  unfold scoreV maskV
  simp only [pointwise, zero_add]
  change (∑ l : Fin 128, Scalar.select (k0_pay2 (ix2 0 l)) (q (ix2 r l) * k0_pay3 (F := Ideal) k0 k1 k2 (ix2 c l)) 0) + b (ix3 0 r c) + k0_pay1 (F := Ideal) i (ix2 0 c) = _
  simp only [lo_apply, keys_apply, pad_apply]
  rw [sum_lo (fun l => q (ix2 r l) * cat k0 k1 k2 c l)]
  rfl

theorem score_hi (i : grid0.Coords) (q k0 k1 k2 : S256x128.Idx → EReal) (b : S1x256x768.Idx → EReal) (r : Fin 256) (c : Fin 768) :
    scoreV (k0_pay1 i) (xori k0_pay2 (constantI S1x128 1 1#1)) q (k0_pay3 (F := Ideal) k0 k1 k2) b (ix2 r c)
      = scoreB (fun d => q (ix2 r (lane1 d))) (fun c d => cat k0 k1 k2 c (lane1 d)) (fun c => b (ix3 0 r c)) (i 1).val c := by
  generalize hm : xori k0_pay2 (constantI S1x128 1 1#1) = m
  have hm' : ∀ l : Fin 128, m (ix2 0 l) = if l.val < 64 then 0#1 else 1#1 := fun l => by rw [← hm]; exact hi_apply l
  unfold scoreV maskV
  simp only [pointwise, zero_add]
  change (∑ l : Fin 128, Scalar.select (m (ix2 0 l)) (q (ix2 r l) * k0_pay3 (F := Ideal) k0 k1 k2 (ix2 c l)) 0) + b (ix3 0 r c) + k0_pay1 (F := Ideal) i (ix2 0 c) = _
  simp only [hm', keys_apply, pad_apply]
  rw [sum_hi (fun l => q (ix2 r l) * cat k0 k1 k2 c l)]
  rfl

theorem norm_apply (o : S256x128.Idx → EReal) (w : S1x128.Idx → EReal) (r : Fin 256) (l : Fin 128) :
    normV k0_pay2 o w (ix2 r l) = o (ix2 r l) * Ideal.rsqrt ((if l.val < 64 then ∑ d, o (ix2 r (lane0 d)) * o (ix2 r (lane0 d))
        else ∑ d, o (ix2 r (lane1 d)) * o (ix2 r (lane1 d))) * Ideal.ofBits .f32 0x3C800000#32 + Ideal.ofBits .f32 0x358637BD#32) * w (ix2 0 l) := by
  generalize hm : k0_pay2 = m
  have hm' : ∀ l : Fin 128, m (ix2 0 l) = if l.val < 64 then 1#1 else 0#1 := fun l => by rw [← hm]; exact lo_apply l
  unfold normV maskV rowV
  simp only [pointwise, zero_add]
  change o (ix2 r l) * Ideal.rsqrt (Scalar.select (m (ix2 0 l))
      (∑ k : Fin 128, Scalar.select (m (ix2 0 k)) (o (ix2 r k) * o (ix2 r k)) 0)
      (∑ k : Fin 128, Scalar.select (m (ix2 0 k)) 0 (o (ix2 r k) * o (ix2 r k))) * _ + _) * w (ix2 0 l) = _
  simp only [hm']
  rw [sum_lo (fun l => o (ix2 r l) * o (ix2 r l)), sum_hi' (fun l => o (ix2 r l) * o (ix2 r l))]
  split <;> rfl

/-- One element of the first head of a pair. -/
theorem pair_lo (i : grid0.Coords) (q k0 k1 k2 v0 v1 v2 : S256x128.Idx → EReal) (b0 b1 : S1x256x768.Idx → EReal) (w : S1x128.Idx → EReal)
    (r : Fin 256) (d : Fin 64) :
    pairV i q k0 k1 k2 v0 v1 v2 b0 b1 w (ix2 r (lane0 d))
      = nK (fun d => oK (scoreB (fun d => q (ix2 r (lane0 d))) (fun c d => cat k0 k1 k2 c (lane0 d)) (fun c => b0 (ix3 0 r c)) (i 1).val)
          (fun c => cat v0 v1 v2 c (lane0 d))) (fun d => w (ix2 0 (lane0 d))) d := by
  unfold pairV
  rw [norm_apply, if_pos (by unfold lane0; exact d.isLt)]
  have ho : ∀ (o0 o1 : FVec Ideal S256x128 .f32) (d : Fin 64), select (maskV k0_pay2) o0 o1 (ix2 r (lane0 d)) = o0 (ix2 r (lane0 d)) := by
    intro o0 o1 d
    unfold maskV
    simp only [pointwise]
    change Scalar.select (k0_pay2 (ix2 0 (lane0 d))) _ _ = _
    rw [lo_apply, if_pos (by unfold lane0; exact d.isLt)]; rfl
  simp only [ho, headV_apply, score_lo, values_apply]
  rfl

/-- One element of the second head of a pair. -/
theorem pair_hi (i : grid0.Coords) (q k0 k1 k2 v0 v1 v2 : S256x128.Idx → EReal) (b0 b1 : S1x256x768.Idx → EReal) (w : S1x128.Idx → EReal)
    (r : Fin 256) (d : Fin 64) :
    pairV i q k0 k1 k2 v0 v1 v2 b0 b1 w (ix2 r (lane1 d))
      = nK (fun d => oK (scoreB (fun d => q (ix2 r (lane1 d))) (fun c d => cat k0 k1 k2 c (lane1 d)) (fun c => b1 (ix3 0 r c)) (i 1).val)
          (fun c => cat v0 v1 v2 c (lane1 d))) (fun d => w (ix2 0 (lane1 d))) d := by
  unfold pairV
  rw [norm_apply, if_neg (by unfold lane1; simp)]
  have ho : ∀ (o0 o1 : FVec Ideal S256x128 .f32) (d : Fin 64), select (maskV k0_pay2) o0 o1 (ix2 r (lane1 d)) = o1 (ix2 r (lane1 d)) := by
    intro o0 o1 d
    unfold maskV
    simp only [pointwise]
    change Scalar.select (k0_pay2 (ix2 0 (lane1 d))) _ _ = _
    rw [lo_apply, if_neg (by unfold lane1; simp)]; rfl
  simp only [ho, headV_apply, score_hi, values_apply]
  rfl

end Cert.KernelIdeal.Attn
-- ==== Proof.AttnOut.lean ====
module

public import proofs.«01_k».proof.Proof.AttnBlock

@[expose] public section

noncomputable section

open Idealize.ShloMosaic Idealize.ShloMosaic.TcCoe Idealize.SL.Sem

namespace Cert.KernelIdeal.Attn

open Cert.KernelIdeal Cert.KernelIdeal.Gen Cert.AttnMath

/-- Column `d` of head `h`. -/
def col (h : Fin 8) (d : Fin 64) : Fin 512 := ⟨h.val * 64 + d.val, by omega⟩

/-- Three key blocks, one after the other, over all the columns. -/
def catB (k0 k1 k2 : S256x512.Idx → EReal) (c : Fin 768) (l : Fin 512) : EReal :=
  if h : c.val < 256 then k0 (ix2 ⟨c.val, h⟩ l)
  else if h : c.val - 256 < 256 then k1 (ix2 ⟨c.val - 256, h⟩ l)
  else k2 (ix2 ⟨c.val - 256 - 256, by omega⟩ l)

/-- One element of the block of one grid point: row `r`, head `h`, lane `d` of the head. -/
def blkE (n : ℕ) (x0 x1 x2 x3 x4 x5 x6 : S256x512.Idx → EReal) (x7 : S8x256x768.Idx → EReal) (x8 : S1x512.Idx → EReal)
    (r : Fin 256) (h : Fin 8) (d : Fin 64) : EReal :=
  nK (fun d => oK (scoreB (fun d => x0 (ix2 r (col h d))) (fun c d => catB x1 x2 x3 c (col h d)) (fun c => x7 (ix3 h r c)) n)
    (fun c => catB x4 x5 x6 c (col h d))) (fun d => x8 (ix2 0 (col h d))) d

/-- The head of a column and the lane within it. -/
def hOf (l : Fin 512) : Fin 8 := ⟨l.val / 64, by omega⟩
def dOf (l : Fin 512) : Fin 64 := ⟨l.val % 64, Nat.mod_lt _ (by decide)⟩

variable (i : grid0.Coords) (x0 x1 x2 x3 x4 x5 x6 : Vec Ideal S256x512 .bf16) (x7 : Vec Ideal S8x256x768 .f32) (x8 : Vec Ideal S1x512 .f32)

theorem ld_slab (j : Nat) (hj : j + 128 ≤ 512) (inb : ∀ a, (![0, j] : Fin 2 → Nat) a + S256x128.size a ≤ S256x512.size a)
    (x : Vec Ideal S256x512 .bf16) (r : Fin 256) (l : Fin 128) :
    View.ld x (Rect.unit (s := S256x512) ![0, j] S256x128.size inb) (ix2 r l) = x (ix2 r (⟨j + l.val, by omega⟩ : Fin 512)) := by
  show x _ = x _
  congr 1
  funext a; apply Fin.ext
  match a with
  | ⟨0, _⟩ => show 0 + 1 * r.val = r.val; omega
  | ⟨1, _⟩ => show j + 1 * l.val = j + l.val; omega

theorem ld_bias (h : Fin 8) (inb : ∀ a, (![h.val, 0, 0] : Fin 3 → Nat) a + S1x256x768.size a ≤ S8x256x768.size a)
    (r : Fin 256) (c : Fin 768) :
    View.ld x7 (Rect.unit (s := S8x256x768) ![h.val, 0, 0] S1x256x768.size inb) (ix3 0 r c) = x7 (ix3 h r c) := by
  show x7 _ = x7 _
  congr 1
  funext a; apply Fin.ext
  match a with
  | ⟨0, _⟩ => show h.val + 1 * 0 = h.val; omega
  | ⟨1, _⟩ => show 0 + 1 * r.val = r.val; omega
  | ⟨2, _⟩ => show 0 + 1 * c.val = c.val; omega

theorem ld_weight (j : Nat) (hj : j + 128 ≤ 512) (inb : ∀ a, (![0, j] : Fin 2 → Nat) a + S1x128.size a ≤ S1x512.size a) (l : Fin 128) :
    View.ld x8 (Rect.unit (s := S1x512) ![0, j] S1x128.size inb) (ix2 0 l) = x8 (ix2 0 (⟨j + l.val, by omega⟩ : Fin 512)) := by
  show x8 _ = x8 _
  congr 1
  funext a; apply Fin.ext
  match a with
  | ⟨0, _⟩ => show 0 + 1 * 0 = 0; omega
  | ⟨1, _⟩ => show j + 1 * l.val = j + l.val; omega

theorem cat_slab (j : Nat) (hj : j + 128 ≤ 512) (k0 k1 k2 : S256x128.Idx → EReal) (y0 y1 y2 : S256x512.Idx → EReal)
    (h0 : ∀ r (l : Fin 128), k0 (ix2 r l) = y0 (ix2 r (⟨j + l.val, by omega⟩ : Fin 512)))
    (h1 : ∀ r (l : Fin 128), k1 (ix2 r l) = y1 (ix2 r (⟨j + l.val, by omega⟩ : Fin 512)))
    (h2 : ∀ r (l : Fin 128), k2 (ix2 r l) = y2 (ix2 r (⟨j + l.val, by omega⟩ : Fin 512))) (c : Fin 768) (l : Fin 128) :
    cat k0 k1 k2 c l = catB y0 y1 y2 c ⟨j + l.val, by omega⟩ := by
  unfold cat catB
  simp only [h0, h1, h2]

/-- A pair of heads, cut from the blocks, gives the block's elements. -/
theorem pair_block (p : Fin 4) (q k0 k1 k2 v0 v1 v2 : S256x128.Idx → EReal) (b0 b1 : S1x256x768.Idx → EReal) (w : S1x128.Idx → EReal)
    (hq : ∀ r (l : Fin 128), q (ix2 r l) = x0 (ix2 r (⟨p.val * 128 + l.val, by omega⟩ : Fin 512)))
    (h0 : ∀ r (l : Fin 128), k0 (ix2 r l) = x1 (ix2 r (⟨p.val * 128 + l.val, by omega⟩ : Fin 512)))
    (h1 : ∀ r (l : Fin 128), k1 (ix2 r l) = x2 (ix2 r (⟨p.val * 128 + l.val, by omega⟩ : Fin 512)))
    (h2 : ∀ r (l : Fin 128), k2 (ix2 r l) = x3 (ix2 r (⟨p.val * 128 + l.val, by omega⟩ : Fin 512)))
    (g0 : ∀ r (l : Fin 128), v0 (ix2 r l) = x4 (ix2 r (⟨p.val * 128 + l.val, by omega⟩ : Fin 512)))
    (g1 : ∀ r (l : Fin 128), v1 (ix2 r l) = x5 (ix2 r (⟨p.val * 128 + l.val, by omega⟩ : Fin 512)))
    (g2 : ∀ r (l : Fin 128), v2 (ix2 r l) = x6 (ix2 r (⟨p.val * 128 + l.val, by omega⟩ : Fin 512)))
    (hb0 : ∀ r c, b0 (ix3 0 r c) = x7 (ix3 (⟨p.val * 2, by omega⟩ : Fin 8) r c))
    (hb1 : ∀ r c, b1 (ix3 0 r c) = x7 (ix3 (⟨p.val * 2 + 1, by omega⟩ : Fin 8) r c))
    (hw : ∀ l : Fin 128, w (ix2 0 l) = x8 (ix2 0 (⟨p.val * 128 + l.val, by omega⟩ : Fin 512))) (r : Fin 256) (l : Fin 128) :
    pairV i q k0 k1 k2 v0 v1 v2 b0 b1 w (ix2 r l)
      = blkE (i 1).val x0 x1 x2 x3 x4 x5 x6 x7 x8 r (hOf ⟨p.val * 128 + l.val, by omega⟩) (dOf ⟨p.val * 128 + l.val, by omega⟩) := by
  by_cases hl : l.val < 64
  · have e : l = lane0 ⟨l.val, hl⟩ := rfl
    have eh : hOf ⟨p.val * 128 + l.val, by omega⟩ = (⟨p.val * 2, by omega⟩ : Fin 8) := Fin.ext (by show (p.val * 128 + l.val) / 64 = p.val * 2; omega)
    have ed : dOf ⟨p.val * 128 + l.val, by omega⟩ = (⟨l.val, hl⟩ : Fin 64) := Fin.ext (by show (p.val * 128 + l.val) % 64 = l.val; omega)
    have ec : ∀ d : Fin 64, (⟨p.val * 128 + (lane0 d).val, by omega⟩ : Fin 512) = col ⟨p.val * 2, by omega⟩ d :=
      fun d => Fin.ext (by show p.val * 128 + d.val = p.val * 2 * 64 + d.val; omega)
    rw [eh, ed]
    rw [show (ix2 r l : S256x128.Idx) = ix2 r (lane0 ⟨l.val, hl⟩) from rfl, pair_lo]
    unfold blkE
    simp only [hq, hb0, hw, cat_slab (p.val * 128) (by omega) k0 k1 k2 x1 x2 x3 h0 h1 h2, cat_slab (p.val * 128) (by omega) v0 v1 v2 x4 x5 x6 g0 g1 g2, ec]
  · have e : l = lane1 ⟨l.val - 64, by omega⟩ := Fin.ext (by show l.val = 64 + (l.val - 64); omega)
    have eh : hOf ⟨p.val * 128 + l.val, by omega⟩ = (⟨p.val * 2 + 1, by omega⟩ : Fin 8) := Fin.ext (by show (p.val * 128 + l.val) / 64 = p.val * 2 + 1; omega)
    have ed : dOf ⟨p.val * 128 + l.val, by omega⟩ = (⟨l.val - 64, by omega⟩ : Fin 64) := Fin.ext (by show (p.val * 128 + l.val) % 64 = l.val - 64; omega)
    have ec : ∀ d : Fin 64, (⟨p.val * 128 + (lane1 d).val, by omega⟩ : Fin 512) = col ⟨p.val * 2 + 1, by omega⟩ d :=
      fun d => Fin.ext (by show p.val * 128 + (64 + d.val) = (p.val * 2 + 1) * 64 + d.val; omega)
    rw [eh, ed]
    rw [congrArg (ix2 r) e, pair_hi]
    unfold blkE
    simp only [hq, hb1, hw, cat_slab (p.val * 128) (by omega) k0 k1 k2 x1 x2 x3 h0 h1 h2, cat_slab (p.val * 128) (by omega) v0 v1 v2 x4 x5 x6 g0 g1 g2, ec]

theorem ix_surj (x : S256x128.Idx) : ∃ (r : Fin 256) (l : Fin 128), x = ix2 r l :=
  ⟨x 0, x 1, by funext a; match a with | ⟨0, _⟩ => rfl | ⟨1, _⟩ => rfl⟩

theorem emb_slab (j : Nat) (hj : j + 128 ≤ 512) (inb : ∀ a, (![0, j] : Fin 2 → Nat) a + S256x128.size a ≤ S256x512.size a) (r : Fin 256) (l : Fin 128) :
    (Rect.unit (s := S256x512) ![0, j] S256x128.size inb).emb (ix2 r l) = (ix2 r (⟨j + l.val, by omega⟩ : Fin 512) : S256x512.Idx) := by
  funext a; apply Fin.ext
  match a with
  | ⟨0, _⟩ => show 0 + 1 * r.val = r.val; omega
  | ⟨1, _⟩ => show j + 1 * l.val = j + l.val; omega

/-- The whole result block. -/
def blkG : S256x512.Idx → EReal := fun y =>
  blkE (i 1).val x0 x1 x2 x3 x4 x5 x6 x7 x8 (y 0) (hOf (y 1)) (dOf (y 1))

theorem piece_block (p : Fin 4)
    (inbA : ∀ a, (![0, p.val * 128] : Fin 2 → Nat) a + S256x128.size a ≤ S256x512.size a)
    (inb0 : ∀ a, (![p.val * 2, 0, 0] : Fin 3 → Nat) a + S1x256x768.size a ≤ S8x256x768.size a)
    (inb1 : ∀ a, (![p.val * 2 + 1, 0, 0] : Fin 3 → Nat) a + S1x256x768.size a ≤ S8x256x768.size a)
    (inbW : ∀ a, (![0, p.val * 128] : Fin 2 → Nat) a + S1x128.size a ≤ S1x512.size a) (x : S256x128.Idx) :
    pairV i (View.ld x0 (Rect.unit (s := S256x512) ![0, p.val * 128] S256x128.size inbA)) (View.ld x1 (Rect.unit (s := S256x512) ![0, p.val * 128] S256x128.size inbA))
      (View.ld x2 (Rect.unit (s := S256x512) ![0, p.val * 128] S256x128.size inbA)) (View.ld x3 (Rect.unit (s := S256x512) ![0, p.val * 128] S256x128.size inbA))
      (View.ld x4 (Rect.unit (s := S256x512) ![0, p.val * 128] S256x128.size inbA)) (View.ld x5 (Rect.unit (s := S256x512) ![0, p.val * 128] S256x128.size inbA))
      (View.ld x6 (Rect.unit (s := S256x512) ![0, p.val * 128] S256x128.size inbA))
      (View.ld x7 (Rect.unit (s := S8x256x768) ![p.val * 2, 0, 0] S1x256x768.size inb0)) (View.ld x7 (Rect.unit (s := S8x256x768) ![p.val * 2 + 1, 0, 0] S1x256x768.size inb1))
      (View.ld x8 (Rect.unit (s := S1x512) ![0, p.val * 128] S1x128.size inbW)) x
      = blkG i x0 x1 x2 x3 x4 x5 x6 x7 x8 ((Rect.unit (s := S256x512) ![0, p.val * 128] S256x128.size inbA).emb x) := by
  obtain ⟨r, l, rfl⟩ := ix_surj x
  rw [emb_slab _ (by omega)]
  exact pair_block i x0 x1 x2 x3 x4 x5 x6 x7 x8 p _ _ _ _ _ _ _ _ _ _
    (ld_slab _ (by omega) inbA x0) (ld_slab _ (by omega) inbA x1) (ld_slab _ (by omega) inbA x2) (ld_slab _ (by omega) inbA x3)
    (ld_slab _ (by omega) inbA x4) (ld_slab _ (by omega) inbA x5) (ld_slab _ (by omega) inbA x6)
    (ld_bias x7 ⟨p.val * 2, by omega⟩ inb0) (ld_bias x7 ⟨p.val * 2 + 1, by omega⟩ inb1) (ld_weight x8 _ (by omega) inbW) r l

theorem out9_apply (r : Fin 256) (l : Fin 512) :
    out0_9 i x0 x1 x2 x3 x4 x5 x6 x7 x8 (ix2 r l) = blkE (i 1).val x0 x1 x2 x3 x4 x5 x6 x7 x8 r (hOf l) (dOf l) := by
  rw [out9_pieces]
  refine (View.canon_apply_of_pieces (blkG i x0 x1 x2 x3 x4 x5 x6 x7 x8) _ ?_ (ix2 r l) (cover0_9 _ _ _ _ (ix2 r l))).trans rfl
  intro pc hpc
  rcases List.mem_cons.mp hpc with rfl | hpc
  · exact fun x => piece_block i x0 x1 x2 x3 x4 x5 x6 x7 x8 3 inb_S256x512_S256x128_0_384 inb_S8x256x768_S1x256x768_6_0_0 inb_S8x256x768_S1x256x768_7_0_0 inb_S1x512_S1x128_0_384 x
  rcases List.mem_cons.mp hpc with rfl | hpc
  · exact fun x => piece_block i x0 x1 x2 x3 x4 x5 x6 x7 x8 2 inb_S256x512_S256x128_0_256 inb_S8x256x768_S1x256x768_4_0_0 inb_S8x256x768_S1x256x768_5_0_0 inb_S1x512_S1x128_0_256 x
  rcases List.mem_cons.mp hpc with rfl | hpc
  · exact fun x => piece_block i x0 x1 x2 x3 x4 x5 x6 x7 x8 1 inb_S256x512_S256x128_0_128 inb_S8x256x768_S1x256x768_2_0_0 inb_S8x256x768_S1x256x768_3_0_0 inb_S1x512_S1x128_0_128 x
  rcases List.mem_cons.mp hpc with rfl | hpc
  · exact fun x => piece_block i x0 x1 x2 x3 x4 x5 x6 x7 x8 0 inb_S256x512_S256x128_0_0 inb_S8x256x768_S1x256x768_0_0_0 inb_S8x256x768_S1x256x768_1_0_0 inb_S1x512_S1x128_0_0 x
  nomatch hpc

end Cert.KernelIdeal.Attn
-- ==== Proof.AttnBits.lean ====
module

public import Idealize.ShloMosaic.PureOps.Ideal
public import Idealize.ShloMosaic.Lib.Pointwise

@[expose] public section

noncomputable section

open Idealize.ShloMosaic

namespace Cert.AttnMath

/-- The relative distance of a query and a key, clipped to the table's range and shifted to start at 0. -/
def relBits (r c : ℕ) : BitVec 32 :=
  IntOp.addi (IntOp.minsi 128#32 (IntOp.maxsi 4294967168#32 (IntOp.subi (IntOp.addi 512#32 (BitVec.ofNat 32 r)) (BitVec.ofNat 32 c)))) 128#32

theorem clip_bits (k : Fin 1023) :
    IntOp.addi (IntOp.minsi 128#32 (IntOp.maxsi 4294967168#32 (IntOp.subi (BitVec.ofNat 32 k.val) 255#32))) 128#32
      = BitVec.ofNat 32 (min (k.val - 127) 256) := by
  revert k
  decide +kernel

theorem rel_shift (r : Fin 256) (c : Fin 768) :
    IntOp.subi (IntOp.addi 512#32 (BitVec.ofNat 32 r.val)) (BitVec.ofNat 32 c.val) = IntOp.subi (BitVec.ofNat 32 (767 + r.val - c.val)) 255#32 := by
  unfold IntOp.subi IntOp.addi
  apply BitVec.eq_of_toNat_eq
  simp only [BitVec.toNat_sub, BitVec.toNat_add, BitVec.toNat_ofNat]
  omega

theorem rel_bits (r : Fin 256) (c : Fin 768) : relBits r.val c.val = BitVec.ofNat 32 (min (640 + r.val - c.val) 256) := by
  unfold relBits
  rw [rel_shift]
  have := clip_bits ⟨767 + r.val - c.val, by omega⟩
  rw [show (767 + r.val - c.val) - 127 = 640 + r.val - c.val by omega] at this
  exact this

/-- The table index after the wrap of negative indices. -/
theorem wrap_bits (k : Fin 257) : Scalar.select (IntOp.cmpi .slt (BitVec.ofNat 32 k.val) 0#32) (IntOp.addi (BitVec.ofNat 32 k.val) 257#32) (BitVec.ofNat 32 k.val) = BitVec.ofNat 32 k.val := by
  revert k
  decide +kernel

theorem start_bits (k : Fin 257) : min (BitVec.ofNat 32 k.val).toInt.toNat 256 = k.val := by
  revert k
  decide +kernel

/-- The rounded-down quotient by 64. -/
def floorBits (x : BitVec 32) : BitVec 32 :=
  Scalar.select (IntOp.andi
      (IntOp.cmpi .ne (if x = 0 then 0 else if x.msb = true then -1 else 1) (if 64#32 = 0 then 0 else if (64#32).msb = true then -1 else 1 : BitVec 32))
      (IntOp.cmpi .ne (IntOp.remsi .host x 64#32) 0#32))
    (IntOp.subi (IntOp.divsi .host x 64#32) 1#32) (IntOp.divsi .host x 64#32)

theorem floor_bits (k : Fin 768) : floorBits (BitVec.ofNat 32 k.val) = BitVec.ofNat 32 (k.val / 64) := by
  revert k
  decide +kernel

/-- Whether a key's chunk lies within the query's band. -/
theorem band_bits (a : Fin 4) (b : Fin 12) :
    IntOp.andi (IntOp.cmpi .sge (IntOp.subi (IntOp.addi 8#32 (BitVec.ofNat 32 a.val)) (BitVec.ofNat 32 b.val)) 0#32)
      (IntOp.cmpi .sle (IntOp.subi (IntOp.addi 8#32 (BitVec.ofNat 32 a.val)) (BitVec.ofNat 32 b.val)) 8#32)
      = if a.val ≤ b.val ∧ b.val ≤ a.val + 8 then 1#1 else 0#1 := by
  revert a b
  decide +kernel

/-- Whether a key's chunk lies at or after the start of the sequence. -/
theorem valid_bits (n : Fin 32) (b : Fin 9) :
    IntOp.cmpi .sge (IntOp.addi (IntOp.subi (BitVec.ofNat 32 n.val) 8#32) (BitVec.ofNat 32 b.val)) 0#32
      = if 8 ≤ n.val + b.val then 1#1 else 0#1 := by
  revert n b
  decide +kernel

section Gather
variable {α : Type}

/-- A gather that picks a column of a table for every pair of positions and keeps the rows. -/
abbrev colDims (H N R C : ℕ) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

theorem gather_cols (H N R C : ℕ) (hN : 0 < N) (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ 32) (h : Fin H) (r : Fin R) (c : Fin C) :
    Host.gather (colDims H N R C wf) x idx (ix3 h r c) = x (ix2 h ⟨min (idx (ix3 r c 0)).toInt.toNat (N - 1), by omega⟩) := by
  unfold Host.gather
  congr 1
  funext a
  refine Fin.ext ?_
  show (colDims H N R C wf).start (ix3 h r c) idx a + (colDims H N R C wf).batchCoord (ix3 h r c) a + (colDims H N R C wf).offCoord (ix3 h r c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h)]
    unfold GatherDims.start
    rw [dif_neg (show (0 : Fin 2) ∉ (colDims H N R C wf).startIndexMap from fun h => Nat.zero_ne_one (congrArg Fin.val (List.mem_singleton.mp h)))]
    simp only [Nat.zero_add]
    unfold GatherDims.offCoord
    rw [dif_pos (show (0 : Fin 2) ∈ (colDims H N R C wf).sKept from (GatherDims.mem_sKept _ _).mpr ⟨fun h => Nat.zero_ne_one (congrArg Fin.val (List.mem_singleton.mp h)), fun h => by simp at h⟩)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims H N R C wf).startIndexMap from List.mem_singleton.mpr rfl)]
    have hsi : (colDims H N R C wf).siIdx (ix3 h r c) ⟨List.idxOf (1 : Fin 2) (colDims H N R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

end Gather

end Cert.AttnMath
-- ==== Proof.AttnTab.lean ====
module

public import proofs.«01_k».proof.Proof.AttnOut
public import proofs.«01_k».proof.Proof.AttnBits
public import Idealize.ShloMosaic.Lib.StableHlo.RunRead

@[expose] public section

noncomputable section

open Idealize.ShloMosaic Idealize.ShloMosaic.TcCoe Idealize.SL.Sem

namespace Cert.KernelIdeal.Attn

open Cert.KernelIdeal Cert.KernelIdeal.Gen Cert.AttnMath

variable (m : (ℓ : Loc nD τ sig) → Buf (Elt Ideal) ℓ)

/-- The relative distance, clipped to the table's range and shifted to start at 0. -/
def relV : IVec S256x768 32 :=
  addi (minsi (broadcastInDim S256x768 ![] bcast_S_S256x768 (constantI S_ 32 128#32))
      (maxsi (broadcastInDim S256x768 ![] bcast_S_S256x768 (constantI S_ 32 4294967168#32))
        (subi (broadcastInDim S256x768 ![0, 1] bcast_S256x1_S256x768_0_1
            (addi (broadcastInDim S256x1 ![] bcast_S_S256x1 (constantI S_ 32 512#32)) (broadcastInDim S256x1 ![0] bcast_S256_S256x1_0 (iotaInDim S256 32 0))))
          (broadcastInDim S256x768 ![0, 1] bcast_S1x768_S256x768_0_1 (broadcastInDim S1x768 ![1] bcast_S768_S1x768_1 (iotaInDim S768 32 0))))))
    (broadcastInDim S256x768 ![] bcast_S_S256x768 (constantI S_ 32 128#32))

theorem V_v11 (c : Dev nD) : (V m c main_v11 : IVec S256x768 32) = relV := by
  unfold relV
  unfold_abbrev_sides
  simp only [hostOps0, hostOps0_1, hostOps0_2, hostOps0_3, hostOps0_4, hostOps0_5, hostOps0_6, hostOps0_7, hostOps0_8, List.flatten_cons, List.flatten_nil, List.cons_append, List.nil_append]
  after_reads_simp
  rfl

/-- The chunk of a query row. -/
def rowChunk : IVec S256x1 32 :=
  select (andi (cmpi .ne (signi (broadcastInDim S256x1 ![0] bcast_S256_S256x1_0 (iotaInDim S256 32 0)))
        (broadcastInDim S256x1 ![] bcast_S_S256x1 (signi (constantI S_ 32 64#32))))
      (cmpi .ne (Host.remsi (broadcastInDim S256x1 ![0] bcast_S256_S256x1_0 (iotaInDim S256 32 0)) (broadcastInDim S256x1 ![] bcast_S_S256x1 (constantI S_ 32 64#32)))
        (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (constantI S_ 32 64#32)))
      (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (constantI S_ 32 64#32)))

theorem V_v12 (c : Dev nD) : (V m c main_v12 : IVec S256x1 32) = rowChunk := by
  unfold rowChunk
  unfold_abbrev_sides
  simp only [hostOps0, hostOps0_1, hostOps0_2, hostOps0_3, hostOps0_4, hostOps0_5, hostOps0_6, hostOps0_7, hostOps0_8, List.flatten_cons, List.flatten_nil, List.cons_append, List.nil_append]
  after_reads_simp
  rfl

/-- The chunk of a key position. -/
def keyChunk : IVec S1x768 32 :=
  select (andi (cmpi .ne (signi (broadcastInDim S1x768 ![1] bcast_S768_S1x768_1 (iotaInDim S768 32 0)))
        (broadcastInDim S1x768 ![] bcast_S_S1x768 (signi (constantI S_ 32 64#32))))
      (cmpi .ne (Host.remsi (broadcastInDim S1x768 ![1] bcast_S768_S1x768_1 (iotaInDim S768 32 0)) (broadcastInDim S1x768 ![] bcast_S_S1x768 (constantI S_ 32 64#32)))
        (broadcastInDim S1x768 ![] bcast_S_S1x768 (constantI S_ 32 0#32))))
    (subi (Host.divsi (broadcastInDim S1x768 ![1] bcast_S768_S1x768_1 (iotaInDim S768 32 0)) (broadcastInDim S1x768 ![] bcast_S_S1x768 (constantI S_ 32 64#32)))
      (broadcastInDim S1x768 ![] bcast_S_S1x768 (constantI S_ 32 1#32)))
    (Host.divsi (broadcastInDim S1x768 ![1] bcast_S768_S1x768_1 (iotaInDim S768 32 0)) (broadcastInDim S1x768 ![] bcast_S_S1x768 (constantI S_ 32 64#32)))

theorem V_v15 (c : Dev nD) : (V m c main_v15 : IVec S1x768 32) = keyChunk := by
  unfold keyChunk
  unfold_abbrev_sides
  simp only [hostOps0, hostOps0_1, hostOps0_2, hostOps0_3, hostOps0_4, hostOps0_5, hostOps0_6, hostOps0_7, hostOps0_8, List.flatten_cons, List.flatten_nil, List.cons_append, List.nil_append]
  after_reads_simp
  rfl

theorem relV_apply (r : Fin 256) (c : Fin 768) : relV (ix2 r c) = BitVec.ofNat 32 (min (640 + r.val - c.val) 256) := by
  rw [← rel_bits r c]
  unfold relV
  simp only [pointwise]
  rfl

theorem rowChunk_apply (r : Fin 256) : rowChunk (ix2 r 0) = BitVec.ofNat 32 (r.val / 64) := by
  have h := floor_bits ⟨r.val, by omega⟩
  rw [← h]
  unfold rowChunk
  simp only [pointwise]
  rfl

theorem keyChunk_apply (c : Fin 768) : keyChunk (ix2 0 c) = BitVec.ofNat 32 (c.val / 64) := by
  rw [← floor_bits c]
  unfold keyChunk
  simp only [pointwise]
  rfl

/-- The bias table: the bias of the relative distance within the band, ⊥ outside. -/
def tabV (bias : FVec Ideal S8x257 .f32) : FVec Ideal S8x256x768 .f32 :=
  select (broadcastInDim S8x256x768 ![0, 1, 2] bcast_S1x256x768_S8x256x768_0_1_2 (broadcastInDim S1x256x768 ![1, 2] bcast_S256x768_S1x256x768_1_2
      (andi
        (cmpi .sge (subi (broadcastInDim S256x768 ![0, 1] bcast_S256x1_S256x768_0_1 (addi (broadcastInDim S256x1 ![] bcast_S_S256x1 (constantI S_ 32 8#32)) rowChunk))
          (broadcastInDim S256x768 ![0, 1] bcast_S1x768_S256x768_0_1 keyChunk)) (broadcastInDim S256x768 ![] bcast_S_S256x768 (constantI S_ 32 0#32)))
        (cmpi .sle (subi (broadcastInDim S256x768 ![0, 1] bcast_S256x1_S256x768_0_1 (addi (broadcastInDim S256x1 ![] bcast_S_S256x1 (constantI S_ 32 8#32)) rowChunk))
          (broadcastInDim S256x768 ![0, 1] bcast_S1x768_S256x768_0_1 keyChunk)) (broadcastInDim S256x768 ![] bcast_S_S256x768 (constantI S_ 32 8#32))))))
    (Host.gather gather_S8x257_S256x768x1_S8x256x768_0_1_n_n_1_2_81 bias (broadcastInDim S256x768x1 ![0, 1] bcast_S256x768_S256x768x1_0_1
      (select (cmpi .slt relV (broadcastInDim S256x768 ![] bcast_S_S256x768 (constantI S_ 32 0#32)))
        (addi relV (broadcastInDim S256x768 ![] bcast_S_S256x768 (constantI S_ 32 257#32))) relV)))
    (broadcastInDim S8x256x768 ![] bcast_S_S8x256x768 (constant S_ .f32 0xFF800000#32))

theorem V_v32 (c : Dev nD) : (V m c main_v32 : FVec Ideal S8x256x768 .f32) = tabV (m ((c : Thread nD τ).loc main_arg3)) := by
  unfold tabV relV rowChunk keyChunk
  unfold_abbrev_sides
  simp only [hostOps0, hostOps0_1, hostOps0_2, hostOps0_3, hostOps0_4, hostOps0_5, hostOps0_6, hostOps0_7, hostOps0_8, List.flatten_cons, List.flatten_nil, List.cons_append, List.nil_append]
  after_reads_simp
  rfl

/-- The index into the bias table. -/
def relIx (r : Fin 256) (c : Fin 768) : Fin 257 := ⟨min (640 + r.val - c.val) 256, by omega⟩

theorem tabV_apply (bias : S8x257.Idx → EReal) (h : Fin 8) (r : Fin 256) (c : Fin 768) :
    tabV bias (ix3 h r c) = if r.val / 64 ≤ c.val / 64 ∧ c.val / 64 ≤ r.val / 64 + 8 then bias (ix2 h (relIx r c)) else ⊥ := by
  unfold tabV
  have hg := gather_cols 8 257 256 768 (by decide) gather_S8x257_S256x768x1_S8x256x768_0_1_n_n_1_2_81.wf bias
    (broadcastInDim S256x768x1 ![0, 1] bcast_S256x768_S256x768x1_0_1
      (select (cmpi .slt relV (broadcastInDim S256x768 ![] bcast_S_S256x768 (constantI S_ 32 0#32)))
        (addi relV (broadcastInDim S256x768 ![] bcast_S_S256x768 (constantI S_ 32 257#32))) relV)) h r c
  have hi : (broadcastInDim S256x768x1 ![0, 1] bcast_S256x768_S256x768x1_0_1
      (select (cmpi .slt relV (broadcastInDim S256x768 ![] bcast_S_S256x768 (constantI S_ 32 0#32)))
        (addi relV (broadcastInDim S256x768 ![] bcast_S_S256x768 (constantI S_ 32 257#32))) relV)) (ix3 r c 0) = BitVec.ofNat 32 (relIx r c).val := by
    simp only [pointwise]
    rw [← wrap_bits (relIx r c)]
    have e := relV_apply r c
    change Scalar.select (IntOp.cmpi .slt (relV (ix2 r c)) 0#32) (IntOp.addi (relV (ix2 r c)) 257#32) (relV (ix2 r c)) = _
    rw [e]
    rfl
  have hs : (⟨min ((broadcastInDim S256x768x1 ![0, 1] bcast_S256x768_S256x768x1_0_1
      (select (cmpi .slt relV (broadcastInDim S256x768 ![] bcast_S_S256x768 (constantI S_ 32 0#32)))
        (addi relV (broadcastInDim S256x768 ![] bcast_S_S256x768 (constantI S_ 32 257#32))) relV)) (ix3 r c 0)).toInt.toNat (257 - 1), by omega⟩ : Fin 257) = relIx r c := by
    apply Fin.ext
    show min _ 256 = _
    rw [hi]
    exact start_bits _
  rw [hs] at hg
  change Host.gather gather_S8x257_S256x768x1_S8x256x768_0_1_n_n_1_2_81 bias _ (ix3 h r c) = _ at hg
  have hk := keyChunk_apply c
  have hr := rowChunk_apply r
  generalize Host.gather gather_S8x257_S256x768x1_S8x256x768_0_1_n_n_1_2_81 bias _ = G at hg ⊢
  change Scalar.select (IntOp.andi
      (IntOp.cmpi .sge (IntOp.subi (IntOp.addi 8#32 (rowChunk (ix2 r 0))) (keyChunk (ix2 0 c))) 0#32)
      (IntOp.cmpi .sle (IntOp.subi (IntOp.addi 8#32 (rowChunk (ix2 r 0))) (keyChunk (ix2 0 c))) 8#32)) (G (ix3 h r c)) (Ideal.ofBits .f32 0xFF800000#32) = _
  rw [hk, hr, band_bits ⟨r.val / 64, by omega⟩ ⟨c.val / 64, by omega⟩, neg_inf_bits, hg]
  unfold Scalar.select
  split <;> simp_all

end Cert.KernelIdeal.Attn
-- ==== Proof.AttnArr.lean ====
module

public import proofs.«01_k».proof.Proof.AttnTab

@[expose] public section

noncomputable section

open Idealize.ShloMosaic Idealize.ShloMosaic.TcCoe Idealize.SL.Sem

namespace Cert.KernelIdeal.Attn

open Cert.KernelIdeal Cert.KernelIdeal.Gen Cert.AttnMath

variable (m : (ℓ : Loc nD τ sig) → Buf (Elt Ideal) ℓ)

theorem V_v33 (c : Dev nD) (k : Fin 512) : V m c main_v33 (ix2 0 k) = m ((c : Thread nD τ).loc main_arg4) (ix1 k) := by
  have h : V m c main_v33 = (broadcastInDim S1x512 ![1] bcast_S512_S1x512_1 (m ((c : Thread nD τ).loc main_arg4) : FVec Ideal S512 .f32) : FVec Ideal S1x512 .f32) := by
    unfold_abbrev_sides
    simp only [hostOps0, hostOps0_1, hostOps0_2, hostOps0_3, hostOps0_4, hostOps0_5, hostOps0_6, hostOps0_7, hostOps0_8, List.flatten_cons, List.flatten_nil, List.cons_append, List.nil_append]
    after_reads_simp
  rw [h]
  simp only [pointwise]
  rfl

/-- Which block each window takes at each grid point. -/
theorem idx_in : ∀ t : Fin cfg0.N, (win0_0.index t (0 : Fin 2) = t.val ∧ win0_0.index t (1 : Fin 2) = 0)
    ∧ (win0_1.index t (0 : Fin 2) = t.val / 8 * 8 + (t.val % 8 - 2) ∧ win0_1.index t (1 : Fin 2) = 0)
    ∧ (win0_2.index t (0 : Fin 2) = t.val / 8 * 8 + (t.val % 8 - 1) ∧ win0_2.index t (1 : Fin 2) = 0)
    ∧ (win0_3.index t (0 : Fin 2) = t.val / 8 * 8 + (t.val % 8 - 0) ∧ win0_3.index t (1 : Fin 2) = 0)
    ∧ (win0_4.index t (0 : Fin 2) = t.val / 8 * 8 + (t.val % 8 - 2) ∧ win0_4.index t (1 : Fin 2) = 0)
    ∧ (win0_5.index t (0 : Fin 2) = t.val / 8 * 8 + (t.val % 8 - 1) ∧ win0_5.index t (1 : Fin 2) = 0)
    ∧ (win0_6.index t (0 : Fin 2) = t.val / 8 * 8 + (t.val % 8 - 0) ∧ win0_6.index t (1 : Fin 2) = 0) :=
  (by decide +kernel : ∀ t : Fin grid0.N, _)

theorem idx_rest : ∀ t : Fin cfg0.N, (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = t.val ∧ win0_9.index t (1 : Fin 2) = 0)
    ∧ ((grid0.coords t) 1).val = t.val % 8 :=
  (by decide +kernel : ∀ t : Fin grid0.N, _)

/-- The grid point whose block holds row `R`, and the row within it. -/
def tOf (R : Fin 16384) : Fin cfg0.N := ⟨R.val / 256, by rw [show cfg0.N = 64 from N_0]; omega⟩
def rOf (R : Fin 16384) : Fin 256 := ⟨R.val % 256, Nat.mod_lt _ (by decide)⟩

theorem lt64 (t : Fin cfg0.N) : t.val < 64 := lt_of_lt_of_eq t.isLt N_0

/-- Row `r` of the block `back` blocks before the grid point's own, not before the sequence's first block. -/
def backRow (t : Fin cfg0.N) (back : ℕ) (r : Fin 256) : Fin 16384 :=
  ⟨(t.val / 8 * 8 + (t.val % 8 - back)) * 256 + r.val, by have := lt64 t; omega⟩

theorem iblk0 (c : Dev nD) (R : Fin 16384) (k : Fin 512) :
    (iblk m c 0 (tOf R) : Vec Ideal S256x512 .bf16) (ix2 (rOf R) k) = m ((c : Thread nD τ).loc main_arg0) (ix2 R k) := by
  rw [← V_main_arg0 m c]
  show V m c main_arg0 _ = V m c main_arg0 _
  congr 1
  obtain ⟨⟨e0, e1⟩, -⟩ := idx_in (tOf R)
  have ht : (tOf R).val = R.val / 256 := rfl
  funext a; apply Fin.ext
  match a with
  | ⟨0, _⟩ => show win0_0.index (tOf R) (0 : Fin 2) * 256 + 1 * (R.val % 256) = R.val; omega
  | ⟨1, _⟩ => show win0_0.index (tOf R) (1 : Fin 2) * 512 + 1 * k.val = k.val; omega

theorem iblk1 (c : Dev nD) (t : Fin cfg0.N) (r : Fin 256) (k : Fin 512) :
    (iblk m c 1 t : Vec Ideal S256x512 .bf16) (ix2 r k) = m ((c : Thread nD τ).loc main_arg1) (ix2 (backRow t 2 r) k) := by
  rw [← V_main_arg1 m c]
  show V m c main_arg1 _ = V m c main_arg1 _
  congr 1
  obtain ⟨-, ⟨e0, e1⟩, -⟩ := idx_in t
  funext a; apply Fin.ext
  match a with
  | ⟨0, _⟩ => show win0_1.index t (0 : Fin 2) * 256 + 1 * r.val = (t.val / 8 * 8 + (t.val % 8 - 2)) * 256 + r.val; omega
  | ⟨1, _⟩ => show win0_1.index t (1 : Fin 2) * 512 + 1 * k.val = k.val; omega

theorem iblk2 (c : Dev nD) (t : Fin cfg0.N) (r : Fin 256) (k : Fin 512) :
    (iblk m c 2 t : Vec Ideal S256x512 .bf16) (ix2 r k) = m ((c : Thread nD τ).loc main_arg1) (ix2 (backRow t 1 r) k) := by
  rw [← V_main_arg1 m c]
  show V m c main_arg1 _ = V m c main_arg1 _
  congr 1
  obtain ⟨-, -, ⟨e0, e1⟩, -⟩ := idx_in t
  funext a; apply Fin.ext
  match a with
  | ⟨0, _⟩ => show win0_2.index t (0 : Fin 2) * 256 + 1 * r.val = (t.val / 8 * 8 + (t.val % 8 - 1)) * 256 + r.val; omega
  | ⟨1, _⟩ => show win0_2.index t (1 : Fin 2) * 512 + 1 * k.val = k.val; omega

theorem iblk3 (c : Dev nD) (t : Fin cfg0.N) (r : Fin 256) (k : Fin 512) :
    (iblk m c 3 t : Vec Ideal S256x512 .bf16) (ix2 r k) = m ((c : Thread nD τ).loc main_arg1) (ix2 (backRow t 0 r) k) := by
  rw [← V_main_arg1 m c]
  show V m c main_arg1 _ = V m c main_arg1 _
  congr 1
  obtain ⟨-, -, -, ⟨e0, e1⟩, -⟩ := idx_in t
  funext a; apply Fin.ext
  match a with
  | ⟨0, _⟩ => show win0_3.index t (0 : Fin 2) * 256 + 1 * r.val = (t.val / 8 * 8 + (t.val % 8 - 0)) * 256 + r.val; omega
  | ⟨1, _⟩ => show win0_3.index t (1 : Fin 2) * 512 + 1 * k.val = k.val; omega

theorem iblk4 (c : Dev nD) (t : Fin cfg0.N) (r : Fin 256) (k : Fin 512) :
    (iblk m c 4 t : Vec Ideal S256x512 .bf16) (ix2 r k) = m ((c : Thread nD τ).loc main_arg2) (ix2 (backRow t 2 r) k) := by
  rw [← V_main_arg2 m c]
  show V m c main_arg2 _ = V m c main_arg2 _
  congr 1
  obtain ⟨-, -, -, -, ⟨e0, e1⟩, -⟩ := idx_in t
  funext a; apply Fin.ext
  match a with
  | ⟨0, _⟩ => show win0_4.index t (0 : Fin 2) * 256 + 1 * r.val = (t.val / 8 * 8 + (t.val % 8 - 2)) * 256 + r.val; omega
  | ⟨1, _⟩ => show win0_4.index t (1 : Fin 2) * 512 + 1 * k.val = k.val; omega

theorem iblk5 (c : Dev nD) (t : Fin cfg0.N) (r : Fin 256) (k : Fin 512) :
    (iblk m c 5 t : Vec Ideal S256x512 .bf16) (ix2 r k) = m ((c : Thread nD τ).loc main_arg2) (ix2 (backRow t 1 r) k) := by
  rw [← V_main_arg2 m c]
  show V m c main_arg2 _ = V m c main_arg2 _
  congr 1
  obtain ⟨-, -, -, -, -, ⟨e0, e1⟩, -⟩ := idx_in t
  funext a; apply Fin.ext
  match a with
  | ⟨0, _⟩ => show win0_5.index t (0 : Fin 2) * 256 + 1 * r.val = (t.val / 8 * 8 + (t.val % 8 - 1)) * 256 + r.val; omega
  | ⟨1, _⟩ => show win0_5.index t (1 : Fin 2) * 512 + 1 * k.val = k.val; omega

theorem iblk6 (c : Dev nD) (t : Fin cfg0.N) (r : Fin 256) (k : Fin 512) :
    (iblk m c 6 t : Vec Ideal S256x512 .bf16) (ix2 r k) = m ((c : Thread nD τ).loc main_arg2) (ix2 (backRow t 0 r) k) := by
  rw [← V_main_arg2 m c]
  show V m c main_arg2 _ = V m c main_arg2 _
  congr 1
  obtain ⟨-, -, -, -, -, -, e0, e1⟩ := idx_in t
  funext a; apply Fin.ext
  match a with
  | ⟨0, _⟩ => show win0_6.index t (0 : Fin 2) * 256 + 1 * r.val = (t.val / 8 * 8 + (t.val % 8 - 0)) * 256 + r.val; omega
  | ⟨1, _⟩ => show win0_6.index t (1 : Fin 2) * 512 + 1 * k.val = k.val; omega

theorem iblk7 (c : Dev nD) (t : Fin cfg0.N) (h : Fin 8) (r : Fin 256) (k : Fin 768) :
    (iblk m c 7 t : Vec Ideal S8x256x768 .f32) (ix3 h r k) = tabV (m ((c : Thread nD τ).loc main_arg3)) (ix3 h r k) := by
  rw [← V_v32 m c]
  show V m c main_v32 _ = V m c main_v32 _
  congr 1
  obtain ⟨⟨e0, e1, e2⟩, -⟩ := idx_rest t
  funext a; apply Fin.ext
  match a with
  | ⟨0, _⟩ => show win0_7.index t (0 : Fin 3) * 8 + 1 * h.val = h.val; omega
  | ⟨1, _⟩ => show win0_7.index t (1 : Fin 3) * 256 + 1 * r.val = r.val; omega
  | ⟨2, _⟩ => show win0_7.index t (2 : Fin 3) * 768 + 1 * k.val = k.val; omega

theorem iblk8 (c : Dev nD) (t : Fin cfg0.N) (k : Fin 512) :
    (iblk m c 8 t : Vec Ideal S1x512 .f32) (ix2 0 k) = m ((c : Thread nD τ).loc main_arg4) (ix1 k) := by
  rw [← V_v33 m c]
  show V m c main_v33 _ = V m c main_v33 _
  congr 1
  obtain ⟨-, ⟨e0, e1⟩, -⟩ := idx_rest t
  funext a; apply Fin.ext
  match a with
  | ⟨0, _⟩ => show win0_8.index t (0 : Fin 2) * 1 + 1 * 0 = 0; omega
  | ⟨1, _⟩ => show win0_8.index t (1 : Fin 2) * 512 + 1 * k.val = k.val; omega

/-- The array row of key position `c` of a grid point. -/
def keyRow (t : Fin cfg0.N) (c : Fin 768) : Fin 16384 := backRow t (2 - c.val / 256) ⟨c.val % 256, Nat.mod_lt _ (by decide)⟩

theorem catB_rows (t : Fin cfg0.N) (y0 y1 y2 : S256x512.Idx → EReal) (g : S16384x512.Idx → EReal)
    (h0 : ∀ r k, y0 (ix2 r k) = g (ix2 (backRow t 2 r) k)) (h1 : ∀ r k, y1 (ix2 r k) = g (ix2 (backRow t 1 r) k))
    (h2 : ∀ r k, y2 (ix2 r k) = g (ix2 (backRow t 0 r) k)) (c : Fin 768) (l : Fin 512) :
    catB y0 y1 y2 c l = g (ix2 (keyRow t c) l) := by
  unfold catB keyRow
  split
  · rename_i h
    rw [h0]
    congr 2
    apply Fin.ext
    show (t.val / 8 * 8 + (t.val % 8 - 2)) * 256 + c.val = (t.val / 8 * 8 + (t.val % 8 - (2 - c.val / 256))) * 256 + c.val % 256
    rw [show c.val / 256 = 0 by omega, show c.val % 256 = c.val by omega]
  · split
    · rename_i h h'
      rw [h1]
      congr 2
      apply Fin.ext
      show (t.val / 8 * 8 + (t.val % 8 - 1)) * 256 + (c.val - 256) = (t.val / 8 * 8 + (t.val % 8 - (2 - c.val / 256))) * 256 + c.val % 256
      rw [show c.val / 256 = 1 by omega, show c.val % 256 = c.val - 256 by omega]
    · rename_i h h'
      rw [h2]
      congr 2
      apply Fin.ext
      show (t.val / 8 * 8 + (t.val % 8 - 0)) * 256 + (c.val - 256 - 256) = (t.val / 8 * 8 + (t.val % 8 - (2 - c.val / 256))) * 256 + c.val % 256
      rw [show c.val / 256 = 2 by omega, show c.val % 256 = c.val - 256 - 256 by omega]

/-- One element of the kernel's result, from the arguments. -/
def outA (q k v : S16384x512.Idx → EReal) (b : S8x257.Idx → EReal) (w : S512.Idx → EReal) (R : Fin 16384) (h : Fin 8) (d : Fin 64) : EReal :=
  nK (fun d => oK (scoreB (fun d => q (ix2 R (col h d))) (fun c d => k (ix2 (keyRow (tOf R) c) (col h d)))
      (fun c => tabV b (ix3 h (rOf R) c)) ((tOf R).val % 8)) (fun c => v (ix2 (keyRow (tOf R) c) (col h d)))) (fun d => w (ix1 (col h d))) d

theorem final9 (c : Dev nD) (R : Fin 16384) (l : Fin 512) :
    ((dats m 0 c).arrAt 9 cfg0.N : Vec Ideal S16384x512 .bf16) (ix2 R l)
      = outA (m ((c : Thread nD τ).loc main_arg0)) (m ((c : Thread nD τ).loc main_arg1)) (m ((c : Thread nD τ).loc main_arg2))
          (m ((c : Thread nD τ).loc main_arg3)) (m ((c : Thread nD τ).loc main_arg4)) R (hOf l) (dOf l) := by
  have e := congrFun (Value.blocks9 m c (tOf R) (flush0_9 (tOf R))) (ix2 (rOf R) l)
  rw [Value.flushed9] at e
  have ho := out9_apply (grid0.coords (tOf R)) (iblk m c 0 (tOf R)) (iblk m c 1 (tOf R)) (iblk m c 2 (tOf R)) (iblk m c 3 (tOf R))
    (iblk m c 4 (tOf R)) (iblk m c 5 (tOf R)) (iblk m c 6 (tOf R)) (iblk m c 7 (tOf R)) (iblk m c 8 (tOf R)) (rOf R) l
  have hk := catB_rows (tOf R) _ _ _ _ (iblk1 m c (tOf R)) (iblk2 m c (tOf R)) (iblk3 m c (tOf R))
  have hv := catB_rows (tOf R) _ _ _ _ (iblk4 m c (tOf R)) (iblk5 m c (tOf R)) (iblk6 m c (tOf R))
  obtain ⟨-, -, ⟨e0, e1⟩, e2⟩ := idx_rest (tOf R)
  unfold blkE at ho
  simp only [hk, hv, iblk0, iblk7, iblk8, e2] at ho
  refine Eq.trans ?_ (e.trans ho)
  show (dats m 0 c).arrAt 9 cfg0.N _ = (dats m 0 c).arrAt 9 cfg0.N _
  congr 1
  have ht : (tOf R).val = R.val / 256 := rfl
  funext a; apply Fin.ext
  match a with
  | ⟨0, _⟩ => show R.val = win0_9.index (tOf R) (0 : Fin 2) * 256 + 1 * (R.val % 256); omega
  | ⟨1, _⟩ => show l.val = win0_9.index (tOf R) (1 : Fin 2) * 512 + 1 * l.val; omega

end Cert.KernelIdeal.Attn
-- ==== Proof.AttnRef.lean ====
module

public import proofs.«01_k».proof.Proof.AttnOut
public import proofs.«01_k».proof.Proof.AttnBits
public import proofs.«01_k».proof.Proof.Gen.ReferenceIdeal.Read

@[expose] public section

noncomputable section

open Idealize.ShloMosaic Idealize.ShloMosaic.TcCoe Idealize.SL.Sem

namespace Cert.ReferenceIdeal.Attn

open Cert.ReferenceIdeal Cert.ReferenceIdeal.Gen Cert.ReferenceIdeal.Read Cert.AttnMath
open Cert.KernelIdeal.Attn (col hOf dOf)

/-- Row `a` of chunk `n` of sequence `b` of a [16384, 512] array. -/
def seqRow (b : Fin 8) (n : Fin 32) (a : Fin 64) : Fin 16384 := ⟨b.val * 2048 + n.val * 64 + a.val, by omega⟩

theorem heads_apply (x : S16384x512.Idx → EReal) (b : Fin 8) (n : Fin 32) (a : Fin 64) (h : Fin 8) (d : Fin 64) :
    val_main_v1 (F := Ideal) x (ix5 b n a h d) = x (ix2 (seqRow b n a) (col h d)) := by
  unfold val_main_v1 val_main_v0
  simp only [pointwise]
  rfl

theorem padded_apply (x : S16384x512.Idx → EReal) (b : Fin 8) (p : Fin 40) (a : Fin 64) (h : Fin 8) (d : Fin 64) :
    val_main_v6 (F := Ideal) x (ix5 b p a h d) = if hp : 8 ≤ p.val then x (ix2 (seqRow b ⟨p.val - 8, by omega⟩ a) (col h d)) else 0 := by
  unfold val_main_v6 val_main_v3 val_main_v2 val_main_call0_v0 val_main_c
  simp only [pointwise]
  by_cases hp : 8 ≤ p.val
  · rw [dif_pos hp, dif_pos]
    · refine congrArg x (congrArg₂ ix2 (Fin.ext ?_) (Fin.ext ?_))
      · show (b.val - 0) / (0 + 1) * 2048 + (p.val - 8) / (0 + 1) * 64 + (a.val - 0) / (0 + 1) = b.val * 2048 + (p.val - 8) * 64 + a.val
        omega
      · show (h.val - 0) / (0 + 1) * 64 + (d.val - 0) / (0 + 1) = h.val * 64 + d.val
        omega
    · intro k
      match k with
      | ⟨0, _⟩ => show 0 ≤ b.val ∧ (b.val - 0) % (0 + 1) = 0 ∧ (b.val - 0) / (0 + 1) < 8; omega
      | ⟨1, _⟩ => show 8 ≤ p.val ∧ (p.val - 8) % (0 + 1) = 0 ∧ (p.val - 8) / (0 + 1) < 32; omega
      | ⟨2, _⟩ => show 0 ≤ a.val ∧ (a.val - 0) % (0 + 1) = 0 ∧ (a.val - 0) / (0 + 1) < 64; omega
      | ⟨3, _⟩ => show 0 ≤ h.val ∧ (h.val - 0) % (0 + 1) = 0 ∧ (h.val - 0) / (0 + 1) < 8; omega
      | ⟨4, _⟩ => show 0 ≤ d.val ∧ (d.val - 0) % (0 + 1) = 0 ∧ (d.val - 0) / (0 + 1) < 64; omega
  · rw [dif_neg hp, dif_neg (fun hin => hp (hin 1).1)]
    show ((((0#32).toInt : ℤ) : ℝ) : EReal) = 0
    simp

theorem dite_eq_of {α : Type*} {P : Prop} [Decidable P] {f : P → α} {g : ¬P → α} {r : α} (hf : ∀ h, f h = r) (hg : ∀ h, g h = r) :
    dite P f g = r := by
  split
  · exact hf _
  · exact hg _

/-- The element of slice `j` of the padded keys that stands at key position `c` of chunk `n`. -/
theorem slice_eq (y : S8x40x64x8x64.Idx → EReal) (b : Fin 8) (n : Fin 32) (c : Fin 576) (h : Fin 8) (d : Fin 64) (j : ℕ)
    (hj : c.val / 64 = j) {b' : Fin 8} {p : Fin 40} {a : Fin 64} {h' : Fin 8} {d' : Fin 64} (e0 : b'.val = b.val) (e1 : p.val = j + n.val)
    (e2 : a.val = 0 + (c.val - j * 64)) (e3 : h'.val = h.val) (e4 : d'.val = d.val) :
    y (ix5 b' p a h' d') = y (ix5 b ⟨n.val + c.val / 64, by omega⟩ ⟨c.val % 64, by omega⟩ h d) := by
  obtain rfl : b' = b := Fin.ext e0
  obtain rfl : h' = h := Fin.ext e3
  obtain rfl : d' = d := Fin.ext e4
  refine congrArg y (congrFun (congrFun (congr (congrArg (ix5 b') (Fin.ext ?_)) (Fin.ext ?_)) h') d')
  · show p.val = n.val + c.val / 64
    omega
  · show a.val = c.val % 64
    omega

theorem band_apply (x : S16384x512.Idx → EReal) (b : Fin 8) (n : Fin 32) (c : Fin 576) (h : Fin 8) (d : Fin 64) :
    val_main_v17 (F := Ideal) x (ix5 b n c h d)
      = val_main_v6 (F := Ideal) x (ix5 b ⟨n.val + c.val / 64, by omega⟩ ⟨c.val % 64, by omega⟩ h d) := by
  unfold val_main_v17 val_main_v8 val_main_v9 val_main_v10 val_main_v11 val_main_v12 val_main_v13 val_main_v14 val_main_v15 val_main_v16
  generalize val_main_v6 (F := Ideal) x = y
  simp only [pointwise]
  have e0 : ∀ t u : ℕ, (if ((0 : Fin 5) : ℕ) = ((2 : Fin 5) : ℕ) then t else u) = u := fun _ _ => rfl
  have e1 : ∀ t u : ℕ, (if ((1 : Fin 5) : ℕ) = ((2 : Fin 5) : ℕ) then t else u) = u := fun _ _ => rfl
  have e3 : ∀ t u : ℕ, (if ((3 : Fin 5) : ℕ) = ((2 : Fin 5) : ℕ) then t else u) = u := fun _ _ => rfl
  have e4 : ∀ t u : ℕ, (if ((4 : Fin 5) : ℕ) = ((2 : Fin 5) : ℕ) then t else u) = u := fun _ _ => rfl
  have w : ![8, 32, 64, 8, 64] (2 : Fin 5) = 64 := rfl
  simp only [w, e0, e1, e3, e4, if_true]
  repeat' refine dite_eq_of (fun hc => ?_) (fun hc => ?_)
  · exact slice_eq y b n c h d 0 (by omega) (Nat.zero_add _) rfl (congrArg (0 + ·) (by omega)) (Nat.zero_add _) (Nat.zero_add _)
  · exact slice_eq y b n c h d 1 (by omega) (Nat.zero_add _) rfl (congrArg (0 + ·) (by omega)) (Nat.zero_add _) (Nat.zero_add _)
  · exact slice_eq y b n c h d 2 (by omega) (Nat.zero_add _) rfl (congrArg (0 + ·) (by omega)) (Nat.zero_add _) (Nat.zero_add _)
  · exact slice_eq y b n c h d 3 (by omega) (Nat.zero_add _) rfl (congrArg (0 + ·) (by omega)) (Nat.zero_add _) (Nat.zero_add _)
  · exact slice_eq y b n c h d 4 (by omega) (Nat.zero_add _) rfl (congrArg (0 + ·) (by omega)) (Nat.zero_add _) (Nat.zero_add _)
  · exact slice_eq y b n c h d 5 (by omega) (Nat.zero_add _) rfl (congrArg (0 + ·) (by omega)) (Nat.zero_add _) (Nat.zero_add _)
  · exact slice_eq y b n c h d 6 (by omega) (Nat.zero_add _) rfl (congrArg (0 + ·) (by omega)) (Nat.zero_add _) (Nat.zero_add _)
  · exact slice_eq y b n c h d 7 (by omega) (Nat.zero_add _) rfl (congrArg (0 + ·) (by omega)) (Nat.zero_add _) (Nat.zero_add _)
  · exact slice_eq y b n c h d 8 (by omega) (Nat.zero_add _) rfl (congrArg (0 + ·) (by omega)) (Nat.zero_add _) (Nat.zero_add _)

theorem bandV_apply (x : S16384x512.Idx → EReal) (b : Fin 8) (n : Fin 32) (c : Fin 576) (h : Fin 8) (d : Fin 64) :
    val_main_v27 (F := Ideal) x (ix5 b n c h d) = val_main_v17 (F := Ideal) x (ix5 b n c h d) := rfl

theorem rel_apply (a : Fin 64) (c : Fin 576) : val_main_v39 (F := Ideal) (ix2 a c) = relBits a.val c.val := by
  unfold val_main_v39
  simp only [pointwise]
  rfl

theorem valid_apply (n : Fin 32) (c : Fin 576) :
    val_main_v56 (F := Ideal) (ix2 n c) = IntOp.cmpi .sge (IntOp.addi (IntOp.subi (BitVec.ofNat 32 n.val) 8#32) (floorBits (BitVec.ofNat 32 c.val))) 0#32 := by
  rfl

/-- The index into the bias table. -/
def relIx (a : Fin 64) (c : Fin 576) : Fin 257 := ⟨min (640 + a.val - c.val) 256, by omega⟩

theorem start_apply (a : Fin 64) (c : Fin 576) : val_main_v45 (F := Ideal) (ix3 a c 0) = BitVec.ofNat 32 (relIx a c).val := by
  rw [← wrap_bits (relIx a c)]
  have e : val_main_v39 (F := Ideal) (ix2 a c) = BitVec.ofNat 32 (relIx a c).val :=
    (rel_apply a c).trans (rel_bits ⟨a.val, by omega⟩ ⟨c.val, by omega⟩)
  change Scalar.select (IntOp.cmpi .slt (val_main_v39 (F := Ideal) (ix2 a c)) 0#32) (IntOp.addi (val_main_v39 (F := Ideal) (ix2 a c)) 257#32) (val_main_v39 (F := Ideal) (ix2 a c)) = _
  rw [e]

theorem bias_apply (x : S8x257.Idx → EReal) (h : Fin 8) (a : Fin 64) (c : Fin 576) :
    val_main_v46 (F := Ideal) x (ix3 h a c) = x (ix2 h (relIx a c)) := by
  have hg := gather_cols 8 257 64 576 (by decide) gather_S8x257_S64x576x1_S8x64x576_0_1_n_n_1_2_81.wf x (val_main_v45 (F := Ideal)) h a c
  have hs : (⟨min (val_main_v45 (F := Ideal) (ix3 a c 0)).toInt.toNat (257 - 1), by omega⟩ : Fin 257) = relIx a c := by
    apply Fin.ext
    show min _ 256 = _
    rw [start_apply]
    exact start_bits _
  rw [hs] at hg
  exact hg

/-- The score of key position `c` for the query at row `a` of chunk `n`. -/
def scoreR (q k : S16384x512.Idx → EReal) (bias : S8x257.Idx → EReal) (b : Fin 8) (n : Fin 32) (a : Fin 64) (h : Fin 8) (c : Fin 576) : EReal :=
  if 8 ≤ n.val + c.val / 64 then (∑ d : Fin 64, q (ix2 (seqRow b n a) (col h d)) * val_main_v17 (F := Ideal) k (ix5 b n c h d)) + bias (ix2 h (relIx a c)) else ⊥

theorem dotK (q k : S16384x512.Idx → EReal) (b : Fin 8) (n : Fin 32) (a : Fin 64) (h : Fin 8) (c : Fin 576) :
    val_main_v57 (F := Ideal) q k (ix5 b h n a c) = ∑ d : Fin 64, q (ix2 (seqRow b n a) (col h d)) * val_main_v17 (F := Ideal) k (ix5 b n c h d) := by
  rw [val_main_v57_apply]
  refine Finset.sum_congr rfl fun d _ => ?_
  rw [← heads_apply q b n a h d]
  refine congrArg₂ (· * ·) (congrArg _ ?_) (congrArg _ ?_) <;> funext i <;> fin_cases i <;> rfl

theorem score_apply (q k : S16384x512.Idx → EReal) (bias : S8x257.Idx → EReal) (b : Fin 8) (n : Fin 32) (a : Fin 64) (h : Fin 8) (c : Fin 576) :
    val_main_v63 (F := Ideal) q k bias (ix5 b h n a c) = scoreR q k bias b n a h c := by
  have e : val_main_v63 (F := Ideal) q k bias (ix5 b h n a c)
      = Scalar.select (val_main_v56 (F := Ideal) (ix2 n c)) (val_main_v57 (F := Ideal) q k (ix5 b h n a c) + val_main_v46 (F := Ideal) bias (ix3 h a c))
          (Ideal.ofBits .f32 0xFF800000#32) := by
    unfold val_main_v63 val_main_v61 val_main_v60 val_main_v59 val_main_v58 val_main_call4_v1 val_main_v62 val_main_call4_v2 val_main_call4_v0 val_main_cst
    generalize val_main_v57 (F := Ideal) q k = y
    generalize val_main_v46 (F := Ideal) bias = z
    generalize val_main_v56 (F := Ideal) = w
    simp only [pointwise]
    rfl
  rw [e, dotK, bias_apply, valid_apply, floor_bits ⟨c.val, by omega⟩, valid_bits n ⟨c.val / 64, by omega⟩, Cert.KernelIdeal.Attn.neg_inf_bits]
  unfold scoreR Scalar.select
  split <;> simp_all

end Cert.ReferenceIdeal.Attn
-- ==== Proof.AttnSoft.lean ====
module

public import proofs.«01_k».proof.Proof.AttnRef

@[expose] public section

noncomputable section

open Idealize.ShloMosaic Idealize.ShloMosaic.TcCoe Idealize.SL.Sem

namespace Cert.ReferenceIdeal.Attn

open Cert.ReferenceIdeal Cert.ReferenceIdeal.Gen Cert.ReferenceIdeal.Read Cert.AttnMath
open Cert.KernelIdeal.Attn (col hOf dOf)

theorem zero_bits : Ideal.ofBits .f32 0x00000000#32 = (0 : EReal) := by
  simp [Ideal.ofBits, Ideal.ieee]

theorem max_apply (q k : S16384x512.Idx → EReal) (bias : S8x257.Idx → EReal) (b : Fin 8) (n : Fin 32) (a : Fin 64) (h : Fin 8) :
    val_main_v66 (F := Ideal) q k bias (ix4 b h n a) = Finset.univ.sup (scoreR q k bias b n a h) := by
  have e : val_main_v64 (F := Ideal) q k bias (ix4 b h n a) = Finset.univ.sup (scoreR q k bias b n a h) := by
    have e : ∀ c, val_main_v63 (F := Ideal) q k bias (ix5 b h n a c) = scoreR q k bias b n a h c := fun c => score_apply q k bias b n a h c
    unfold val_main_v64
    generalize val_main_v63 (F := Ideal) q k bias = y at e ⊢
    have hr : S8x8x32x64x576.Reduces [4] S8x8x32x64 := by decide
    refine (Host.reduce_eq_fold_single (FloatOps.maximumf (F := Ideal) (φ := .f32)) y (val_main_cst_10 (F := Ideal)) reducesTo_S8x8x32x64x576_S8x8x32x64_d4 hr h_S_ (ix4 b h n a)).trans ?_
    have el : ∀ c : Fin 576, hr.lift (ix4 b h n a) c = ix5 b h n a c := fun c => by
      funext i
      fin_cases i <;> rfl
    rw [show y ∘ hr.lift (ix4 b h n a) = scoreR q k bias b n a h from funext fun c => (congrArg y (el c)).trans (e c)]
    show Finset.univ.fold max (Ideal.ofBits .f32 0xFF800000#32) _ = _
    rw [Cert.KernelIdeal.Attn.neg_inf_bits]
    rfl
  rw [val_main_v66_apply, e]
  show max (Ideal.ofBits .f32 0xFF800000#32) _ = _
  rw [Cert.KernelIdeal.Attn.neg_inf_bits, bot_sup_eq]

theorem wgt_apply (q k : S16384x512.Idx → EReal) (bias : S8x257.Idx → EReal) (b : Fin 8) (n : Fin 32) (a : Fin 64) (h : Fin 8) (c : Fin 576) :
    val_main_v70 (F := Ideal) q k bias (ix5 b h n a c) = wgt (scoreR q k bias b n a h) c := by
  have e : val_main_v68 (F := Ideal) q k bias (ix5 b h n a c) = val_main_v66 (F := Ideal) q k bias (ix4 b h n a) := by
    unfold val_main_v68 val_main_v67
    generalize val_main_v66 (F := Ideal) q k bias = y
    simp only [pointwise]
    rfl
  rw [val_main_v70_apply, val_main_v69_apply, e, max_apply, score_apply]
  rfl

theorem den_apply (q k : S16384x512.Idx → EReal) (bias : S8x257.Idx → EReal) (b : Fin 8) (n : Fin 32) (a : Fin 64) (h : Fin 8) :
    val_main_v71 (F := Ideal) q k bias (ix4 b h n a) = ∑ c, wgt (scoreR q k bias b n a h) c := by
  rw [val_main_v71_apply, val_main_cst_12_apply]
  have z : (FloatOps.ofBits .f32 0x00000000#32 : Ideal .f32) = (0 : EReal) := zero_bits
  rw [z, zero_add]
  refine Finset.sum_congr rfl fun c _ => ?_
  rw [← wgt_apply]
  refine congrArg (val_main_v70 (F := Ideal) q k bias) ?_
  funext i
  fin_cases i <;> rfl

theorem prob_apply (q k : S16384x512.Idx → EReal) (bias : S8x257.Idx → EReal) (b : Fin 8) (n : Fin 32) (a : Fin 64) (h : Fin 8) (c : Fin 576) :
    val_main_v74 (F := Ideal) q k bias (ix5 b h n a c)
      = Ideal.div (wgt (scoreR q k bias b n a h) c) (∑ c, wgt (scoreR q k bias b n a h) c) := by
  have e : val_main_v73 (F := Ideal) q k bias (ix5 b h n a c) = val_main_v71 (F := Ideal) q k bias (ix4 b h n a) := by
    unfold val_main_v73 val_main_v72
    generalize val_main_v71 (F := Ideal) q k bias = y
    simp only [pointwise]
    rfl
  rw [val_main_v74_apply, e, den_apply, wgt_apply]
  rfl

/-- The attention's result before the normalization. -/
theorem attn_apply (q k v : S16384x512.Idx → EReal) (bias : S8x257.Idx → EReal) (b : Fin 8) (n : Fin 32) (a : Fin 64) (h : Fin 8) (d : Fin 64) :
    val_main_v76 (F := Ideal) q k v bias (ix5 b n a h d)
      = oR (scoreR q k bias b n a h) (fun c => val_main_v17 (F := Ideal) v (ix5 b n c h d)) := by
  rw [val_main_v76_apply, val_main_v75_apply]
  unfold oR
  refine Finset.sum_congr rfl fun c _ => ?_
  show _ = val_main_v17 (F := Ideal) v (ix5 b n c h d) * _
  rw [← prob_apply, ← bandV_apply]
  refine congrArg₂ (· * ·) (congrArg (val_main_v27 (F := Ideal) v) ?_) (congrArg (val_main_v74 (F := Ideal) q k bias) ?_) <;> funext i <;> fin_cases i <;> rfl

/-- Row `t` of a sequence is row `t % 64` of its chunk `t / 64`. -/
theorem rows_apply (q k v : S16384x512.Idx → EReal) (bias : S8x257.Idx → EReal) (b : Fin 8) (t : Fin 2048) (h : Fin 8) (d : Fin 64) :
    val_main_v77 (F := Ideal) q k v bias (ix4 b t h d)
      = val_main_v76 (F := Ideal) q k v bias (ix5 b ⟨t.val / 64, by omega⟩ ⟨t.val % 64, by omega⟩ h d) := by
  unfold val_main_v77
  generalize val_main_v76 (F := Ideal) q k v bias = y
  simp only [pointwise]

theorem normed_apply (q k v : S16384x512.Idx → EReal) (bias : S8x257.Idx → EReal) (w : S512.Idx → EReal) (b : Fin 8) (t : Fin 2048) (h : Fin 8) (d : Fin 64) :
    val_main_v91 (F := Ideal) q k v bias w (ix4 b t h d)
      = nR (fun d => val_main_v77 (F := Ideal) q k v bias (ix4 b t h d)) (fun d => w (ix1 (col h d))) d := by
  have ew : val_main_v90 (F := Ideal) w (ix4 b t h d) = w (ix1 (col h d)) := by
    unfold val_main_v90 val_main_v89 val_main_v88
    simp only [pointwise]
    rfl
  have es : val_main_v79 (F := Ideal) q k v bias (ix3 b t h)
      = ∑ j, val_main_v77 (F := Ideal) q k v bias (ix4 b t h j) * val_main_v77 (F := Ideal) q k v bias (ix4 b t h j) := by
    rw [val_main_v79_apply, val_main_cst_13_apply]
    have z : (FloatOps.ofBits .f32 0x00000000#32 : Ideal .f32) = (0 : EReal) := zero_bits
    rw [z, zero_add]
    refine Finset.sum_congr rfl fun j _ => ?_
    rw [show idx_main_v79 (ix3 b t h) j = ix4 b t h j by funext i; fin_cases i <;> rfl]
    rfl
  have er : val_main_v86 (F := Ideal) q k v bias (ix4 b t h d)
      = Ideal.rsqrt (Ideal.div (val_main_v79 (F := Ideal) q k v bias (ix3 b t h)) (Ideal.ofBits .f32 0x42800000#32) + Ideal.ofBits .f32 0x358637BD#32) := by
    unfold val_main_v86 val_main_v85 val_main_v84 val_main_v83 val_main_cst_15 val_main_v82 val_main_v81 val_main_cst_14 val_main_v80
    generalize val_main_v79 (F := Ideal) q k v bias = y
    simp only [pointwise]
    rfl
  rw [val_main_v91_apply, val_main_v87_apply, ew, er, es]
  rfl

theorem ref_apply (q k v : S16384x512.Idx → EReal) (bias : S8x257.Idx → EReal) (w : S512.Idx → EReal) (b : Fin 8) (n : Fin 32) (a : Fin 64) (l : Fin 512) :
    val_main_v93 (F := Ideal) q k v bias w (ix2 (seqRow b n a) l)
      = nR (fun d => oR (scoreR q k bias b n a (hOf l)) (fun c => val_main_v17 (F := Ideal) v (ix5 b n c (hOf l) d)))
          (fun d => w (ix1 (col (hOf l) d))) (dOf l) := by
  have e : val_main_v93 (F := Ideal) q k v bias w (ix2 (seqRow b n a) l)
      = val_main_v91 (F := Ideal) q k v bias w (ix4 b ⟨n.val * 64 + a.val, by omega⟩ (hOf l) (dOf l)) := by
    rw [val_main_v93_apply, val_main_v92_apply]
    refine congrArg (val_main_v91 (F := Ideal) q k v bias w) ?_
    funext i
    apply Fin.ext
    have hl : l.val / 64 < 8 := by omega
    match i with
    | ⟨0, _⟩ => show ((b.val * 2048 + n.val * 64 + a.val) * 512 + l.val) / 1048576 = b.val; omega
    | ⟨1, _⟩ => show ((b.val * 2048 + n.val * 64 + a.val) * 512 + l.val) / 512 % 2048 = n.val * 64 + a.val; omega
    | ⟨2, _⟩ => show ((b.val * 2048 + n.val * 64 + a.val) * 512 + l.val) / 64 % 8 = l.val / 64; omega
    | ⟨3, _⟩ => show ((b.val * 2048 + n.val * 64 + a.val) * 512 + l.val) % 64 = l.val % 64; omega
  rw [e, normed_apply]
  refine congrFun (congrFun (congrArg nR (funext fun d => ?_)) _) _
  rw [rows_apply, ← attn_apply]
  refine congrArg (val_main_v76 (F := Ideal) q k v bias) ?_
  funext i
  apply Fin.ext
  match i with
  | ⟨0, _⟩ => rfl
  | ⟨1, _⟩ => show (n.val * 64 + a.val) / 64 = n.val; omega
  | ⟨2, _⟩ => show (n.val * 64 + a.val) % 64 = a.val; omega
  | ⟨3, _⟩ => rfl
  | ⟨4, _⟩ => rfl

end Cert.ReferenceIdeal.Attn
-- ==== Proof.AttnClaim.lean ====
module

public import proofs.«01_k».proof.Defs
public import proofs.«01_k».proof.Proof.AttnArr
public import proofs.«01_k».proof.Proof.AttnSoft
public import proofs.«01_k».proof.Proof.Gen.ReferenceIdeal.Run
public import Idealize.ShloMosaic.Lib.Claim

@[expose] public section

noncomputable section

open Idealize.ShloMosaic Idealize.ShloMosaic.TcCoe Idealize.SL.Sem

namespace Cert.Proof.AttnClaim

open Cert.KernelIdeal.Attn Cert.AttnMath
open Cert.KernelIdeal (S16384x512 S8x257 S512)
open Cert.ReferenceIdeal.Attn (seqRow scoreR)

/-- The key position, among the kernel's 768, of key position `c` of the reference's band of 576. -/
def posOf (n : Fin 32) (c : Fin 576) : Fin 768 := ⟨n.val % 4 * 64 + c.val, by omega⟩

theorem posOf_inj (n : Fin 32) : Function.Injective (posOf n) := fun c c' h => by
  have e := congrArg Fin.val h
  simp only [posOf] at e
  exact Fin.ext (by omega)

theorem row_tOf (b : Fin 8) (n : Fin 32) (a : Fin 64) : (tOf (seqRow b n a)).val = b.val * 8 + n.val / 4 := by
  show (b.val * 2048 + n.val * 64 + a.val) / 256 = _
  omega

theorem row_rOf (b : Fin 8) (n : Fin 32) (a : Fin 64) : (rOf (seqRow b n a)).val = n.val % 4 * 64 + a.val := by
  show (b.val * 2048 + n.val * 64 + a.val) % 256 = _
  omega

/-- Where the key position is inside the sequence, the kernel reads the row the reference reads. -/
theorem key_eq (x : S16384x512.Idx → EReal) (b : Fin 8) (n : Fin 32) (a : Fin 64) (h : Fin 8) (c : Fin 576) (d : Fin 64)
    (hv : 8 ≤ n.val + c.val / 64) :
    x (ix2 (keyRow (tOf (seqRow b n a)) (posOf n c)) (col h d)) = Cert.ReferenceIdeal.Read.val_main_v17 (F := Ideal) x (ix5 b n c h d) := by
  rw [Cert.ReferenceIdeal.Attn.band_apply, Cert.ReferenceIdeal.Attn.padded_apply, dif_pos hv]
  refine congrArg (fun r => x (ix2 r (col h d))) (Fin.ext ?_)
  have ht := row_tOf b n a
  show ((tOf (seqRow b n a)).val / 8 * 8 + ((tOf (seqRow b n a)).val % 8 - (2 - (n.val % 4 * 64 + c.val) / 256))) * 256 + (n.val % 4 * 64 + c.val) % 256
    = b.val * 2048 + (n.val + c.val / 64 - 8) * 64 + c.val % 64
  rw [ht]
  omega

theorem tab_in (bias : S8x257.Idx → EReal) (b : Fin 8) (n : Fin 32) (a : Fin 64) (h : Fin 8) (c : Fin 576) :
    tabV bias (ix3 h (rOf (seqRow b n a)) (posOf n c)) = bias (ix2 h (Cert.ReferenceIdeal.Attn.relIx a c)) := by
  have hr := row_rOf b n a
  have hc : (posOf n c).val = n.val % 4 * 64 + c.val := rfl
  rw [tabV_apply, if_pos (by rw [hr, hc]; omega)]
  refine congrArg (fun r => bias (ix2 h r)) (Fin.ext ?_)
  show min (640 + (rOf (seqRow b n a)).val - (posOf n c).val) 256 = min (640 + a.val - c.val) 256
  rw [hr, hc]
  omega

theorem tab_out (bias : S8x257.Idx → EReal) (b : Fin 8) (n : Fin 32) (a : Fin 64) (h : Fin 8) (c : Fin 768) (hc : ∀ c', posOf n c' ≠ c) :
    tabV bias (ix3 h (rOf (seqRow b n a)) c) = ⊥ := by
  have hr := row_rOf b n a
  rw [tabV_apply, if_neg]
  rw [hr]
  intro hb
  refine hc ⟨c.val - n.val % 4 * 64, by omega⟩ (Fin.ext ?_)
  show n.val % 4 * 64 + (c.val - n.val % 4 * 64) = c.val
  omega

/-- The kernel's element is the reference's. -/
theorem out_eq (q k v : S16384x512.Idx → EReal) (bias : S8x257.Idx → EReal) (w : S512.Idx → EReal) (b : Fin 8) (n : Fin 32) (a : Fin 64) (h : Fin 8) (d : Fin 64) :
    outA q k v bias w (seqRow b n a) h d
      = nR (fun d => oR (scoreR q k bias b n a h) (fun c => Cert.ReferenceIdeal.Read.val_main_v17 (F := Ideal) v (ix5 b n c h d)))
          (fun d => w (ix1 (col h d))) d := by
  rw [← head_eq]
  unfold outA
  have ht : (tOf (seqRow b n a)).val % 8 = n.val / 4 := by rw [row_tOf]; omega
  rw [ht]
  refine congrFun (congrFun (congrArg nK (funext fun d => ?_)) _) _
  refine oK_embed (posOf n) (posOf_inj n) _ _ _ _ (fun c => ?_) (fun c => ?_) (fun c hc => ?_)
  · unfold scoreB scoreR padB
    beta_reduce
    have hc : (posOf n c).val = n.val % 4 * 64 + c.val := rfl
    rw [tab_in, hc]
    by_cases hv : 8 ≤ n.val + c.val / 64
    · rw [if_pos hv, if_pos (by omega), add_zero]
      refine congrArg (· + _) (Finset.sum_congr rfl fun d _ => ?_)
      rw [key_eq k b n a h c d hv]
    · rw [if_neg hv, if_neg (by omega), EReal.add_bot]
  · by_cases hv : 8 ≤ n.val + c.val / 64
    · exact .inr (key_eq v b n a h c d hv)
    · exact .inl (by unfold scoreR; rw [if_neg hv])
  · unfold scoreB
    beta_reduce
    rw [tab_out bias b n a h c hc, EReal.add_bot, EReal.bot_add]

theorem row_surj (i : S16384x512.Idx) : ∃ (b : Fin 8) (n : Fin 32) (a : Fin 64) (l : Fin 512), i = ix2 (seqRow b n a) l := by
  have h0 : (i 0).val < 16384 := (i 0).isLt
  refine ⟨⟨(i 0).val / 2048, by omega⟩, ⟨(i 0).val / 64 % 32, by omega⟩, ⟨(i 0).val % 64, by omega⟩, i 1, ?_⟩
  funext k
  match k with
  | ⟨0, _⟩ =>
    apply Fin.ext
    show (i 0).val = (i 0).val / 2048 * 2048 + (i 0).val / 64 % 32 * 64 + (i 0).val % 64
    omega
  | ⟨1, _⟩ => rfl

/-- The kernel's result array is the reference's, over the extended reals. -/
theorem algebraic : Cert.algebraic_KernelIdeal_ReferenceIdeal := by
  intro m ρ m' ρ' _ hagree
  refine ⟨fun c => (Cert.KernelIdeal.Gen.dats m 0 c).arrAt 9 Cert.KernelIdeal.cfg0.N, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨h0, hargs⟩ := h c
  refine ⟨h0.trans ?_, hargs⟩
  rw [Cert.ReferenceIdeal.Read.val_main_v93_eq]
  show Cert.ReferenceIdeal.Read.val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [a0, a1, a2, a3, a4]
  funext i
  obtain ⟨b, n, a, l, rfl⟩ := row_surj i
  exact (Cert.ReferenceIdeal.Attn.ref_apply _ _ _ _ _ b n a l).trans
    ((final9 m c (seqRow b n a) l).trans (out_eq _ _ _ _ _ b n a (hOf l) (dOf l))).symm

end Cert.Proof.AttnClaim
-- ==== Proof.MoeStep.lean ====
module

public import proofs.«01_k».proof.Proof.Gen.Kernel2Ideal.Value
public import Idealize.ShloMosaic.Lib.Pipeline.Value
public import Idealize.ShloMosaic.Lib.ValueIdx
public import Idealize.ShloMosaic.Lib.Tactic
public import Idealize.ShloMosaic.PureOps.Ideal.Laws

@[expose] public section

noncomputable section

open Idealize.ShloMosaic Idealize.ShloMosaic.TcCoe Idealize.SL.Sem

namespace Cert.Kernel2Ideal.Moe

open Cert.Kernel2Ideal Cert.Kernel2Ideal.Gen

variable {F : FTy → Type} [FloatOps F]

theorem hz : (![0, 0] : Fin 2 → Nat) = fun _ => 0 := funext fun a => by fin_cases a <;> rfl

/-- Slab `j` of a block of four matrices, as the load of one matrix reads it. -/
def slabA (j : Nat) (x : Vec F S4x1024x256 .bf16) (h : ∀ a, (![j, 0, 0] : Fin 3 → Nat) a + S1x1024x256.size a ≤ S4x1024x256.size a) : Vec F S1x1024x256 .bf16 :=
  View.ld x (Rect.unit (s := S4x1024x256) ![j, 0, 0] S1x1024x256.size h)

/-- Slab `j` of a block of four second-layer matrices. -/
def slabB (j : Nat) (x : Vec F S4x256x1024 .bf16) (h : ∀ a, (![j, 0, 0] : Fin 3 → Nat) a + S1x256x1024.size a ≤ S4x256x1024.size a) : Vec F S1x256x1024 .bf16 :=
  View.ld x (Rect.unit (s := S4x256x1024) ![j, 0, 0] S1x256x1024.size h)

/-- What one grid point adds into the accumulator: the four experts of its block, one after another. -/
def step (i : grid0.Coords) (x0 : Vec F S1024x1024 .bf16) (x1 : Vec F S1024x128 .f32) (x3 x4 : Vec F S4x1024x256 .bf16)
    (x5 : Vec F S4x256x1024 .bf16) (acc : Vec F S1024x1024 .f32) : Vec F S1024x1024 .f32 :=
  let n : BitVec 32 := BitVec.ofNat 32 (i 1).val
  let io : IVec S1024x128 32 := iota .tc S1024x128 32 [1] iota_S1024x128_d1_w32
  let a1 := k0_pay5 (k0_pay4 i x0 x1 (slabA 0 x3 inb_S4x1024x256_S1x1024x256_0_0_0) (slabA 0 x4 inb_S4x1024x256_S1x1024x256_0_0_0) acc (slabB 0 x5 inb_S4x256x1024_S1x256x1024_0_0_0))
  let a2 := k0_pay6 n x0 x1 io (slabA 1 x3 inb_S4x1024x256_S1x1024x256_1_0_0) (slabA 1 x4 inb_S4x1024x256_S1x1024x256_1_0_0) a1 (slabB 1 x5 inb_S4x256x1024_S1x256x1024_1_0_0)
  let a3 := k0_pay8 n x0 x1 io (k0_pay7 x0 (slabA 2 x3 inb_S4x1024x256_S1x1024x256_2_0_0)) (slabA 2 x4 inb_S4x1024x256_S1x1024x256_2_0_0) a2 (slabB 2 x5 inb_S4x256x1024_S1x256x1024_2_0_0)
  k0_pay1 x1 io (k0_pay9 x0 (slabA 3 x3 inb_S4x1024x256_S1x1024x256_3_0_0)) (k0_pay10 x0 (slabA 3 x4 inb_S4x1024x256_S1x1024x256_3_0_0))
    (Scalar.addi (Scalar.muli n 4#32) 3#32) a3 (slabB 3 x5 inb_S4x256x1024_S1x256x1024_3_0_0)

/-- The middle points of a row tile: the scratch over what it held. -/
theorem sout_B (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : ¬cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    sout0_B_0 c i a2 h2 a3 h3 a4 h4 a5 h5 a6 h6 a7 h7 a8 h8 a9 h9 a10 h10 hc0 hc1 x0 x1 x2 x3 x4 x5 x6 xs = step i x0 x1 x3 x4 x5 xs := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs)]
  unfold kernelRun0_B
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The last point of a row tile: the scratch over what it held. -/
theorem sout_C (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    sout0_C_0 c i a2 h2 a3 h3 a4 h4 a5 h5 a6 h6 a7 h7 a8 h8 a9 h9 a10 h10 hc0 hc1 x0 x1 x2 x3 x4 x5 x6 xs = step i x0 x1 x3 x4 x5 xs := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The first point of a row tile: the scratch over a block of zeros. -/
theorem sout_A (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : cond0_0 i) (hc1 : ¬cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) :
    sout0_A_0 c i a2 h2 a3 h3 a4 h4 a5 h5 a6 h6 a7 h7 a8 h8 a9 h9 a10 h10 hc0 hc1 x0 x1 x2 x3 x4 x5 x6 = step i x0 x1 x3 x4 x5 k0_pay3 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The last point of a row tile: the output block, of the residual rows and the finished accumulator. -/
theorem out_C (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    out0_C_7 c i a2 h2 a3 h3 a4 h4 a5 h5 a6 h6 a7 h7 a8 h8 a9 h9 a10 h10 hc0 hc1 x0 x1 x2 x3 x4 x5 x6 xs = k0_pay2 x2 (step i x0 x1 x3 x4 x5 xs) x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_unit_zero (S := S1024x1024) hz]
  simp only [View.readCov_cons_toLoadRect, View.readAt_eq_ld, h2.read_unread, h3.read_unread, h4.read_unread, h5.read_unread, h6.read_unread, h7.read_unread, h8.read_unread, h10.read_unread,
    View.ld_unit_zero (S := S1024x1024) hz, View.ld_unit_zero (S := S1024x128) hz, View.ld_unit_zero (S := S1x1024) hz]
  rfl

end Cert.Kernel2Ideal.Moe
-- ==== Proof.MoeBlock.lean ====
module

public import proofs.«01_k».proof.Proof.MoeStep
public import Idealize.ShloMosaic.Lib.Pointwise

@[expose] public section

noncomputable section

open Idealize.ShloMosaic Idealize.ShloMosaic.TcCoe Idealize.SL.Sem

namespace Cert.Kernel2Ideal.Moe

open Cert.Kernel2Ideal Cert.Kernel2Ideal.Gen

theorem pay7_apply (x : Vec Ideal S1024x1024 .bf16) (w : Vec Ideal S1x1024x256 .bf16) (r : Fin 1024) (f : Fin 256) :
    k0_pay7 (F := Ideal) x w (ix2 r f) = ∑ k : Fin 1024, x (ix2 r k) * w (ix3 0 k f) := by
  unfold k0_pay7
  simp only [pointwise, zero_add]

/-- Keeping one lane of 128 and summing reads that lane. -/
theorem lane_sum (g : Fin 128 → EReal) (n : BitVec 32) (e : Fin 128) (hn : n = BitVec.ofNat 32 e.val) :
    ∑ k : Fin 128, Scalar.select (IntOp.cmpi CmpIPredicate.eq (BitVec.ofNat 32 k.val) n) (g k) (0 : EReal) = g e := by
  subst hn
  rw [Finset.sum_eq_single e]
  · have h : IntOp.cmpi CmpIPredicate.eq (BitVec.ofNat 32 e.val) (BitVec.ofNat 32 e.val) = 1 := by simp [IntOp.cmpi]
    rw [h]; rfl
  · intro k _ hk
    have hne : BitVec.ofNat 32 k.val ≠ BitVec.ofNat 32 e.val := by
      intro h
      apply hk
      have h2 := congrArg BitVec.toNat h
      simp only [BitVec.toNat_ofNat] at h2
      have := k.isLt; have := e.isLt
      apply Fin.ext; omega
    have h : IntOp.cmpi CmpIPredicate.eq (BitVec.ofNat 32 k.val) (BitVec.ofNat 32 e.val) = 0 := by simp [IntOp.cmpi, beq_eq_false_iff_ne.mpr hne]
    rw [h]; rfl
  · intro h; exact absurd (Finset.mem_univ _) h

theorem pay1_apply (comb : Vec Ideal S1024x128 .f32) (a b : FVec Ideal S1024x256 .f32) (n : BitVec 32)
    (acc : Vec Ideal S1024x1024 .f32) (w : Vec Ideal S1x256x1024 .bf16) (r d : Fin 1024) (e : Fin 128) (hn : n = BitVec.ofNat 32 e.val) :
    k0_pay1 (F := Ideal) comb (iota .tc S1024x128 32 [1] iota_S1024x128_d1_w32) a b n acc w (ix2 r d)
      = acc (ix2 r d) + ∑ f : Fin 256, (a (ix2 r f) * Ideal.logistic (a (ix2 r f)) * b (ix2 r f)
          * comb (ix2 r e)) * w (ix3 0 f d) := by
  unfold k0_pay1
  simp only [pointwise, zero_add]
  refine congrArg (acc (ix2 r d) + ·) (Finset.sum_congr rfl fun f _ => ?_)
  refine congrArg (fun z => (a (ix2 r f) * Ideal.logistic (a (ix2 r f)) * b (ix2 r f) * z) * w (ix3 0 f d)) ?_
  rw [← lane_sum (fun k => comb (ix2 r k)) n e hn]
  refine Finset.sum_congr rfl fun k _ => ?_
  have h2 : List.foldl (fun n a => n * ![1024, 128] a + (ix2 r k a).val) 0 [1] = k.val := by
    show 0 * 128 + k.val = k.val
    omega
  exact congrArg (fun q => Scalar.select (IntOp.cmpi CmpIPredicate.eq (BitVec.ofNat 32 q) n) (comb (ix2 r k)) 0) h2

theorem pay2_apply (x : Vec Ideal S1024x1024 .f32) (acc : Vec Ideal S1024x1024 .f32) (w : Vec Ideal S1x1024 .f32) (r d : Fin 1024) :
    k0_pay2 (F := Ideal) x acc w (ix2 r d)
      = (x (ix2 r d) + acc (ix2 r d)) * Ideal.rsqrt (Ideal.div (∑ k : Fin 1024, (x (ix2 r k) + acc (ix2 r k)) * (x (ix2 r k) + acc (ix2 r k)))
          (Ideal.ofBits .f32 0x44800000#32) + Ideal.ofBits .f32 0x358637BD#32) * w (ix2 0 d) := by
  unfold k0_pay2
  simp only [pointwise]
  rfl

theorem pay3_apply (r d : Fin 1024) : k0_pay3 (F := Ideal) (ix2 r d) = 0 := by
  unfold k0_pay3
  simp only [pointwise]

/-- One expert's addition to one element of the accumulator, on blocks. -/
def expB (x : Vec Ideal S1024x1024 .bf16) (comb : Vec Ideal S1024x128 .f32) (w1 w3 : Vec Ideal S4x1024x256 .bf16)
    (w2 : Vec Ideal S4x256x1024 .bf16) (j : Fin 4) (e : Fin 128) (r d : Fin 1024) : EReal :=
  ∑ f : Fin 256, ((∑ k : Fin 1024, x (ix2 r k) * w1 (ix3 j k f)) * Ideal.logistic (∑ k : Fin 1024, x (ix2 r k) * w1 (ix3 j k f))
    * (∑ k : Fin 1024, x (ix2 r k) * w3 (ix3 j k f)) * comb (ix2 r e)) * w2 (ix3 j f d)

theorem slabA_apply (j : Fin 4) (x : Vec Ideal S4x1024x256 .bf16) (h) (k : Fin 1024) (f : Fin 256) :
    slabA (F := Ideal) j.val x h (ix3 0 k f) = x (ix3 j k f) := by
  show x _ = x _
  congr 1
  funext a
  apply Fin.ext
  match a with
  | ⟨0, _⟩ => show j.val + 1 * 0 = j.val; omega
  | ⟨1, _⟩ => show 0 + 1 * k.val = k.val; omega
  | ⟨2, _⟩ => show 0 + 1 * f.val = f.val; omega

theorem slabB_apply (j : Fin 4) (x : Vec Ideal S4x256x1024 .bf16) (h) (f : Fin 256) (d : Fin 1024) :
    slabB (F := Ideal) j.val x h (ix3 0 f d) = x (ix3 j f d) := by
  show x _ = x _
  congr 1
  funext a
  apply Fin.ext
  match a with
  | ⟨0, _⟩ => show j.val + 1 * 0 = j.val; omega
  | ⟨1, _⟩ => show 0 + 1 * f.val = f.val; omega
  | ⟨2, _⟩ => show 0 + 1 * d.val = d.val; omega

/-- One expert of the body, whichever of the four it is. -/
theorem expert_apply (x : Vec Ideal S1024x1024 .bf16) (comb : Vec Ideal S1024x128 .f32) (w1 w3 : Vec Ideal S4x1024x256 .bf16)
    (w2 : Vec Ideal S4x256x1024 .bf16) (acc : Vec Ideal S1024x1024 .f32) (j : Fin 4) (h1 h3 h2) (n : BitVec 32) (e : Fin 128)
    (hn : n = BitVec.ofNat 32 e.val) (r d : Fin 1024) :
    k0_pay1 (F := Ideal) comb (iota .tc S1024x128 32 [1] iota_S1024x128_d1_w32) (k0_pay7 x (slabA j.val w1 h1)) (k0_pay7 x (slabA j.val w3 h3)) n acc
      (slabB j.val w2 h2) (ix2 r d) = acc (ix2 r d) + expB x comb w1 w3 w2 j e r d := by
  rw [pay1_apply _ _ _ _ _ _ r d e hn]
  unfold expB
  simp only [pay7_apply, slabA_apply, slabB_apply]

theorem idx_word (n j : Nat) (hn : n < 8) (hj : j < 4) :
    Scalar.addi (Scalar.muli (BitVec.ofNat 32 n) 4#32) (BitVec.ofNat 32 j) = BitVec.ofNat 32 (4 * n + j) := by
  apply BitVec.eq_of_toNat_eq
  simp only [Scalar.addi, Scalar.muli, IntOp.addi, IntOp.muli, BitVec.toNat_add, BitVec.toNat_mul, BitVec.toNat_ofNat]
  omega

/-- What one grid point adds: the four experts of its block. -/
theorem step_apply (i : grid0.Coords) (q : Nat) (hq : q = (i 1).val) (h8 : q < 8) (x0 : Vec Ideal S1024x1024 .bf16) (x1 : Vec Ideal S1024x128 .f32) (x3 x4 : Vec Ideal S4x1024x256 .bf16)
    (x5 : Vec Ideal S4x256x1024 .bf16) (acc : Vec Ideal S1024x1024 .f32) (r d : Fin 1024) :
    step (F := Ideal) i x0 x1 x3 x4 x5 acc (ix2 r d)
      = acc (ix2 r d) + expB x0 x1 x3 x4 x5 0 ⟨4 * q + 0, by omega⟩ r d + expB x0 x1 x3 x4 x5 1 ⟨4 * q + 1, by omega⟩ r d
        + expB x0 x1 x3 x4 x5 2 ⟨4 * q + 2, by omega⟩ r d + expB x0 x1 x3 x4 x5 3 ⟨4 * q + 3, by omega⟩ r d := by
  subst hq
  rw [← expert_apply x0 x1 x3 x4 x5 acc 0 inb_S4x1024x256_S1x1024x256_0_0_0 inb_S4x1024x256_S1x1024x256_0_0_0 inb_S4x256x1024_S1x256x1024_0_0_0 _ _ (idx_word (i 1).val 0 h8 (by decide)),
    ← expert_apply x0 x1 x3 x4 x5 _ 1 inb_S4x1024x256_S1x1024x256_1_0_0 inb_S4x1024x256_S1x1024x256_1_0_0 inb_S4x256x1024_S1x256x1024_1_0_0 _ _ (idx_word (i 1).val 1 h8 (by decide)),
    ← expert_apply x0 x1 x3 x4 x5 _ 2 inb_S4x1024x256_S1x1024x256_2_0_0 inb_S4x1024x256_S1x1024x256_2_0_0 inb_S4x256x1024_S1x256x1024_2_0_0 _ _ (idx_word (i 1).val 2 h8 (by decide)),
    ← expert_apply x0 x1 x3 x4 x5 _ 3 inb_S4x1024x256_S1x1024x256_3_0_0 inb_S4x1024x256_S1x1024x256_3_0_0 inb_S4x256x1024_S1x256x1024_3_0_0 _ _ (idx_word (i 1).val 3 h8 (by decide))]
  rfl

end Cert.Kernel2Ideal.Moe
-- ==== Proof.MoeArr.lean ====
module

public import proofs.«01_k».proof.Proof.MoeStep
public import Idealize.ShloMosaic.Lib.Pointwise

@[expose] public section

noncomputable section

open Idealize.ShloMosaic Idealize.ShloMosaic.TcCoe Idealize.SL.Sem

namespace Cert.Kernel2Ideal.Moe

open Cert.Kernel2Ideal Cert.Kernel2Ideal.Gen

variable (m : (ℓ : Loc nD τ sig) → Buf (Elt Ideal) ℓ)

theorem V_v0 (c : Dev nD) (e : Fin 32) (k : Fin 1024) (f : Fin 256) : V m c main_v0 (ix3 e k f) = m ((c : Thread nD τ).loc main_arg3) (ix3 e k f) := by
  have h : V m c main_v0 = (truncf .bf16 (m ((c : Thread nD τ).loc main_arg3) : FVec Ideal S32x1024x256 .f32) bitsLt_bf16_f32 : FVec Ideal S32x1024x256 .bf16) := by
    unfold_abbrev_sides
    after_results
  rw [h]; rfl

theorem V_v1 (c : Dev nD) (e : Fin 32) (k : Fin 1024) (f : Fin 256) : V m c main_v1 (ix3 e k f) = m ((c : Thread nD τ).loc main_arg4) (ix3 e k f) := by
  have h : V m c main_v1 = (truncf .bf16 (m ((c : Thread nD τ).loc main_arg4) : FVec Ideal S32x1024x256 .f32) bitsLt_bf16_f32 : FVec Ideal S32x1024x256 .bf16) := by
    unfold_abbrev_sides
    after_results
  rw [h]; rfl

theorem V_v2 (c : Dev nD) (e : Fin 32) (f : Fin 256) (d : Fin 1024) : V m c main_v2 (ix3 e f d) = m ((c : Thread nD τ).loc main_arg5) (ix3 e f d) := by
  have h : V m c main_v2 = (truncf .bf16 (m ((c : Thread nD τ).loc main_arg5) : FVec Ideal S32x256x1024 .f32) bitsLt_bf16_f32 : FVec Ideal S32x256x1024 .bf16) := by
    unfold_abbrev_sides
    after_results
  rw [h]; rfl

theorem V_v3 (c : Dev nD) (d : Fin 1024) : V m c main_v3 (ix2 0 d) = m ((c : Thread nD τ).loc main_arg6) (ix1 d) := by
  have h : V m c main_v3 = (broadcastInDim S1x1024 ![1] bcast_S1024_S1x1024_1 (m ((c : Thread nD τ).loc main_arg6) : FVec Ideal S1024 .f32) : FVec Ideal S1x1024 .f32) := by
    unfold_abbrev_sides
    after_results
  rw [h]
  simp only [pointwise]
  rfl

/-- Which block each window reads at each grid point. -/
theorem idx_in : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 3) = t.val % 8 ∧ win0_5.index t (1 : Fin 3) = 0 ∧ win0_5.index t (2 : Fin 3) = 0
    ∧ win0_6.index t (0 : Fin 2) = 0 ∧ win0_6.index t (1 : Fin 2) = 0 ∧ (grid0.coords t 1).val = t.val % 8 :=
  (by decide +kernel : ∀ t : Fin grid0.N, _)

theorem tdiv (t : Fin cfg0.N) : t.val / 8 < 16 := by
  have : t.val < 128 := lt_of_lt_of_eq t.isLt (show cfg0.N = 128 from N_0)
  omega

theorem iblk0 (c : Dev nD) (t : Fin cfg0.N) (r k : Fin 1024) :
    (iblk m c 0 t : Vec Ideal S1024x1024 .bf16) (ix2 r k) = m ((c : Thread nD τ).loc main_arg0) (ix2 ⟨1024 * (t.val / 8) + r.val, by have := tdiv t; omega⟩ k) := by
  rw [← V_main_arg0 m c]
  show V m c main_arg0 _ = V m c main_arg0 _
  congr 1
  obtain ⟨e0, e1, -⟩ := idx_in t
  funext a; apply Fin.ext
  match a with
  | ⟨0, _⟩ => show win0_0.index t (0 : Fin 2) * 1024 + 1 * r.val = 1024 * (t.val / 8) + r.val; omega
  | ⟨1, _⟩ => show win0_0.index t (1 : Fin 2) * 1024 + 1 * k.val = k.val; omega

theorem iblk1 (c : Dev nD) (t : Fin cfg0.N) (r : Fin 1024) (l : Fin 128) :
    (iblk m c 1 t : Vec Ideal S1024x128 .f32) (ix2 r l) = m ((c : Thread nD τ).loc main_arg1) (ix2 ⟨1024 * (t.val / 8) + r.val, by have := tdiv t; omega⟩ l) := by
  rw [← V_main_arg1 m c]
  show V m c main_arg1 _ = V m c main_arg1 _
  congr 1
  obtain ⟨-, -, e0, e1, -⟩ := idx_in t
  funext a; apply Fin.ext
  match a with
  | ⟨0, _⟩ => show win0_1.index t (0 : Fin 2) * 1024 + 1 * r.val = 1024 * (t.val / 8) + r.val; omega
  | ⟨1, _⟩ => show win0_1.index t (1 : Fin 2) * 128 + 1 * l.val = l.val; omega

theorem iblk2 (c : Dev nD) (t : Fin cfg0.N) (r k : Fin 1024) :
    (iblk m c 2 t : Vec Ideal S1024x1024 .f32) (ix2 r k) = m ((c : Thread nD τ).loc main_arg2) (ix2 ⟨1024 * (t.val / 8) + r.val, by have := tdiv t; omega⟩ k) := by
  rw [← V_main_arg2 m c]
  show V m c main_arg2 _ = V m c main_arg2 _
  congr 1
  obtain ⟨-, -, -, -, e0, e1, -⟩ := idx_in t
  funext a; apply Fin.ext
  match a with
  | ⟨0, _⟩ => show win0_2.index t (0 : Fin 2) * 1024 + 1 * r.val = 1024 * (t.val / 8) + r.val; omega
  | ⟨1, _⟩ => show win0_2.index t (1 : Fin 2) * 1024 + 1 * k.val = k.val; omega

theorem iblk3 (c : Dev nD) (t : Fin cfg0.N) (j : Fin 4) (k : Fin 1024) (f : Fin 256) :
    (iblk m c 3 t : Vec Ideal S4x1024x256 .bf16) (ix3 j k f) = m ((c : Thread nD τ).loc main_arg3) (ix3 ⟨4 * (t.val % 8) + j.val, by omega⟩ k f) := by
  rw [← V_v0 m c]
  show V m c main_v0 _ = V m c main_v0 _
  congr 1
  obtain ⟨-, -, -, -, -, -, e0, e1, e2, -⟩ := idx_in t
  funext a; apply Fin.ext
  match a with
  | ⟨0, _⟩ => show win0_3.index t (0 : Fin 3) * 4 + 1 * j.val = 4 * (t.val % 8) + j.val; omega
  | ⟨1, _⟩ => show win0_3.index t (1 : Fin 3) * 1024 + 1 * k.val = k.val; omega
  | ⟨2, _⟩ => show win0_3.index t (2 : Fin 3) * 256 + 1 * f.val = f.val; omega

theorem iblk4 (c : Dev nD) (t : Fin cfg0.N) (j : Fin 4) (k : Fin 1024) (f : Fin 256) :
    (iblk m c 4 t : Vec Ideal S4x1024x256 .bf16) (ix3 j k f) = m ((c : Thread nD τ).loc main_arg4) (ix3 ⟨4 * (t.val % 8) + j.val, by omega⟩ k f) := by
  rw [← V_v1 m c]
  show V m c main_v1 _ = V m c main_v1 _
  congr 1
  obtain ⟨-, -, -, -, -, -, -, -, -, e0, e1, e2, -⟩ := idx_in t
  funext a; apply Fin.ext
  match a with
  | ⟨0, _⟩ => show win0_4.index t (0 : Fin 3) * 4 + 1 * j.val = 4 * (t.val % 8) + j.val; omega
  | ⟨1, _⟩ => show win0_4.index t (1 : Fin 3) * 1024 + 1 * k.val = k.val; omega
  | ⟨2, _⟩ => show win0_4.index t (2 : Fin 3) * 256 + 1 * f.val = f.val; omega

theorem iblk5 (c : Dev nD) (t : Fin cfg0.N) (j : Fin 4) (f : Fin 256) (d : Fin 1024) :
    (iblk m c 5 t : Vec Ideal S4x256x1024 .bf16) (ix3 j f d) = m ((c : Thread nD τ).loc main_arg5) (ix3 ⟨4 * (t.val % 8) + j.val, by omega⟩ f d) := by
  rw [← V_v2 m c]
  show V m c main_v2 _ = V m c main_v2 _
  congr 1
  obtain ⟨-, -, -, -, -, -, -, -, -, -, -, -, e0, e1, e2, -⟩ := idx_in t
  funext a; apply Fin.ext
  match a with
  | ⟨0, _⟩ => show win0_5.index t (0 : Fin 3) * 4 + 1 * j.val = 4 * (t.val % 8) + j.val; omega
  | ⟨1, _⟩ => show win0_5.index t (1 : Fin 3) * 256 + 1 * f.val = f.val; omega
  | ⟨2, _⟩ => show win0_5.index t (2 : Fin 3) * 1024 + 1 * d.val = d.val; omega

theorem iblk6 (c : Dev nD) (t : Fin cfg0.N) (d : Fin 1024) :
    (iblk m c 6 t : Vec Ideal S1x1024 .f32) (ix2 0 d) = m ((c : Thread nD τ).loc main_arg6) (ix1 d) := by
  rw [← V_v3 m c]
  show V m c main_v3 _ = V m c main_v3 _
  congr 1
  obtain ⟨-, -, -, -, -, -, -, -, -, -, -, -, -, -, -, e0, e1, -⟩ := idx_in t
  funext a; apply Fin.ext
  match a with
  | ⟨0, _⟩ => show win0_6.index t (0 : Fin 2) * 1 + 1 * 0 = 0; omega
  | ⟨1, _⟩ => show win0_6.index t (1 : Fin 2) * 1024 + 1 * d.val = d.val; omega

end Cert.Kernel2Ideal.Moe
-- ==== Proof.MoeFold.lean ====
module

public import proofs.«01_k».proof.Proof.MoeBlock
public import proofs.«01_k».proof.Proof.MoeArr

@[expose] public section

noncomputable section

open Idealize.ShloMosaic Idealize.ShloMosaic.TcCoe Idealize.SL.Sem

namespace Cert.Kernel2Ideal.Moe

open Cert.Kernel2Ideal Cert.Kernel2Ideal.Gen

/-- Expert `e`'s contribution to one element of the result, on whole arrays: the gate and the up projection of the row,
    the gate's logistic product, the routing weight, and the down projection. -/
def expG (X : S16384x1024.Idx → EReal) (C : S16384x128.Idx → EReal) (W1 W3 : S32x1024x256.Idx → EReal) (W2 : S32x256x1024.Idx → EReal)
    (e : Fin 32) (r : Fin 16384) (d : Fin 1024) : EReal :=
  ∑ f : Fin 256, ((∑ k : Fin 1024, X (ix2 r k) * W1 (ix3 e k f)) * Ideal.logistic (∑ k : Fin 1024, X (ix2 r k) * W1 (ix3 e k f))
    * (∑ k : Fin 1024, X (ix2 r k) * W3 (ix3 e k f)) * C (ix2 r ⟨e.val, by omega⟩)) * W2 (ix3 e f d)

variable (m : (ℓ : Loc nD τ sig) → Buf (Elt Ideal) ℓ)

/-- The same at the launch's arrays, numbered by a natural number. -/
def termM (c : Dev nD) (r : Fin 16384) (d : Fin 1024) (e : ℕ) : EReal :=
  if h : e < 32 then expG (m ((c : Thread nD τ).loc main_arg0)) (m ((c : Thread nD τ).loc main_arg1)) (m ((c : Thread nD τ).loc main_arg3))
    (m ((c : Thread nD τ).loc main_arg4)) (m ((c : Thread nD τ).loc main_arg5)) ⟨e, h⟩ r d else 0

theorem expB_eq (c : Dev nD) (t : Fin cfg0.N) (j : Fin 4) (e : Fin 128) (he : e.val = 4 * (t.val % 8) + j.val) (r d : Fin 1024) :
    expB (iblk m c 0 t) (iblk m c 1 t) (iblk m c 3 t) (iblk m c 4 t) (iblk m c 5 t) j e r d
      = termM m c ⟨1024 * (t.val / 8) + r.val, by have := tdiv t; omega⟩ d (4 * (t.val % 8) + j.val) := by
  unfold termM
  rw [dif_pos (show 4 * (t.val % 8) + j.val < 32 by omega)]
  unfold expB expG
  obtain ⟨ev, hev⟩ := e
  obtain rfl : ev = 4 * (t.val % 8) + j.val := he
  simp only [iblk0, iblk1, iblk3, iblk4, iblk5]

theorem step_eq (c : Dev nD) (t : Fin cfg0.N) (acc : Vec Ideal S1024x1024 .f32) (r d : Fin 1024) :
    step (F := Ideal) (grid0.coords t) (iblk m c 0 t) (iblk m c 1 t) (iblk m c 3 t) (iblk m c 4 t) (iblk m c 5 t) acc (ix2 r d)
      = acc (ix2 r d) + (∑ j ∈ Finset.range 4, termM m c ⟨1024 * (t.val / 8) + r.val, by have := tdiv t; omega⟩ d (4 * (t.val % 8) + j)) := by
  have hq : t.val % 8 = (grid0.coords t 1).val := by
    obtain ⟨-, -, -, -, -, -, -, -, -, -, -, -, -, -, -, -, -, e⟩ := idx_in t
    exact e.symm
  rw [step_apply (grid0.coords t) (t.val % 8) hq (Nat.mod_lt _ (by decide)),
    expB_eq m c t 0 _ rfl, expB_eq m c t 1 _ rfl, expB_eq m c t 2 _ rfl, expB_eq m c t 3 _ rfl]
  simp only [Finset.sum_range_succ, Finset.sum_range_zero, zero_add, add_assoc]
  rfl

/-- The accumulator after the points of a row tile up to its `k`th: the experts so far, summed. -/
theorem scratch_eq (c : Dev nD) (q : ℕ) : ∀ (k : ℕ) (hk : k < 8) (h : 8 * q + k < cfg0.N) (r d : Fin 1024) (R : Fin 16384) (hR : R.val = 1024 * q + r.val),
    (outsAt0 m c (8 * q + k) h).2 (ix2 r d) = ∑ e ∈ Finset.range (4 * (k + 1)), termM m c R d e := by
  intro k
  induction k with
  | zero =>
    intro hk h r d R hR
    have h0 : (⟨8 * q + 0, h⟩ : Fin cfg0.N).val % 8 = 0 := by show (8 * q + 0) % 8 = 0; omega
    have h1 : ¬(⟨8 * q + 0, h⟩ : Fin cfg0.N).val % 8 = 7 := by rw [h0]; decide
    have e := outsAt0_A m c ⟨8 * q + 0, h⟩ h0 h1
    dsimp only at e
    rw [e]
    dsimp only
    rw [sout_A, step_eq, pay3_apply, zero_add]
    refine Finset.sum_congr rfl fun j _ => ?_
    congr 1
    · apply Fin.ext; show 1024 * ((8 * q + 0) / 8) + r.val = R.val; omega
    · show 4 * ((8 * q + 0) % 8) + j = j; omega
  | succ k ih =>
    intro hk h r d R hR
    have hq0 : (8 * q + (k + 1)) % 8 = k + 1 := by omega
    have hq1 : (8 * q + (k + 1)) / 8 = q := by omega
    have h0 : ¬(⟨8 * q + (k + 1), h⟩ : Fin cfg0.N).val % 8 = 0 := by show ¬(8 * q + (k + 1)) % 8 = 0; omega
    have hs : (outsAt0 m c (8 * q + (k + 1)) h).2 (ix2 r d) = (outsAt0 m c (8 * q + k) (Nat.lt_of_succ_lt h)).2 (ix2 r d)
        + (∑ j ∈ Finset.range 4, termM m c R d (4 * (k + 1) + j)) := by
      have key : ∀ acc : Vec Ideal S1024x1024 .f32, step (F := Ideal) (grid0.coords ⟨8 * q + (k + 1), h⟩) (iblk m c 0 ⟨8 * q + (k + 1), h⟩) (iblk m c 1 ⟨8 * q + (k + 1), h⟩)
          (iblk m c 3 ⟨8 * q + (k + 1), h⟩) (iblk m c 4 ⟨8 * q + (k + 1), h⟩) (iblk m c 5 ⟨8 * q + (k + 1), h⟩) acc (ix2 r d)
          = acc (ix2 r d) + (∑ j ∈ Finset.range 4, termM m c R d (4 * (k + 1) + j)) := by
        intro acc
        rw [step_eq]
        refine congrArg (acc (ix2 r d) + ·) (Finset.sum_congr rfl fun j _ => ?_)
        congr 1
        · apply Fin.ext; show 1024 * ((8 * q + (k + 1)) / 8) + r.val = R.val; omega
        · show 4 * ((8 * q + (k + 1)) % 8) + j = 4 * (k + 1) + j; omega
      by_cases h1 : (⟨8 * q + (k + 1), h⟩ : Fin cfg0.N).val % 8 = 7
      · have e := outsAt0_C m c ⟨8 * q + (k + 1), h⟩ h0 h1
        dsimp only at e
        rw [e]
        dsimp only
        rw [sout_C]
        exact key _
      · have e := outsAt0_B m c ⟨8 * q + (k + 1), h⟩ h0 h1
        dsimp only at e
        rw [e]
        dsimp only
        rw [sout_B]
        exact key _
    rw [hs, ih (by omega) (Nat.lt_of_succ_lt h) r d R hR, show 4 * (k + 1 + 1) = 4 * (k + 1) + 4 by ring, Finset.sum_range_add]

/-- The sum over all 32 experts. -/
def moeSum (c : Dev nD) (r : Fin 16384) (d : Fin 1024) : EReal :=
  ∑ e : Fin 32, expG (m ((c : Thread nD τ).loc main_arg0)) (m ((c : Thread nD τ).loc main_arg1)) (m ((c : Thread nD τ).loc main_arg3))
    (m ((c : Thread nD τ).loc main_arg4)) (m ((c : Thread nD τ).loc main_arg5)) e r d

theorem range_moeSum (c : Dev nD) (r : Fin 16384) (d : Fin 1024) : ∑ e ∈ Finset.range 32, termM m c r d e = moeSum m c r d := by
  rw [Finset.sum_range]
  refine Finset.sum_congr rfl fun e _ => ?_
  unfold termM
  rw [dif_pos e.isLt]

/-- The residual stream as launched. -/
abbrev x1A (c : Dev nD) : S16384x1024.Idx → EReal := m ((c : Thread nD τ).loc main_arg2)

/-- The last norm's weight as launched. -/
abbrev fwA (c : Dev nD) : S1024.Idx → EReal := m ((c : Thread nD τ).loc main_arg6)

/-- The residual stream after the layer's experts. -/
def resid (c : Dev nD) (r : Fin 16384) (d : Fin 1024) : EReal :=
  x1A m c (ix2 r d) + moeSum m c r d

/-- The kernel's result, one element. -/
theorem G7_apply (c : Dev nD) (r : Fin 16384) (d : Fin 1024) :
    Value.G7 m c (ix2 r d) = resid m c r d * Ideal.rsqrt (Ideal.div (∑ k : Fin 1024, resid m c r k * resid m c r k)
          (Ideal.ofBits .f32 0x44800000#32) + Ideal.ofBits .f32 0x358637BD#32) * fwA m c (ix1 d) := by
  have hp : Value.pt7Of (ix2 r d) = 8 * (r.val / 1024) + 7 := by
    show 8 * (1 * (r.val / 1024 - 0) + 1 * (d.val / 1024 - 0)) + 7 = _
    have := d.isLt
    omega
  have hlt : 8 * (r.val / 1024) + 7 < cfg0.N := by
    have := r.isLt
    rw [show cfg0.N = 128 from N_0]; omega
  have hl : Value.loc7Of (ix2 r d) = ix2 (⟨r.val % 1024, Nat.mod_lt _ (by decide)⟩ : Fin 1024) d := by
    funext a; apply Fin.ext
    match a with
    | ⟨0, _⟩ => rfl
    | ⟨1, _⟩ => exact Nat.mod_eq_of_lt d.isLt
  unfold Value.G7
  rw [dif_pos (by rw [hp]; exact hlt), hl, Value.fold0_congr m c _ _ (8 * (r.val / 1024) + 7) (by omega) hp, ← Value.outsAt0_sweep m c _ hlt]
  have h0 : ¬(⟨8 * (r.val / 1024) + 7, hlt⟩ : Fin cfg0.N).val % 8 = 0 := by show ¬(8 * (r.val / 1024) + 7) % 8 = 0; omega
  have h1 : (⟨8 * (r.val / 1024) + 7, hlt⟩ : Fin cfg0.N).val % 8 = 7 := by show (8 * (r.val / 1024) + 7) % 8 = 7; omega
  have e := outsAt0_C m c ⟨8 * (r.val / 1024) + 7, hlt⟩ h0 h1
  have hsc : ∀ k : Fin 1024, (outsAt0 m c (8 * (r.val / 1024) + 7) hlt).2 (ix2 (⟨r.val % 1024, Nat.mod_lt _ (by decide)⟩ : Fin 1024) k) = moeSum m c r k := by
    intro k
    rw [scratch_eq m c (r.val / 1024) 7 (by decide) hlt _ k r (by show r.val = 1024 * (r.val / 1024) + r.val % 1024; omega)]
    exact range_moeSum m c r k
  dsimp only at e
  rw [e] at hsc ⊢
  dsimp only at hsc ⊢
  rw [sout_C] at hsc
  rw [out_C, pay2_apply]
  have hx : ∀ k : Fin 1024, (iblk m c 2 ⟨8 * (r.val / 1024) + 7, hlt⟩ : Vec Ideal S1024x1024 .f32) (ix2 (⟨r.val % 1024, Nat.mod_lt _ (by decide)⟩ : Fin 1024) k)
      = x1A m c (ix2 r k) := by
    intro k
    rw [iblk2]
    unfold x1A
    congr 2
    apply Fin.ext
    show 1024 * ((8 * (r.val / 1024) + 7) / 8) + r.val % 1024 = r.val
    omega
  simp only [hx, hsc, iblk6]
  rfl

end Cert.Kernel2Ideal.Moe
-- ==== Proof.MoeRef.lean ====
module

public import proofs.«01_k».proof.Proof.Gen.Reference2Ideal.Read
public import Idealize.ShloMosaic.Lib.Pointwise
public import Idealize.ShloMosaic.PureOps.Ideal.Laws

@[expose] public section

noncomputable section

open Idealize.ShloMosaic Idealize.ShloMosaic.TcCoe Idealize.SL.Sem

namespace Cert.Reference2Ideal.Moe

open Cert.Reference2Ideal Cert.Reference2Ideal.Read

/-- Expert `e`'s contribution to one element of the result, on whole arrays: the gate and the up projection of the row,
    the gate's logistic product, the routing weight, and the down projection. -/
def expG (X : S16384x1024.Idx → EReal) (C : S16384x128.Idx → EReal) (W1 W3 : S32x1024x256.Idx → EReal) (W2 : S32x256x1024.Idx → EReal)
    (e : Fin 32) (r : Fin 16384) (d : Fin 1024) : EReal :=
  ∑ f : Fin 256, ((∑ k : Fin 1024, X (ix2 r k) * W1 (ix3 e k f)) * Ideal.logistic (∑ k : Fin 1024, X (ix2 r k) * W1 (ix3 e k f))
    * (∑ k : Fin 1024, X (ix2 r k) * W3 (ix3 e k f)) * C (ix2 r ⟨e.val, by omega⟩)) * W2 (ix3 e f d)

variable (x0 : Vec Ideal S16384x1024 .bf16) (x1 : Vec Ideal S16384x128 .f32) (x2 : Vec Ideal S16384x1024 .f32) (x3 x4 : Vec Ideal S32x1024x256 .f32)
  (x5 : Vec Ideal S32x256x1024 .f32) (x6 : Vec Ideal S1024 .f32)

theorem one_bits : Ideal.ofBits .f32 0x3F800000#32 = 1 := by simp [Ideal.ofBits, Ideal.ieee, -EReal.coe_mul]; norm_num

theorem v8_apply (r : Fin 16384) (e : Fin 32) (f : Fin 256) :
    val_main_v8 (F := Ideal) x0 x1 x3 x4 (ix3 r e f) =
      (∑ k : Fin 1024, x0 (ix2 r k) * x3 (ix3 e k f)) * Ideal.logistic (∑ k : Fin 1024, x0 (ix2 r k) * x3 (ix3 e k f))
    * (∑ k : Fin 1024, x0 (ix2 r k) * x4 (ix3 e k f)) * x1 (ix2 r ⟨e.val, by omega⟩) := by
  unfold val_main_v8 val_main_v7 val_main_v6 val_main_v5 val_main_v4 val_main_v3 val_main_v2 val_main_call0_v5 val_main_call0_v4 val_main_call0_cst_0 val_main_call0_v3
    val_main_call0_v2 val_main_call0_cst val_main_call0_v1 val_main_call0_v0 val_main_v1 val_main_v0
  simp only [pointwise, zero_add]
  have hi : (ix2 ⟨![0, 0] 0 + r.val, by show 0 + r.val < 16384; omega⟩ ⟨![0, 0] 1 + e.val, by show 0 + e.val < 128; omega⟩ : S16384x128.Idx) = ix2 r ⟨e.val, by omega⟩ := by
    funext a; apply Fin.ext
    match a with
    | ⟨0, _⟩ => show 0 + r.val = r.val; omega
    | ⟨1, _⟩ => show 0 + e.val = e.val; omega
  exact congrArg (fun z => (∑ k : Fin 1024, x0 (ix2 r k) * x3 (ix3 e k f)) * Ideal.logistic (∑ k : Fin 1024, x0 (ix2 r k) * x3 (ix3 e k f))
    * (∑ k : Fin 1024, x0 (ix2 r k) * x4 (ix3 e k f)) * x1 z) hi

theorem v9_apply (r : Fin 16384) (d : Fin 1024) :
    val_main_v9 (F := Ideal) x0 x1 x3 x4 x5 (ix2 r d) = ∑ e : Fin 32, expG x0 x1 x3 x4 x5 e r d := by
  unfold val_main_v9
  simp only [pointwise]
  simp only [v8_apply, zero_add]
  rfl

/-- The residual stream after the layer's experts. -/
def resid (r : Fin 16384) (d : Fin 1024) : EReal := x2 (ix2 r d) + ∑ e : Fin 32, expG x0 x1 x3 x4 x5 e r d

/-- The reference's result, one element. -/
theorem result_apply (r : Fin 16384) (d : Fin 1024) :
    val_main_v23 (F := Ideal) x0 x1 x2 x3 x4 x5 x6 (ix2 r d) = resid x0 x1 x2 x3 x4 x5 r d * Ideal.rsqrt (Ideal.div (∑ k : Fin 1024, resid x0 x1 x2 x3 x4 x5 r k * resid x0 x1 x2 x3 x4 x5 r k)
          (Ideal.ofBits .f32 0x44800000#32) + Ideal.ofBits .f32 0x358637BD#32) * x6 (ix1 d) := by
  unfold val_main_v23 val_main_v22 val_main_v21 val_main_v20 val_main_v19 val_main_v18 val_main_v17 val_main_v16 val_main_cst_1 val_main_v15 val_main_v14 val_main_cst_0
    val_main_v13 val_main_v12 val_main_cst val_main_v11 val_main_v10
  simp only [pointwise]
  have h : ∀ k : Fin 1024, x2 (ix2 r k) + val_main_v9 (F := Ideal) x0 x1 x3 x4 x5 (ix2 r k) = resid x0 x1 x2 x3 x4 x5 r k := fun k => by rw [v9_apply]; rfl
  rw [h]
  refine congrArg (fun z => resid x0 x1 x2 x3 x4 x5 r d * Ideal.rsqrt (Ideal.div z
          (Ideal.ofBits .f32 0x44800000#32) + Ideal.ofBits .f32 0x358637BD#32) * x6 (ix1 d)) ?_
  rw [zero_add]
  refine Finset.sum_congr rfl fun k _ => ?_
  exact congrArg (fun z => z * z) (h k)

end Cert.Reference2Ideal.Moe
-- ==== Proof.MoeClaim.lean ====
module

public import proofs.«01_k».proof.Defs
public import proofs.«01_k».proof.Proof.MoeFold
public import proofs.«01_k».proof.Proof.MoeRef
public import proofs.«01_k».proof.Proof.Gen.Reference2Ideal.Run
public import Idealize.ShloMosaic.Lib.Claim

@[expose] public section

noncomputable section

open Idealize.ShloMosaic Idealize.ShloMosaic.TcCoe Idealize.SL.Sem

namespace Cert.Proof.MoeClaim

/-- The reference of the experts runs and leaves its arguments. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array is the reference's, over the extended reals. -/
theorem algebraic : Cert.algebraic_Kernel2Ideal_Reference2Ideal := by
  intro m ρ m' ρ' _ hagree
  refine ⟨fun c => Cert.Kernel2Ideal.Value.G7 m c, Cert.Kernel2Ideal.Value.run (F := Ideal) m ρ, ?_⟩
  refine (θ_run Cert.Reference2Ideal.defs _ _).mono (fun _ h c => ⟨(h c).1.trans ?_, (h c).2⟩) (Cert.Reference2Ideal.Value.run (F := Ideal) m' ρ')
  obtain ⟨a0, a1, a2, a3, a4, a5, a6⟩ := hagree c
  rw [Cert.Reference2Ideal.Read.val_main_v23_eq, a0, a1, a2, a3, a4, a5, a6]
  funext i
  obtain ⟨r, d, rfl⟩ : ∃ (r : Fin 16384) (d : Fin 1024), i = ix2 r d := ⟨i 0, i 1, by funext a; match a with | ⟨0, _⟩ => rfl | ⟨1, _⟩ => rfl⟩
  exact (Cert.Reference2Ideal.Moe.result_apply _ _ _ _ _ _ _ r d).trans (Cert.Kernel2Ideal.Moe.G7_apply m c r d).symm

end Cert.Proof.MoeClaim
-- ==== Proof.NormBlock.lean ====
module

public import proofs.«01_k».proof.Proof.Gen.Kernel3Ideal.Value
public import Idealize.ShloMosaic.Lib.Pointwise
public import Idealize.ShloMosaic.PureOps.Ideal.Laws

@[expose] public section

noncomputable section

open Idealize.ShloMosaic Idealize.ShloMosaic.TcCoe Idealize.SL.Sem

namespace Cert.Kernel3Ideal.Norm

open Cert.Kernel3Ideal Cert.Kernel3Ideal.Gen

/-- One element of the normalized row of a block. -/
def hB (x0 : S512x1024.Idx → EReal) (x1 : S1x1024.Idx → EReal) (r : Fin 512) (k : Fin 1024) : EReal :=
  x0 (ix2 r k) * Ideal.rsqrt (Ideal.div (∑ j : Fin 1024, x0 (ix2 r j) * x0 (ix2 r j)) (Ideal.ofBits .f32 0x44800000#32) + Ideal.ofBits .f32 0x358637BD#32) * x1 (ix2 0 k)

/-- One element of the projection of a block: column `col` of the combined weight. -/
def pB (x0 : S512x1024.Idx → EReal) (x1 : S1x1024.Idx → EReal) (x2 : S1024x3584.Idx → EReal) (r : Fin 512) (col : Fin 3584) : EReal :=
  ∑ k : Fin 1024, hB x0 x1 r k * x2 (ix2 k col)

/-- The kernel's logarithm of the logistic function. -/
def lsK (z : EReal) : EReal := min z 0 - Ideal.log (1 + Ideal.exp (0 - max z (-z)))

/-- The kernel's logarithm of a sum of exponentials. -/
def laK (a b : EReal) : EReal := max a b + Ideal.log (1 + Ideal.exp (0 - max (a - b) (-(a - b))))

theorem one_bits : Ideal.ofBits .f32 0x3F800000#32 = 1 := by simp [Ideal.ofBits, Ideal.ieee, -EReal.coe_mul]; norm_num

theorem pay3_apply (x0 : Vec Ideal S512x1024 .f32) (x1 : Vec Ideal S1x1024 .f32) (r : Fin 512) (k : Fin 1024) :
    k0_pay3 x0 x1 (ix2 r k) = hB x0 x1 r k := by
  unfold k0_pay3
  simp only [pointwise, zero_add]
  rfl

theorem ld_w (j : Nat) (hj : j + 512 ≤ 3584) (inb : ∀ a, (![0, j] : Fin 2 → Nat) a + S1024x512.size a ≤ S1024x3584.size a) (x2 : Vec Ideal S1024x3584 .bf16) (k : Fin 1024) (d : Fin 512) :
    View.ld x2 (Rect.unit (s := S1024x3584) ![0, j] S1024x512.size inb) (ix2 k d) = x2 (ix2 k (⟨j + d.val, by omega⟩ : Fin 3584)) := by
  show x2 _ = x2 _
  congr 1
  funext a; apply Fin.ext
  match a with
  | ⟨0, _⟩ => show 0 + 1 * k.val = k.val; omega
  | ⟨1, _⟩ => show j + 1 * d.val = j + d.val; omega

theorem hz : (![0, 0] : Fin 2 → Nat) = fun _ => 0 := by funext a; match a with | ⟨0, _⟩ => rfl | ⟨1, _⟩ => rfl

variable (x0 : Vec Ideal S512x1024 .f32) (x1 : Vec Ideal S1x1024 .f32) (x2 : Vec Ideal S1024x3584 .bf16) (x3 x4 : Vec Ideal S1x512 .f32)

theorem pay11_eq : k0_pay11 x0 x1 x2 x3 x4 = k0_pay3 x0 x1 := by
  unfold k0_pay11
  rw [View.ld_unit_zero (S := S512x1024) hz, View.ld_unit_zero (S := S1x1024) hz]

theorem pay4_apply (w : Vec Ideal S1024x512 .bf16) (r d : Fin 512) :
    k0_pay4 x0 x1 w (ix2 r d) = (∑ k : Fin 1024, hB x0 x1 r k * w (ix2 k d)) * Ideal.logistic (∑ k : Fin 1024, hB x0 x1 r k * w (ix2 k d)) := by
  unfold k0_pay4
  simp only [pointwise, zero_add, pay3_apply]

theorem pay9_apply (w : Vec Ideal S1024x512 .bf16) (r d : Fin 512) :
    k0_pay9 (k0_pay3 x0 x1) w (ix2 r d) = (∑ k : Fin 1024, hB x0 x1 r k * w (ix2 k d)) * Ideal.logistic (∑ k : Fin 1024, hB x0 x1 r k * w (ix2 k d)) := by
  unfold k0_pay9
  simp only [pointwise, zero_add, pay3_apply]

theorem pay8_apply (w : Vec Ideal S1024x512 .bf16) (r d : Fin 512) :
    k0_pay8 (k0_pay3 x0 x1) w (ix2 r d) = ∑ k : Fin 1024, hB x0 x1 r k * w (ix2 k d) := by
  unfold k0_pay8
  simp only [pointwise, zero_add, pay3_apply]

theorem pay1_apply (w : Vec Ideal S1024x512 .bf16) (r d : Fin 512) :
    k0_pay1 (k0_pay3 x0 x1) w (ix2 r d) = ∑ k : Fin 1024, hB x0 x1 r k * w (ix2 k d) := by
  unfold k0_pay1
  simp only [pointwise, zero_add, pay3_apply]

theorem pay2_apply (w : Vec Ideal S1024x512 .bf16) (r d : Fin 512) :
    k0_pay2 (k0_pay3 x0 x1) w (ix2 r d) = ∑ k : Fin 1024, hB x0 x1 r k * w (ix2 k d) := by
  unfold k0_pay2
  simp only [pointwise, zero_add, pay3_apply]

theorem pay10_apply (w : Vec Ideal S1024x512 .bf16) (r d : Fin 512) :
    k0_pay10 (k0_pay3 x0 x1) w (ix2 r d) = (∑ k : Fin 1024, hB x0 x1 r k * w (ix2 k d)) * Ideal.ofBits .f32 0x3E000000#32 := by
  unfold k0_pay10
  simp only [pointwise, zero_add, pay3_apply]

theorem pay5_apply (w : Vec Ideal S1024x512 .bf16) (r d : Fin 512) :
    k0_pay5 x0 x1 w (ix2 r d) = lsK (∑ k : Fin 1024, hB x0 x1 r k * w (ix2 k d)) := by
  unfold k0_pay5
  simp only [pointwise, zero_add, pay3_apply, one_bits]
  rfl

theorem pay7_apply (y : FVec Ideal S512x512 .f32) (r d : Fin 512) :
    k0_pay7 y (k0_pay6 x3) x4 (ix2 r d) = laK (x3 (ix2 0 d)) (x4 (ix2 0 d) + y (ix2 r d)) := by
  unfold k0_pay7 k0_pay6
  simp only [pointwise, one_bits]
  rfl

theorem out5_apply (r : Fin 512) (d : Fin 512) :
    out0_5 x0 x1 x2 x3 x4 (ix2 r d) = pB x0 x1 x2 r ⟨0 + d.val, by omega⟩ * Ideal.logistic (pB x0 x1 x2 r ⟨0 + d.val, by omega⟩) := by
  unfold out0_5
  rw [View.canon_unit_zero (S := S512x512) hz, View.ld_unit_zero (S := S512x1024) hz, View.ld_unit_zero (S := S1x1024) hz]
  have hw : ∀ k : Fin 1024, View.ld x2 r0_2 (ix2 k d) = x2 (ix2 k ⟨0 + d.val, by omega⟩) := fun k => ld_w 0 (by decide) _ x2 k d
  simp only [pay4_apply]
  simp only [hw]
  rfl

theorem out6_apply (r : Fin 512) (d : Fin 512) :
    out0_6 x0 x1 x2 x3 x4 (ix2 r d) = laK (x3 (ix2 0 d)) (x4 (ix2 0 d) + lsK (pB x0 x1 x2 r ⟨512 + d.val, by omega⟩)) := by
  unfold out0_6
  rw [View.canon_unit_zero (S := S512x512) hz, View.ld_unit_zero (S := S512x1024) hz, View.ld_unit_zero (S := S1x1024) hz, View.ld_unit_zero (S := S1x512) hz, View.ld_unit_zero (S := S1x512) hz]
  have hw : ∀ k : Fin 1024, View.ld x2 r0_4 (ix2 k d) = x2 (ix2 k ⟨512 + d.val, by omega⟩) := fun k => ld_w 512 (by decide) _ x2 k d
  simp only [pay7_apply, pay5_apply]
  simp only [hw]
  rfl

theorem out7_apply (r : Fin 512) (d : Fin 512) :
    out0_7 x0 x1 x2 x3 x4 (ix2 r d) = pB x0 x1 x2 r ⟨1024 + d.val, by omega⟩ := by
  unfold out0_7
  rw [View.canon_unit_zero (S := S512x512) hz, pay11_eq]
  have hw : ∀ k : Fin 1024, View.ld x2 r0_6 (ix2 k d) = x2 (ix2 k ⟨1024 + d.val, by omega⟩) := fun k => ld_w 1024 (by decide) _ x2 k d
  simp only [pay8_apply]
  simp only [hw]
  rfl

theorem out8_apply (r : Fin 512) (d : Fin 512) :
    out0_8 x0 x1 x2 x3 x4 (ix2 r d) = pB x0 x1 x2 r ⟨1536 + d.val, by omega⟩ * Ideal.logistic (pB x0 x1 x2 r ⟨1536 + d.val, by omega⟩) := by
  unfold out0_8
  rw [View.canon_unit_zero (S := S512x512) hz, pay11_eq]
  have hw : ∀ k : Fin 1024, View.ld x2 r0_7 (ix2 k d) = x2 (ix2 k ⟨1536 + d.val, by omega⟩) := fun k => ld_w 1536 (by decide) _ x2 k d
  simp only [pay9_apply]
  simp only [hw]
  rfl

theorem out9_apply (r : Fin 512) (d : Fin 512) :
    out0_9 x0 x1 x2 x3 x4 (ix2 r d) = pB x0 x1 x2 r ⟨2048 + d.val, by omega⟩ * Ideal.ofBits .f32 0x3E000000#32 := by
  unfold out0_9
  rw [View.canon_unit_zero (S := S512x512) hz, pay11_eq]
  have hw : ∀ k : Fin 1024, View.ld x2 r0_8 (ix2 k d) = x2 (ix2 k ⟨2048 + d.val, by omega⟩) := fun k => ld_w 2048 (by decide) _ x2 k d
  simp only [pay10_apply]
  simp only [hw]
  rfl

theorem out10_apply (r : Fin 512) (d : Fin 512) :
    out0_10 x0 x1 x2 x3 x4 (ix2 r d) = pB x0 x1 x2 r ⟨2560 + d.val, by omega⟩ := by
  unfold out0_10
  rw [View.canon_unit_zero (S := S512x512) hz, pay11_eq]
  have hw : ∀ k : Fin 1024, View.ld x2 r0_9 (ix2 k d) = x2 (ix2 k ⟨2560 + d.val, by omega⟩) := fun k => ld_w 2560 (by decide) _ x2 k d
  simp only [pay1_apply]
  simp only [hw]
  rfl

theorem out11_apply (r : Fin 512) (d : Fin 512) :
    out0_11 x0 x1 x2 x3 x4 (ix2 r d) = pB x0 x1 x2 r ⟨3072 + d.val, by omega⟩ := by
  unfold out0_11
  rw [View.canon_unit_zero (S := S512x512) hz, pay11_eq]
  have hw : ∀ k : Fin 1024, View.ld x2 r0_10 (ix2 k d) = x2 (ix2 k ⟨3072 + d.val, by omega⟩) := fun k => ld_w 3072 (by decide) _ x2 k d
  simp only [pay2_apply]
  simp only [hw]
  rfl

end Cert.Kernel3Ideal.Norm
-- ==== Proof.NormArr.lean ====
module

public import proofs.«01_k».proof.Proof.NormBlock
public import Idealize.ShloMosaic.Lib.Pointwise

@[expose] public section

noncomputable section

open Idealize.ShloMosaic Idealize.ShloMosaic.TcCoe Idealize.SL.Sem

namespace Cert.Kernel3Ideal.Norm

open Cert.Kernel3Ideal Cert.Kernel3Ideal.Gen

variable (m : (ℓ : Loc nD τ sig) → Buf (Elt Ideal) ℓ)

theorem V_v0 (c : Dev nD) (k : Fin 1024) : V m c main_v0 (ix2 0 k) = m ((c : Thread nD τ).loc main_arg1) (ix1 k) := by
  have h : V m c main_v0 = (broadcastInDim S1x1024 ![1] bcast_S1024_S1x1024_1 (m ((c : Thread nD τ).loc main_arg1) : FVec Ideal S1024 .f32) : FVec Ideal S1x1024 .f32) := by
    unfold_abbrev_sides
    after_results
  rw [h]
  simp only [pointwise]
  rfl

theorem V_v2 (c : Dev nD) (k : Fin 512) : V m c main_v2 (ix2 0 k) = m ((c : Thread nD τ).loc main_arg3) (ix1 k) := by
  have h : V m c main_v2 = (broadcastInDim S1x512 ![1] bcast_S512_S1x512_1 (m ((c : Thread nD τ).loc main_arg3) : FVec Ideal S512 .f32) : FVec Ideal S1x512 .f32) := by
    unfold_abbrev_sides
    after_results
  rw [h]
  simp only [pointwise]
  rfl

theorem V_v3 (c : Dev nD) (k : Fin 512) : V m c main_v3 (ix2 0 k) = m ((c : Thread nD τ).loc main_arg4) (ix1 k) := by
  have h : V m c main_v3 = (broadcastInDim S1x512 ![1] bcast_S512_S1x512_1 (m ((c : Thread nD τ).loc main_arg4) : FVec Ideal S512 .f32) : FVec Ideal S1x512 .f32) := by
    unfold_abbrev_sides
    after_results
  rw [h]
  simp only [pointwise]
  rfl

theorem V_v1 (c : Dev nD) (k : Fin 1024) (d : Fin 3584) : V m c main_v1 (ix2 k d) = m ((c : Thread nD τ).loc main_arg2) (ix2 k d) := by
  have h : V m c main_v1 = (truncf .bf16 (m ((c : Thread nD τ).loc main_arg2) : FVec Ideal S1024x3584 .f32) bitsLt_bf16_f32 : FVec Ideal S1024x3584 .bf16) := by
    unfold_abbrev_sides
    after_results
  rw [h]; rfl

/-- Which block each window takes at each grid point. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem idx_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The grid point whose block holds row `r`. -/
def tOf (r : Fin 16384) : Fin cfg0.N := ⟨r.val / 512, by rw [show cfg0.N = 32 from N_0]; omega⟩

/-- The row within its block. -/
def rOf (r : Fin 16384) : Fin 512 := ⟨r.val % 512, Nat.mod_lt _ (by decide)⟩

theorem iblk0 (c : Dev nD) (r : Fin 16384) (k : Fin 1024) :
    (iblk m c 0 (tOf r) : Vec Ideal S512x1024 .f32) (ix2 (rOf r) k) = m ((c : Thread nD τ).loc main_arg0) (ix2 r k) := by
  rw [← V_main_arg0 m c]
  show V m c main_arg0 _ = V m c main_arg0 _
  congr 1
  obtain ⟨e0, e1, -⟩ := idx_in (tOf r)
  have ht : (tOf r).val = r.val / 512 := rfl
  funext a; apply Fin.ext
  match a with
  | ⟨0, _⟩ => show win0_0.index (tOf r) (0 : Fin 2) * 512 + 1 * (r.val % 512) = r.val; omega
  | ⟨1, _⟩ => show win0_0.index (tOf r) (1 : Fin 2) * 1024 + 1 * k.val = k.val; omega

theorem iblk2 (c : Dev nD) (t : Fin cfg0.N) (k : Fin 1024) (d : Fin 3584) :
    (iblk m c 2 t : Vec Ideal S1024x3584 .bf16) (ix2 k d) = m ((c : Thread nD τ).loc main_arg2) (ix2 k d) := by
  rw [← V_v1 m c]
  show V m c main_v1 _ = V m c main_v1 _
  congr 1
  obtain ⟨-, -, -, -, e0, e1, -⟩ := idx_in t
  funext a; apply Fin.ext
  match a with
  | ⟨0, _⟩ => show win0_2.index t (0 : Fin 2) * 1024 + 1 * k.val = k.val; omega
  | ⟨1, _⟩ => show win0_2.index t (1 : Fin 2) * 3584 + 1 * d.val = d.val; omega

theorem iblk1 (c : Dev nD) (t : Fin cfg0.N) (k : Fin 1024) :
    (iblk m c 1 t : Vec Ideal S1x1024 .f32) (ix2 0 k) = m ((c : Thread nD τ).loc main_arg1) (ix1 k) := by
  rw [← V_v0 m c]
  show V m c main_v0 _ = V m c main_v0 _
  congr 1
  obtain ⟨-, -, e0, e1, -⟩ := idx_in t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk3 (c : Dev nD) (t : Fin cfg0.N) (k : Fin 512) :
    (iblk m c 3 t : Vec Ideal S1x512 .f32) (ix2 0 k) = m ((c : Thread nD τ).loc main_arg3) (ix1 k) := by
  rw [← V_v2 m c]
  show V m c main_v2 _ = V m c main_v2 _
  congr 1
  obtain ⟨-, -, -, -, -, -, e0, e1, -⟩ := idx_in t
  funext a; apply Fin.ext
  match a with
  | ⟨0, _⟩ => show win0_3.index t (0 : Fin 2) * 1 + 1 * 0 = 0; omega
  | ⟨1, _⟩ => show win0_3.index t (1 : Fin 2) * 512 + 1 * k.val = k.val; omega

theorem iblk4 (c : Dev nD) (t : Fin cfg0.N) (k : Fin 512) :
    (iblk m c 4 t : Vec Ideal S1x512 .f32) (ix2 0 k) = m ((c : Thread nD τ).loc main_arg4) (ix1 k) := by
  rw [← V_v3 m c]
  show V m c main_v3 _ = V m c main_v3 _
  congr 1
  obtain ⟨-, -, -, -, -, -, -, -, e0, e1⟩ := idx_in t
  funext a; apply Fin.ext
  match a with
  | ⟨0, _⟩ => show win0_4.index t (0 : Fin 2) * 1 + 1 * 0 = 0; omega
  | ⟨1, _⟩ => show win0_4.index t (1 : Fin 2) * 512 + 1 * k.val = k.val; omega

abbrev xA (c : Dev nD) : S16384x1024.Idx → EReal := m ((c : Thread nD τ).loc main_arg0)
abbrev nwA (c : Dev nD) : S1024.Idx → EReal := m ((c : Thread nD τ).loc main_arg1)
abbrev wA (c : Dev nD) : S1024x3584.Idx → EReal := m ((c : Thread nD τ).loc main_arg2)
abbrev laA (c : Dev nD) : S512.Idx → EReal := m ((c : Thread nD τ).loc main_arg3)
abbrev lcA (c : Dev nD) : S512.Idx → EReal := m ((c : Thread nD τ).loc main_arg4)

/-- One element of the normalized row, on whole arrays. -/
def hG (X : S16384x1024.Idx → EReal) (W : S1024.Idx → EReal) (r : Fin 16384) (k : Fin 1024) : EReal :=
  X (ix2 r k) * Ideal.rsqrt (Ideal.div (∑ j : Fin 1024, X (ix2 r j) * X (ix2 r j)) (Ideal.ofBits .f32 0x44800000#32) + Ideal.ofBits .f32 0x358637BD#32) * W (ix1 k)

/-- One element of the combined projection, on whole arrays. -/
def pG (X : S16384x1024.Idx → EReal) (W : S1024.Idx → EReal) (M : S1024x3584.Idx → EReal) (r : Fin 16384) (col : Fin 3584) : EReal :=
  ∑ k : Fin 1024, hG X W r k * M (ix2 k col)

theorem pB_eq (c : Dev nD) (r : Fin 16384) (col : Fin 3584) :
    pB (iblk m c 0 (tOf r)) (iblk m c 1 (tOf r)) (iblk m c 2 (tOf r)) (rOf r) col = pG (xA m c) (nwA m c) (wA m c) r col := by
  unfold pB hB
  simp only [iblk0 m c r]
  simp only [iblk1 m c, iblk2 m c]
  rfl

/-- Result 1 of the kernel, one element. -/
theorem final5 (c : Dev nD) (r : Fin 16384) (d : Fin 512) :
    (dats m 0 c).arrAt 5 cfg0.N (ix2 r d : S16384x512.Idx) = pG (xA m c) (nwA m c) (wA m c) r ⟨0 + d.val, by omega⟩ * Ideal.logistic (pG (xA m c) (nwA m c) (wA m c) r ⟨0 + d.val, by omega⟩) := by
  have e := congrFun (Value.blocks5 m c (tOf r) (flush0_5 (tOf r))) (ix2 (rOf r) d)
  rw [Value.flushed5] at e
  have ho := out5_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 5 cfg0.N _ = (dats m 0 c).arrAt 5 cfg0.N _
  congr 1
  obtain ⟨⟨e0, e1⟩, -⟩ := idx_out (tOf r)
  have ht : (tOf r).val = r.val / 512 := rfl
  funext a; apply Fin.ext
  match a with
  | ⟨0, _⟩ => show r.val = win0_5.index (tOf r) (0 : Fin 2) * 512 + 1 * (r.val % 512); omega
  | ⟨1, _⟩ => show d.val = win0_5.index (tOf r) (1 : Fin 2) * 512 + 1 * d.val; omega

/-- Result 2 of the kernel, one element. -/
theorem final6 (c : Dev nD) (r : Fin 16384) (d : Fin 512) :
    (dats m 0 c).arrAt 6 cfg0.N (ix2 r d : S16384x512.Idx) = laK (laA m c (ix1 d)) (lcA m c (ix1 d) + lsK (pG (xA m c) (nwA m c) (wA m c) r ⟨512 + d.val, by omega⟩)) := by
  have e := congrFun (Value.blocks6 m c (tOf r) (flush0_6 (tOf r))) (ix2 (rOf r) d)
  rw [Value.flushed6] at e
  have ho := out6_apply (iblk m c 0 (tOf r)) (iblk m c 1 (tOf r)) (iblk m c 2 (tOf r)) (iblk m c 3 (tOf r)) (iblk m c 4 (tOf r)) (rOf r) d
  rw [pB_eq, iblk3 m c, iblk4 m c] at ho
  refine Eq.trans ?_ (e.trans ho)
  show (dats m 0 c).arrAt 6 cfg0.N _ = (dats m 0 c).arrAt 6 cfg0.N _
  congr 1
  obtain ⟨-, ⟨e0, e1⟩, -⟩ := idx_out (tOf r)
  have ht : (tOf r).val = r.val / 512 := rfl
  funext a; apply Fin.ext
  match a with
  | ⟨0, _⟩ => show r.val = win0_6.index (tOf r) (0 : Fin 2) * 512 + 1 * (r.val % 512); omega
  | ⟨1, _⟩ => show d.val = win0_6.index (tOf r) (1 : Fin 2) * 512 + 1 * d.val; omega

/-- Result 3 of the kernel, one element. -/
theorem final7 (c : Dev nD) (r : Fin 16384) (d : Fin 512) :
    (dats m 0 c).arrAt 7 cfg0.N (ix2 r d : S16384x512.Idx) = pG (xA m c) (nwA m c) (wA m c) r ⟨1024 + d.val, by omega⟩ := by
  have e := congrFun (Value.blocks7 m c (tOf r) (flush0_7 (tOf r))) (ix2 (rOf r) d)
  rw [Value.flushed7] at e
  have ho := out7_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 7 cfg0.N _ = (dats m 0 c).arrAt 7 cfg0.N _
  congr 1
  obtain ⟨-, -, ⟨e0, e1⟩, -⟩ := idx_out (tOf r)
  have ht : (tOf r).val = r.val / 512 := rfl
  funext a; apply Fin.ext
  match a with
  | ⟨0, _⟩ => show r.val = win0_7.index (tOf r) (0 : Fin 2) * 512 + 1 * (r.val % 512); omega
  | ⟨1, _⟩ => show d.val = win0_7.index (tOf r) (1 : Fin 2) * 512 + 1 * d.val; omega

/-- Result 4 of the kernel, one element. -/
theorem final8 (c : Dev nD) (r : Fin 16384) (d : Fin 512) :
    (dats m 0 c).arrAt 8 cfg0.N (ix2 r d : S16384x512.Idx) = pG (xA m c) (nwA m c) (wA m c) r ⟨1536 + d.val, by omega⟩ * Ideal.logistic (pG (xA m c) (nwA m c) (wA m c) r ⟨1536 + d.val, by omega⟩) := by
  have e := congrFun (Value.blocks8 m c (tOf r) (flush0_8 (tOf r))) (ix2 (rOf r) d)
  rw [Value.flushed8] at e
  have ho := out8_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 8 cfg0.N _ = (dats m 0 c).arrAt 8 cfg0.N _
  congr 1
  obtain ⟨-, -, -, ⟨e0, e1⟩, -⟩ := idx_out (tOf r)
  have ht : (tOf r).val = r.val / 512 := rfl
  funext a; apply Fin.ext
  match a with
  | ⟨0, _⟩ => show r.val = win0_8.index (tOf r) (0 : Fin 2) * 512 + 1 * (r.val % 512); omega
  | ⟨1, _⟩ => show d.val = win0_8.index (tOf r) (1 : Fin 2) * 512 + 1 * d.val; omega

/-- Result 5 of the kernel, one element. -/
theorem final9 (c : Dev nD) (r : Fin 16384) (d : Fin 512) :
    (dats m 0 c).arrAt 9 cfg0.N (ix2 r d : S16384x512.Idx) = pG (xA m c) (nwA m c) (wA m c) r ⟨2048 + d.val, by omega⟩ * Ideal.ofBits .f32 0x3E000000#32 := by
  have e := congrFun (Value.blocks9 m c (tOf r) (flush0_9 (tOf r))) (ix2 (rOf r) d)
  rw [Value.flushed9] at e
  have ho := out9_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 9 cfg0.N _ = (dats m 0 c).arrAt 9 cfg0.N _
  congr 1
  obtain ⟨-, -, -, -, ⟨e0, e1⟩, -⟩ := idx_out (tOf r)
  have ht : (tOf r).val = r.val / 512 := rfl
  funext a; apply Fin.ext
  match a with
  | ⟨0, _⟩ => show r.val = win0_9.index (tOf r) (0 : Fin 2) * 512 + 1 * (r.val % 512); omega
  | ⟨1, _⟩ => show d.val = win0_9.index (tOf r) (1 : Fin 2) * 512 + 1 * d.val; omega

/-- Result 6 of the kernel, one element. -/
theorem final10 (c : Dev nD) (r : Fin 16384) (d : Fin 512) :
    (dats m 0 c).arrAt 10 cfg0.N (ix2 r d : S16384x512.Idx) = pG (xA m c) (nwA m c) (wA m c) r ⟨2560 + d.val, by omega⟩ := by
  have e := congrFun (Value.blocks10 m c (tOf r) (flush0_10 (tOf r))) (ix2 (rOf r) d)
  rw [Value.flushed10] at e
  have ho := out10_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 10 cfg0.N _ = (dats m 0 c).arrAt 10 cfg0.N _
  congr 1
  obtain ⟨-, -, -, -, -, ⟨e0, e1⟩, -⟩ := idx_out (tOf r)
  have ht : (tOf r).val = r.val / 512 := rfl
  funext a; apply Fin.ext
  match a with
  | ⟨0, _⟩ => show r.val = win0_10.index (tOf r) (0 : Fin 2) * 512 + 1 * (r.val % 512); omega
  | ⟨1, _⟩ => show d.val = win0_10.index (tOf r) (1 : Fin 2) * 512 + 1 * d.val; omega

/-- Result 7 of the kernel, one element. -/
theorem final11 (c : Dev nD) (r : Fin 16384) (d : Fin 512) :
    (dats m 0 c).arrAt 11 cfg0.N (ix2 r d : S16384x512.Idx) = pG (xA m c) (nwA m c) (wA m c) r ⟨3072 + d.val, by omega⟩ := by
  have e := congrFun (Value.blocks11 m c (tOf r) (flush0_11 (tOf r))) (ix2 (rOf r) d)
  rw [Value.flushed11] at e
  have ho := out11_apply (iblk m c 0 (tOf r)) (iblk m c 1 (tOf r)) (iblk m c 2 (tOf r)) (iblk m c 3 (tOf r)) (iblk m c 4 (tOf r)) (rOf r) d
  rw [pB_eq] at ho
  refine Eq.trans ?_ (e.trans ho)
  show (dats m 0 c).arrAt 11 cfg0.N _ = (dats m 0 c).arrAt 11 cfg0.N _
  congr 1
  obtain ⟨-, -, -, -, -, -, ⟨e0, e1⟩⟩ := idx_out (tOf r)
  have ht : (tOf r).val = r.val / 512 := rfl
  funext a; apply Fin.ext
  match a with
  | ⟨0, _⟩ => show r.val = win0_11.index (tOf r) (0 : Fin 2) * 512 + 1 * (r.val % 512); omega
  | ⟨1, _⟩ => show d.val = win0_11.index (tOf r) (1 : Fin 2) * 512 + 1 * d.val; omega

end Cert.Kernel3Ideal.Norm
-- ==== Proof.NormRef.lean ====
module

public import proofs.«01_k».proof.Proof.Gen.Reference3Ideal.Read
public import Idealize.ShloMosaic.Lib.Pointwise
public import Idealize.ShloMosaic.PureOps.Ideal.Laws

@[expose] public section

noncomputable section

open Idealize.ShloMosaic Idealize.ShloMosaic.TcCoe Idealize.SL.Sem

namespace Cert.Reference3Ideal.Norm

open Cert.Reference3Ideal Cert.Reference3Ideal.Read

/-- One element of the normalized row. -/
def hG (X : S16384x1024.Idx → EReal) (W : S1024.Idx → EReal) (r : Fin 16384) (k : Fin 1024) : EReal :=
  X (ix2 r k) * Ideal.rsqrt (Ideal.div (∑ j : Fin 1024, X (ix2 r j) * X (ix2 r j)) (Ideal.ofBits .f32 0x44800000#32) + Ideal.ofBits .f32 0x358637BD#32) * W (ix1 k)

/-- One element of the combined projection. -/
def pG (X : S16384x1024.Idx → EReal) (W : S1024.Idx → EReal) (M : S1024x3584.Idx → EReal) (r : Fin 16384) (col : Fin 3584) : EReal :=
  ∑ k : Fin 1024, hG X W r k * M (ix2 k col)

/-- The reference's logarithm of the logistic function. -/
def lsR (z : EReal) : EReal := -(max (-z) 0 + Ideal.log1p (Ideal.exp (-(max (-z - 0) (-(-z - 0))))))

/-- The reference's logarithm of a sum of exponentials. -/
def laR (a b : EReal) : EReal := max a b + Ideal.log1p (Ideal.exp (-(max (a - b) (-(a - b)))))

variable (x0 : Vec Ideal S16384x1024 .f32) (x1 : Vec Ideal S1024 .f32) (x2 : Vec Ideal S1024x3584 .f32) (x3 x4 : Vec Ideal S512 .f32)

theorem v12_apply (r : Fin 16384) (k : Fin 1024) : val_main_v12 (F := Ideal) x0 x1 (ix2 r k) = hG x0 x1 r k := by
  unfold val_main_v12 val_main_v11 val_main_v10 val_main_v9 val_main_v8 val_main_v7 val_main_v6 val_main_v5 val_main_v4 val_main_v3 val_main_v2 val_main_v1 val_main_v0
    val_main_cst val_main_cst_0 val_main_cst_1
  simp only [pointwise, zero_add]
  rfl

theorem v13_apply (r : Fin 16384) (col : Fin 3584) : val_main_v13 (F := Ideal) x0 x1 x2 (ix2 r col) = pG x0 x1 x2 r col := by
  unfold val_main_v13
  simp only [pointwise, zero_add, v12_apply]
  rfl

theorem slice_eq (j : Nat) (hj : j + 512 ≤ 3584) (h : S16384x3584.Slices ![0, j] S16384x512) (v : Vec Ideal S16384x3584 .f32) (r : Fin 16384) (d : Fin 512) :
    extractStridedSlice S16384x512 ![0, j] v h (ix2 r d) = v (ix2 r ⟨j + d.val, by omega⟩) := by
  show v _ = v _
  congr 1
  funext a; apply Fin.ext
  match a with
  | ⟨0, _⟩ => show 0 + r.val = r.val; omega
  | ⟨1, _⟩ => show j + d.val = j + d.val; rfl

theorem v14_apply (r : Fin 16384) (d : Fin 512) : val_main_v14 (F := Ideal) x0 x1 x2 (ix2 r d) = pG x0 x1 x2 r ⟨0 + d.val, by omega⟩ := by
  unfold val_main_v14; rw [slice_eq 0 (by decide), v13_apply]
theorem v15_apply (r : Fin 16384) (d : Fin 512) : val_main_v15 (F := Ideal) x0 x1 x2 (ix2 r d) = pG x0 x1 x2 r ⟨512 + d.val, by omega⟩ := by
  unfold val_main_v15; rw [slice_eq 512 (by decide), v13_apply]
theorem v16_apply (r : Fin 16384) (d : Fin 512) : val_main_v16 (F := Ideal) x0 x1 x2 (ix2 r d) = pG x0 x1 x2 r ⟨1024 + d.val, by omega⟩ := by
  unfold val_main_v16; rw [slice_eq 1024 (by decide), v13_apply]
theorem v17_apply (r : Fin 16384) (d : Fin 512) : val_main_v17 (F := Ideal) x0 x1 x2 (ix2 r d) = pG x0 x1 x2 r ⟨1536 + d.val, by omega⟩ := by
  unfold val_main_v17; rw [slice_eq 1536 (by decide), v13_apply]
theorem v18_apply (r : Fin 16384) (d : Fin 512) : val_main_v18 (F := Ideal) x0 x1 x2 (ix2 r d) = pG x0 x1 x2 r ⟨2048 + d.val, by omega⟩ := by
  unfold val_main_v18; rw [slice_eq 2048 (by decide), v13_apply]
theorem v19_apply (r : Fin 16384) (d : Fin 512) : val_main_v19 (F := Ideal) x0 x1 x2 (ix2 r d) = pG x0 x1 x2 r ⟨2560 + d.val, by omega⟩ := by
  unfold val_main_v19; rw [slice_eq 2560 (by decide), v13_apply]
theorem v20_apply (r : Fin 16384) (d : Fin 512) : val_main_v20 (F := Ideal) x0 x1 x2 (ix2 r d) = pG x0 x1 x2 r ⟨3072 + d.val, by omega⟩ := by
  unfold val_main_v20; rw [slice_eq 3072 (by decide), v13_apply]

theorem one_bits : Ideal.ofBits .f32 0x3F800000#32 = 1 := by simp [Ideal.ofBits, Ideal.ieee, -EReal.coe_mul]; norm_num

/-- The first result: the recurrence's queries. -/
theorem v40_apply (r : Fin 16384) (d : Fin 512) :
    val_main_v40 (F := Ideal) x0 x1 x2 (ix2 r d) = pG x0 x1 x2 r ⟨0 + d.val, by omega⟩ * Ideal.logistic (pG x0 x1 x2 r ⟨0 + d.val, by omega⟩) := by
  unfold val_main_v40 val_main_v21 val_main_call0_v5 val_main_call0_v4 val_main_call0_cst_0 val_main_call0_v3 val_main_call0_v2 val_main_call0_cst val_main_call0_v1 val_main_call0_v0
  simp only [pointwise, v14_apply, one_bits]
  rfl

/-- The fourth result: the recurrence's output gates. -/
theorem v43_apply (r : Fin 16384) (d : Fin 512) :
    val_main_v43 (F := Ideal) x0 x1 x2 (ix2 r d) = pG x0 x1 x2 r ⟨1536 + d.val, by omega⟩ * Ideal.logistic (pG x0 x1 x2 r ⟨1536 + d.val, by omega⟩) := by
  unfold val_main_v43 val_main_v42 val_main_call2_v5 val_main_call2_v4 val_main_call2_cst_0 val_main_call2_v3 val_main_call2_v2 val_main_call2_cst val_main_call2_v1 val_main_call2_v0
  simp only [pointwise, v17_apply, one_bits]
  rfl

/-- The fifth result: the attention's scaled queries. -/
theorem v46_apply (r : Fin 16384) (d : Fin 512) :
    val_main_v46 (F := Ideal) x0 x1 x2 (ix2 r d) = pG x0 x1 x2 r ⟨2048 + d.val, by omega⟩ * Ideal.ofBits .f32 0x3E000000#32 := by
  unfold val_main_v46 val_main_v45 val_main_v44 val_main_cst_2
  simp only [pointwise, v18_apply]

theorem v41_apply (r : Fin 16384) (d : Fin 512) : val_main_v41 (F := Ideal) x0 x1 x2 (ix2 r d) = pG x0 x1 x2 r ⟨1024 + d.val, by omega⟩ := by
  unfold val_main_v41; simp only [pointwise, v16_apply]
theorem v47_apply (r : Fin 16384) (d : Fin 512) : val_main_v47 (F := Ideal) x0 x1 x2 (ix2 r d) = pG x0 x1 x2 r ⟨2560 + d.val, by omega⟩ := by
  unfold val_main_v47; simp only [pointwise, v19_apply]
theorem v48_apply (r : Fin 16384) (d : Fin 512) : val_main_v48 (F := Ideal) x0 x1 x2 (ix2 r d) = pG x0 x1 x2 r ⟨3072 + d.val, by omega⟩ := by
  unfold val_main_v48; simp only [pointwise, v20_apply]

theorem v22_apply (r : Fin 16384) (d : Fin 512) : val_main_v22 (F := Ideal) x0 x1 x2 (ix2 r d) = lsR (pG x0 x1 x2 r ⟨512 + d.val, by omega⟩) := by
  unfold val_main_v22 val_main_call1_v1 val_main_call1_call0_v11 val_main_call1_call0_v10 val_main_call1_call0_v9 val_main_call1_call0_v8 val_main_call1_call0_v7 val_main_call1_call0_v6
    val_main_call1_call0_v5 val_main_call1_call0_v4 val_main_call1_call0_v3 val_main_call1_call0_v2 val_main_call1_call0_v1 val_main_call1_call0_v0 val_main_call1_call0_cst val_main_call1_v0
  simp only [pointwise, v15_apply, ne_eq, not_true_eq_false, if_false]
  rfl

theorem v25_apply (r : Fin 16384) (d : Fin 512) :
    val_main_v25 (F := Ideal) x0 x1 x2 x4 (ix2 r d) = x4 (ix1 d) + lsR (pG x0 x1 x2 r ⟨512 + d.val, by omega⟩) := by
  unfold val_main_v25 val_main_v24 val_main_v23
  simp only [pointwise, v22_apply]
  rfl

/-- The second result: the logarithm of the forget gates. -/
theorem v39_apply (r : Fin 16384) (d : Fin 512) :
    val_main_v39 (F := Ideal) x0 x1 x2 x3 x4 (ix2 r d) = laR (x3 (ix1 d)) (x4 (ix1 d) + lsR (pG x0 x1 x2 r ⟨512 + d.val, by omega⟩)) := by
  unfold val_main_v39 val_main_v38 val_main_v37 val_main_v36 val_main_v35 val_main_v34 val_main_v33 val_main_v32 val_main_v31 val_main_v30 val_main_v29 val_main_v28 val_main_v27 val_main_v26
  simp only [pointwise, v25_apply, ne_eq, not_true_eq_false, if_false]
  rfl

end Cert.Reference3Ideal.Norm
-- ==== Proof.NormLog.lean ====
module

public import proofs.«01_k».proof.Proof.NormBlock
public import proofs.«01_k».proof.Proof.NormRef

@[expose] public section

noncomputable section

open Idealize.ShloMosaic

namespace Cert.Proof.NormLog

/-- The two sums of exponentials' logarithms are one function. -/
theorem la_eq (a b : EReal) : Cert.Kernel3Ideal.Norm.laK a b = Cert.Reference3Ideal.Norm.laR a b := by
  unfold Cert.Kernel3Ideal.Norm.laK Cert.Reference3Ideal.Norm.laR Ideal.log1p
  rw [zero_sub]

/-- `log (1 + exp x)` is a real number at every `x` that is not plus infinity. -/
theorem log1p_exp_coe (x : EReal) (hx : x ≠ ⊤) : ∃ y : ℝ, Ideal.log (1 + Ideal.exp x) = (y : EReal) := by
  induction x using EReal.rec with
  | bot => exact ⟨0, by show Ideal.log (1 + 0) = _; rw [add_zero]; show (if (1 : ℝ) ≤ 0 then (⊥ : EReal) else (Real.log 1 : ℝ)) = _; simp⟩
  | coe r =>
    refine ⟨Real.log (1 + Real.exp r), ?_⟩
    show Ideal.log ((1 : ℝ) + (Real.exp r : ℝ) : EReal) = _
    rw [← EReal.coe_add]
    show (if (1 + Real.exp r : ℝ) ≤ 0 then (⊥ : EReal) else (Real.log (1 + Real.exp r) : ℝ)) = _
    rw [if_neg (by have := Real.exp_pos r; linarith)]
  | top => exact absurd rfl hx

/-- The two logarithms of the logistic function are one function. -/
theorem ls_eq (z : EReal) : Cert.Kernel3Ideal.Norm.lsK z = Cert.Reference3Ideal.Norm.lsR z := by
  unfold Cert.Kernel3Ideal.Norm.lsK Cert.Reference3Ideal.Norm.lsR Ideal.log1p
  rw [zero_sub, sub_zero, neg_neg, max_comm (-z) z]
  have h0 : -(max z (-z)) ≠ ⊤ := by
    intro h
    have : max z (-z) = ⊥ := by rw [← neg_neg (max z (-z)), h]; rfl
    rw [max_eq_bot] at this
    obtain ⟨h1, h2⟩ := this
    rw [h1] at h2
    exact absurd h2 (by simp)
  obtain ⟨y, hy⟩ := log1p_exp_coe _ h0
  rw [hy, EReal.neg_add (.inr (by simp)) (.inr (by simp))]
  congr 1
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

end Cert.Proof.NormLog
-- ==== Proof.NormClaim.lean ====
module

public import proofs.«01_k».proof.Defs
public import proofs.«01_k».proof.Proof.NormArr
public import proofs.«01_k».proof.Proof.NormLog
public import proofs.«01_k».proof.Proof.Gen.Reference3Ideal.Run
public import Idealize.ShloMosaic.Lib.Claim

@[expose] public section

noncomputable section

open Idealize.ShloMosaic Idealize.ShloMosaic.TcCoe Idealize.SL.Sem

namespace Cert.Proof.NormClaim

/-- The reference of the input norm and projection runs and leaves its arguments. -/
theorem frame_reference : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem ix_surj (i : Cert.Kernel3Ideal.S16384x512.Idx) : ∃ (r : Fin 16384) (d : Fin 512), i = ix2 r d :=
  ⟨i 0, i 1, by funext a; match a with | ⟨0, _⟩ => rfl | ⟨1, _⟩ => rfl⟩

/-- The kernel's seven result arrays are the reference's, over the extended reals. -/
theorem algebraic : Cert.algebraic_Kernel3Ideal_Reference3Ideal := by
  intro m ρ m' ρ' _ hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨a0, a1, a2, a3, a4⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · rw [Cert.Reference3Ideal.Read.val_main_v40_eq, a0, a1, a2]
    funext i
    obtain ⟨r, d, rfl⟩ := ix_surj i
    exact (Cert.Reference3Ideal.Norm.v40_apply _ _ _ r d).trans (Cert.Kernel3Ideal.Norm.final5 m c r d).symm
  · rw [Cert.Reference3Ideal.Read.val_main_v39_eq, a0, a1, a2, a3, a4]
    funext i
    obtain ⟨r, d, rfl⟩ := ix_surj i
    rw [Cert.Reference3Ideal.Norm.v39_apply, ← Cert.Proof.NormLog.la_eq, ← Cert.Proof.NormLog.ls_eq]
    exact (Cert.Kernel3Ideal.Norm.final6 m c r d).symm
  · rw [Cert.Reference3Ideal.Read.val_main_v41_eq, a0, a1, a2]
    funext i
    obtain ⟨r, d, rfl⟩ := ix_surj i
    exact (Cert.Reference3Ideal.Norm.v41_apply _ _ _ r d).trans (Cert.Kernel3Ideal.Norm.final7 m c r d).symm
  · rw [Cert.Reference3Ideal.Read.val_main_v43_eq, a0, a1, a2]
    funext i
    obtain ⟨r, d, rfl⟩ := ix_surj i
    exact (Cert.Reference3Ideal.Norm.v43_apply _ _ _ r d).trans (Cert.Kernel3Ideal.Norm.final8 m c r d).symm
  · rw [Cert.Reference3Ideal.Read.val_main_v46_eq, a0, a1, a2]
    funext i
    obtain ⟨r, d, rfl⟩ := ix_surj i
    exact (Cert.Reference3Ideal.Norm.v46_apply _ _ _ r d).trans (Cert.Kernel3Ideal.Norm.final9 m c r d).symm
  · rw [Cert.Reference3Ideal.Read.val_main_v47_eq, a0, a1, a2]
    funext i
    obtain ⟨r, d, rfl⟩ := ix_surj i
    exact (Cert.Reference3Ideal.Norm.v47_apply _ _ _ r d).trans (Cert.Kernel3Ideal.Norm.final10 m c r d).symm
  · rw [Cert.Reference3Ideal.Read.val_main_v48_eq, a0, a1, a2]
    funext i
    obtain ⟨r, d, rfl⟩ := ix_surj i
    exact (Cert.Reference3Ideal.Norm.v48_apply _ _ _ r d).trans (Cert.Kernel3Ideal.Norm.final11 m c r d).symm

end Cert.Proof.NormClaim
-- ==== Proof.OutBlock.lean ====
module

public import proofs.«01_k».proof.Proof.Gen.Kernel4Ideal.Value
public import Idealize.ShloMosaic.Lib.Pointwise
public import Idealize.ShloMosaic.PureOps.Ideal.Laws

@[expose] public section

noncomputable section

open Idealize.ShloMosaic Idealize.ShloMosaic.TcCoe Idealize.SL.Sem

namespace Cert.Kernel4Ideal.Out

open Cert.Kernel4Ideal Cert.Kernel4Ideal.Gen

/-- One element of the residual sum of a block: the input plus the two head groups' outputs times the halves of the output weight. -/
def xB (yr ya : S512x512.Idx → EReal) (x : S512x1024.Idx → EReal) (w : S1024x1024.Idx → EReal) (r : Fin 512) (d : Fin 1024) : EReal :=
  x (ix2 r d) + ((∑ k : Fin 512, yr (ix2 r k) * w (ix2 ⟨k.val, by omega⟩ d)) + ∑ k : Fin 512, ya (ix2 r k) * w (ix2 ⟨512 + k.val, by omega⟩ d))

/-- One element of a normalized row, from the row. -/
def hE (x : Fin 1024 → EReal) (nw : Fin 1024 → EReal) (k : Fin 1024) : EReal :=
  x k * Ideal.rsqrt (Ideal.div (∑ j : Fin 1024, x j * x j) (Ideal.ofBits .f32 0x44800000#32) + Ideal.ofBits .f32 0x358637BD#32) * nw k

theorem ld_lo (x3 : Vec Ideal S1024x1024 .bf16) (k : Fin 512) (d : Fin 1024) :
    View.ld x3 r0_1 (ix2 k d) = x3 (ix2 (⟨k.val, by omega⟩ : Fin 1024) d) := by
  show x3 _ = x3 _
  congr 1
  funext a; apply Fin.ext
  match a with
  | ⟨0, _⟩ => show 0 + 1 * k.val = k.val; omega
  | ⟨1, _⟩ => show 0 + 1 * d.val = d.val; omega

theorem ld_hi (x3 : Vec Ideal S1024x1024 .bf16) (k : Fin 512) (d : Fin 1024) :
    View.ld x3 r0_2 (ix2 k d) = x3 (ix2 (⟨512 + k.val, by omega⟩ : Fin 1024) d) := by
  show x3 _ = x3 _
  congr 1
  funext a; apply Fin.ext
  match a with
  | ⟨0, _⟩ => show 512 + 1 * k.val = 512 + k.val; omega
  | ⟨1, _⟩ => show 0 + 1 * d.val = d.val; omega

theorem hz : (![0, 0] : Fin 2 → Nat) = fun _ => 0 := by funext a; match a with | ⟨0, _⟩ => rfl | ⟨1, _⟩ => rfl

variable (x0 x1 : Vec Ideal S512x512 .bf16) (x2 : Vec Ideal S512x1024 .f32) (x3 : Vec Ideal S1024x1024 .bf16) (x4 : Vec Ideal S1x1024 .f32) (x5 : Vec Ideal S1024x128 .f32)

theorem pay2_raw (w1 w2 : Vec Ideal S512x1024 .bf16) (r : Fin 512) (d : Fin 1024) :
    k0_pay2 x0 w1 x1 w2 x2 (ix2 r d) = x2 (ix2 r d) + ((∑ k : Fin 512, x0 (ix2 r k) * w1 (ix2 k d)) + ∑ k : Fin 512, x1 (ix2 r k) * w2 (ix2 k d)) := by
  unfold k0_pay2
  simp only [pointwise, zero_add]

theorem pay2_apply (r : Fin 512) (d : Fin 1024) :
    k0_pay2 x0 (View.ld x3 r0_1) x1 (View.ld x3 r0_2) x2 (ix2 r d) = xB x0 x1 x2 x3 r d := by
  refine (pay2_raw x0 x1 x2 _ _ r d).trans ?_
  unfold xB
  refine congrArg _ (congrArg₂ _ (Finset.sum_congr rfl fun k _ => ?_) (Finset.sum_congr rfl fun k _ => ?_))
  · exact congrArg _ (ld_lo x3 k d)
  · exact congrArg _ (ld_hi x3 k d)

theorem pay3_raw (w1 w2 : Vec Ideal S512x1024 .bf16) (r : Fin 512) (d : Fin 1024) :
    k0_pay3 x0 w1 x1 w2 x2 x4 (ix2 r d) = hE (fun d => k0_pay2 x0 w1 x1 w2 x2 (ix2 r d)) (fun k => x4 (ix2 0 k)) d := by
  unfold k0_pay3
  generalize k0_pay2 x0 w1 x1 w2 x2 = y
  simp only [pointwise, zero_add]
  rfl

theorem pay3_apply (r : Fin 512) (d : Fin 1024) :
    k0_pay3 x0 (View.ld x3 r0_1) x1 (View.ld x3 r0_2) x2 x4 (ix2 r d) = hE (xB x0 x1 x2 x3 r) (fun k => x4 (ix2 0 k)) d := by
  refine (pay3_raw x0 x1 x2 x4 _ _ r d).trans ?_
  exact congrArg (fun f => hE f (fun k => x4 (ix2 0 k)) d) (funext fun d => pay2_apply x0 x1 x2 x3 r d)

theorem out6_apply (r : Fin 512) (d : Fin 1024) : out0_6 x0 x1 x2 x3 x4 x5 (ix2 r d) = xB x0 x1 x2 x3 r d := by
  unfold out0_6
  rw [View.canon_unit_zero (S := S512x1024) hz, View.ld_unit_zero (S := S512x512) hz, View.ld_unit_zero (S := S512x512) hz, View.ld_unit_zero (S := S512x1024) hz]
  exact pay2_apply x0 x1 x2 x3 r d

theorem out7_apply (r : Fin 512) (d : Fin 1024) : out0_7 x0 x1 x2 x3 x4 x5 (ix2 r d) = hE (xB x0 x1 x2 x3 r) (fun k => x4 (ix2 0 k)) d := by
  unfold out0_7
  rw [View.canon_unit_zero (S := S512x1024) hz, View.ld_unit_zero (S := S512x512) hz, View.ld_unit_zero (S := S512x512) hz, View.ld_unit_zero (S := S512x1024) hz, View.ld_unit_zero (S := S1x1024) hz]
  unfold k0_pay4
  exact pay3_apply x0 x1 x2 x3 x4 r d

end Cert.Kernel4Ideal.Out
-- ==== Proof.OutArr.lean ====
module

public import proofs.«01_k».proof.Proof.OutBlock
public import Idealize.ShloMosaic.Lib.Pointwise

@[expose] public section

noncomputable section

open Idealize.ShloMosaic Idealize.ShloMosaic.TcCoe Idealize.SL.Sem

namespace Cert.Kernel4Ideal.Out

open Cert.Kernel4Ideal Cert.Kernel4Ideal.Gen

variable (m : (ℓ : Loc nD τ sig) → Buf (Elt Ideal) ℓ)

theorem V_v2 (c : Dev nD) (k d : Fin 1024) : V m c main_v2 (ix2 k d) = m ((c : Thread nD τ).loc main_arg3) (ix2 k d) := by
  have h : V m c main_v2 = (truncf .bf16 (m ((c : Thread nD τ).loc main_arg3) : FVec Ideal S1024x1024 .f32) bitsLt_bf16_f32 : FVec Ideal S1024x1024 .bf16) := by
    unfold_abbrev_sides
    after_results
  rw [h]; rfl

theorem V_v3 (c : Dev nD) (k : Fin 1024) : V m c main_v3 (ix2 0 k) = m ((c : Thread nD τ).loc main_arg4) (ix1 k) := by
  have h : V m c main_v3 = (broadcastInDim S1x1024 ![1] bcast_S1024_S1x1024_1 (m ((c : Thread nD τ).loc main_arg4) : FVec Ideal S1024 .f32) : FVec Ideal S1x1024 .f32) := by
    unfold_abbrev_sides
    after_results
  rw [h]
  simp only [pointwise]
  rfl

/-- Which block each window takes at each grid point. -/
theorem idx_all : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The grid point whose block holds row `r`. -/
def tOf (r : Fin 16384) : Fin cfg0.N := ⟨r.val / 512, by rw [show cfg0.N = 32 from N_0]; omega⟩

/-- The row within its block. -/
def rOf (r : Fin 16384) : Fin 512 := ⟨r.val % 512, Nat.mod_lt _ (by decide)⟩

theorem iblk0 (c : Dev nD) (r : Fin 16384) (k : Fin 512) :
    (iblk m c 0 (tOf r) : Vec Ideal S512x512 .bf16) (ix2 (rOf r) k) = m ((c : Thread nD τ).loc main_arg0) (ix2 r k) := by
  rw [← V_main_arg0 m c]
  show V m c main_arg0 _ = V m c main_arg0 _
  congr 1
  obtain ⟨⟨e0, e1⟩, -⟩ := idx_all (tOf r)
  have ht : (tOf r).val = r.val / 512 := rfl
  funext a; apply Fin.ext
  match a with
  | ⟨0, _⟩ => show win0_0.index (tOf r) (0 : Fin 2) * 512 + 1 * (r.val % 512) = r.val; omega
  | ⟨1, _⟩ => show win0_0.index (tOf r) (1 : Fin 2) * 512 + 1 * k.val = k.val; omega

theorem iblk1 (c : Dev nD) (r : Fin 16384) (k : Fin 512) :
    (iblk m c 1 (tOf r) : Vec Ideal S512x512 .bf16) (ix2 (rOf r) k) = m ((c : Thread nD τ).loc main_arg1) (ix2 r k) := by
  rw [← V_main_arg1 m c]
  show V m c main_arg1 _ = V m c main_arg1 _
  congr 1
  obtain ⟨-, ⟨e0, e1⟩, -⟩ := idx_all (tOf r)
  have ht : (tOf r).val = r.val / 512 := rfl
  funext a; apply Fin.ext
  match a with
  | ⟨0, _⟩ => show win0_1.index (tOf r) (0 : Fin 2) * 512 + 1 * (r.val % 512) = r.val; omega
  | ⟨1, _⟩ => show win0_1.index (tOf r) (1 : Fin 2) * 512 + 1 * k.val = k.val; omega

theorem iblk2 (c : Dev nD) (r : Fin 16384) (k : Fin 1024) :
    (iblk m c 2 (tOf r) : Vec Ideal S512x1024 .f32) (ix2 (rOf r) k) = m ((c : Thread nD τ).loc main_arg2) (ix2 r k) := by
  rw [← V_main_arg2 m c]
  show V m c main_arg2 _ = V m c main_arg2 _
  congr 1
  obtain ⟨-, -, ⟨e0, e1⟩, -⟩ := idx_all (tOf r)
  have ht : (tOf r).val = r.val / 512 := rfl
  funext a; apply Fin.ext
  match a with
  | ⟨0, _⟩ => show win0_2.index (tOf r) (0 : Fin 2) * 512 + 1 * (r.val % 512) = r.val; omega
  | ⟨1, _⟩ => show win0_2.index (tOf r) (1 : Fin 2) * 1024 + 1 * k.val = k.val; omega

theorem iblk3 (c : Dev nD) (t : Fin cfg0.N) (k d : Fin 1024) :
    (iblk m c 3 t : Vec Ideal S1024x1024 .bf16) (ix2 k d) = m ((c : Thread nD τ).loc main_arg3) (ix2 k d) := by
  rw [← V_v2 m c]
  show V m c main_v2 _ = V m c main_v2 _
  congr 1
  obtain ⟨-, -, -, ⟨e0, e1⟩, -⟩ := idx_all t
  funext a; apply Fin.ext
  match a with
  | ⟨0, _⟩ => show win0_3.index t (0 : Fin 2) * 1024 + 1 * k.val = k.val; omega
  | ⟨1, _⟩ => show win0_3.index t (1 : Fin 2) * 1024 + 1 * d.val = d.val; omega

theorem iblk4 (c : Dev nD) (t : Fin cfg0.N) (k : Fin 1024) :
    (iblk m c 4 t : Vec Ideal S1x1024 .f32) (ix2 0 k) = m ((c : Thread nD τ).loc main_arg4) (ix1 k) := by
  rw [← V_v3 m c]
  show V m c main_v3 _ = V m c main_v3 _
  congr 1
  obtain ⟨-, -, -, -, ⟨e0, e1⟩, -⟩ := idx_all t
  funext a; apply Fin.ext
  match a with
  | ⟨0, _⟩ => show win0_4.index t (0 : Fin 2) * 1 + 1 * 0 = 0; omega
  | ⟨1, _⟩ => show win0_4.index t (1 : Fin 2) * 1024 + 1 * k.val = k.val; omega

abbrev yrA (c : Dev nD) : S16384x512.Idx → EReal := m ((c : Thread nD τ).loc main_arg0)
abbrev yaA (c : Dev nD) : S16384x512.Idx → EReal := m ((c : Thread nD τ).loc main_arg1)
abbrev xA (c : Dev nD) : S16384x1024.Idx → EReal := m ((c : Thread nD τ).loc main_arg2)
abbrev woA (c : Dev nD) : S1024x1024.Idx → EReal := m ((c : Thread nD τ).loc main_arg3)
abbrev nwA (c : Dev nD) : S1024.Idx → EReal := m ((c : Thread nD τ).loc main_arg4)

/-- One element of the residual sum, on whole arrays. -/
def xG (yr ya : S16384x512.Idx → EReal) (x : S16384x1024.Idx → EReal) (w : S1024x1024.Idx → EReal) (r : Fin 16384) (d : Fin 1024) : EReal :=
  x (ix2 r d) + ((∑ k : Fin 512, yr (ix2 r k) * w (ix2 ⟨k.val, by omega⟩ d)) + ∑ k : Fin 512, ya (ix2 r k) * w (ix2 ⟨512 + k.val, by omega⟩ d))

theorem xB_eq (c : Dev nD) (r : Fin 16384) :
    xB (iblk m c 0 (tOf r)) (iblk m c 1 (tOf r)) (iblk m c 2 (tOf r)) (iblk m c 3 (tOf r)) (rOf r) = xG (yrA m c) (yaA m c) (xA m c) (woA m c) r := by
  funext d
  unfold xB xG
  simp only [iblk0 m c r, iblk1 m c r, iblk2 m c r]
  simp only [iblk3 m c]

set_option maxHeartbeats 1000000 in
/-- The first result of the kernel, one element. -/
theorem final6 (c : Dev nD) (r : Fin 16384) (d : Fin 1024) :
    (dats m 0 c).arrAt 6 cfg0.N (ix2 r d : S16384x1024.Idx) = xG (yrA m c) (yaA m c) (xA m c) (woA m c) r d := by
  have e := congrFun (Value.blocks6 m c (tOf r) (flush0_6 (tOf r))) (ix2 (rOf r) d)
  rw [Value.flushed6] at e
  have ho := out6_apply (iblk m c 0 (tOf r)) (iblk m c 1 (tOf r)) (iblk m c 2 (tOf r)) (iblk m c 3 (tOf r)) (iblk m c 4 (tOf r)) (iblk m c 5 (tOf r)) (rOf r) d
  rw [xB_eq] at ho
  refine Eq.trans ?_ (e.trans ho)
  show (dats m 0 c).arrAt 6 cfg0.N _ = (dats m 0 c).arrAt 6 cfg0.N _
  congr 1
  obtain ⟨-, -, -, -, -, -, ⟨e0, e1⟩, -⟩ := idx_all (tOf r)
  have ht : (tOf r).val = r.val / 512 := rfl
  funext a; apply Fin.ext
  match a with
  | ⟨0, _⟩ => show r.val = win0_6.index (tOf r) (0 : Fin 2) * 512 + 1 * (r.val % 512); omega
  | ⟨1, _⟩ => show d.val = win0_6.index (tOf r) (1 : Fin 2) * 1024 + 1 * d.val; omega

set_option maxHeartbeats 1000000 in
/-- The second result of the kernel, one element. -/
theorem final7 (c : Dev nD) (r : Fin 16384) (d : Fin 1024) :
    (dats m 0 c).arrAt 7 cfg0.N (ix2 r d : S16384x1024.Idx) = hE (xG (yrA m c) (yaA m c) (xA m c) (woA m c) r) (fun k => nwA m c (ix1 k)) d := by
  have e := congrFun (Value.blocks7 m c (tOf r) (flush0_7 (tOf r))) (ix2 (rOf r) d)
  rw [Value.flushed7] at e
  have ho := out7_apply (iblk m c 0 (tOf r)) (iblk m c 1 (tOf r)) (iblk m c 2 (tOf r)) (iblk m c 3 (tOf r)) (iblk m c 4 (tOf r)) (iblk m c 5 (tOf r)) (rOf r) d
  rw [xB_eq] at ho
  simp only [iblk4 m c] at ho
  refine Eq.trans ?_ (e.trans ho)
  show (dats m 0 c).arrAt 7 cfg0.N _ = (dats m 0 c).arrAt 7 cfg0.N _
  congr 1
  obtain ⟨-, -, -, -, -, -, -, ⟨e0, e1⟩⟩ := idx_all (tOf r)
  have ht : (tOf r).val = r.val / 512 := rfl
  funext a; apply Fin.ext
  match a with
  | ⟨0, _⟩ => show r.val = win0_7.index (tOf r) (0 : Fin 2) * 512 + 1 * (r.val % 512); omega
  | ⟨1, _⟩ => show d.val = win0_7.index (tOf r) (1 : Fin 2) * 1024 + 1 * d.val; omega

end Cert.Kernel4Ideal.Out
-- ==== Proof.OutRef.lean ====
module

public import proofs.«01_k».proof.Proof.Gen.Reference4Ideal.Read
public import Idealize.ShloMosaic.Lib.Pointwise
public import Idealize.ShloMosaic.PureOps.Ideal.Laws

@[expose] public section

noncomputable section

open Idealize.ShloMosaic Idealize.ShloMosaic.TcCoe Idealize.SL.Sem

namespace Cert.Reference4Ideal.Out

open Cert.Reference4Ideal Cert.Reference4Ideal.Read

/-- One element of the residual sum: the input plus the joined head groups' outputs times the output weight, the product split at the join. -/
def xG (yr ya : S16384x512.Idx → EReal) (x : S16384x1024.Idx → EReal) (w : S1024x1024.Idx → EReal) (r : Fin 16384) (d : Fin 1024) : EReal :=
  x (ix2 r d) + ((∑ k : Fin 512, yr (ix2 r k) * w (ix2 ⟨k.val, by omega⟩ d)) + ∑ k : Fin 512, ya (ix2 r k) * w (ix2 ⟨512 + k.val, by omega⟩ d))

/-- One element of a normalized row, from the row. -/
def hE (x : Fin 1024 → EReal) (nw : Fin 1024 → EReal) (k : Fin 1024) : EReal :=
  x k * Ideal.rsqrt (Ideal.div (∑ j : Fin 1024, x j * x j) (Ideal.ofBits .f32 0x44800000#32) + Ideal.ofBits .f32 0x358637BD#32) * nw k

variable (x0 x1 : Vec Ideal S16384x512 .bf16) (x2 : Vec Ideal S16384x1024 .f32) (x3 : Vec Ideal S1024x1024 .f32) (x4 : Vec Ideal S1024 .f32)

theorem v2_lo (r : Fin 16384) (k : Fin 512) : val_main_v2 (F := Ideal) x0 x1 (ix2 r (⟨k.val, by omega⟩ : Fin 1024)) = x0 (ix2 r k) := by
  unfold val_main_v2
  simp only [pointwise, k.isLt, dif_pos, if_true]
  rfl

theorem v2_hi (r : Fin 16384) (k : Fin 512) : val_main_v2 (F := Ideal) x0 x1 (ix2 r (⟨512 + k.val, by omega⟩ : Fin 1024)) = x1 (ix2 r k) := by
  unfold val_main_v2
  simp only [pointwise]
  rw [dif_neg not_false]
  show x1 _ = x1 _
  congr 1
  funext a; apply Fin.ext
  match a with
  | ⟨0, _⟩ => rfl
  | ⟨1, _⟩ => exact Nat.add_sub_cancel_left 512 k.val

/-- The first result: the residual sum. -/
theorem v4_apply (r : Fin 16384) (d : Fin 1024) : val_main_v4 (F := Ideal) x0 x1 x2 x3 (ix2 r d) = xG x0 x1 x2 x3 r d := by
  rw [val_main_v4_apply, val_main_v3_apply]
  unfold xG
  refine congrArg (fun t : EReal => x2 (ix2 r d) + t) ?_
  rw [show (∑ k : Fin 1024, val_main_v2 (F := Ideal) x0 x1 (lidx_main_v3 (ix2 r d) k) * x3 (ridx_main_v3 (ix2 r d) k)) = ∑ k : Fin (512 + 512), val_main_v2 (F := Ideal) x0 x1 (ix2 r (k : Fin 1024)) * x3 (ix2 (k : Fin 1024) d) from
    Finset.sum_congr rfl fun k _ => congrArg₂ _ (congrArg _ (by funext i; fin_cases i <;> rfl)) (congrArg _ (by funext i; fin_cases i <;> rfl))]
  rw [Fin.sum_univ_add]
  refine congrArg₂ _ (Finset.sum_congr rfl fun k _ => ?_) (Finset.sum_congr rfl fun k _ => ?_)
  · exact congrArg₂ _ (v2_lo x0 x1 r k) rfl
  · exact congrArg₂ _ (v2_hi x0 x1 r k) rfl

/-- The normalized row. -/
theorem v17_apply (r : Fin 16384) (d : Fin 1024) :
    val_main_v17 (F := Ideal) x0 x1 x2 x3 x4 (ix2 r d) = hE (xG x0 x1 x2 x3 r) (fun k => x4 (ix1 k)) d := by
  rw [show hE (xG x0 x1 x2 x3 r) (fun k => x4 (ix1 k)) d = hE (fun d => val_main_v4 (F := Ideal) x0 x1 x2 x3 (ix2 r d)) (fun k => x4 (ix1 k)) d from
    congrArg (fun f => hE f (fun k => x4 (ix1 k)) d) (funext fun d => (v4_apply x0 x1 x2 x3 r d).symm)]
  unfold val_main_v17 val_main_v16 val_main_v15 val_main_v14 val_main_v13 val_main_v12 val_main_v11 val_main_v10 val_main_v9 val_main_v8 val_main_v7 val_main_v6 val_main_v5
    val_main_cst val_main_cst_0 val_main_cst_1
  generalize val_main_v4 (F := Ideal) x0 x1 x2 x3 = y
  simp only [pointwise, zero_add]
  rfl

/-- The second result: the normalized row, rounded. -/
theorem v18_apply (r : Fin 16384) (d : Fin 1024) :
    val_main_v18 (F := Ideal) x0 x1 x2 x3 x4 (ix2 r d) = hE (xG x0 x1 x2 x3 r) (fun k => x4 (ix1 k)) d :=
  v17_apply x0 x1 x2 x3 x4 r d

end Cert.Reference4Ideal.Out
-- ==== Proof.OutClaim.lean ====
module

public import proofs.«01_k».proof.Defs
public import proofs.«01_k».proof.Proof.OutArr
public import proofs.«01_k».proof.Proof.OutRef
public import proofs.«01_k».proof.Proof.Gen.Reference4Ideal.Run
public import Idealize.ShloMosaic.Lib.Claim

@[expose] public section

noncomputable section

open Idealize.ShloMosaic Idealize.ShloMosaic.TcCoe Idealize.SL.Sem

namespace Cert.Proof.OutClaim

/-- The reference of the output projection and second norm runs and leaves its arguments. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem ix_surj (i : Cert.Kernel4Ideal.S16384x1024.Idx) : ∃ (r : Fin 16384) (d : Fin 1024), i = ix2 r d :=
  ⟨i 0, i 1, by funext a; match a with | ⟨0, _⟩ => rfl | ⟨1, _⟩ => rfl⟩

/-- The kernel's residual sum and normalized rows are the reference's, over the extended reals. -/
theorem algebraic : Cert.algebraic_Kernel4Ideal_Reference4Ideal := by
  intro m ρ m' ρ' _ hagree
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    (θ_run Cert.Kernel4Ideal.defs _ _).mono (fun r h c => ⟨(h c).1, (h c).2.1, (h c).2.2.2⟩) (Cert.Kernel4Ideal.Value.run_blocks (F := Ideal) m ρ), ?_⟩
  refine (θ_run Cert.Reference4Ideal.defs _ _).mono (fun _ h c => ?_) (Cert.Reference4Ideal.Value.run (F := Ideal) m' ρ')
  obtain ⟨a0, a1, a2, a3, a4, -⟩ := hagree c
  obtain ⟨h0, h1, hargs⟩ := h c
  refine ⟨h0.trans ?_, h1.trans ?_, hargs⟩
  · rw [Cert.Reference4Ideal.Read.val_main_v4_eq, a0, a1, a2, a3]
    funext i
    obtain ⟨r, d, rfl⟩ := ix_surj i
    exact (Cert.Reference4Ideal.Out.v4_apply _ _ _ _ r d).trans (Cert.Kernel4Ideal.Out.final6 m c r d).symm
  · rw [Cert.Reference4Ideal.Read.val_main_v18_eq, a0, a1, a2, a3, a4]
    funext i
    obtain ⟨r, d, rfl⟩ := ix_surj i
    exact (Cert.Reference4Ideal.Out.v18_apply _ _ _ _ _ r d).trans (Cert.Kernel4Ideal.Out.final7 m c r d).symm

end Cert.Proof.OutClaim
-- ==== Proof.TopMath.lean ====
module

public import Idealize.ShloMosaic.PureOps.Ideal
public import Idealize.ShloMosaic.PureOps.Ideal.Laws
public import Idealize.ShloMosaic.Lib.SortFacts

@[expose] public section

noncomputable section

open Idealize.ShloMosaic

namespace Cert.TopMath

/-- `i` is the first position of the largest `f` among the positions of `P`. -/
structure IsTop {n : ℕ} (P : Fin n → Prop) (f : Fin n → EReal) (i : Fin n) : Prop where
  mem : P i
  le : ∀ j, P j → f j ≤ f i
  first : ∀ j, P j → f j = f i → i ≤ j

/-! ### The stable sort, greatest first -/

/-- `a` comes before `b`: it is larger, or equal and earlier. -/
def Ahead {n : ℕ} (f : Fin n → EReal) (a b : Fin n) : Prop := f b ≤ f a ∧ (f b = f a → a < b)

theorem Ahead.trans {n : ℕ} {f : Fin n → EReal} {a b c : Fin n} (h : Ahead f a b) (h' : Ahead f b c) : Ahead f a c := by
  refine ⟨h'.1.trans h.1, fun e => ?_⟩
  have hab : f b = f a := le_antisymm h.1 (e ▸ h'.1)
  exact (h.2 hab).trans (h'.2 (e.trans hab.symm))

theorem pairwise_insert {n : ℕ} (f : Fin n → EReal) (before : Fin n → Fin n → Bool) (hb : ∀ a b, before a b = true ↔ f b < f a)
    (a : Fin n) (l : List (Fin n)) (hl : l.Pairwise (Ahead f)) (ha : ∀ b ∈ l, a < b) : (insertBefore before a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore before a l).mem_iff.mp hc) with rfl | hc'
      · exact ⟨((hb _ _).mp h).le, fun e => absurd e ((hb _ _).mp h).ne⟩
      · exact hl.1 c hc'
    · rename_i h
      have hab : Ahead f a b := ⟨not_lt.mp fun h' => h ((hb _ _).mpr h'), fun _ => ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort {n : ℕ} (f : Fin n → EReal) (before : Fin n → Fin n → Bool) (hb : ∀ a b, before a b = true ↔ f b < f a)
    (l : List (Fin n)) (hl : l.Pairwise (· < ·)) : (stableSort before l).Pairwise (Ahead f) := by
  induction l with
  | nil => exact List.Pairwise.nil
  | cons a l ih =>
    rw [List.pairwise_cons] at hl
    unfold stableSort
    exact pairwise_insert f before hb a _ (ih hl.2) fun b hb' => hl.1 b ((perm_stableSort before l).mem_iff.mp hb')

theorem ahead_sorted {n : ℕ} (f : Fin n → EReal) (before : Fin n → Fin n → Bool) (hb : ∀ a b, before a b = true ↔ f b < f a)
    (i j : Fin n) (hij : i < j) : Ahead f (sortedFrom before i) (sortedFrom before j) := by
  have hp : ∀ a b : Fin (sortPositions n before).length, a < b → Ahead f ((sortPositions n before).get a) ((sortPositions n before).get b) :=
    List.pairwise_iff_get.mp (pairwise_sort f before hb (List.finRange n) (List.pairwise_lt_finRange n))
  unfold sortedFrom
  exact hp _ _ (by simp only [Fin.lt_def, Fin.val_cast]; exact hij)

/-- The first sorted position holds the first largest element. -/
theorem top_sorted {n : ℕ} (f : Fin n → EReal) (before : Fin n → Fin n → Bool) (hb : ∀ a b, before a b = true ↔ f b < f a)
    (z : Fin n) (hz : z.val = 0) : IsTop (fun _ => True) f (sortedFrom before z) := by
  have h : ∀ j, j = sortedFrom before z ∨ Ahead f (sortedFrom before z) j := fun j => by
    obtain ⟨k, rfl⟩ := sortedFrom_surjective before j
    rcases Nat.eq_zero_or_pos k.val with hk | hk
    · exact .inl (congrArg _ (Fin.ext (hk.trans hz.symm)))
    · exact .inr (ahead_sorted f before hb z k (by rw [Fin.lt_def, hz]; exact hk))
  refine ⟨trivial, fun j _ => ?_, fun j _ e => ?_⟩
  · rcases h j with rfl | h
    · exact le_rfl
    · exact h.1
  · rcases h j with rfl | h
    · exact le_rfl
    · exact (h.2 e).le

/-- The second sorted position holds the first largest element of the others. -/
theorem second_sorted {n : ℕ} (f : Fin n → EReal) (before : Fin n → Fin n → Bool) (hb : ∀ a b, before a b = true ↔ f b < f a)
    (z y : Fin n) (hz : z.val = 0) (hy : y.val = 1) : IsTop (fun j => j ≠ sortedFrom before z) f (sortedFrom before y) := by
  have h : ∀ j, j ≠ sortedFrom before z → j = sortedFrom before y ∨ Ahead f (sortedFrom before y) j := fun j hj => by
    obtain ⟨k, rfl⟩ := sortedFrom_surjective before j
    have hk0 : k.val ≠ 0 := fun hk => hj (congrArg _ (Fin.ext (hk.trans hz.symm)))
    rcases Nat.lt_or_ge 1 k.val with hk | hk
    · exact .inr (ahead_sorted f before hb y k (by rw [Fin.lt_def, hy]; exact hk))
    · exact .inl (congrArg _ (Fin.ext (by omega)))
  refine ⟨fun e => ?_, fun j hj => ?_, fun j hj e => ?_⟩
  · have := congrArg Fin.val (sortedFrom_injective before e); omega
  · rcases h j hj with rfl | h
    · exact le_rfl
    · exact h.1
  · rcases h j hj with rfl | h
    · exact le_rfl
    · exact (h.2 e).le

/-! ### The kernel's way: a masked maximum, then the least position that reaches it -/

theorem bits_big : Ideal.ofBits .f32 0x4E6E6B28#32 = ((1000000000 : ℝ) : EReal) := by
  simp [Ideal.ofBits, Ideal.ieee, -EReal.coe_mul]; norm_num

theorem sup_masked {n : ℕ} {P : Fin n → Prop} [DecidablePred P] {f : Fin n → EReal} {i : Fin n} (h : IsTop P f i) :
    (Finset.univ.sup fun l => if P l then f l else ⊥) = f i := by
  refine le_antisymm (Finset.sup_le fun l _ => ?_) ?_
  · split
    · exact h.le l ‹_›
    · exact bot_le
  · refine le_trans ?_ (Finset.le_sup (f := fun l => if P l then f l else ⊥) (Finset.mem_univ i))
    rw [if_pos h.mem]

theorem inf_masked {n : ℕ} {P : Fin n → Prop} [DecidablePred P] {f : Fin n → EReal} {i : Fin n} (h : IsTop P f i)
    (p : Fin n → ℝ) (hp : ∀ l l', l ≤ l' → p l ≤ p l') (B : ℝ) (hB : ∀ l, p l ≤ B) :
    (Finset.univ.inf fun l => if P l ∧ f l = f i then ((p l : ℝ) : EReal) else (B : EReal)) = ((p i : ℝ) : EReal) := by
  refine le_antisymm ?_ (Finset.le_inf fun l _ => ?_)
  · refine le_trans (Finset.inf_le (f := fun l => if P l ∧ f l = f i then ((p l : ℝ) : EReal) else (B : EReal)) (Finset.mem_univ i)) ?_
    rw [if_pos ⟨h.mem, rfl⟩]
  · split
    · rename_i hl
      exact_mod_cast hp _ _ (h.first l hl.1 hl.2)
    · exact_mod_cast hB i

/-! ### The routing weights of one row -/

/-- The weight of the chosen group. -/
def groupGate (g : Fin 4 → EReal) (G : Fin 4) : EReal := Ideal.div 1 (∑ j, Ideal.exp (g j - g G))

/-- The second expert's weight over the first's. -/
def ratio (e : Fin 32 → EReal) (i j : Fin 32) : EReal := Ideal.exp (e j - e i)

/-- The routing weights, from the chosen group and the two chosen experts. -/
def comb (g : Fin 4 → EReal) (e : Fin 32 → EReal) (G : Fin 4) (i j : Fin 32) (l : Fin 128) : EReal :=
  if l.val = i.val then Ideal.div (groupGate g G) (1 + ratio e i j)
  else if l.val = j.val then Ideal.div (groupGate g G) (1 + ratio e i j) * ratio e i j else 0

/-- Expert `k` of group `G`. -/
def ex (G : Fin 4) (k : Fin 8) : Fin 32 := ⟨8 * G.val + k.val, by omega⟩

/-- The choices: the first best group, its first best expert, the first best of its others. -/
structure Choice (g : Fin 4 → EReal) (e : Fin 32 → EReal) (G : Fin 4) (a b : Fin 8) : Prop where
  group : IsTop (fun _ => True) g G
  one : IsTop (fun _ => True) (fun k => e (ex G k)) a
  two : IsTop (fun k => k ≠ a) (fun k => e (ex G k)) b

/-- Every value is a real number. -/
def Real' {n : ℕ} (f : Fin n → EReal) : Prop := ∀ k, ∃ r : ℝ, f k = (r : EReal)

theorem exp_real {f : EReal} (h : ∃ r : ℝ, f = (r : EReal)) : ∃ r : ℝ, 0 < r ∧ Ideal.exp f = (r : EReal) := by
  obtain ⟨r, rfl⟩ := h
  exact ⟨Real.exp r, Real.exp_pos r, rfl⟩

theorem sub_real {x y : EReal} (hx : ∃ r : ℝ, x = (r : EReal)) (hy : ∃ r : ℝ, y = (r : EReal)) : ∃ r : ℝ, x - y = (r : EReal) := by
  obtain ⟨r, rfl⟩ := hx; obtain ⟨s, rfl⟩ := hy
  exact ⟨r - s, (EReal.coe_sub r s).symm⟩

theorem coe_sum {n : ℕ} (p : Fin n → ℝ) : ((∑ k, p k : ℝ) : EReal) = ∑ k, ((p k : ℝ) : EReal) := by
  induction n with
  | zero => simp
  | succ n ih => rw [Fin.sum_univ_succ, Fin.sum_univ_succ, EReal.coe_add, ih]

theorem sum_real {n : ℕ} {f : Fin n → EReal} (h : Real' f) : ∃ r : ℝ, (∑ k, f k) = (r : EReal) := by
  choose p hp using h
  exact ⟨∑ k, p k, by rw [coe_sum]; exact Finset.sum_congr rfl fun k _ => hp k⟩

theorem div_real {y : ℝ} (hy : y ≠ 0) (x : ℝ) : Ideal.div (x : EReal) (y : EReal) = ((x / y : ℝ) : EReal) := by
  rw [Ideal.div_coe hy, ← EReal.coe_mul, mul_one_div]

/-- The sum of the exponentials is a positive real number. -/
theorem expsum_real {n : ℕ} {g : Fin n → EReal} (hg : Real' g) (G : Fin n) : ∃ r : ℝ, 0 < r ∧ (∑ j, Ideal.exp (g j - g G)) = (r : EReal) := by
  have h : ∀ j, ∃ r : ℝ, 0 < r ∧ Ideal.exp (g j - g G) = (r : EReal) := fun j => exp_real (sub_real (hg j) (hg G))
  choose p hp using h
  refine ⟨∑ j, p j, Finset.sum_pos (fun j _ => (hp j).1) ⟨G, Finset.mem_univ G⟩, ?_⟩
  rw [coe_sum]; exact Finset.sum_congr rfl fun j _ => (hp j).2

/-- The softmax's order is the logits' order. -/
theorem top_of_softmax {n : ℕ} {g : Fin n → EReal} (hg : Real' g) (M : Fin n) {G : Fin n}
    (h : IsTop (fun _ => True) (fun j => Ideal.div (Ideal.exp (g j - g M)) (∑ j, Ideal.exp (g j - g M))) G) : IsTop (fun _ => True) g G := by
  obtain ⟨S, hS, eS⟩ := expsum_real hg M
  choose p hp using hg
  have e : ∀ j, Ideal.div (Ideal.exp (g j - g M)) (∑ j, Ideal.exp (g j - g M)) = ((Real.exp (p j - p M) / S : ℝ) : EReal) := fun j => by
    rw [eS, hp j, hp M, ← EReal.coe_sub, Ideal.exp_coe, div_real hS.ne']
  refine ⟨trivial, fun j _ => ?_, fun j _ ej => h.first j trivial ?_⟩
  · have := h.le j trivial
    rw [e, e, EReal.coe_le_coe_iff, div_le_div_iff_of_pos_right hS, Real.exp_le_exp] at this
    rw [hp, hp]; exact_mod_cast (by linarith)
  · show Ideal.div _ _ = Ideal.div _ _
    rw [ej]

end Cert.TopMath
-- ==== Proof.CombBlock.lean ====
module

public import proofs.«01_k».proof.Proof.Gen.Kernel5Ideal.Value
public import proofs.«01_k».proof.Proof.TopMath
public import proofs.«01_k».proof.Proof.OutBlock
public import Idealize.ShloMosaic.Lib.Pointwise
public import Idealize.ShloMosaic.PureOps.Ideal.Laws

@[expose] public section

noncomputable section

open Idealize.ShloMosaic Idealize.ShloMosaic.TcCoe Idealize.SL.Sem

namespace Cert.Kernel5Ideal.Comb

open Cert.Kernel5Ideal Cert.Kernel5Ideal.Gen Cert.TopMath

theorem bot_bits : Ideal.ofBits .f32 0xFF800000#32 = (⊥ : EReal) := by simp [Ideal.ofBits, Ideal.ieee]
theorem top_bits : Ideal.ofBits .f32 0x7F800000#32 = (⊤ : EReal) := by simp [Ideal.ofBits, Ideal.ieee]
theorem one_bits : Ideal.ofBits .f32 0x3F800000#32 = (1 : EReal) := by
  rw [show Ideal.ofBits .f32 0x3F800000#32 = ((1 : ℝ) : EReal) by simp [Ideal.ofBits, Ideal.ieee, -EReal.coe_mul]; norm_num]; rfl
theorem lane32_bits : Ideal.ofBits .f32 0x42000000#32 = ((32 : ℝ) : EReal) := by
  simp [Ideal.ofBits, Ideal.ieee, -EReal.coe_mul]; norm_num
theorem zero_bits : Ideal.ofBits .f32 0x00000000#32 = (0 : EReal) := by simp [Ideal.ofBits, Ideal.ieee]

theorem sel_ite (p : Prop) [Decidable p] {α : Type} (x y : α) : Scalar.select (if p then 1#1 else 0#1) x y = if p then x else y := by
  by_cases h : p
  · rw [if_pos h, if_pos h]; rfl
  · rw [if_neg h, if_neg h]; rfl

theorem and_ite (p q : Prop) [Decidable p] [Decidable q] :
    IntOp.andi (if p then 1#1 else 0#1) (BitVec.ofBool (decide q)) = if p ∧ q then 1#1 else 0#1 := by
  by_cases h : p <;> by_cases h' : q <;> simp [h, h', IntOp.andi]

theorem ofBool_ite (q : Prop) [Decidable q] : BitVec.ofBool (decide q) = if q then 1#1 else 0#1 := by
  by_cases h' : q <;> simp [h']

theorem fold_max {n : ℕ} (f : Fin n → EReal) : Finset.fold max (⊥ : EReal) f Finset.univ = Finset.univ.sup f := rfl
theorem fold_min {n : ℕ} (f : Fin n → EReal) : Finset.fold min (⊤ : EReal) f Finset.univ = Finset.univ.inf f := rfl

/-- A lane's number as a word. -/
def laneW : IVec S512x128 32 := iota .tc S512x128 32 [1] iota_S512x128_d1_w32

theorem laneW_apply (r : Fin 512) (l : Fin 128) : laneW (ix2 r l) = BitVec.ofNat 32 l.val := by
  unfold laneW
  simp only [pointwise]
  have h0 : List.foldl (fun n a => n * ![512, 128] a + ((ix2 r l) a).val) 0 [1] = l.val := by
    simp [List.foldl]
  rw [h0]

theorem lane_int : ∀ l : Fin 128, (BitVec.ofNat 32 l.val).toInt = (l.val : ℤ) := by decide +kernel
theorem group_int : ∀ l : Fin 128, (BitVec.ofNat 32 (l.val / 8)).toInt = ((l.val / 8 : ℕ) : ℤ) := by decide +kernel

/-- A lane's number as a float. -/
theorem pay6_apply (r : Fin 512) (l : Fin 128) : k0_pay6 (F := Ideal) (ix2 r l) = ((l.val : ℝ) : EReal) := by
  unfold k0_pay6
  change (sitofp .f32 laneW : FVec Ideal S512x128 .f32) (ix2 r l) = _
  simp only [pointwise]
  rw [laneW_apply]
  change (((BitVec.ofNat 32 l.val).toInt : ℝ) : EReal) = _
  rw [lane_int, Int.cast_natCast]

theorem pay7_apply (r : Fin 512) (l : Fin 128) : k0_pay7 laneW (ix2 r l) = if 32 ≤ l.val ∧ l.val < 36 then 1#1 else 0#1 := by
  unfold k0_pay7
  simp only [pointwise, laneW_apply]
  revert l; decide +kernel

theorem pay11_apply (r : Fin 512) (l : Fin 128) : k0_pay11 laneW (ix2 r l) = if l.val < 32 then 1#1 else 0#1 := by
  unfold k0_pay11
  simp only [pointwise, laneW_apply]
  revert l; decide +kernel

section
variable (lg : FVec Ideal S512x128 .f32) (r : Fin 512)

/-- The largest of the masked lanes of a row. -/
theorem max_masked (mk : IVec S512x128 1) (P : Fin 128 → Prop) [DecidablePred P] (e : ∀ l, mk (ix2 r l) = if P l then 1#1 else 0#1)
    {i : Fin 128} (h : IsTop P (fun l => lg (ix2 r l)) i) :
    Finset.fold max (Ideal.ofBits FTy.f32 0xFF800000#32) (fun k => Scalar.select (mk (ix2 r k)) (lg (ix2 r k)) (Ideal.ofBits FTy.f32 0xFF800000#32)) Finset.univ
      = lg (ix2 r i) := by
  simp only [e, sel_ite, bot_bits]
  exact (fold_max _).trans (sup_masked h)

/-- The first masked lane that reaches the largest. -/
theorem min_masked (mk : IVec S512x128 1) (P : Fin 128 → Prop) [DecidablePred P] (e : ∀ l, mk (ix2 r l) = if P l then 1#1 else 0#1)
    {i : Fin 128} (h : IsTop P (fun l => lg (ix2 r l)) i) (v : Fin 128 → EReal) (c : ℝ) (hc : 0 ≤ c) (hv : ∀ l : Fin 128, v l = ((l.val - c : ℝ) : EReal)) :
    Finset.fold min (Ideal.ofBits FTy.f32 0x7F800000#32) (fun k => Scalar.select (IntOp.andi (mk (ix2 r k)) (BitVec.ofBool (decide (lg (ix2 r k) = lg (ix2 r i)))))
      (v k) (Ideal.ofBits FTy.f32 0x4E6E6B28#32)) Finset.univ = ((i.val - c : ℝ) : EReal) := by
  simp only [e, and_ite, sel_ite, top_bits, bits_big, hv]
  refine (fold_min _).trans (inf_masked h (fun l => (l.val - c : ℝ)) (fun l l' hl => ?_) 1000000000 (fun l => ?_))
  · have : (l.val : ℝ) ≤ l'.val := by exact_mod_cast hl
    linarith
  · have : (l.val : ℝ) ≤ 128 := by exact_mod_cast l.isLt.le
    show (l.val : ℝ) - c ≤ _
    linarith

theorem pay8_apply {i : Fin 128} (h : IsTop (fun l : Fin 128 => 32 ≤ l.val ∧ l.val < 36) (fun l => lg (ix2 r l)) i) :
    k0_pay8 lg laneW (ix2 r 0) = lg (ix2 r i) := by
  unfold k0_pay8
  have e := pay7_apply r
  generalize k0_pay7 laneW = mk at e ⊢
  simp only [pointwise, zero_add]
  exact max_masked lg r mk _ e h

theorem pay9_apply {i : Fin 128} (h : IsTop (fun l : Fin 128 => 32 ≤ l.val ∧ l.val < 36) (fun l => lg (ix2 r l)) i) :
    k0_pay9 lg laneW (ix2 r 0) = Ideal.div 1 (∑ l : Fin 128, if 32 ≤ l.val ∧ l.val < 36 then Ideal.exp (lg (ix2 r l) - lg (ix2 r i)) else 0) := by
  unfold k0_pay9
  have e := pay7_apply r
  have eg := pay8_apply lg r h
  generalize k0_pay8 lg laneW = gm at eg ⊢
  generalize k0_pay7 laneW = mk at e ⊢
  generalize hS : (∑ l : Fin 128, if 32 ≤ l.val ∧ l.val < 36 then Ideal.exp (lg (ix2 r l) - lg (ix2 r i)) else 0) = S
  simp only [pointwise, zero_add]
  change Ideal.div 1 (∑ k, Scalar.select (mk (ix2 r k)) (Ideal.exp (lg (ix2 r k) - gm (ix2 r 0))) 0) = _
  rw [← hS]
  simp only [eg, e, sel_ite]

theorem pay10_apply {i : Fin 128} (h : IsTop (fun l : Fin 128 => 32 ≤ l.val ∧ l.val < 36) (fun l => lg (ix2 r l)) i) :
    k0_pay10 lg laneW k0_pay6 (ix2 r 0) = ((i.val - 32 : ℝ) : EReal) := by
  unfold k0_pay10
  have e := pay7_apply r
  have eg := pay8_apply lg r h
  have el := pay6_apply r
  generalize k0_pay8 lg laneW = gm at eg ⊢
  generalize k0_pay7 laneW = mk at e ⊢
  generalize k0_pay6 (F := Ideal) = v32 at el ⊢
  simp only [pointwise, zero_add]
  change Finset.fold min (Ideal.ofBits FTy.f32 0x7F800000#32) (fun k => Scalar.select (IntOp.andi (mk (ix2 r k)) (BitVec.ofBool (decide (lg (ix2 r k) = gm (ix2 r 0)))))
      (v32 (ix2 r k) - Ideal.ofBits FTy.f32 0x42000000#32) (Ideal.ofBits FTy.f32 0x4E6E6B28#32)) Finset.univ = _
  rw [eg]
  exact min_masked lg r mk _ e h (fun k => v32 (ix2 r k) - Ideal.ofBits FTy.f32 0x42000000#32) 32 (by norm_num)
    (fun l => by rw [el, lane32_bits, ← EReal.coe_sub])

/-- The lanes of the chosen group. -/
def In (G : Fin 4) (l : Fin 128) : Prop := l.val < 32 ∧ l.val / 8 = G.val
instance (G : Fin 4) : DecidablePred (In G) := fun l => inferInstanceAs (Decidable (_ ∧ _))

/-- The floor of a lane's number over 8, as the program writes it. -/
theorem floor_bits : ∀ l : Fin 128, Scalar.select (IntOp.andi (IntOp.cmpi CmpIPredicate.ne
      (IntOp.subi (BitVec.setWidth 32 (IntOp.cmpi CmpIPredicate.sgt (BitVec.ofNat 32 l.val) 0#32)) (BitVec.setWidth 32 (IntOp.cmpi CmpIPredicate.slt (BitVec.ofNat 32 l.val) 0#32)))
      (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector (BitVec.ofNat 32 l.val) 8#32) 0#32))
      (IntOp.subi (IntOp.divsi ArithUnit.vector (BitVec.ofNat 32 l.val) 8#32) 1#32) (IntOp.divsi ArithUnit.vector (BitVec.ofNat 32 l.val) 8#32)
    = BitVec.ofNat 32 (l.val / 8) := by decide +kernel

/-- The mask of the chosen group's lanes. -/
def inW (v59 : FVec Ideal S512x1 .f32) : IVec S512x128 1 := k0_pay15 laneW v59 (k0_pay11 laneW) 8#32 (k0_pay12 laneW) (k0_pay13 laneW) k0_pay14

theorem inW_apply (v59 : FVec Ideal S512x1 .f32) (G : Fin 4) (hG : v59 (ix2 r 0) = ((G.val : ℝ) : EReal)) (l : Fin 128) :
    inW v59 (ix2 r l) = if In G l then 1#1 else 0#1 := by
  unfold inW k0_pay15
  have e := pay11_apply r
  generalize k0_pay11 laneW = mk at e ⊢
  unfold k0_pay12 k0_pay13 k0_pay14
  simp only [pointwise, zero_add, laneW_apply]
  rw [floor_bits, e]
  change IntOp.andi _ (BitVec.ofBool (decide ((((BitVec.ofNat 32 (l.val / 8)).toInt : ℝ) : EReal) = v59 (ix2 r 0)))) = _
  rw [hG, group_int, and_ite]
  have hq : ((((l.val / 8 : ℕ) : ℤ) : ℝ) : EReal) = ((G.val : ℝ) : EReal) ↔ l.val / 8 = G.val := by
    rw [EReal.coe_eq_coe_iff, Int.cast_natCast, Nat.cast_inj]
  by_cases h : l.val < 32 ∧ l.val / 8 = G.val
  · rw [if_pos ⟨h.1, hq.mpr h.2⟩]; exact (if_pos h).symm
  · rw [if_neg (fun h' => h ⟨h'.1, hq.mp h'.2⟩)]; exact (if_neg h).symm

theorem pay16_apply (v59 : FVec Ideal S512x1 .f32) (G : Fin 4) (hG : v59 (ix2 r 0) = ((G.val : ℝ) : EReal)) {i : Fin 128}
    (h : IsTop (In G) (fun l => lg (ix2 r l)) i) :
    k0_pay16 lg laneW v59 (k0_pay11 laneW) 8#32 (k0_pay12 laneW) (k0_pay13 laneW) k0_pay14 (ix2 r 0) = lg (ix2 r i) := by
  unfold k0_pay16
  rw [show k0_pay15 laneW v59 (k0_pay11 laneW) 8#32 (k0_pay12 laneW) (k0_pay13 laneW) k0_pay14 = inW v59 from rfl]
  have e := inW_apply r v59 G hG
  generalize inW v59 = mk at e ⊢
  simp only [pointwise, zero_add]
  exact max_masked lg r mk _ e h

theorem pay17_apply (v59 : FVec Ideal S512x1 .f32) (G : Fin 4) (hG : v59 (ix2 r 0) = ((G.val : ℝ) : EReal)) {i : Fin 128}
    (h : IsTop (In G) (fun l => lg (ix2 r l)) i) :
    k0_pay17 lg laneW k0_pay6 v59 (k0_pay11 laneW) 8#32 (k0_pay12 laneW) (k0_pay13 laneW) k0_pay14 (ix2 r 0) = ((i.val : ℝ) : EReal) := by
  unfold k0_pay17
  rw [show k0_pay15 laneW v59 (k0_pay11 laneW) 8#32 (k0_pay12 laneW) (k0_pay13 laneW) k0_pay14 = inW v59 from rfl]
  have e := inW_apply r v59 G hG
  have eg := pay16_apply lg r v59 G hG h
  have el := pay6_apply r
  generalize k0_pay16 lg laneW v59 (k0_pay11 laneW) 8#32 (k0_pay12 laneW) (k0_pay13 laneW) k0_pay14 = gm at eg ⊢
  generalize inW v59 = mk at e ⊢
  generalize k0_pay6 (F := Ideal) = v32 at el ⊢
  simp only [pointwise, zero_add]
  change Finset.fold min (Ideal.ofBits FTy.f32 0x7F800000#32) (fun k => Scalar.select (IntOp.andi (mk (ix2 r k)) (BitVec.ofBool (decide (lg (ix2 r k) = gm (ix2 r 0)))))
      (v32 (ix2 r k)) (Ideal.ofBits FTy.f32 0x4E6E6B28#32)) Finset.univ = _
  rw [eg]
  refine (min_masked lg r mk _ e h (fun k => v32 (ix2 r k)) 0 le_rfl (fun l => by rw [el, sub_zero])).trans ?_
  rw [sub_zero]

/-- The lanes of the chosen group but one. -/
def In' (G : Fin 4) (i l : Fin 128) : Prop := In G l ∧ l ≠ i
instance (G : Fin 4) (i : Fin 128) : DecidablePred (In' G i) := fun l => inferInstanceAs (Decidable (_ ∧ _))

theorem lane_eq (l i : Fin 128) : ((l.val : ℝ) : EReal) = ((i.val : ℝ) : EReal) ↔ l = i := by
  rw [EReal.coe_eq_coe_iff, Nat.cast_inj, Fin.ext_iff]

theorem pay18_apply (v59 : FVec Ideal S512x1 .f32) (G : Fin 4) (hG : v59 (ix2 r 0) = ((G.val : ℝ) : EReal)) {i : Fin 128}
    (h : IsTop (In G) (fun l => lg (ix2 r l)) i) (l : Fin 128) :
    k0_pay18 lg laneW k0_pay6 v59 (k0_pay11 laneW) 8#32 (k0_pay12 laneW) (k0_pay13 laneW) k0_pay14 (ix2 r l) = if In' G i l then 1#1 else 0#1 := by
  unfold k0_pay18
  rw [show k0_pay15 laneW v59 (k0_pay11 laneW) 8#32 (k0_pay12 laneW) (k0_pay13 laneW) k0_pay14 = inW v59 from rfl]
  have e := inW_apply r v59 G hG
  have eg := pay17_apply lg r v59 G hG h
  have el := pay6_apply r
  generalize k0_pay17 lg laneW k0_pay6 v59 (k0_pay11 laneW) 8#32 (k0_pay12 laneW) (k0_pay13 laneW) k0_pay14 = gm at eg ⊢
  generalize inW v59 = mk at e ⊢
  generalize k0_pay6 (F := Ideal) = v32 at el ⊢
  simp only [pointwise, zero_add]
  change IntOp.andi (mk (ix2 r l)) (BitVec.ofBool (decide (v32 (ix2 r l) ≠ gm (ix2 r 0)))) = _
  rw [e, eg, el, and_ite]
  by_cases h' : In G l ∧ l ≠ i
  · rw [if_pos ⟨h'.1, fun he => h'.2 ((lane_eq l i).mp he)⟩]; exact (if_pos h').symm
  · rw [if_neg (fun he => h' ⟨he.1, fun hx => he.2 ((lane_eq l i).mpr hx)⟩)]; exact (if_neg h').symm

theorem pay19_apply (v59 : FVec Ideal S512x1 .f32) (G : Fin 4) (hG : v59 (ix2 r 0) = ((G.val : ℝ) : EReal)) {i j : Fin 128}
    (h : IsTop (In G) (fun l => lg (ix2 r l)) i) (h' : IsTop (In' G i) (fun l => lg (ix2 r l)) j) :
    k0_pay19 lg laneW k0_pay6 v59 (k0_pay11 laneW) 8#32 (k0_pay12 laneW) (k0_pay13 laneW) k0_pay14 (ix2 r 0) = lg (ix2 r j) := by
  unfold k0_pay19
  have e := pay18_apply lg r v59 G hG h
  generalize k0_pay18 lg laneW k0_pay6 v59 (k0_pay11 laneW) 8#32 (k0_pay12 laneW) (k0_pay13 laneW) k0_pay14 = mk at e ⊢
  simp only [pointwise, zero_add]
  exact max_masked lg r mk _ e h'

theorem pay20_apply (v59 : FVec Ideal S512x1 .f32) (G : Fin 4) (hG : v59 (ix2 r 0) = ((G.val : ℝ) : EReal)) {i j : Fin 128}
    (h : IsTop (In G) (fun l => lg (ix2 r l)) i) (h' : IsTop (In' G i) (fun l => lg (ix2 r l)) j) :
    k0_pay20 lg laneW k0_pay6 v59 (k0_pay11 laneW) 8#32 (k0_pay12 laneW) (k0_pay13 laneW) k0_pay14 (ix2 r 0) = Ideal.exp (lg (ix2 r j) - lg (ix2 r i)) := by
  unfold k0_pay20
  have e1 := pay16_apply lg r v59 G hG h
  have e2 := pay19_apply lg r v59 G hG h h'
  generalize k0_pay19 lg laneW k0_pay6 v59 (k0_pay11 laneW) 8#32 (k0_pay12 laneW) (k0_pay13 laneW) k0_pay14 = a at e2 ⊢
  generalize k0_pay16 lg laneW v59 (k0_pay11 laneW) 8#32 (k0_pay12 laneW) (k0_pay13 laneW) k0_pay14 = b at e1 ⊢
  simp only [pointwise, zero_add]
  rw [e1, e2]

theorem pay21_apply (v50 v59 : FVec Ideal S512x1 .f32) (G : Fin 4) (hG : v59 (ix2 r 0) = ((G.val : ℝ) : EReal)) {i j : Fin 128}
    (h : IsTop (In G) (fun l => lg (ix2 r l)) i) (h' : IsTop (In' G i) (fun l => lg (ix2 r l)) j) :
    k0_pay21 lg laneW k0_pay6 v50 v59 (k0_pay11 laneW) 8#32 (k0_pay12 laneW) (k0_pay13 laneW) k0_pay14 (ix2 r 0)
      = Ideal.div (v50 (ix2 r 0)) (1 + Ideal.exp (lg (ix2 r j) - lg (ix2 r i))) := by
  unfold k0_pay21
  have e1 := pay20_apply lg r v59 G hG h h'
  generalize k0_pay20 lg laneW k0_pay6 v59 (k0_pay11 laneW) 8#32 (k0_pay12 laneW) (k0_pay13 laneW) k0_pay14 = a at e1 ⊢
  simp only [pointwise, zero_add]
  rw [e1]

theorem pay22_apply (v50 v59 : FVec Ideal S512x1 .f32) (G : Fin 4) (hG : v59 (ix2 r 0) = ((G.val : ℝ) : EReal)) {i j : Fin 128}
    (h : IsTop (In G) (fun l => lg (ix2 r l)) i) (h' : IsTop (In' G i) (fun l => lg (ix2 r l)) j) :
    k0_pay22 lg laneW k0_pay6 v50 v59 (k0_pay11 laneW) 8#32 (k0_pay12 laneW) (k0_pay13 laneW) k0_pay14 (ix2 r 0)
      = Ideal.div (v50 (ix2 r 0)) (1 + Ideal.exp (lg (ix2 r j) - lg (ix2 r i))) * Ideal.exp (lg (ix2 r j) - lg (ix2 r i)) := by
  unfold k0_pay22
  have e1 := pay20_apply lg r v59 G hG h h'
  have e2 := pay21_apply lg r v50 v59 G hG h h'
  generalize k0_pay20 lg laneW k0_pay6 v59 (k0_pay11 laneW) 8#32 (k0_pay12 laneW) (k0_pay13 laneW) k0_pay14 = a at e1 ⊢
  generalize k0_pay21 lg laneW k0_pay6 v50 v59 (k0_pay11 laneW) 8#32 (k0_pay12 laneW) (k0_pay13 laneW) k0_pay14 = b at e2 ⊢
  simp only [pointwise, zero_add]
  rw [e1, e2]

theorem pay23_apply (v59 : FVec Ideal S512x1 .f32) (G : Fin 4) (hG : v59 (ix2 r 0) = ((G.val : ℝ) : EReal)) {i : Fin 128}
    (h : IsTop (In G) (fun l => lg (ix2 r l)) i) (l : Fin 128) :
    k0_pay23 lg laneW k0_pay6 v59 (k0_pay11 laneW) 8#32 (k0_pay12 laneW) (k0_pay13 laneW) k0_pay14 (ix2 r l) = if l = i then 1#1 else 0#1 := by
  unfold k0_pay23
  have eg := pay17_apply lg r v59 G hG h
  have el := pay6_apply r
  generalize k0_pay17 lg laneW k0_pay6 v59 (k0_pay11 laneW) 8#32 (k0_pay12 laneW) (k0_pay13 laneW) k0_pay14 = gm at eg ⊢
  generalize k0_pay6 (F := Ideal) = v32 at el ⊢
  simp only [pointwise, zero_add]
  change BitVec.ofBool (decide (v32 (ix2 r l) = gm (ix2 r 0))) = _
  rw [eg, el, ofBool_ite]
  simp only [lane_eq]

theorem pay24_apply (v59 : FVec Ideal S512x1 .f32) (G : Fin 4) (hG : v59 (ix2 r 0) = ((G.val : ℝ) : EReal)) {i j : Fin 128}
    (h : IsTop (In G) (fun l => lg (ix2 r l)) i) (h' : IsTop (In' G i) (fun l => lg (ix2 r l)) j) (l : Fin 128) :
    k0_pay24 lg laneW k0_pay6 v59 (k0_pay11 laneW) 8#32 (k0_pay12 laneW) (k0_pay13 laneW) k0_pay14 (ix2 r l) = if l = j then 1#1 else 0#1 := by
  unfold k0_pay24
  have e := pay18_apply lg r v59 G hG h
  have eg := pay19_apply lg r v59 G hG h h'
  have el := pay6_apply r
  generalize k0_pay19 lg laneW k0_pay6 v59 (k0_pay11 laneW) 8#32 (k0_pay12 laneW) (k0_pay13 laneW) k0_pay14 = gm at eg ⊢
  generalize k0_pay18 lg laneW k0_pay6 v59 (k0_pay11 laneW) 8#32 (k0_pay12 laneW) (k0_pay13 laneW) k0_pay14 = mk at e ⊢
  generalize k0_pay6 (F := Ideal) = v32 at el ⊢
  simp only [pointwise, zero_add]
  change BitVec.ofBool (decide (v32 (ix2 r l) = Finset.fold min (Ideal.ofBits FTy.f32 0x7F800000#32) (fun k => Scalar.select (IntOp.andi (mk (ix2 r k)) (BitVec.ofBool (decide (lg (ix2 r k) = gm (ix2 r 0)))))
      (v32 (ix2 r k)) (Ideal.ofBits FTy.f32 0x4E6E6B28#32)) Finset.univ)) = _
  rw [eg, min_masked lg r mk _ e h' (fun k => v32 (ix2 r k)) 0 le_rfl (fun l => by rw [el, sub_zero]), sub_zero, el, ofBool_ite]
  simp only [lane_eq]

/-- The whole row of weights, from the chosen lanes. -/
theorem row_apply (G : Fin 4) {g i j : Fin 128} (hg : IsTop (fun l : Fin 128 => 32 ≤ l.val ∧ l.val < 36) (fun l => lg (ix2 r l)) g) (hgG : g.val = 32 + G.val)
    (h : IsTop (In G) (fun l => lg (ix2 r l)) i) (h' : IsTop (In' G i) (fun l => lg (ix2 r l)) j) (l : Fin 128) :
    k0_pay1 (k0_pay21 lg laneW k0_pay6 (k0_pay9 lg laneW) (k0_pay10 lg laneW k0_pay6) (k0_pay11 laneW) 8#32 (k0_pay12 laneW) (k0_pay13 laneW) k0_pay14)
        (k0_pay22 lg laneW k0_pay6 (k0_pay9 lg laneW) (k0_pay10 lg laneW k0_pay6) (k0_pay11 laneW) 8#32 (k0_pay12 laneW) (k0_pay13 laneW) k0_pay14)
        (k0_pay23 lg laneW k0_pay6 (k0_pay10 lg laneW k0_pay6) (k0_pay11 laneW) 8#32 (k0_pay12 laneW) (k0_pay13 laneW) k0_pay14)
        (k0_pay24 lg laneW k0_pay6 (k0_pay10 lg laneW k0_pay6) (k0_pay11 laneW) 8#32 (k0_pay12 laneW) (k0_pay13 laneW) k0_pay14) (Scalar.ofBits (F := Ideal) .f32 0x00000000#32) (ix2 r l)
      = (fun gate ratio => if l = i then Ideal.div gate (1 + ratio) else if l = j then Ideal.div gate (1 + ratio) * ratio else 0)
          (Ideal.div 1 (∑ l : Fin 128, if 32 ≤ l.val ∧ l.val < 36 then Ideal.exp (lg (ix2 r l) - lg (ix2 r g)) else 0)) (Ideal.exp (lg (ix2 r j) - lg (ix2 r i))) := by
  have e9 := pay9_apply lg r hg
  have e10 : k0_pay10 lg laneW k0_pay6 (ix2 r 0) = ((G.val : ℝ) : EReal) := by
    rw [pay10_apply lg r hg, hgG, Nat.cast_add, Nat.cast_ofNat, add_sub_cancel_left]
  generalize k0_pay10 lg laneW k0_pay6 = v59 at e10 ⊢
  generalize k0_pay9 lg laneW = v50 at e9 ⊢
  have e1 := pay21_apply lg r v50 v59 G e10 h h'
  have e2 := pay22_apply lg r v50 v59 G e10 h h'
  have e3 := pay23_apply lg r v59 G e10 h
  have e4 := pay24_apply lg r v59 G e10 h h'
  generalize k0_pay21 lg laneW k0_pay6 v50 v59 (k0_pay11 laneW) 8#32 (k0_pay12 laneW) (k0_pay13 laneW) k0_pay14 = a1 at e1 ⊢
  generalize k0_pay22 lg laneW k0_pay6 v50 v59 (k0_pay11 laneW) 8#32 (k0_pay12 laneW) (k0_pay13 laneW) k0_pay14 = a2 at e2 ⊢
  generalize k0_pay23 lg laneW k0_pay6 v59 (k0_pay11 laneW) 8#32 (k0_pay12 laneW) (k0_pay13 laneW) k0_pay14 = a3 at e3 ⊢
  generalize k0_pay24 lg laneW k0_pay6 v59 (k0_pay11 laneW) 8#32 (k0_pay12 laneW) (k0_pay13 laneW) k0_pay14 = a4 at e4 ⊢
  rw [← e9]
  unfold k0_pay1
  simp only [pointwise, zero_add]
  change Scalar.select (a3 (ix2 r l)) (a1 (ix2 r 0)) (Scalar.select (a4 (ix2 r l)) (a2 (ix2 r 0)) _) = _
  rw [e1, e2, e3, e4, sel_ite, sel_ite]
end

end Cert.Kernel5Ideal.Comb
-- ==== Proof.CombOut.lean ====
module

public import proofs.«01_k».proof.Proof.CombBlock

@[expose] public section

noncomputable section

open Idealize.ShloMosaic Idealize.ShloMosaic.TcCoe Idealize.SL.Sem

namespace Cert.Kernel5Ideal.Comb

open Cert.Kernel5Ideal Cert.Kernel5Ideal.Gen Cert.TopMath

/-- The lane of expert `k`. -/
def laneE (k : Fin 32) : Fin 128 := ⟨k.val, by omega⟩
/-- The lane of group `j`. -/
def laneG (j : Fin 4) : Fin 128 := ⟨32 + j.val, by omega⟩

section
variable {f : Fin 128 → EReal} {g : Fin 4 → EReal} {e : Fin 32 → EReal} (he : ∀ k, f (laneE k) = e k) (hg : ∀ j, f (laneG j) = g j)
  {G : Fin 4} {a b : Fin 8} (h : Choice g e G a b)
include he hg h

theorem top_group : IsTop (fun l : Fin 128 => 32 ≤ l.val ∧ l.val < 36) f (laneG G) := by
  have hl : ∀ l : Fin 128, 32 ≤ l.val ∧ l.val < 36 → ∃ j : Fin 4, l = laneG j := fun l hl => ⟨⟨l.val - 32, by omega⟩, Fin.ext (by show l.val = 32 + (l.val - 32); omega)⟩
  refine ⟨⟨by show 32 ≤ 32 + G.val; omega, by show 32 + G.val < 36; omega⟩, fun l hl' => ?_, fun l hl' el => ?_⟩
  · obtain ⟨j, rfl⟩ := hl l hl'
    rw [hg, hg]; exact h.group.le j trivial
  · obtain ⟨j, rfl⟩ := hl l hl'
    rw [hg, hg] at el
    have := h.group.first j trivial el
    exact Nat.add_le_add_left this 32

theorem in_lane (l : Fin 128) (hl : In G l) : ∃ k : Fin 8, l = laneE (ex G k) := by
  obtain ⟨h1, h2⟩ := hl
  exact ⟨⟨l.val - 8 * G.val, by omega⟩, Fin.ext (by show l.val = 8 * G.val + (l.val - 8 * G.val); omega)⟩

theorem lane_in (k : Fin 8) : In G (laneE (ex G k)) := by
  refine ⟨?_, ?_⟩
  · show 8 * G.val + k.val < 32; omega
  · show (8 * G.val + k.val) / 8 = G.val; omega

theorem top_one : IsTop (In G) f (laneE (ex G a)) := by
  refine ⟨lane_in he hg h a, fun l hl => ?_, fun l hl el => ?_⟩
  · obtain ⟨k, rfl⟩ := in_lane he hg h l hl
    rw [he, he]; exact h.one.le k trivial
  · obtain ⟨k, rfl⟩ := in_lane he hg h l hl
    rw [he, he] at el
    have := h.one.first k trivial el
    exact Nat.add_le_add_left this (8 * G.val)

theorem lane_ne {k k' : Fin 8} : laneE (ex G k) ≠ laneE (ex G k') ↔ k ≠ k' := by
  refine not_congr ⟨fun e => ?_, fun e => e ▸ rfl⟩
  have := congrArg Fin.val e
  change 8 * G.val + k.val = 8 * G.val + k'.val at this
  exact Fin.ext (by omega)

theorem top_two : IsTop (In' G (laneE (ex G a))) f (laneE (ex G b)) := by
  refine ⟨⟨lane_in he hg h b, (lane_ne he hg h).mpr h.two.mem⟩, fun l hl => ?_, fun l hl el => ?_⟩
  · obtain ⟨k, rfl⟩ := in_lane he hg h l hl.1
    rw [he, he]; exact h.two.le k ((lane_ne he hg h).mp hl.2)
  · obtain ⟨k, rfl⟩ := in_lane he hg h l hl.1
    rw [he, he] at el
    have := h.two.first k ((lane_ne he hg h).mp hl.2) el
    exact Nat.add_le_add_left this (8 * G.val)

theorem sum_group : (∑ l : Fin 128, if 32 ≤ l.val ∧ l.val < 36 then Ideal.exp (f l - f (laneG G)) else 0) = ∑ j, Ideal.exp (g j - g G) := by
  rw [← Finset.sum_filter]
  symm
  refine Finset.sum_bij (fun j _ => laneG j) (fun j _ => ?_) (fun i _ j _ e => ?_) (fun l hl => ?_) (fun j _ => ?_)
  · refine Finset.mem_filter.mpr ⟨Finset.mem_univ _, ?_, ?_⟩
    · show 32 ≤ 32 + j.val; omega
    · show 32 + j.val < 36; omega
  · have := congrArg Fin.val e
    change 32 + i.val = 32 + j.val at this
    exact Fin.ext (by omega)
  · have hl := (Finset.mem_filter.mp hl).2
    exact ⟨⟨l.val - 32, by omega⟩, Finset.mem_univ _, Fin.ext (by show 32 + (l.val - 32) = l.val; omega)⟩
  · rw [hg, hg]

end

/-- The logits of a block: the normalized rows times the router's weights. -/
def lgB (x0 x1 : Vec Ideal S512x512 .bf16) (x2 : Vec Ideal S512x1024 .f32) (x3 : Vec Ideal S1024x1024 .bf16) (x4 : Vec Ideal S1x1024 .f32)
    (x5 : Vec Ideal S1024x128 .f32) (r : Fin 512) (l : Fin 128) : EReal :=
  ∑ k : Fin 1024, Cert.Kernel4Ideal.Out.hE (Cert.Kernel4Ideal.Out.xB x0 x1 x2 x3 r) (fun k => x4 (ix2 0 k)) k * x5 (ix2 k l)

variable (x0 x1 : Vec Ideal S512x512 .bf16) (x2 : Vec Ideal S512x1024 .f32) (x3 : Vec Ideal S1024x1024 .bf16) (x4 : Vec Ideal S1x1024 .f32) (x5 : Vec Ideal S1024x128 .f32)

theorem pay5_raw (w1 w2 : Vec Ideal S512x1024 .bf16) (r : Fin 512) (l : Fin 128) :
    k0_pay5 x0 w1 x1 w2 x2 x4 x5 (ix2 r l) = ∑ k : Fin 1024, k0_pay3 x0 w1 x1 w2 x2 x4 (ix2 r k) * x5 (ix2 k l) := by
  unfold k0_pay5
  generalize k0_pay3 x0 w1 x1 w2 x2 x4 = y
  simp only [pointwise, zero_add]

theorem pay5_apply (r : Fin 512) (l : Fin 128) :
    k0_pay5 x0 (View.ld x3 r0_1) x1 (View.ld x3 r0_2) x2 x4 x5 (ix2 r l) = lgB x0 x1 x2 x3 x4 x5 r l := by
  refine (pay5_raw x0 x1 x2 x4 x5 _ _ r l).trans ?_
  exact Finset.sum_congr rfl fun k _ => congrArg (· * _) (Cert.Kernel4Ideal.Out.pay3_apply x0 x1 x2 x3 x4 r k)

/-- One element of a block of routing weights. -/
theorem out8_apply (r : Fin 512) (l : Fin 128) {G : Fin 4} {a b : Fin 8}
    (h : Choice (fun j => lgB x0 x1 x2 x3 x4 x5 r (laneG j)) (fun k => lgB x0 x1 x2 x3 x4 x5 r (laneE k)) G a b) :
    out0_8 x0 x1 x2 x3 x4 x5 (ix2 r l)
      = comb (fun j => lgB x0 x1 x2 x3 x4 x5 r (laneG j)) (fun k => lgB x0 x1 x2 x3 x4 x5 r (laneE k)) G (ex G a) (ex G b) l := by
  unfold out0_8 k0_pay33 k0_pay32 k0_pay31 k0_pay30 k0_pay29 k0_pay28 k0_pay27 k0_pay26 k0_pay25
  rw [View.canon_unit_zero (S := S512x128) Cert.Kernel4Ideal.Out.hz, View.ld_unit_zero (S := S512x512) Cert.Kernel4Ideal.Out.hz, View.ld_unit_zero (S := S512x512) Cert.Kernel4Ideal.Out.hz, View.ld_unit_zero (S := S512x1024) Cert.Kernel4Ideal.Out.hz,
    View.ld_unit_zero (S := S1x1024) Cert.Kernel4Ideal.Out.hz, View.ld_unit_zero (S := S1024x128) Cert.Kernel4Ideal.Out.hz]
  have e5 := pay5_apply x0 x1 x2 x3 x4 x5 r
  generalize k0_pay5 x0 (View.ld x3 r0_1) x1 (View.ld x3 r0_2) x2 x4 x5 = lg at e5 ⊢
  have ef : (fun l => lg (ix2 r l)) = lgB x0 x1 x2 x3 x4 x5 r := funext e5
  generalize lgB x0 x1 x2 x3 x4 x5 r = f at ef h e5 ⊢
  have t0 := top_group (fun _ => rfl) (fun _ => rfl) h
  have t1 := top_one (fun _ => rfl) (fun _ => rfl) h
  have t2 := top_two (fun _ => rfl) (fun _ => rfl) h
  rw [← ef] at t0 t1 t2
  refine (row_apply lg r G t0 rfl t1 t2 l).trans ?_
  simp only [e5]
  rw [sum_group (fun _ => rfl) (fun _ => rfl) h]
  show (if l = laneE (ex G a) then _ else if l = laneE (ex G b) then _ else _) = comb _ _ G (ex G a) (ex G b) l
  unfold comb
  have hl : ∀ k : Fin 32, (l = laneE k) = (l.val = k.val) := fun k => propext (Fin.ext_iff)
  simp only [hl]
  rfl

end Cert.Kernel5Ideal.Comb
-- ==== Proof.CombArr.lean ====
module

public import proofs.«01_k».proof.Proof.OutArr
public import proofs.«01_k».proof.Proof.CombOut
public import Idealize.ShloMosaic.Lib.Pointwise

@[expose] public section

noncomputable section

open Idealize.ShloMosaic Idealize.ShloMosaic.TcCoe Idealize.SL.Sem

namespace Cert.Kernel5Ideal.Comb

open Cert.Kernel5Ideal Cert.Kernel5Ideal.Gen Cert.TopMath
open Cert.Kernel4Ideal.Out (tOf rOf)

variable (m : (ℓ : Loc nD τ sig) → Buf (Elt Ideal) ℓ)

theorem iblk0 (c : Dev nD) (r : Fin 16384) (k : Fin 512) :
    (iblk m c 0 (tOf r) : Vec Ideal S512x512 .bf16) (ix2 (rOf r) k) = m ((c : Thread nD τ).loc main_arg0) (ix2 r k) :=
  Cert.Kernel4Ideal.Out.iblk0 m c r k

theorem iblk1 (c : Dev nD) (r : Fin 16384) (k : Fin 512) :
    (iblk m c 1 (tOf r) : Vec Ideal S512x512 .bf16) (ix2 (rOf r) k) = m ((c : Thread nD τ).loc main_arg1) (ix2 r k) :=
  Cert.Kernel4Ideal.Out.iblk1 m c r k

theorem iblk2 (c : Dev nD) (r : Fin 16384) (k : Fin 1024) :
    (iblk m c 2 (tOf r) : Vec Ideal S512x1024 .f32) (ix2 (rOf r) k) = m ((c : Thread nD τ).loc main_arg2) (ix2 r k) :=
  Cert.Kernel4Ideal.Out.iblk2 m c r k

theorem iblk3 (c : Dev nD) (t : Fin cfg0.N) (k d : Fin 1024) :
    (iblk m c 3 t : Vec Ideal S1024x1024 .bf16) (ix2 k d) = m ((c : Thread nD τ).loc main_arg3) (ix2 k d) :=
  Cert.Kernel4Ideal.Out.iblk3 m c t k d

theorem iblk4 (c : Dev nD) (t : Fin cfg0.N) (k : Fin 1024) :
    (iblk m c 4 t : Vec Ideal S1x1024 .f32) (ix2 0 k) = m ((c : Thread nD τ).loc main_arg4) (ix1 k) :=
  Cert.Kernel4Ideal.Out.iblk4 m c t k

/-- Three groups of columns side by side. -/
def join3 (we : FVec Ideal S1024x32 .f32) (wg : FVec Ideal S1024x4 .f32) (z : FVec Ideal S1024x92 .f32) : FVec Ideal S1024x128 .f32 :=
  concatenate S1024x128 1 [⟨S1024x32, we⟩, ⟨S1024x4, wg⟩, ⟨S1024x92, z⟩] concatenates_S1024x32_S1024x4_S1024x92_S1024x128_d1

/-- The router's weights as the host joins them: the experts' columns, the groups', and zeros. -/
def joined (we : FVec Ideal S1024x32 .f32) (wg : FVec Ideal S1024x4 .f32) : FVec Ideal S1024x128 .f32 :=
  join3 we wg (broadcastInDim S1024x92 ![] bcast_S_S1024x92 (constant S_ .f32 0x00000000#32 : FVec Ideal S_ .f32))

theorem V_v1 (c : Dev nD) : V m c main_v1 = joined (m ((c : Thread nD τ).loc main_arg6)) (m ((c : Thread nD τ).loc main_arg5)) := by
  unfold_abbrev_sides
  after_results
  refine Eq.trans (b := join3 _ _ _) rfl ?_
  unfold joined
  congr 1

theorem joined_E (we : FVec Ideal S1024x32 .f32) (wg : FVec Ideal S1024x4 .f32) (k : Fin 1024) (q : Fin 32) : joined we wg (ix2 k (laneE q)) = we (ix2 k q) := by
  unfold joined join3 laneE
  simp only [pointwise]
  rw [dif_pos trivial]
  rfl

theorem joined_G (we : FVec Ideal S1024x32 .f32) (wg : FVec Ideal S1024x4 .f32) (k : Fin 1024) (j : Fin 4) : joined we wg (ix2 k (laneG j)) = wg (ix2 k j) := by
  unfold joined join3 laneG
  simp only [pointwise]
  refine (dif_neg (show ¬ 32 + j.val < 32 by omega)).trans ((dif_pos (show 32 + j.val - 32 < 4 by omega)).trans ?_)
  show wg _ = wg _
  congr 1
  funext a; apply Fin.ext
  match a with
  | ⟨0, _⟩ => rfl
  | ⟨1, _⟩ => exact Nat.add_sub_cancel_left 32 j.val

theorem idx5 : ∀ t : Fin cfg0.N, (win0_5.index t (0 : Fin 2) = 0 ∧ win0_5.index t (1 : Fin 2) = 0) ∧ (win0_8.index t (0 : Fin 2) = t.val ∧ win0_8.index t (1 : Fin 2) = 0) :=
  (by decide +kernel : ∀ t : Fin grid0.N, _)

theorem iblk5 (c : Dev nD) (t : Fin cfg0.N) (k : Fin 1024) (l : Fin 128) :
    (iblk m c 5 t : Vec Ideal S1024x128 .f32) (ix2 k l) = joined (m ((c : Thread nD τ).loc main_arg6)) (m ((c : Thread nD τ).loc main_arg5)) (ix2 k l) := by
  rw [← V_v1 m c]
  show V m c main_v1 _ = V m c main_v1 _
  congr 1
  obtain ⟨⟨e0, e1⟩, -⟩ := idx5 t
  funext a; apply Fin.ext
  match a with
  | ⟨0, _⟩ => show win0_5.index t (0 : Fin 2) * 1024 + 1 * k.val = k.val; omega
  | ⟨1, _⟩ => show win0_5.index t (1 : Fin 2) * 128 + 1 * l.val = l.val; omega

abbrev yrA (c : Dev nD) : S16384x512.Idx → EReal := m ((c : Thread nD τ).loc main_arg0)
abbrev yaA (c : Dev nD) : S16384x512.Idx → EReal := m ((c : Thread nD τ).loc main_arg1)
abbrev xA (c : Dev nD) : S16384x1024.Idx → EReal := m ((c : Thread nD τ).loc main_arg2)
abbrev woA (c : Dev nD) : S1024x1024.Idx → EReal := m ((c : Thread nD τ).loc main_arg3)
abbrev nwA (c : Dev nD) : S1024.Idx → EReal := m ((c : Thread nD τ).loc main_arg4)
abbrev wgA (c : Dev nD) : S1024x4.Idx → EReal := m ((c : Thread nD τ).loc main_arg5)
abbrev weA (c : Dev nD) : S1024x32.Idx → EReal := m ((c : Thread nD τ).loc main_arg6)

/-- One normalized row, on whole arrays. -/
def hG (yr ya : S16384x512.Idx → EReal) (x : S16384x1024.Idx → EReal) (w : S1024x1024.Idx → EReal) (nw : S1024.Idx → EReal) (r : Fin 16384) (k : Fin 1024) : EReal :=
  Cert.Kernel4Ideal.Out.hE (Cert.Kernel4Ideal.Out.xG yr ya x w r) (fun k => nw (ix1 k)) k

/-- One row's group logits. -/
def gLog (h : Fin 1024 → EReal) (wg : S1024x4.Idx → EReal) (j : Fin 4) : EReal := ∑ k : Fin 1024, h k * wg (ix2 k j)
/-- One row's expert logits. -/
def eLog (h : Fin 1024 → EReal) (we : S1024x32.Idx → EReal) (q : Fin 32) : EReal := ∑ k : Fin 1024, h k * we (ix2 k q)

theorem xB_eq (c : Dev nD) (r : Fin 16384) :
    Cert.Kernel4Ideal.Out.xB (iblk m c 0 (tOf r)) (iblk m c 1 (tOf r)) (iblk m c 2 (tOf r)) (iblk m c 3 (tOf r)) (rOf r) = Cert.Kernel4Ideal.Out.xG (yrA m c) (yaA m c) (xA m c) (woA m c) r :=
  Cert.Kernel4Ideal.Out.xB_eq m c r

/-- One row's logits, from the blocks. -/
theorem lgB_eq (c : Dev nD) (r : Fin 16384) (l : Fin 128) :
    lgB (iblk m c 0 (tOf r)) (iblk m c 1 (tOf r)) (iblk m c 2 (tOf r)) (iblk m c 3 (tOf r)) (iblk m c 4 (tOf r)) (iblk m c 5 (tOf r)) (rOf r) l
      = ∑ k : Fin 1024, hG (yrA m c) (yaA m c) (xA m c) (woA m c) (nwA m c) r k * joined (weA m c) (wgA m c) (ix2 k l) := by
  unfold lgB hG
  rw [xB_eq]
  simp only [iblk4 m c, iblk5 m c]

/-- The kernel's result, one element, from the choices of its row. -/
theorem final8 (c : Dev nD) (r : Fin 16384) (l : Fin 128) {G : Fin 4} {a b : Fin 8}
    (h : Choice (gLog (hG (yrA m c) (yaA m c) (xA m c) (woA m c) (nwA m c) r) (wgA m c)) (eLog (hG (yrA m c) (yaA m c) (xA m c) (woA m c) (nwA m c) r) (weA m c)) G a b) :
    (dats m 0 c).arrAt 8 cfg0.N (ix2 r l : S16384x128.Idx)
      = comb (gLog (hG (yrA m c) (yaA m c) (xA m c) (woA m c) (nwA m c) r) (wgA m c)) (eLog (hG (yrA m c) (yaA m c) (xA m c) (woA m c) (nwA m c) r) (weA m c)) G (ex G a) (ex G b) l := by
  have e := congrFun (Value.blocks8 m c (tOf r) (flush0_8 (tOf r))) (ix2 (rOf r) l)
  rw [Value.flushed8] at e
  have eg : (fun j => lgB (iblk m c 0 (tOf r)) (iblk m c 1 (tOf r)) (iblk m c 2 (tOf r)) (iblk m c 3 (tOf r)) (iblk m c 4 (tOf r)) (iblk m c 5 (tOf r)) (rOf r) (laneG j))
      = gLog (hG (yrA m c) (yaA m c) (xA m c) (woA m c) (nwA m c) r) (wgA m c) := funext fun j =>
    (lgB_eq m c r _).trans (Finset.sum_congr rfl fun k _ => congrArg _ (joined_G _ _ k j))
  have ee : (fun q => lgB (iblk m c 0 (tOf r)) (iblk m c 1 (tOf r)) (iblk m c 2 (tOf r)) (iblk m c 3 (tOf r)) (iblk m c 4 (tOf r)) (iblk m c 5 (tOf r)) (rOf r) (laneE q))
      = eLog (hG (yrA m c) (yaA m c) (xA m c) (woA m c) (nwA m c) r) (weA m c) := funext fun q =>
    (lgB_eq m c r _).trans (Finset.sum_congr rfl fun k _ => congrArg _ (joined_E _ _ k q))
  have ho := out8_apply (iblk m c 0 (tOf r)) (iblk m c 1 (tOf r)) (iblk m c 2 (tOf r)) (iblk m c 3 (tOf r)) (iblk m c 4 (tOf r)) (iblk m c 5 (tOf r)) (rOf r) l
    (G := G) (a := a) (b := b) (by rw [eg, ee]; exact h)
  rw [eg, ee] at ho
  refine Eq.trans ?_ (e.trans ho)
  show (dats m 0 c).arrAt 8 cfg0.N _ = (dats m 0 c).arrAt 8 cfg0.N _
  congr 1
  obtain ⟨-, ⟨e0, e1⟩⟩ := idx5 (tOf r)
  have ht : (tOf r).val = r.val / 512 := rfl
  funext a; apply Fin.ext
  match a with
  | ⟨0, _⟩ => show r.val = win0_8.index (tOf r) (0 : Fin 2) * 512 + 1 * (r.val % 512); omega
  | ⟨1, _⟩ => show l.val = win0_8.index (tOf r) (1 : Fin 2) * 128 + 1 * l.val; omega

end Cert.Kernel5Ideal.Comb
-- ==== Proof.CombRef.lean ====
module

public import proofs.«01_k».proof.Proof.CombBlock
public import proofs.«01_k».proof.Proof.OutRef
public import proofs.«01_k».proof.Proof.Gen.Reference5Ideal.Read

@[expose] public section

noncomputable section

open Idealize.ShloMosaic Idealize.ShloMosaic.TcCoe Idealize.SL.Sem

namespace Cert.Reference5Ideal.Comb

open Cert.Reference5Ideal Cert.Reference5Ideal.Gen Cert.Reference5Ideal.Read Cert.TopMath

/-- The order the host sorts by: greater first. -/
def before {n : ℕ} (f : Fin n → EReal) (k k' : Fin n) : Bool := FloatOps.cmpfTotal (F := Ideal) (φ := .f32) .gt (f k) (f k') == 1#1

theorem before_iff {n : ℕ} (f : Fin n → EReal) (a b : Fin n) : before f a b = true ↔ f b < f a := by
  show (BitVec.ofBool (decide (f b < f a)) == 1#1) = true ↔ _
  by_cases h : f b < f a <;> simp [h]

theorem along4 (r : Fin 16384) (j : S16384x4.Idx) (hj : (j 0).val = r.val) (k : Fin 4) : j.along (1 : Fin S16384x4.rank) k = ix2 r k := by
  funext a
  match a with
  | ⟨0, _⟩ => exact (Function.update_of_ne (fun e => absurd (congrArg Fin.val e) Nat.zero_ne_one) _ _).trans (Fin.ext hj)
  | ⟨1, _⟩ => exact Function.update_self _ _ _

theorem along8 (r : Fin 16384) (j : S16384x8.Idx) (hj : (j 0).val = r.val) (k : Fin 8) : j.along (1 : Fin S16384x8.rank) k = ix2 r k := by
  funext a
  match a with
  | ⟨0, _⟩ => exact (Function.update_of_ne (fun e => absurd (congrArg Fin.val e) Nat.zero_ne_one) _ _).trans (Fin.ext hj)
  | ⟨1, _⟩ => exact Function.update_self _ _ _

/-- The position the sort puts first, of four. -/
def best (f : Fin 4 → EReal) : Fin 4 := sortedFrom (before f) 0
/-- The position the sort puts at `s`, of eight. -/
def pick (f : Fin 8 → EReal) (s : Fin 2) : Fin 8 := sortedFrom (before f) ⟨s.val, by omega⟩

section
variable (y : FVec Ideal S16384x4 .f32) (r : Fin 16384)
theorem best_val : (Host.topK S16384x1 1 (FloatOps.cmpfTotal .gt) y sliceFits_S16384x4_S16384x1).1 (ix2 r 0) = y (ix2 r (best fun k => y (ix2 r k))) := by
  have e : ∀ j : S16384x4.Idx, (j 0).val = r.val → (j 1) = (0 : Fin 4) →
      (Host.sort2 S16384x4 1 (fun l r => FloatOps.cmpfTotal (F := Ideal) (φ := .f32) .gt l.1 r.1) y (fun i => iotaInDim S16384x4 32 1 i)).1 j = y (ix2 r (best fun k => y (ix2 r k))) := fun j hj h1 => by
    show y (j.along (1 : Fin S16384x4.rank) (sortedFrom (fun k k' => FloatOps.cmpfTotal (F := Ideal) (φ := .f32) .gt (y (j.along (1 : Fin S16384x4.rank) k)) (y (j.along (1 : Fin S16384x4.rank) k')) == 1#1) (j 1))) = _
    refine (congrArg y (along4 r j hj _)).trans (congrArg (fun q : Fin 4 => y (ix2 r q)) ?_)
    exact congrArg₂ (sortedFrom (n := 4)) (funext fun k => funext fun k' => congrArg₂ (fun a b => FloatOps.cmpfTotal (F := Ideal) (φ := .f32) .gt (y a) (y b) == 1#1) (along4 r j hj k) (along4 r j hj k')) h1
  exact e _ (Nat.zero_add _) rfl

theorem best_idx : (Host.topK S16384x1 1 (FloatOps.cmpfTotal .gt) y sliceFits_S16384x4_S16384x1).2 (ix2 r 0) = BitVec.ofNat 32 (best fun k => y (ix2 r k)).val := by
  have e : ∀ j : S16384x4.Idx, (j 0).val = r.val → (j 1) = (0 : Fin 4) →
      (Host.sort2 S16384x4 1 (fun l r => FloatOps.cmpfTotal (F := Ideal) (φ := .f32) .gt l.1 r.1) y (fun i => iotaInDim S16384x4 32 1 i)).2 j = BitVec.ofNat 32 (best fun k => y (ix2 r k)).val := fun j hj h1 => by
    show iotaInDim S16384x4 32 1 (j.along (1 : Fin S16384x4.rank) (sortedFrom (fun k k' => FloatOps.cmpfTotal (F := Ideal) (φ := .f32) .gt (y (j.along (1 : Fin S16384x4.rank) k)) (y (j.along (1 : Fin S16384x4.rank) k')) == 1#1) (j 1))) = _
    refine (congrArg (iotaInDim S16384x4 32 1) (along4 r j hj _)).trans (congrArg (fun q : Fin 4 => BitVec.ofNat 32 q.val) ?_)
    exact congrArg₂ (sortedFrom (n := 4)) (funext fun k => funext fun k' => congrArg₂ (fun a b => FloatOps.cmpfTotal (F := Ideal) (φ := .f32) .gt (y a) (y b) == 1#1) (along4 r j hj k) (along4 r j hj k')) h1
  exact e _ (Nat.zero_add _) rfl
end

section
variable (y : FVec Ideal S16384x8 .f32) (r : Fin 16384) (s : Fin 2)
theorem pick_val : (Host.topK S16384x2 1 (FloatOps.cmpfTotal .gt) y sliceFits_S16384x8_S16384x2).1 (ix2 r s) = y (ix2 r (pick (fun k => y (ix2 r k)) s)) := by
  have e : ∀ j : S16384x8.Idx, (j 0).val = r.val → (j 1) = (⟨s.val, by omega⟩ : Fin 8) →
      (Host.sort2 S16384x8 1 (fun l r => FloatOps.cmpfTotal (F := Ideal) (φ := .f32) .gt l.1 r.1) y (fun i => iotaInDim S16384x8 32 1 i)).1 j = y (ix2 r (pick (fun k => y (ix2 r k)) s)) := fun j hj h1 => by
    show y (j.along (1 : Fin S16384x8.rank) (sortedFrom (fun k k' => FloatOps.cmpfTotal (F := Ideal) (φ := .f32) .gt (y (j.along (1 : Fin S16384x8.rank) k)) (y (j.along (1 : Fin S16384x8.rank) k')) == 1#1) (j 1))) = _
    refine (congrArg y (along8 r j hj _)).trans (congrArg (fun q : Fin 8 => y (ix2 r q)) ?_)
    exact congrArg₂ (sortedFrom (n := 8)) (funext fun k => funext fun k' => congrArg₂ (fun a b => FloatOps.cmpfTotal (F := Ideal) (φ := .f32) .gt (y a) (y b) == 1#1) (along8 r j hj k) (along8 r j hj k')) h1
  exact e _ (Nat.zero_add _) (Fin.ext (Nat.zero_add _))

theorem pick_idx : (Host.topK S16384x2 1 (FloatOps.cmpfTotal .gt) y sliceFits_S16384x8_S16384x2).2 (ix2 r s) = BitVec.ofNat 32 (pick (fun k => y (ix2 r k)) s).val := by
  have e : ∀ j : S16384x8.Idx, (j 0).val = r.val → (j 1) = (⟨s.val, by omega⟩ : Fin 8) →
      (Host.sort2 S16384x8 1 (fun l r => FloatOps.cmpfTotal (F := Ideal) (φ := .f32) .gt l.1 r.1) y (fun i => iotaInDim S16384x8 32 1 i)).2 j = BitVec.ofNat 32 (pick (fun k => y (ix2 r k)) s).val := fun j hj h1 => by
    show iotaInDim S16384x8 32 1 (j.along (1 : Fin S16384x8.rank) (sortedFrom (fun k k' => FloatOps.cmpfTotal (F := Ideal) (φ := .f32) .gt (y (j.along (1 : Fin S16384x8.rank) k)) (y (j.along (1 : Fin S16384x8.rank) k')) == 1#1) (j 1))) = _
    refine (congrArg (iotaInDim S16384x8 32 1) (along8 r j hj _)).trans (congrArg (fun q : Fin 8 => BitVec.ofNat 32 q.val) ?_)
    exact congrArg₂ (sortedFrom (n := 8)) (funext fun k => funext fun k' => congrArg₂ (fun a b => FloatOps.cmpfTotal (F := Ideal) (φ := .f32) .gt (y a) (y b) == 1#1) (along8 r j hj k) (along8 r j hj k')) h1
  exact e _ (Nat.zero_add _) (Fin.ext (Nat.zero_add _))
end

/-- The gather that takes one group's row. -/
abbrev takeG : GatherDims S16384x4x8 S16384x1x1 S16384x1x8 := gather_S16384x4x8_S16384x1x1_S16384x1x8_2_1_0_0_1_2_118

/-- The gather reads the group its index names. -/
theorem gather_apply (y : FVec Ideal S16384x4x8 .f32) (idx : IVec S16384x1x1 32) (r : Fin 16384) (k : Fin 8) (G : Fin 4) (h : idx (ix3 r 0 0) = BitVec.ofNat 32 G.val) :
    Host.gather takeG y idx (ix3 r 0 k) = y (ix3 r G k) := by
  unfold Host.gather
  refine congrArg y (funext fun a => Fin.ext ?_)
  show takeG.start (ix3 r 0 k) idx a + takeG.batchCoord (ix3 r 0 k) a + takeG.offCoord (ix3 r 0 k) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ takeG.operandBatchingDims from List.mem_singleton.mpr rfl)]
    rfl
  · rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ takeG.startIndexMap from List.mem_singleton.mpr rfl)]
    have hsi : takeG.siIdx (ix3 r 0 k) ⟨List.idxOf (1 : Fin 3) takeG.startIndexMap, List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, h]
    exact (by decide : ∀ G : Fin 4, min (BitVec.ofNat 32 G.val).toInt.toNat (4 - 1) = G.val) G
  · rw [GatherDims.batchCoord_eq_zero _ _ _ (fun h => absurd (congrArg Fin.val (List.mem_singleton.mp h)) (by decide))]
    have hn : (2 : Fin 3) ∉ takeG.startIndexMap := fun h => absurd (congrArg Fin.val (List.mem_singleton.mp h)) (by decide)
    unfold GatherDims.start
    rw [dif_neg hn]
    simp only [Nat.zero_add]
    unfold GatherDims.offCoord
    rw [dif_pos ((GatherDims.mem_sKept _ _).mpr ⟨fun h => absurd (congrArg Fin.val (List.mem_singleton.mp h)) (by decide), fun h => absurd (congrArg Fin.val (List.mem_singleton.mp h)) (by decide)⟩)]
    rfl

variable (x0 x1 : Vec Ideal S16384x512 .bf16) (x2 : Vec Ideal S16384x1024 .f32) (x3 : Vec Ideal S1024x1024 .f32) (x4 : Vec Ideal S1024 .f32)
  (x5 : Vec Ideal S1024x4 .f32) (x6 : Vec Ideal S1024x32 .f32)

/-- One row's group logits. -/
abbrev gR (r : Fin 16384) (j : Fin 4) : EReal := val_main_v18 (F := Ideal) x0 x1 x2 x3 x4 x5 (ix2 r j)
/-- One row's expert logits. -/
abbrev eR (r : Fin 16384) (q : Fin 32) : EReal := val_main_v30 (F := Ideal) x0 x1 x2 x3 x4 x6 (ix2 r q)
/-- One row's group probabilities. -/
abbrev pR (r : Fin 16384) (j : Fin 4) : EReal := val_main_v29 (F := Ideal) x0 x1 x2 x3 x4 x5 (ix2 r j)

theorem neg_inf : Ideal.ofBits .f32 0xFF800000#32 = (⊥ : EReal) := Cert.Kernel5Ideal.Comb.bot_bits

theorem max4 (r : Fin 16384) : val_main_v21 (F := Ideal) x0 x1 x2 x3 x4 x5 (ix1 r) = Finset.univ.sup (gR x0 x1 x2 x3 x4 x5 r) := by
  have e : val_main_v19 (F := Ideal) x0 x1 x2 x3 x4 x5 (ix1 r) = Finset.univ.sup (gR x0 x1 x2 x3 x4 x5 r) := by
    unfold val_main_v19 gR
    generalize val_main_v18 (F := Ideal) x0 x1 x2 x3 x4 x5 = y
    have hr : S16384x4.Reduces [1] S16384 := by decide
    refine (Host.reduce_eq_fold_single (FloatOps.maximumf (F := Ideal) (φ := .f32)) y (val_main_cst_2 (F := Ideal)) reducesTo_S16384x4_S16384_d1 hr h_S_ (ix1 r)).trans ?_
    have el : ∀ c : Fin 4, hr.lift (ix1 r) c = ix2 r c := fun c => by
      funext i
      fin_cases i <;> rfl
    rw [show y ∘ hr.lift (ix1 r) = fun c => y (ix2 r c) from funext fun c => congrArg y (el c)]
    show Finset.univ.fold max (Ideal.ofBits .f32 0xFF800000#32) _ = _
    rw [neg_inf]
    rfl
  rw [val_main_v21_apply, e]
  show max (Ideal.ofBits .f32 0xFF800000#32) _ = _
  rw [neg_inf, bot_sup_eq]

theorem prob (r : Fin 16384) (j : Fin 4) : pR x0 x1 x2 x3 x4 x5 r j
    = Ideal.div (Ideal.exp (gR x0 x1 x2 x3 x4 x5 r j - Finset.univ.sup (gR x0 x1 x2 x3 x4 x5 r))) (∑ k, Ideal.exp (gR x0 x1 x2 x3 x4 x5 r k - Finset.univ.sup (gR x0 x1 x2 x3 x4 x5 r))) := by
  rw [← max4]
  unfold pR gR val_main_v29 val_main_v28 val_main_v27 val_main_v26 val_main_v25 val_main_v24 val_main_v23 val_main_v22 val_main_cst_4
  generalize val_main_v18 (F := Ideal) x0 x1 x2 x3 x4 x5 = y
  generalize val_main_v21 (F := Ideal) x0 x1 x2 x3 x4 x5 = M
  simp only [pointwise, zero_add]
  rfl

/-- The group chosen. -/
abbrev GR (r : Fin 16384) : Fin 4 := best (pR x0 x1 x2 x3 x4 x5 r)

theorem v32_apply (r : Fin 16384) : val_main_v32 (F := Ideal) x0 x1 x2 x3 x4 x5 (ix3 r 0 0) = BitVec.ofNat 32 (GR x0 x1 x2 x3 x4 x5 r).val := by
  rw [val_main_v32_apply, show idx_main_v32 (ix3 r 0 0) = ix2 r 0 from by funext i; fin_cases i <;> rfl]
  unfold val_main_indices
  exact best_idx (val_main_v29 (F := Ideal) x0 x1 x2 x3 x4 x5) r

theorem start_apply (r : Fin 16384) : val_main_call0_v4 (F := Ideal) x0 x1 x2 x3 x4 x5 (ix3 r 0 0) = BitVec.ofNat 32 (GR x0 x1 x2 x3 x4 x5 r).val := by
  unfold val_main_call0_v4 val_main_call0_v1 val_main_call0_v3 val_main_call0_v0 val_main_call0_v2 val_main_call0_c val_main_call0_c_0
  have h := v32_apply x0 x1 x2 x3 x4 x5 r
  generalize val_main_v32 (F := Ideal) x0 x1 x2 x3 x4 x5 = y at h ⊢
  generalize GR x0 x1 x2 x3 x4 x5 r = G at h ⊢
  simp only [pointwise, h]
  exact (by decide : ∀ G : Fin 4, Scalar.select (IntOp.cmpi .slt (BitVec.ofNat 32 G.val) 0#32) (IntOp.addi (BitVec.ofNat 32 G.val) 4#32) (BitVec.ofNat 32 G.val) = BitVec.ofNat 32 G.val) G

/-- The chosen group is in range. -/
theorem mask_apply (r : Fin 16384) : val_main_call0_v11 (F := Ideal) x0 x1 x2 x3 x4 x5 (ix2 r 0) = 1#1 := by
  have h : val_main_call0_v10 (F := Ideal) x0 x1 x2 x3 x4 x5 (ix3 r 0 0) = 1#1 := by
    have h := start_apply x0 x1 x2 x3 x4 x5 r
    unfold val_main_call0_v10 val_main_call0_v6 val_main_call0_v9 val_main_call0_v8 val_main_call0_v7 val_main_call0_v5 val_main_call0_c_1 val_main_call0_c_2
    generalize val_main_call0_v4 (F := Ideal) x0 x1 x2 x3 x4 x5 = y at h ⊢
    generalize GR x0 x1 x2 x3 x4 x5 r = G at h ⊢
    simp only [pointwise, h]
    exact (by decide : ∀ G : Fin 4, IntOp.andi (IntOp.cmpi .sge (BitVec.ofNat 32 G.val) 0#32) (IntOp.cmpi .sle (BitVec.ofNat 32 G.val) 3#32) = 1#1) G
  unfold val_main_call0_v11
  generalize val_main_call0_v10 (F := Ideal) x0 x1 x2 x3 x4 x5 = y at h ⊢
  have hr : S16384x1x1.Reduces [2] S16384x1 := by decide
  refine (Host.reduce_eq_fold_single (IntOp.andi (w := 1)) y (val_main_call0_c_3 (F := Ideal)) reducesTo_S16384x1x1_S16384x1_d2 hr h_S_ (ix2 r 0)).trans ?_
  have el : ∀ c : Fin 1, hr.lift (ix2 r 0) c = ix3 r 0 0 := fun c => by
    obtain rfl : c = 0 := Subsingleton.elim _ _
    funext i
    fin_cases i <;> rfl
  rw [show y ∘ hr.lift (ix2 r 0) = fun _ => 1#1 from funext fun c => (congrArg y (el c)).trans h]
  rfl

/-- The chosen group's expert logits. -/
theorem v34_apply (r : Fin 16384) (k : Fin 8) :
    val_main_v34 (F := Ideal) x0 x1 x2 x3 x4 x5 x6 (ix2 r k) = eR x0 x1 x2 x3 x4 x6 r (ex (GR x0 x1 x2 x3 x4 x5 r) k) := by
  rw [val_main_v34_apply, show idx_main_v34 (ix2 r k) = ix3 r 0 k from by
    funext i; apply Fin.ext
    match i with
    | ⟨0, _⟩ => show (r.val * 8 + k.val) / 8 = r.val; omega
    | ⟨1, _⟩ => rfl
    | ⟨2, _⟩ => show (r.val * 8 + k.val) % 8 = k.val; omega]
  have hm : val_main_call0_v13 (F := Ideal) x0 x1 x2 x3 x4 x5 (ix3 r 0 k) = 1#1 := by
    rw [val_main_call0_v13_apply, show idx_main_call0_v13 (ix3 r 0 k) = ix2 r 0 from by funext i; fin_cases i <;> rfl]
    exact mask_apply x0 x1 x2 x3 x4 x5 r
  have hg : val_main_call0_v12 (F := Ideal) x0 x1 x2 x3 x4 x5 x6 (ix3 r 0 k) = eR x0 x1 x2 x3 x4 x6 r (ex (GR x0 x1 x2 x3 x4 x5 r) k) := by
    refine (gather_apply (val_main_v31 (F := Ideal) x0 x1 x2 x3 x4 x6) _ r k _ (start_apply x0 x1 x2 x3 x4 x5 r)).trans ?_
    rw [val_main_v31_apply]
    generalize GR x0 x1 x2 x3 x4 x5 r = G
    refine congrArg (val_main_v30 (F := Ideal) x0 x1 x2 x3 x4 x6) ?_
    funext i; apply Fin.ext
    match i with
    | ⟨0, _⟩ => show ((r.val * 4 + G.val) * 8 + k.val) / 32 = r.val; omega
    | ⟨1, _⟩ => show ((r.val * 4 + G.val) * 8 + k.val) % 32 = 8 * G.val + k.val; omega
  rw [val_main_v33_apply, hm, hg]
  rfl

/-- The chosen group's expert logits, as a row of eight. -/
abbrev cR (r : Fin 16384) (k : Fin 8) : EReal := eR x0 x1 x2 x3 x4 x6 r (ex (GR x0 x1 x2 x3 x4 x5 r) k)
/-- The expert chosen at `s`, in the group. -/
abbrev PR (r : Fin 16384) (s : Fin 2) : Fin 8 := pick (cR x0 x1 x2 x3 x4 x5 x6 r) s

theorem c_row (r : Fin 16384) : (fun k => val_main_v34 (F := Ideal) x0 x1 x2 x3 x4 x5 x6 (ix2 r k)) = cR x0 x1 x2 x3 x4 x5 x6 r :=
  funext fun k => v34_apply x0 x1 x2 x3 x4 x5 x6 r k

theorem val_apply (r : Fin 16384) (s : Fin 2) : val_main_values_5 (F := Ideal) x0 x1 x2 x3 x4 x5 x6 (ix2 r s) = cR x0 x1 x2 x3 x4 x5 x6 r (PR x0 x1 x2 x3 x4 x5 x6 r s) := by
  unfold val_main_values_5
  refine (pick_val (val_main_v34 (F := Ideal) x0 x1 x2 x3 x4 x5 x6) r s).trans ?_
  rw [v34_apply, c_row]

theorem idx_apply (r : Fin 16384) (s : Fin 2) : val_main_indices_6 (F := Ideal) x0 x1 x2 x3 x4 x5 x6 (ix2 r s) = BitVec.ofNat 32 (PR x0 x1 x2 x3 x4 x5 x6 r s).val := by
  unfold val_main_indices_6
  refine (pick_idx (val_main_v34 (F := Ideal) x0 x1 x2 x3 x4 x5 x6) r s).trans ?_
  rw [c_row]

theorem max2 (r : Fin 16384) : val_main_v37 (F := Ideal) x0 x1 x2 x3 x4 x5 x6 (ix1 r) = Finset.univ.sup fun s => cR x0 x1 x2 x3 x4 x5 x6 r (PR x0 x1 x2 x3 x4 x5 x6 r s) := by
  have e : val_main_v35 (F := Ideal) x0 x1 x2 x3 x4 x5 x6 (ix1 r) = Finset.univ.sup fun s => cR x0 x1 x2 x3 x4 x5 x6 r (PR x0 x1 x2 x3 x4 x5 x6 r s) := by
    have e := val_apply x0 x1 x2 x3 x4 x5 x6 r
    unfold val_main_v35
    generalize val_main_values_5 (F := Ideal) x0 x1 x2 x3 x4 x5 x6 = y at e ⊢
    have hr : S16384x2.Reduces [1] S16384 := by decide
    refine (Host.reduce_eq_fold_single (FloatOps.maximumf (F := Ideal) (φ := .f32)) y (val_main_cst_7 (F := Ideal)) reducesTo_S16384x2_S16384_d1 hr h_S_ (ix1 r)).trans ?_
    have el : ∀ c : Fin 2, hr.lift (ix1 r) c = ix2 r c := fun c => by
      funext i
      fin_cases i <;> rfl
    rw [show y ∘ hr.lift (ix1 r) = fun s => cR x0 x1 x2 x3 x4 x5 x6 r (PR x0 x1 x2 x3 x4 x5 x6 r s) from funext fun c => (congrArg y (el c)).trans (e c)]
    show Finset.univ.fold max (Ideal.ofBits .f32 0xFF800000#32) _ = _
    rw [neg_inf]
    rfl
  rw [val_main_v37_apply, e]
  show max (Ideal.ofBits .f32 0xFF800000#32) _ = _
  rw [neg_inf, bot_sup_eq]

/-- One gate, as the reference computes it. -/
theorem gate_apply (r : Fin 16384) (s : Fin 2) : val_main_v47 (F := Ideal) x0 x1 x2 x3 x4 x5 x6 (ix2 r s)
    = Ideal.div (Ideal.exp (cR x0 x1 x2 x3 x4 x5 x6 r (PR x0 x1 x2 x3 x4 x5 x6 r s) - Finset.univ.sup fun s => cR x0 x1 x2 x3 x4 x5 x6 r (PR x0 x1 x2 x3 x4 x5 x6 r s)))
        (∑ s', Ideal.exp (cR x0 x1 x2 x3 x4 x5 x6 r (PR x0 x1 x2 x3 x4 x5 x6 r s') - Finset.univ.sup fun s => cR x0 x1 x2 x3 x4 x5 x6 r (PR x0 x1 x2 x3 x4 x5 x6 r s)))
      * pR x0 x1 x2 x3 x4 x5 r (GR x0 x1 x2 x3 x4 x5 r) := by
  rw [← max2]
  simp only [← val_apply]
  have eg : val_main_values (F := Ideal) x0 x1 x2 x3 x4 x5 (ix2 r 0) = pR x0 x1 x2 x3 x4 x5 r (GR x0 x1 x2 x3 x4 x5 r) := best_val (val_main_v29 (F := Ideal) x0 x1 x2 x3 x4 x5) r
  rw [← eg]
  unfold val_main_v47 val_main_v46 val_main_v45 val_main_v44 val_main_v43 val_main_v42 val_main_v41 val_main_v40 val_main_v39 val_main_v38 val_main_cst_9
  generalize val_main_values_5 (F := Ideal) x0 x1 x2 x3 x4 x5 x6 = y
  generalize val_main_v37 (F := Ideal) x0 x1 x2 x3 x4 x5 x6 = M
  generalize val_main_values (F := Ideal) x0 x1 x2 x3 x4 x5 = z
  simp only [pointwise, zero_add]
  rfl

/-- One expert's number, as the reference computes it. -/
theorem id_apply (r : Fin 16384) (s : Fin 2) : val_main_v51 (F := Ideal) x0 x1 x2 x3 x4 x5 x6 (ix2 r s)
    = IntOp.addi (IntOp.muli (BitVec.ofNat 32 (GR x0 x1 x2 x3 x4 x5 r).val) 8#32) (BitVec.ofNat 32 (PR x0 x1 x2 x3 x4 x5 x6 r s).val) := by
  rw [← idx_apply]
  have eg : val_main_indices (F := Ideal) x0 x1 x2 x3 x4 x5 (ix2 r 0) = BitVec.ofNat 32 (GR x0 x1 x2 x3 x4 x5 r).val := best_idx (val_main_v29 (F := Ideal) x0 x1 x2 x3 x4 x5) r
  rw [← eg]
  unfold val_main_v51 val_main_v50 val_main_v49 val_main_v48 val_main_c
  generalize val_main_indices_6 (F := Ideal) x0 x1 x2 x3 x4 x5 x6 = y
  generalize val_main_indices (F := Ideal) x0 x1 x2 x3 x4 x5 = z
  simp only [pointwise]
  rfl

theorem bit_float (b : Bool) : (FloatOps.uitofp (F := Ideal) .f32 (BitVec.ofBool b) : EReal) = if b then 1 else 0 := by
  cases b <;> simp [FloatOps.uitofp]

/-- One routing weight, from the two gates and the two experts' numbers. -/
theorem v56_apply (r : Fin 16384) (q : Fin 32) : val_main_v56 (F := Ideal) x0 x1 x2 x3 x4 x5 x6 (ix2 r q)
    = ∑ s : Fin 2, (FloatOps.uitofp (F := Ideal) .f32 (IntOp.cmpi .eq (val_main_v51 (F := Ideal) x0 x1 x2 x3 x4 x5 x6 (ix2 r s)) (BitVec.ofNat 32 q.val)) : EReal)
        * val_main_v47 (F := Ideal) x0 x1 x2 x3 x4 x5 x6 (ix2 r s) := by
  unfold val_main_v56 val_main_v55 val_main_v54 val_main_v53 val_main_v52 val_main_call1_v4 val_main_call1_v3 val_main_call1_v2 val_main_call1_v1 val_main_call1_v0 val_main_cst_10
  generalize val_main_v51 (F := Ideal) x0 x1 x2 x3 x4 x5 x6 = y
  generalize val_main_v47 (F := Ideal) x0 x1 x2 x3 x4 x5 x6 = z
  simp only [pointwise, zero_add]
  rfl

theorem v57_lo (r : Fin 16384) (q : Fin 32) : val_main_v57 (F := Ideal) x0 x1 x2 x3 x4 x5 x6 (ix2 r (⟨q.val, by omega⟩ : Fin 128)) = val_main_v56 (F := Ideal) x0 x1 x2 x3 x4 x5 x6 (ix2 r q) := by
  unfold val_main_v57
  generalize val_main_v56 (F := Ideal) x0 x1 x2 x3 x4 x5 x6 = y
  unfold Idealize.ShloMosaic.pad
  refine (dif_pos fun a => ?_).trans ?_
  · match a with
    | ⟨0, _⟩ => exact ⟨Nat.zero_le _, Nat.mod_one _, (Nat.div_one _).trans_lt r.isLt⟩
    | ⟨1, _⟩ => exact ⟨Nat.zero_le _, Nat.mod_one _, (Nat.div_one _).trans_lt q.isLt⟩
  · refine congrArg y ?_
    funext a; apply Fin.ext
    match a with
    | ⟨0, _⟩ => exact Nat.div_one _
    | ⟨1, _⟩ => exact Nat.div_one _

theorem v57_hi (r : Fin 16384) (l : Fin 128) (h : 32 ≤ l.val) : val_main_v57 (F := Ideal) x0 x1 x2 x3 x4 x5 x6 (ix2 r l) = (0 : EReal) := by
  unfold val_main_v57
  generalize val_main_v56 (F := Ideal) x0 x1 x2 x3 x4 x5 x6 = y
  unfold Idealize.ShloMosaic.pad
  refine (dif_neg fun ha => ?_).trans ?_
  · have h1 : (l.val - 0) / (0 + 1) < 32 := (ha (1 : Fin 2)).2.2
    rw [Nat.zero_add, Nat.div_one, Nat.sub_zero] at h1
    omega
  · show (((0#32 : BitVec 32).toInt : ℝ) : EReal) = 0
    simp

theorem exp_self {x : EReal} (h : ∃ r : ℝ, x = (r : EReal)) : Ideal.exp (x - x) = 1 := by
  obtain ⟨r, rfl⟩ := h
  rw [← EReal.coe_sub, sub_self, Ideal.exp_coe, Real.exp_zero]; rfl

theorem best_top (f : Fin 4 → EReal) : IsTop (fun _ => True) f (best f) := top_sorted f (before f) (before_iff f) 0 rfl

/-- The group of largest probability has the largest logit, the first of its equals. -/
theorem group_top (r : Fin 16384) (hg : Real' (gR x0 x1 x2 x3 x4 x5 r)) :
    IsTop (fun _ => True) (gR x0 x1 x2 x3 x4 x5 r) (GR x0 x1 x2 x3 x4 x5 r)
      ∧ pR x0 x1 x2 x3 x4 x5 r (GR x0 x1 x2 x3 x4 x5 r) = groupGate (gR x0 x1 x2 x3 x4 x5 r) (GR x0 x1 x2 x3 x4 x5 r) := by
  have hb := best_top (pR x0 x1 x2 x3 x4 x5 r)
  have hp := fun j => prob x0 x1 x2 x3 x4 x5 r j
  have eG : GR x0 x1 x2 x3 x4 x5 r = best (pR x0 x1 x2 x3 x4 x5 r) := rfl
  generalize gR x0 x1 x2 x3 x4 x5 r = g at hg hp ⊢
  rw [eG]
  generalize best (pR x0 x1 x2 x3 x4 x5 r) = G at hb ⊢
  obtain ⟨M, -, hM⟩ := Finset.exists_mem_eq_sup Finset.univ Finset.univ_nonempty g
  rw [hM] at hp
  have ht : IsTop (fun _ => True) g G := by
    rw [show pR x0 x1 x2 x3 x4 x5 r = _ from funext hp] at hb
    exact top_of_softmax hg M hb
  have e : g M = g G := le_antisymm (ht.le M trivial) (hM ▸ Finset.le_sup (Finset.mem_univ G))
  refine ⟨ht, ?_⟩
  rw [hp, e, exp_self (hg G)]
  rfl

theorem pick_tops (f : Fin 8 → EReal) : IsTop (fun _ => True) f (pick f 0) ∧ IsTop (fun k => k ≠ pick f 0) f (pick f 1) :=
  ⟨top_sorted f (before f) (before_iff f) _ rfl, second_sorted f (before f) (before_iff f) _ _ rfl rfl⟩

theorem choice (r : Fin 16384) (hg : Real' (gR x0 x1 x2 x3 x4 x5 r)) :
    Choice (gR x0 x1 x2 x3 x4 x5 r) (eR x0 x1 x2 x3 x4 x6 r) (GR x0 x1 x2 x3 x4 x5 r) (PR x0 x1 x2 x3 x4 x5 x6 r 0) (PR x0 x1 x2 x3 x4 x5 x6 r 1) :=
  ⟨(group_top x0 x1 x2 x3 x4 x5 r hg).1, (pick_tops _).1, (pick_tops _).2⟩

/-- The two gates of real logits, the first the larger: the softmax of the two times a gate is the gate split by their ratio. -/
theorem two_gates {u v S : ℝ} (hvu : v ≤ u) (hS : 0 < S) (c : Fin 2 → EReal) (h0 : c 0 = (u : EReal)) (h1 : c 1 = (v : EReal)) :
    Ideal.div (Ideal.exp (c 0 - Finset.univ.sup c)) (∑ s, Ideal.exp (c s - Finset.univ.sup c)) * Ideal.div 1 (S : EReal)
        = Ideal.div (Ideal.div 1 (S : EReal)) (1 + Ideal.exp ((v : EReal) - u))
      ∧ Ideal.div (Ideal.exp (c 1 - Finset.univ.sup c)) (∑ s, Ideal.exp (c s - Finset.univ.sup c)) * Ideal.div 1 (S : EReal)
        = Ideal.div (Ideal.div 1 (S : EReal)) (1 + Ideal.exp ((v : EReal) - u)) * Ideal.exp ((v : EReal) - u) := by
  have es : Finset.univ.sup c = (u : EReal) := by
    refine le_antisymm (Finset.sup_le fun s _ => ?_) (h0 ▸ Finset.le_sup (Finset.mem_univ 0))
    match s with
    | ⟨0, _⟩ => exact h0.le
    | ⟨1, _⟩ => exact h1.le.trans (EReal.coe_le_coe_iff.mpr hvu)
  have ρ := Real.exp_pos (v - u)
  have one : (1 : EReal) = ((1 : ℝ) : EReal) := rfl
  have e1 : (1 : EReal) + Ideal.exp ((v : EReal) - u) = ((1 + Real.exp (v - u) : ℝ) : EReal) := by
    rw [← EReal.coe_sub, Ideal.exp_coe, one, ← EReal.coe_add]
  have hne : 1 + Real.exp (v - u) ≠ 0 := by positivity
  rw [Fin.sum_univ_two, es, h0, h1, exp_self ⟨u, rfl⟩, e1]
  rw [← EReal.coe_sub, Ideal.exp_coe, one, div_real hne, div_real hS.ne', div_real hne, div_real hne]
  simp only [← EReal.coe_mul, EReal.coe_eq_coe_iff]
  constructor <;> field_simp

theorem one_hot (G : Fin 4) (k : Fin 8) (q : Fin 32) :
    (FloatOps.uitofp (F := Ideal) .f32 (IntOp.cmpi .eq (IntOp.addi (IntOp.muli (BitVec.ofNat 32 G.val) 8#32) (BitVec.ofNat 32 k.val)) (BitVec.ofNat 32 q.val)) : EReal)
      = if q.val = (ex G k).val then 1 else 0 := by
  have e : IntOp.cmpi .eq (IntOp.addi (IntOp.muli (BitVec.ofNat 32 G.val) 8#32) (BitVec.ofNat 32 k.val)) (BitVec.ofNat 32 q.val) = BitVec.ofBool (decide (q.val = 8 * G.val + k.val)) :=
    (by decide +kernel : ∀ (G : Fin 4) (k : Fin 8) (q : Fin 32), IntOp.cmpi .eq (IntOp.addi (IntOp.muli (BitVec.ofNat 32 G.val) 8#32) (BitVec.ofNat 32 k.val)) (BitVec.ofNat 32 q.val) = BitVec.ofBool (decide (q.val = 8 * G.val + k.val))) G k q
  rw [e, bit_float]
  by_cases h : q.val = 8 * G.val + k.val
  · rw [decide_eq_true h]; exact (if_pos (c := q.val = (ex G k).val) h).symm
  · rw [decide_eq_false h]; exact (if_neg (c := q.val = (ex G k).val) h).symm

/-- The reference's result, one element, from the choices of its row, the logits being real. -/
theorem v57_apply (r : Fin 16384) (l : Fin 128) (hg : Real' (gR x0 x1 x2 x3 x4 x5 r)) (he : Real' (eR x0 x1 x2 x3 x4 x6 r)) :
    val_main_v57 (F := Ideal) x0 x1 x2 x3 x4 x5 x6 (ix2 r l) = comb (gR x0 x1 x2 x3 x4 x5 r) (eR x0 x1 x2 x3 x4 x6 r) (GR x0 x1 x2 x3 x4 x5 r)
      (ex (GR x0 x1 x2 x3 x4 x5 r) (PR x0 x1 x2 x3 x4 x5 x6 r 0)) (ex (GR x0 x1 x2 x3 x4 x5 r) (PR x0 x1 x2 x3 x4 x5 x6 r 1)) l := by
  have hc := choice x0 x1 x2 x3 x4 x5 x6 r hg
  have hgg := (group_top x0 x1 x2 x3 x4 x5 r hg).2
  have h56 := fun q => v56_apply x0 x1 x2 x3 x4 x5 x6 r q
  simp only [id_apply, one_hot, gate_apply, hgg] at h56
  have hlo := v57_lo x0 x1 x2 x3 x4 x5 x6 r
  have hhi := v57_hi x0 x1 x2 x3 x4 x5 x6 r l
  by_cases hl : l.val < 32
  · obtain ⟨q, rfl⟩ : ∃ q : Fin 32, l = ⟨q.val, q.isLt.trans (by decide)⟩ := ⟨⟨l.val, hl⟩, rfl⟩
    rw [hlo q, h56 q]
    have hab : (PR x0 x1 x2 x3 x4 x5 x6 r 1) ≠ PR x0 x1 x2 x3 x4 x5 x6 r 0 := hc.two.mem
    have hle := hc.one.le (PR x0 x1 x2 x3 x4 x5 x6 r 1) trivial
    obtain ⟨S, hS, eS⟩ := expsum_real hg (GR x0 x1 x2 x3 x4 x5 r)
    obtain ⟨u, hu⟩ := he (ex (GR x0 x1 x2 x3 x4 x5 r) (PR x0 x1 x2 x3 x4 x5 x6 r 0))
    obtain ⟨v, hv⟩ := he (ex (GR x0 x1 x2 x3 x4 x5 r) (PR x0 x1 x2 x3 x4 x5 x6 r 1))
    have hvu : v ≤ u := by
      have h : eR x0 x1 x2 x3 x4 x6 r (ex (GR x0 x1 x2 x3 x4 x5 r) (PR x0 x1 x2 x3 x4 x5 x6 r 1)) ≤ eR x0 x1 x2 x3 x4 x6 r (ex (GR x0 x1 x2 x3 x4 x5 r) (PR x0 x1 x2 x3 x4 x5 x6 r 0)) := hle
      rw [hu, hv] at h
      exact EReal.coe_le_coe_iff.mp h
    obtain ⟨g0, g1⟩ := two_gates hvu hS (fun s => cR x0 x1 x2 x3 x4 x5 x6 r (PR x0 x1 x2 x3 x4 x5 x6 r s)) hu hv
    have eg : groupGate (gR x0 x1 x2 x3 x4 x5 r) (GR x0 x1 x2 x3 x4 x5 r) = Ideal.div 1 (S : EReal) := congrArg (Ideal.div 1) eS
    rw [Fin.sum_univ_two, eg, g0, g1]
    unfold comb ratio
    rw [eg, hu, hv]
    have hij : (ex (GR x0 x1 x2 x3 x4 x5 r) (PR x0 x1 x2 x3 x4 x5 x6 r 1)).val ≠ (ex (GR x0 x1 x2 x3 x4 x5 r) (PR x0 x1 x2 x3 x4 x5 x6 r 0)).val := fun e =>
      hab (Fin.ext (Nat.add_left_cancel e))
    by_cases h0 : q.val = (ex (GR x0 x1 x2 x3 x4 x5 r) (PR x0 x1 x2 x3 x4 x5 x6 r 0)).val
    · rw [if_pos h0, if_neg (fun e => hij (e.symm.trans h0)), if_pos h0, one_mul, zero_mul, add_zero]
    · rw [if_neg h0, if_neg h0, zero_mul, zero_add]
      by_cases h1 : q.val = (ex (GR x0 x1 x2 x3 x4 x5 r) (PR x0 x1 x2 x3 x4 x5 x6 r 1)).val
      · rw [if_pos h1, if_pos h1, one_mul]
      · rw [if_neg h1, if_neg h1, zero_mul]
  · rw [hhi (by omega)]
    unfold comb
    rw [if_neg, if_neg]
    · exact fun e => hl (e ▸ Fin.isLt _)
    · exact fun e => hl (e ▸ Fin.isLt _)

end Cert.Reference5Ideal.Comb
-- ==== Proof.CombReal.lean ====
module

public import proofs.«01_k».proof.Defs
public import proofs.«01_k».proof.Proof.TopMath
public import proofs.«01_k».proof.Proof.OutRef

@[expose] public section

noncomputable section

open Idealize.ShloMosaic

namespace Cert.CombReal

open Cert.TopMath Cert.Reference4Ideal.Out

theorem bits_1024 : Ideal.ofBits .f32 0x44800000#32 = ((1024 : ℝ) : EReal) := by
  simp [Ideal.ofBits, Ideal.ieee, -EReal.coe_mul]; norm_num

theorem bits_eps : ∃ ε : ℝ, 0 < ε ∧ Ideal.ofBits .f32 0x358637BD#32 = (ε : EReal) := by
  refine ⟨_, ?_, by simp [Ideal.ofBits, Ideal.ieee, -EReal.coe_mul]; rfl⟩
  norm_num

theorem mul_real {x y : EReal} (hx : ∃ r : ℝ, x = (r : EReal)) (hy : ∃ r : ℝ, y = (r : EReal)) : ∃ r : ℝ, x * y = (r : EReal) := by
  obtain ⟨r, rfl⟩ := hx; obtain ⟨s, rfl⟩ := hy
  exact ⟨r * s, (EReal.coe_mul r s).symm⟩

theorem sq_nonneg' (x : EReal) : 0 ≤ x * x := by
  induction x with
  | bot => simp
  | top => simp
  | coe r => rw [← EReal.coe_mul]; exact_mod_cast mul_self_nonneg r

/-- A normalized row is real where the norm's weight is: an infinite entry makes the root's reciprocal zero. -/
theorem norm_real (x nw : Fin 1024 → EReal) (hw : Real' nw) : Real' (hE x nw) := by
  intro k
  unfold hE
  refine mul_real ?_ (hw k)
  rw [bits_1024]
  obtain ⟨ε, hε, eε⟩ := bits_eps
  rw [eε]
  by_cases hx : Real' x
  · obtain ⟨p, hp⟩ : ∃ p : Fin 1024 → ℝ, ∀ k, x k = (p k : EReal) := ⟨fun k => (hx k).choose, fun k => (hx k).choose_spec⟩
    have e : (∑ j : Fin 1024, x j * x j) = ((∑ j : Fin 1024, p j * p j : ℝ) : EReal) := by
      rw [coe_sum]
      exact Finset.sum_congr rfl fun j _ => by rw [hp, EReal.coe_mul]
    have h0 : 0 ≤ ∑ j : Fin 1024, p j * p j := Finset.sum_nonneg fun j _ => mul_self_nonneg (p j)
    rw [e, div_real (by norm_num), ← EReal.coe_add]
    have hpos : 0 < (∑ j : Fin 1024, p j * p j) / 1024 + ε := by positivity
    refine mul_real (hx k) ?_
    exact ⟨(Real.sqrt ((∑ j : Fin 1024, p j * p j) / 1024 + ε))⁻¹, by
      rw [Ideal.rsqrt_coe]
      rw [if_neg (not_lt.mpr hpos.le), if_neg hpos.ne']⟩
  · obtain ⟨j, hj⟩ := not_forall.mp hx
    have ej : x j * x j = ⊤ := by
      induction h : x j with
      | bot => simp
      | top => simp
      | coe r => exact absurd ⟨r, h⟩ hj
    have e : (∑ j : Fin 1024, x j * x j) = ⊤ :=
      top_le_iff.mp (ej ▸ Finset.single_le_sum (f := fun j => x j * x j) (fun i _ => sq_nonneg' (x i)) (Finset.mem_univ j))
    rw [e, Ideal.div_coe (by norm_num), EReal.top_mul_coe_of_pos (by norm_num), EReal.top_add_coe]
    exact ⟨0, by rw [show Ideal.rsqrt ⊤ = 0 from rfl, mul_zero]; rfl⟩

/-- A dot product of real rows is real. -/
theorem dot_real {n : ℕ} {f g : Fin n → EReal} (hf : Real' f) (hg : Real' g) : ∃ r : ℝ, (∑ k, f k * g k) = (r : EReal) :=
  sum_real fun k => mul_real (hf k) (hg k)

/-- An extended real below the top in absolute value is real. -/
theorem real_of_abs {x : EReal} (h : FloatOps.cmpf (F := Ideal) (φ := .f32) .olt (FloatOps.absf (F := Ideal) (φ := .f32) x) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := by
    by_contra hn
    have h2 : BitVec.ofBool (decide (max x (-x) < ⊤)) = 1#1 := h
    rw [decide_eq_false hn] at h2
    exact absurd h2 (by decide)
  induction x with
  | bot => simp at h'
  | top => simp at h'
  | coe r => exact ⟨r, rfl⟩

/-- The precondition's side conditions. -/
theorem facts : Cert.Pre_finite_weights.Facts := ⟨by decide, by decide, by decide⟩

end Cert.CombReal
-- ==== Proof.CombClaim.lean ====
module

public import proofs.«01_k».proof.Defs
public import proofs.«01_k».proof.Proof.CombArr
public import proofs.«01_k».proof.Proof.CombRef
public import proofs.«01_k».proof.Proof.CombReal
public import proofs.«01_k».proof.Proof.Gen.Reference5Ideal.Run
public import Idealize.ShloMosaic.Lib.Claim

@[expose] public section

noncomputable section

open Idealize.ShloMosaic Idealize.ShloMosaic.TcCoe Idealize.SL.Sem

namespace Cert.Proof.CombClaim

open Cert.TopMath Cert.CombReal Cert.Kernel5Ideal.Comb

attribute [local instance] Cert.CombReal.facts

/-- The reference of the routing weights runs and leaves its arguments. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem ix_surj (i : Cert.Kernel5Ideal.S16384x128.Idx) : ∃ (r : Fin 16384) (l : Fin 128), i = ix2 r l :=
  ⟨i 0, i 1, by funext a; match a with | ⟨0, _⟩ => rfl | ⟨1, _⟩ => rfl⟩

section
variable (x0 x1 : Vec Ideal Cert.Reference5Ideal.S16384x512 .bf16) (x2 : Vec Ideal Cert.Reference5Ideal.S16384x1024 .f32) (x3 : Vec Ideal Cert.Reference5Ideal.S1024x1024 .f32) (x4 : Vec Ideal Cert.Reference5Ideal.S1024 .f32)
  (x5 : Vec Ideal Cert.Reference5Ideal.S1024x4 .f32) (x6 : Vec Ideal Cert.Reference5Ideal.S1024x32 .f32) (r : Fin 16384)

theorem h_eq (k : Fin 1024) : Cert.Reference5Ideal.Read.val_main_v17 (F := Ideal) x0 x1 x2 x3 x4 (ix2 r k) = hG x0 x1 x2 x3 x4 r k :=
  Cert.Reference4Ideal.Out.v17_apply x0 x1 x2 x3 x4 r k

theorem g_eq : Cert.Reference5Ideal.Comb.gR x0 x1 x2 x3 x4 x5 r = gLog (hG x0 x1 x2 x3 x4 r) x5 := funext fun j => by
  refine (Cert.Reference5Ideal.Read.val_main_v18_apply x0 x1 x2 x3 x4 x5 (ix2 r j)).trans ?_
  refine Finset.sum_congr rfl fun k _ => ?_
  rw [← h_eq]
  refine congrArg₂ (fun a b => Cert.Reference5Ideal.Read.val_main_v17 (F := Ideal) x0 x1 x2 x3 x4 a * x5 b) ?_ ?_ <;> funext i <;> fin_cases i <;> rfl

theorem e_eq : Cert.Reference5Ideal.Comb.eR x0 x1 x2 x3 x4 x6 r = eLog (hG x0 x1 x2 x3 x4 r) x6 := funext fun q => by
  refine (Cert.Reference5Ideal.Read.val_main_v30_apply x0 x1 x2 x3 x4 x6 (ix2 r q)).trans ?_
  refine Finset.sum_congr rfl fun k _ => ?_
  rw [← h_eq]
  refine congrArg₂ (fun a b => Cert.Reference5Ideal.Read.val_main_v17 (F := Ideal) x0 x1 x2 x3 x4 a * x6 b) ?_ ?_ <;> funext i <;> fin_cases i <;> rfl

/-- The precondition says that every entry of the three weights is real. -/
theorem weights_real
    (h : (Cert.Pre_finite_weights.fn (F := Ideal) x0 x1 x2 x3 x4 x5 x6).1 = (fun _ => 1#1)
      ∧ (Cert.Pre_finite_weights.fn (F := Ideal) x0 x1 x2 x3 x4 x5 x6).2.1 = (fun _ => 1#1)
      ∧ (Cert.Pre_finite_weights.fn (F := Ideal) x0 x1 x2 x3 x4 x5 x6).2.2 = (fun _ => 1#1)) :
    (∀ i, ∃ r : ℝ, x4 i = (r : EReal)) ∧ (∀ i, ∃ r : ℝ, x5 i = (r : EReal)) ∧ (∀ i, ∃ r : ℝ, x6 i = (r : EReal)) :=
  ⟨fun i => real_of_abs (congrFun h.1 i), fun i => real_of_abs (congrFun h.2.1 i), fun i => real_of_abs (congrFun h.2.2 i)⟩

theorem logits_real (h4 : ∀ i, ∃ r : ℝ, x4 i = (r : EReal)) (h5 : ∀ i, ∃ r : ℝ, x5 i = (r : EReal)) (h6 : ∀ i, ∃ r : ℝ, x6 i = (r : EReal)) :
    Real' (gLog (hG x0 x1 x2 x3 x4 r) x5) ∧ Real' (eLog (hG x0 x1 x2 x3 x4 r) x6) := by
  have hh : Real' (hG x0 x1 x2 x3 x4 r) := norm_real _ _ fun k => h4 (ix1 k)
  exact ⟨fun j => dot_real hh fun k => h5 (ix2 k j), fun q => dot_real hh fun k => h6 (ix2 k q)⟩
end

/-- The kernel's routing weights are the reference's, over the extended reals, where the norm's and the router's weights are finite. -/
theorem algebraic : Cert.algebraic_Kernel5Ideal_Reference5Ideal_pre_finite_weights := by
  intro m ρ m' ρ' hpre hagree
  refine ⟨fun c => (Cert.Kernel5Ideal.Gen.dats m 0 c).arrAt 8 Cert.Kernel5Ideal.cfg0.N,
    (θ_run Cert.Kernel5Ideal.defs _ _).mono (fun r h c => (h c).2.2) (Cert.Kernel5Ideal.Value.run_blocks (F := Ideal) m ρ), ?_⟩
  refine (θ_run Cert.Reference5Ideal.defs _ _).mono (fun _ h c => ?_) (Cert.Reference5Ideal.Value.run (F := Ideal) m' ρ')
  obtain ⟨a0, a1, a2, a3, a4, a5, a6⟩ := hagree c
  obtain ⟨h0, hargs⟩ := h c
  refine ⟨h0.trans ?_, hargs⟩
  rw [Cert.Reference5Ideal.Read.val_main_v57_eq]
  refine Eq.trans (b := Cert.Reference5Ideal.Read.val_main_v57 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))) rfl ?_
  rw [a0, a1, a2, a3, a4, a5, a6]
  funext i
  obtain ⟨r, l, rfl⟩ := ix_surj i
  obtain ⟨h4, h5, h6⟩ := weights_real _ _ _ _ _ _ _ (hpre c)
  obtain ⟨hg, he⟩ := logits_real (yrA m c) (yaA m c) (xA m c) (woA m c) (nwA m c) (wgA m c) (weA m c) r h4 h5 h6
  have eg := g_eq (yrA m c) (yaA m c) (xA m c) (woA m c) (nwA m c) (wgA m c) r
  have ee := e_eq (yrA m c) (yaA m c) (xA m c) (woA m c) (nwA m c) (weA m c) r
  have hc := Cert.Reference5Ideal.Comb.choice (yrA m c) (yaA m c) (xA m c) (woA m c) (nwA m c) (wgA m c) (weA m c) r (eg ▸ hg)
  have hv := Cert.Reference5Ideal.Comb.v57_apply (yrA m c) (yaA m c) (xA m c) (woA m c) (nwA m c) (wgA m c) (weA m c) r l (eg ▸ hg) (ee ▸ he)
  rw [eg, ee] at hc hv
  exact hv.trans (final8 m c r l hc).symm

end Cert.Proof.CombClaim
-- ==== Proof.HeadsMath.lean ====
module

public import Idealize.ShloMosaic.PureOps.Ideal.Laws
public import Idealize.ShloMosaic.Lib.ValueIdx
public import Idealize.ShloMosaic.Lib.Pointwise

@[expose] public section

noncomputable section

open Idealize.ShloMosaic

namespace Cert.HeadsMath

/-- One head's rows of a chunk. -/
abbrev Rows := Fin 64 → Fin 128 → EReal

/-- The sums of the last `w` rows up to each row. -/
def win (l : Rows) (w : ℕ) : Rows := fun t d => ∑ s : Fin 64, if s.val ≤ t.val ∧ t.val < s.val + w then l s d else 0

/-- The running sums down the rows. -/
def bc (l : Rows) : Rows := fun t d => ∑ s : Fin 64, if s ≤ t then l s d else 0

theorem win_one (l : Rows) : win l 1 = l := by
  funext t d
  unfold win
  rw [Finset.sum_eq_single t]
  · rw [if_pos (by omega)]
  · intro s _ hs
    rw [if_neg]
    intro h
    exact hs (Fin.ext (by omega))
  · intro h; exact absurd (Finset.mem_univ _) h

theorem win_dbl (l : Rows) (w : ℕ) (t : Fin 64) (d : Fin 128) :
    win l (2 * w) t d = win l w t d + if h : w ≤ t.val then win l w ⟨t.val - w, by omega⟩ d else 0 := by
  unfold win
  by_cases h : w ≤ t.val
  · rw [dif_pos h, ← Finset.sum_add_distrib]
    refine Finset.sum_congr rfl fun s _ => ?_
    dsimp only
    by_cases h1 : s.val ≤ t.val ∧ t.val < s.val + w
    · rw [if_pos h1, if_pos (by omega), if_neg (by omega), add_zero]
    · rw [if_neg h1, zero_add]
      by_cases h2 : s.val ≤ t.val ∧ t.val < s.val + 2 * w
      · rw [if_pos h2, if_pos (by omega)]
      · rw [if_neg h2, if_neg (by omega)]
  · rw [dif_neg h, add_zero]
    refine Finset.sum_congr rfl fun s _ => ?_
    by_cases h1 : s.val ≤ t.val
    · rw [if_pos (by omega), if_pos (by omega)]
    · rw [if_neg (by omega), if_neg (by omega)]

theorem win_all (l : Rows) : win l 64 = bc l := by
  funext t d
  unfold win bc
  refine Finset.sum_congr rfl fun s _ => if_congr ?_ rfl rfl
  rw [Fin.le_def]
  have := t.isLt
  omega

/-- One minus the forget gate. -/
def kk (l : Rows) : Rows := fun s d => 1 - Ideal.exp (l s d)

/-- The state after a chunk: by value and key dimension. -/
def stNext (l v : Rows) (S : Fin 128 → Fin 128 → EReal) : Fin 128 → Fin 128 → EReal := fun e d =>
  S e d * Ideal.exp (bc l 63 d) + ∑ s, v s e * (kk l s d * Ideal.exp (bc l 63 d - bc l s d))

/-- The reference's scores. -/
def sc (q l : Rows) (t s : Fin 64) : EReal :=
  ∑ d, q t d * kk l s d * Ideal.exp (if s ≤ t then bc l t d - bc l s d else ⊥)

/-- The rows before the norm, from any scores. -/
def oRow (q l v : Rows) (S : Fin 128 → Fin 128 → EReal) : Rows := fun t e =>
  ∑ s, sc q l t s * v s e + ∑ d, q t d * Ideal.exp (bc l t d) * S e d

/-- The products of one halving: rows of an upper half against rows of a lower half, each weighted against a common row. -/
def lev (h : ℕ) (q k B R : Rows) (t s : Fin 64) : EReal :=
  if t.val / h % 2 = 1 ∧ ¬ s.val / h % 2 = 1 then
    ∑ d, q t d * Ideal.exp (B t d - R t d) * (k s d * Ideal.exp (R s d - B s d))
  else 0

/-- What one halving gives: the weights against the common row cancel. -/
theorem lev_eq (h : ℕ) (q k : Rows) (B : Fin 64 → Fin 128 → ℝ) (r : Fin 64 → Fin 64) (t s : Fin 64) (hr : r t = r s) :
    lev h q k (fun t d => (B t d : EReal)) (fun t d => (B (r t) d : EReal)) t s
      = if t.val / h % 2 = 1 ∧ ¬ s.val / h % 2 = 1 then ∑ d, q t d * k s d * Ideal.exp ((B t d : EReal) - B s d) else 0 := by
  unfold lev
  refine if_congr Iff.rfl (Finset.sum_congr rfl fun d _ => ?_) rfl
  dsimp only
  rw [hr, mul_mul_mul_comm]
  congr 1
  simp only [← EReal.coe_sub, Ideal.exp_coe, ← EReal.coe_mul, ← Real.exp_add]
  congr 2
  ring

/-- The pairs a halving keeps. -/
def kept (h : ℕ) (t s : Fin 64) : Prop := t.val / (2 * h) = s.val / (2 * h) ∧ t.val / h % 2 = 1 ∧ ¬ s.val / h % 2 = 1

instance (h : ℕ) (t s : Fin 64) : Decidable (kept h t s) := by unfold kept; infer_instance

theorem kept_one : ∀ t s : Fin 64,
    (s < t ∧ ((kept 32 t s ∧ ¬ kept 16 t s ∧ ¬ kept 8 t s ∧ ¬ kept 4 t s ∧ ¬ kept 2 t s ∧ ¬ kept 1 t s)
      ∨ (¬ kept 32 t s ∧ kept 16 t s ∧ ¬ kept 8 t s ∧ ¬ kept 4 t s ∧ ¬ kept 2 t s ∧ ¬ kept 1 t s)
      ∨ (¬ kept 32 t s ∧ ¬ kept 16 t s ∧ kept 8 t s ∧ ¬ kept 4 t s ∧ ¬ kept 2 t s ∧ ¬ kept 1 t s)
      ∨ (¬ kept 32 t s ∧ ¬ kept 16 t s ∧ ¬ kept 8 t s ∧ kept 4 t s ∧ ¬ kept 2 t s ∧ ¬ kept 1 t s)
      ∨ (¬ kept 32 t s ∧ ¬ kept 16 t s ∧ ¬ kept 8 t s ∧ ¬ kept 4 t s ∧ kept 2 t s ∧ ¬ kept 1 t s)
      ∨ (¬ kept 32 t s ∧ ¬ kept 16 t s ∧ ¬ kept 8 t s ∧ ¬ kept 4 t s ∧ ¬ kept 2 t s ∧ kept 1 t s)))
    ∨ (¬ s < t ∧ ¬ kept 32 t s ∧ ¬ kept 16 t s ∧ ¬ kept 8 t s ∧ ¬ kept 4 t s ∧ ¬ kept 2 t s ∧ ¬ kept 1 t s) := by
  decide +kernel

/-- Each pair of rows is kept by exactly one halving if the second is before the first, by none otherwise. -/
theorem halvings (a : EReal) (t s : Fin 64) :
    (if kept 32 t s then a else 0) + (if kept 16 t s then a else 0) + (if kept 8 t s then a else 0) + (if kept 4 t s then a else 0)
      + (if kept 2 t s then a else 0) + (if kept 1 t s then a else 0) = if s < t then a else 0 := by
  rcases kept_one t s with ⟨h, h1 | h1 | h1 | h1 | h1 | h1⟩ | ⟨h, h1⟩ <;>
    · obtain ⟨a1, a2, a3, a4, a5, a6⟩ := h1
      simp only [a1, a2, a3, a4, a5, a6, h, if_true, if_false, zero_add, add_zero]

theorem kept_one_iff : ∀ t s : Fin 64, kept 1 t s → t.val = s.val + 1 := by decide +kernel

theorem coe_sum {n : ℕ} (f : Fin n → ℝ) : ((∑ i, f i : ℝ) : EReal) = ∑ i, (f i : EReal) :=
  map_sum (⟨⟨(fun x : ℝ => (x : EReal)), rfl⟩, EReal.coe_add⟩ : ℝ →+ EReal) f Finset.univ

/-- The running sums of real rows are real. -/
theorem bc_coe (l : Fin 64 → Fin 128 → ℝ) (t : Fin 64) (d : Fin 128) :
    bc (fun t d => (l t d : EReal)) t d = ((∑ s : Fin 64, if s ≤ t then l s d else 0 : ℝ) : EReal) := by
  unfold bc
  rw [coe_sum]
  refine Finset.sum_congr rfl fun s _ => ?_
  split <;> rfl

theorem bc_succ (l : Fin 64 → Fin 128 → ℝ) (t s : Fin 64) (h : t.val = s.val + 1) (d : Fin 128) :
    (∑ i : Fin 64, if i ≤ t then l i d else 0) - (∑ i : Fin 64, if i ≤ s then l i d else 0) = l t d := by
  rw [← Finset.sum_sub_distrib, Finset.sum_eq_single t]
  · rw [if_pos (le_refl t), if_neg (by rw [Fin.le_def]; omega), sub_zero]
  · intro i _ hi
    by_cases h1 : i ≤ s
    · rw [if_pos (by rw [Fin.le_def] at *; omega), if_pos h1, sub_self]
    · rw [if_neg (by rw [Fin.le_def] at *; intro h2; exact hi (Fin.ext (by omega))), if_neg h1, sub_zero]
  · intro h; exact absurd (Finset.mem_univ _) h

/-- The kernel's rows before the norm: scores below the diagonal, the diagonal apart, and the state. -/
theorem rows_eq (q v : Rows) (l : Fin 64 → Fin 128 → ℝ) (S : Fin 128 → Fin 128 → EReal) (K : Fin 64 → Fin 64 → EReal) (t : Fin 64) (e : Fin 128)
    (hK : ∀ s, K t s = if s < t then ∑ d, q t d * kk (fun t d => (l t d : EReal)) s d * Ideal.exp (bc (fun t d => (l t d : EReal)) t d - bc (fun t d => (l t d : EReal)) s d) else 0) :
    (∑ s, K t s * v s e + (∑ d, q t d * kk (fun t d => (l t d : EReal)) t d) * v t e) + ∑ d, q t d * Ideal.exp (bc (fun t d => (l t d : EReal)) t d) * S e d
      = oRow q (fun t d => (l t d : EReal)) v S t e := by
  unfold oRow
  congr 1
  have hd : (∑ d, q t d * kk (fun t d => (l t d : EReal)) t d) * v t e
      = ∑ s, if s = t then (∑ d, q t d * kk (fun t d => (l t d : EReal)) t d) * v t e else 0 := by
    rw [Finset.sum_ite_eq' Finset.univ t, if_pos (Finset.mem_univ _)]
  rw [hd, ← Finset.sum_add_distrib]
  refine Finset.sum_congr rfl fun s _ => ?_
  rw [hK s]
  unfold sc
  rcases lt_trichotomy s t with h | h | h
  · rw [if_pos h, if_neg (ne_of_lt h), add_zero]
    simp only [if_pos (le_of_lt h)]
  · subst h
    rw [if_neg (lt_irrefl _), if_pos rfl, zero_mul, zero_add]
    congr 1
    refine Finset.sum_congr rfl fun d _ => ?_
    rw [if_pos (le_refl _), bc_coe, ← EReal.coe_sub, sub_self, Ideal.exp_coe, Real.exp_zero, EReal.coe_one, mul_one]
  · rw [if_neg (not_lt_of_gt h), if_neg (ne_of_gt h), zero_mul, add_zero]
    simp only [if_neg (not_le_of_gt h), Ideal.exp_bot, mul_zero, Finset.sum_const_zero, zero_mul]

/-- An array read at a row and a column. -/
def at2 {m n : ℕ} (X : (⟨2, ![m, n]⟩ : Idealize.ShloMosaic.Shape).Idx → EReal) (r c : ℕ) : EReal := if h : r < m ∧ c < n then X (Idealize.ShloMosaic.ix2 ⟨r, h.1⟩ ⟨c, h.2⟩) else 0

theorem at2_of {m n : ℕ} (X : (⟨2, ![m, n]⟩ : Idealize.ShloMosaic.Shape).Idx → EReal) (r c : ℕ) (hr : r < m) (hc : c < n) : at2 X r c = X (Idealize.ShloMosaic.ix2 ⟨r, hr⟩ ⟨c, hc⟩) :=
  dif_pos ⟨hr, hc⟩

/-- The rows of chunk `N`, head `h`. -/
def rws {m n : ℕ} (X : (⟨2, ![m, n]⟩ : Idealize.ShloMosaic.Shape).Idx → EReal) (h N : ℕ) : Rows := fun t d => at2 X (64 * N + t.val) (128 * h + d.val)

/-- A row's norm, weight and gate. -/
def nrm (o w g : Fin 128 → EReal) (e : Fin 128) : EReal :=
  o e * Ideal.rsqrt (Ideal.div (∑ i, o i * o i) (Ideal.ofBits .f32 0x43000000#32) + Ideal.ofBits .f32 0x358637BD#32) * w e * g e

/-- The state before chunk `N`: nothing at the first chunk of each sequence of thirty-two. -/
def stG (L V : ℕ → Rows) : ℕ → Fin 128 → Fin 128 → EReal
  | 0 => fun _ _ => 0
  | N + 1 => if (N + 1) % 32 = 0 then fun _ _ => 0 else stNext (L N) (V N) (stG L V N)

theorem stG_reset (L V : ℕ → Rows) (N : ℕ) (h : N % 32 = 0) : stG L V N = fun _ _ => 0 := by
  cases N with
  | zero => rfl
  | succ N => exact if_pos h

theorem stG_step (L V : ℕ → Rows) (N : ℕ) (h : ¬ (N + 1) % 32 = 0) : stG L V (N + 1) = stNext (L N) (V N) (stG L V N) := if_neg h

/-- The result at one row and column. -/
def resG (Q L V G : (⟨2, ![16384, 512]⟩ : Idealize.ShloMosaic.Shape).Idx → EReal) (w : ℕ → EReal) (r : ℕ) (h : ℕ) (e : Fin 128) : EReal :=
  nrm (oRow (rws Q h (r / 64)) (rws L h (r / 64)) (rws V h (r / 64)) (stG (rws L h) (rws V h) (r / 64)) ⟨r % 64, Nat.mod_lt _ (by decide)⟩)
    (fun e => w (128 * h + e.val)) (fun e => at2 G r (128 * h + e.val)) e

end Cert.HeadsMath
-- ==== Proof.HeadsRead.lean ====
module

public import proofs.«01_k».proof.Proof.HeadsValue
public import proofs.«01_k».proof.Proof.HeadsMath
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Kernel6Ideal.Heads

open Cert.Kernel6Ideal Cert.Kernel6Ideal.Gen Cert.HeadsMath

/-- One doubling of the running sums. -/
def dbl (n : BitVec 32) (acc : FVec Ideal S64x128 .f32) : FVec Ideal S64x128 .f32 :=
  addf acc (select (cmpi .sge iR (broadcast S64x128 n)) (dynamicRotate 0 n none acc rotates_S64x128_d0) (broadcast S64x128 (Scalar.ofBits .f32 0x00000000#32)))

theorem hBc_eq (l : FVec Ideal S64x128 .f32) :
    hBc (F := Ideal) iR l = dbl 32#32 (dbl 16#32 (dbl 8#32 (dbl 4#32 (dbl 2#32 (dbl 1#32 l))))) := rfl

theorem row_bits (t : Fin 64) (d : Fin 128) : iR (ix2 t d) = BitVec.ofNat 32 t.val := by
  unfold iR
  simp only [pointwise]
  simp [List.foldl]

theorem dbl_apply (n : BitVec 32) (w : ℕ) (hn : n.toNat = w) (hw : w < 64) (hc : ∀ t : Fin 64, IntOp.cmpi .sge (BitVec.ofNat 32 t.val) n = if w ≤ t.val then 1#1 else 0#1)
    (l : Rows) (acc : S64x128.Idx → EReal) (ha : ∀ t d, acc (ix2 t d) = win l w t d) (t : Fin 64) (d : Fin 128) :
    dbl n acc (ix2 t d) = win l (2 * w) t d := by
  rw [win_dbl]
  unfold dbl
  simp only [pointwise, zero_add]
  have hr := row_bits t d
  simp only [pointwise] at hr
  rw [hr, hc, ha]
  congr 1
  by_cases h : w ≤ t.val
  · rw [if_pos h, dif_pos h, ← ha]
    show acc _ = acc _
    congr 1
    funext a
    apply Fin.ext
    match a with
    | ⟨0, _⟩ =>
      show (t.val + 64 - (n.toNat + 0) % 64) % 64 = t.val - w
      rw [hn]
      omega
    | ⟨1, _⟩ => rfl
  · rw [if_neg h, dif_neg h]
    rfl

theorem hBc_apply (l : S64x128.Idx → EReal) (t : Fin 64) (d : Fin 128) :
    hBc (F := Ideal) iR l (ix2 t d) = bc (fun t d => l (ix2 t d)) t d := by
  rw [hBc_eq, ← win_all]
  refine dbl_apply 32#32 32 rfl (by omega) (by decide +kernel) _ _ ?_ t d
  refine dbl_apply 16#32 16 rfl (by omega) (by decide +kernel) _ _ ?_
  refine dbl_apply 8#32 8 rfl (by omega) (by decide +kernel) _ _ ?_
  refine dbl_apply 4#32 4 rfl (by omega) (by decide +kernel) _ _ ?_
  refine dbl_apply 2#32 2 rfl (by omega) (by decide +kernel) _ _ ?_
  refine dbl_apply 1#32 1 rfl (by omega) (by decide +kernel) _ _ ?_
  intro t d
  rw [win_one]

theorem hSt_apply (l v : S64x128.Idx → EReal) (st : S1x128x128.Idx → EReal) (e d : Fin 128) :
    hSt (F := Ideal) iR l v st (ix3 0 e d) = stNext (fun t d => l (ix2 t d)) (fun t d => v (ix2 t d)) (fun e d => st (ix3 0 e d)) e d := by
  unfold stNext
  simp only [← hBc_apply]
  unfold hSt k0_pay25 k0_pay21 k0_pay4 k0_pay3
  generalize hBc (F := Ideal) iR l = B
  simp only [pointwise, zero_add]
  exact congrArg₂ (· + ·) (congrArg (st (ix3 0 e d) * Ideal.exp ·) (congrArg B (congrArg (ix2 (63 : Fin 64)) (Fin.ext (Nat.zero_add _)))))
    (Finset.sum_congr rfl fun k _ => congrArg (v (ix2 k e) * ·) (congrArg ((1 - Ideal.exp (l (ix2 k d))) * Ideal.exp ·) (congrArg (· - B (ix2 k d)) (congrArg B (congrArg (ix2 (63 : Fin 64)) (Fin.ext (Nat.zero_add _)))))))

theorem sel_one {α : Type} (a b : α) : Scalar.select (1#1) a b = a := rfl
theorem sel_zero {α : Type} (a b : α) : Scalar.select (0#1) a b = b := rfl

/-- One halving's products, of the reference rows. -/
def levV (n : BitVec 32) (ref q k B : FVec Ideal S64x128 .f32) : FVec Ideal S64x64 .f32 :=
  matmul dot_S64x128_S64x128_S64x64_1_1_0_0_n_n none
    (truncf .bf16 (select (cmpi .ne (andi iR (broadcast S64x128 n)) (broadcast S64x128 0#32))
      (mulf q (exp (select (cmpi .ne (andi iR (broadcast S64x128 n)) (broadcast S64x128 0#32)) (subf B ref) (subf ref B)))) (broadcast S64x128 (Scalar.ofBits .f32 0x00000000#32))) bitsLt_bf16_f32)
    (truncf .bf16 (select (cmpi .ne (andi iR (broadcast S64x128 n)) (broadcast S64x128 0#32)) (broadcast S64x128 (Scalar.ofBits .f32 0x00000000#32))
      (mulf k (exp (select (cmpi .ne (andi iR (broadcast S64x128 n)) (broadcast S64x128 0#32)) (subf B ref) (subf ref B))))) bitsLt_bf16_f32)
    (constant S64x64 .f32 0x00000000#32)

/-- Scores kept inside blocks. -/
def inBlk (m : BitVec 32) (s : FVec Ideal S64x64 .f32) : FVec Ideal S64x64 .f32 :=
  select (cmpi .eq (andi iA (broadcast S64x64 m)) (andi iB (broadcast S64x64 m))) s (broadcast S64x64 (Scalar.ofBits .f32 0x00000000#32))

/-- The last product: each odd row against the row before it. -/
def levO (q k f : FVec Ideal S64x128 .f32) : FVec Ideal S64x64 .f32 :=
  matmul dot_S64x128_S64x128_S64x64_1_1_0_0_n_n none
    (truncf .bf16 (select (cmpi .ne (andi iR (broadcast S64x128 1#32)) (broadcast S64x128 0#32)) (mulf q f) (broadcast S64x128 (Scalar.ofBits .f32 0x00000000#32))) bitsLt_bf16_f32)
    (truncf .bf16 (select (cmpi .ne (andi iR (broadcast S64x128 1#32)) (broadcast S64x128 0#32)) (broadcast S64x128 (Scalar.ofBits .f32 0x00000000#32)) k) bitsLt_bf16_f32)
    (constant S64x64 .f32 0x00000000#32)

def ref32 (B : FVec Ideal S64x128 .f32) : FVec Ideal S64x128 .f32 :=
  shapeCast S64x128 (broadcastTo S1x64x128 (shapeCast S1x1x128 (extractStridedSlice S1x1x128 ![0, 31, 0] (shapeCast S1x64x128 B shapeCasts_S64x128_S1x64x128) slices_S1x64x128_o0_31_0_S1x1x128) shapeCasts_S1x1x128_S1x1x128) broadcasts_S1x1x128_S1x64x128) shapeCasts_S1x64x128_S64x128
def ref16 (B : FVec Ideal S64x128 .f32) : FVec Ideal S64x128 .f32 :=
  shapeCast S64x128 (broadcastTo S2x32x128 (shapeCast S2x1x128 (extractStridedSlice S2x1x128 ![0, 15, 0] (shapeCast S2x32x128 B shapeCasts_S64x128_S2x32x128) slices_S2x32x128_o0_15_0_S2x1x128) shapeCasts_S2x1x128_S2x1x128) broadcasts_S2x1x128_S2x32x128) shapeCasts_S2x32x128_S64x128
def ref8 (B : FVec Ideal S64x128 .f32) : FVec Ideal S64x128 .f32 :=
  shapeCast S64x128 (broadcastTo S4x16x128 (shapeCast S4x1x128 (extractStridedSlice S4x1x128 ![0, 7, 0] (shapeCast S4x16x128 B shapeCasts_S64x128_S4x16x128) slices_S4x16x128_o0_7_0_S4x1x128) shapeCasts_S4x1x128_S4x1x128) broadcasts_S4x1x128_S4x16x128) shapeCasts_S4x16x128_S64x128
def ref4 (B : FVec Ideal S64x128 .f32) : FVec Ideal S64x128 .f32 :=
  shapeCast S64x128 (broadcastTo S8x8x128 (shapeCast S8x1x128 (extractStridedSlice S8x1x128 ![0, 3, 0] (shapeCast S8x8x128 B shapeCasts_S64x128_S8x8x128) slices_S8x8x128_o0_3_0_S8x1x128) shapeCasts_S8x1x128_S8x1x128) broadcasts_S8x1x128_S8x8x128) shapeCasts_S8x8x128_S64x128
def ref2 (B : FVec Ideal S64x128 .f32) : FVec Ideal S64x128 .f32 :=
  shapeCast S64x128 (select (cmpi .slt (iota .tc S8x8x128 32 [1] iota_S8x8x128_d1_w32) (broadcast S8x8x128 4#32))
    (broadcastTo S8x8x128 (shapeCast S8x1x128 (extractStridedSlice S8x1x128 ![0, 1, 0] (shapeCast S8x8x128 B shapeCasts_S64x128_S8x8x128) slices_S8x8x128_o0_1_0_S8x1x128) shapeCasts_S8x1x128_S8x1x128) broadcasts_S8x1x128_S8x8x128)
    (broadcastTo S8x8x128 (shapeCast S8x1x128 (extractStridedSlice S8x1x128 ![0, 5, 0] (shapeCast S8x8x128 B shapeCasts_S64x128_S8x8x128) slices_S8x8x128_o0_5_0_S8x1x128) shapeCasts_S8x1x128_S8x1x128) broadcasts_S8x1x128_S8x8x128)) shapeCasts_S8x8x128_S64x128

/-- The scores below the diagonal. -/
def scV (q l : FVec Ideal S64x128 .f32) : FVec Ideal S64x64 .f32 :=
  addf (addf (addf (addf (addf (levV 32#32 (ref32 (hBc iR l)) q (k0_pay4 l) (hBc iR l))
    (inBlk 4294967264#32 (levV 16#32 (ref16 (hBc iR l)) q (k0_pay4 l) (hBc iR l))))
    (inBlk 4294967280#32 (levV 8#32 (ref8 (hBc iR l)) q (k0_pay4 l) (hBc iR l))))
    (inBlk 4294967288#32 (levV 4#32 (ref4 (hBc iR l)) q (k0_pay4 l) (hBc iR l))))
    (inBlk 4294967292#32 (levV 2#32 (ref2 (hBc iR l)) q (k0_pay4 l) (hBc iR l))))
    (inBlk 4294967294#32 (levO q (k0_pay4 l) (k0_pay3 l)))

/-- One head's rows before the norm. -/
def preV (q l v : FVec Ideal S64x128 .f32) (st : FVec Ideal S128x128 .f32) : FVec Ideal S64x128 .f32 :=
  addf (addf (matmul (φ₂ := .bf16) dot_S64x64_S64x128_S64x128_1_0_0_1_n_n none (truncf .bf16 (scV q l) bitsLt_bf16_f32) v (constant S64x128 .f32 0x00000000#32))
      (mulf (broadcastTo S64x128 (k0_pay23 q (k0_pay4 l)) broadcasts_S64x1_S64x128) v))
    (matmul dot_S64x128_S128x128_S64x128_1_1_0_0_n_n none (truncf .bf16 (mulf q (exp (hBc iR l))) bitsLt_bf16_f32) (truncf .bf16 st bitsLt_bf16_f32) (constant S64x128 .f32 0x00000000#32))

/-- The norm of each row, the norm's weight and the gate. -/
def fin6V (o : FVec Ideal S64x128 .f32) (w : FVec Ideal S1x128 .f32) (g : FVec Ideal S64x128 .f32) : FVec Ideal S64x128 .f32 :=
  mulf (mulf (mulf o (broadcastTo S64x128 (rsqrt (addf (divf (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 (shapeCast S1x128 w shapeCasts_S1x128_S1x128) broadcasts_S1x128_S64x128)) g

theorem hOut_eq (q : Vec Ideal S64x128 .bf16) (l : Vec Ideal S64x128 .f32) (v g : Vec Ideal S64x128 .bf16) (w : Vec Ideal S1x128 .f32) (st : Vec Ideal S1x128x128 .f32) :
    hOut (F := Ideal) iR iA iB q l v g w st = fin6V (preV q l v (k0_pay21 st)) w g := rfl

theorem fin6V_apply (o : S64x128.Idx → EReal) (w : S1x128.Idx → EReal) (g : S64x128.Idx → EReal) (t : Fin 64) (e : Fin 128) :
    fin6V o w g (ix2 t e) = nrm (fun e => o (ix2 t e)) (fun e => w (ix2 0 e)) (fun e => g (ix2 t e)) e := by
  unfold fin6V
  simp only [pointwise, zero_add]
  rfl

theorem preV_apply (q l v : S64x128.Idx → EReal) (st : S128x128.Idx → EReal) (t : Fin 64) (e : Fin 128) :
    preV q l v st (ix2 t e) = (∑ s, scV q l (ix2 t s) * v (ix2 s e) + (∑ d, q (ix2 t d) * kk (fun t d => l (ix2 t d)) t d) * v (ix2 t e))
      + ∑ d, q (ix2 t d) * Ideal.exp (bc (fun t d => l (ix2 t d)) t d) * st (ix2 e d) := by
  simp only [← hBc_apply]
  unfold preV k0_pay23 k0_pay4 k0_pay3
  generalize hBc (F := Ideal) iR l = B
  generalize scV q l = C
  simp only [pointwise, zero_add]
  rfl

theorem levV_apply (n : BitVec 32) (h : ℕ) (hc : ∀ t : Fin 64, IntOp.cmpi .ne (IntOp.andi (BitVec.ofNat 32 t.val) n) 0#32 = if t.val / h % 2 = 1 then 1#1 else 0#1)
    (ref q k B : S64x128.Idx → EReal) (t s : Fin 64) :
    levV n ref q k B (ix2 t s) = lev h (fun t d => q (ix2 t d)) (fun t d => k (ix2 t d)) (fun t d => B (ix2 t d)) (fun t d => ref (ix2 t d)) t s := by
  unfold levV lev
  simp only [pointwise, zero_add]
  have hf : ∀ (t : Fin 64) (k : Fin 128), List.foldl (fun n a => n * ![64, 128] a + ((ix2 t k) a).val) 0 [0] = t.val := by
    intro t k; simp [List.foldl]
  simp only [hf, hc]
  by_cases ht : t.val / h % 2 = 1
  · by_cases hs : s.val / h % 2 = 1
    · simp only [ht, hs, if_true, sel_one, Finset.sum_const_zero, not_true_eq_false, and_false, if_false]
    · simp only [ht, hs, if_true, if_false, sel_one, sel_zero, not_false_eq_true, and_self]
  · simp only [ht, if_false, sel_zero, false_and]
    by_cases hs : s.val / h % 2 = 1
    · simp only [hs, if_true, sel_one, Finset.sum_const_zero]
    · simp only [hs, if_false, sel_zero, Finset.sum_const_zero]

theorem inBlk_apply (m : BitVec 32) (w : ℕ) (hc : ∀ t s : Fin 64, IntOp.cmpi .eq (IntOp.andi (BitVec.ofNat 32 t.val) m) (IntOp.andi (BitVec.ofNat 32 s.val) m) = if t.val / w = s.val / w then 1#1 else 0#1)
    (S : S64x64.Idx → EReal) (t s : Fin 64) :
    inBlk m S (ix2 t s) = if t.val / w = s.val / w then S (ix2 t s) else 0 := by
  unfold inBlk
  simp only [pointwise, zero_add]
  have h0 : List.foldl (fun n a => n * ![64, 64] a + ((ix2 t s) a).val) 0 [0] = t.val := by simp [List.foldl]
  have h1 : List.foldl (fun n a => n * ![64, 64] a + ((ix2 t s) a).val) 0 [1] = s.val := by simp [List.foldl]
  rw [h0, h1, hc]
  split <;> rfl

theorem levO_apply (q k f : S64x128.Idx → EReal) (t s : Fin 64) :
    levO q k f (ix2 t s) = if t.val / 1 % 2 = 1 ∧ ¬ s.val / 1 % 2 = 1 then ∑ d, q (ix2 t d) * f (ix2 t d) * k (ix2 s d) else 0 := by
  unfold levO
  simp only [pointwise, zero_add]
  have hc : ∀ t : Fin 64, IntOp.cmpi .ne (IntOp.andi (BitVec.ofNat 32 t.val) 1#32) 0#32 = if t.val / 1 % 2 = 1 then 1#1 else 0#1 := by decide +kernel
  have hf : ∀ (t : Fin 64) (k : Fin 128), List.foldl (fun n a => n * ![64, 128] a + ((ix2 t k) a).val) 0 [0] = t.val := by
    intro t k; simp [List.foldl]
  simp only [hf, hc]
  by_cases ht : t.val / 1 % 2 = 1
  · by_cases hs : s.val / 1 % 2 = 1
    · simp only [ht, hs, if_true, sel_one, Finset.sum_const_zero, not_true_eq_false, and_false, if_false]
    · simp only [ht, hs, if_true, if_false, sel_one, sel_zero, not_false_eq_true, and_self]
  · simp only [ht, if_false, sel_zero, false_and]
    by_cases hs : s.val / 1 % 2 = 1
    · simp only [hs, if_true, sel_one, Finset.sum_const_zero]
    · simp only [hs, if_false, sel_zero, Finset.sum_const_zero]

theorem ref32_apply (B : S64x128.Idx → EReal) (t : Fin 64) (d : Fin 128) :
    ref32 B (ix2 t d) = B (ix2 ⟨t.val / 64 * 64 + 31, by omega⟩ d) := by
  unfold ref32
  simp only [pointwise, zero_add]
  exact congrArg B (congrArg₂ ix2 (Fin.ext (by show 31 = t.val / 64 * 64 + 31; omega)) (Fin.ext (Nat.zero_add _)))
theorem ref16_apply (B : S64x128.Idx → EReal) (t : Fin 64) (d : Fin 128) :
    ref16 B (ix2 t d) = B (ix2 ⟨t.val / 32 * 32 + 15, by omega⟩ d) := by
  unfold ref16
  simp only [pointwise, zero_add]
  exact congrArg B (congrArg₂ ix2 (Fin.ext (by show (0 + t.val / 32) * 32 + 15 = t.val / 32 * 32 + 15; omega)) (Fin.ext (Nat.zero_add _)))
theorem ref8_apply (B : S64x128.Idx → EReal) (t : Fin 64) (d : Fin 128) :
    ref8 B (ix2 t d) = B (ix2 ⟨t.val / 16 * 16 + 7, by omega⟩ d) := by
  unfold ref8
  simp only [pointwise, zero_add]
  exact congrArg B (congrArg₂ ix2 (Fin.ext (by show (0 + t.val / 16) * 16 + 7 = t.val / 16 * 16 + 7; omega)) (Fin.ext (Nat.zero_add _)))
theorem ref4_apply (B : S64x128.Idx → EReal) (t : Fin 64) (d : Fin 128) :
    ref4 B (ix2 t d) = B (ix2 ⟨t.val / 8 * 8 + 3, by omega⟩ d) := by
  unfold ref4
  simp only [pointwise, zero_add]
  exact congrArg B (congrArg₂ ix2 (Fin.ext (by show (0 + t.val / 8) * 8 + 3 = t.val / 8 * 8 + 3; omega)) (Fin.ext (Nat.zero_add _)))

theorem sub_bits : ∀ t : Fin 8, IntOp.cmpi .slt (BitVec.ofNat 32 t.val) 4#32 = if t.val < 4 then 1#1 else 0#1 := by decide +kernel

theorem pick_half {α : Type} (t : Fin 64) (n : ℕ) (hn : n = t.val % 8) (a b c : α) (ha : t.val % 8 < 4 → a = c) (hb : ¬ t.val % 8 < 4 → b = c) :
    Scalar.select (IntOp.cmpi .slt (BitVec.ofNat 32 n) 4#32) a b = c := by
  subst hn
  rw [sub_bits ⟨t.val % 8, by omega⟩]
  by_cases h : t.val % 8 < 4
  · rw [if_pos h]; exact ha h
  · rw [if_neg h]; exact hb h

theorem ref2_apply (B : S64x128.Idx → EReal) (t : Fin 64) (d : Fin 128) :
    ref2 B (ix2 t d) = B (ix2 ⟨t.val / 4 * 4 + 1, by omega⟩ d) := by
  unfold ref2
  simp only [pointwise, zero_add]
  refine pick_half t _ ?_ _ _ _ (fun h => ?_) (fun h => ?_)
  · simp [List.foldl]
  · refine congrArg B (congrArg₂ ix2 (Fin.ext ?_) (Fin.ext (Nat.zero_add _)))
    show (0 + t.val / 8) * 8 + 1 = t.val / 4 * 4 + 1
    omega
  · refine congrArg B (congrArg₂ ix2 (Fin.ext ?_) (Fin.ext (Nat.zero_add _)))
    show (0 + t.val / 8) * 8 + 5 = t.val / 4 * 4 + 1
    omega

theorem ref_lev (h : ℕ) (q k B R : Rows) (b : Fin 64 → Fin 128 → ℝ) (hB : ∀ t d, B t d = b t d) (r : Fin 64 → Fin 64) (hR : ∀ t d, R t d = B (r t) d)
    (hr : ∀ t s : Fin 64, t.val / (2 * h) = s.val / (2 * h) → r t = r s) (t s : Fin 64) :
    (if t.val / (2 * h) = s.val / (2 * h) then lev h q k B R t s else 0)
      = if kept h t s then ∑ d, q t d * k s d * Ideal.exp (B t d - B s d) else 0 := by
  obtain rfl : B = fun t d => (b t d : EReal) := funext fun t => funext fun d => hB t d
  obtain rfl : R = fun t d => (b (r t) d : EReal) := funext fun t => funext fun d => hR t d
  by_cases h1 : t.val / (2 * h) = s.val / (2 * h)
  · rw [if_pos h1, lev_eq h q k b r t s (hr t s h1)]
    exact if_congr (by unfold kept; tauto) rfl rfl
  · rw [if_neg h1, if_neg (show ¬ kept h t s by unfold kept; tauto)]

/-- The scores below the diagonal, of finite log forget gates. -/
theorem scV_apply (q l : S64x128.Idx → EReal) (L : Fin 64 → Fin 128 → ℝ) (hL : ∀ t d, l (ix2 t d) = L t d) (t s : Fin 64) :
    scV q l (ix2 t s) = if s < t then ∑ d, q (ix2 t d) * kk (fun t d => l (ix2 t d)) s d * Ideal.exp (bc (fun t d => l (ix2 t d)) t d - bc (fun t d => l (ix2 t d)) s d) else 0 := by
  have hl : (fun t d => l (ix2 t d)) = fun t d => (L t d : EReal) := funext fun t => funext fun d => hL t d
  have hb : ∀ t d, bc (fun t d => l (ix2 t d)) t d = ((∑ s : Fin 64, if s ≤ t then L s d else 0 : ℝ) : EReal) := by
    intro t d; rw [hl, bc_coe]
  have hB : ∀ t d, hBc (F := Ideal) iR l (ix2 t d) = bc (fun t d => l (ix2 t d)) t d := hBc_apply l
  have hk : ∀ t d, k0_pay4 (F := Ideal) l (ix2 t d) = kk (fun t d => l (ix2 t d)) t d := by
    intro t d
    unfold k0_pay4 k0_pay3 kk
    simp only [pointwise, zero_add]
  have he : ∀ t d, k0_pay3 (F := Ideal) l (ix2 t d) = Ideal.exp (l (ix2 t d)) := by
    intro t d
    unfold k0_pay3
    simp only [pointwise, zero_add]
  rw [← halvings]
  have a32 := ref_lev 32 (fun t d => q (ix2 t d)) (kk (fun t d => l (ix2 t d))) (bc (fun t d => l (ix2 t d))) (fun t d => ref32 (hBc (F := Ideal) iR l) (ix2 t d)) _ hb
    (fun t => ⟨t.val / 64 * 64 + 31, by omega⟩) (fun t d => by rw [ref32_apply, hB]) (fun t s h => by simp only [Fin.mk.injEq]; omega) t s
  have a16 := ref_lev 16 (fun t d => q (ix2 t d)) (kk (fun t d => l (ix2 t d))) (bc (fun t d => l (ix2 t d))) (fun t d => ref16 (hBc (F := Ideal) iR l) (ix2 t d)) _ hb
    (fun t => ⟨t.val / 32 * 32 + 15, by omega⟩) (fun t d => by rw [ref16_apply, hB]) (fun t s h => by simp only [Fin.mk.injEq]; omega) t s
  have a8 := ref_lev 8 (fun t d => q (ix2 t d)) (kk (fun t d => l (ix2 t d))) (bc (fun t d => l (ix2 t d))) (fun t d => ref8 (hBc (F := Ideal) iR l) (ix2 t d)) _ hb
    (fun t => ⟨t.val / 16 * 16 + 7, by omega⟩) (fun t d => by rw [ref8_apply, hB]) (fun t s h => by simp only [Fin.mk.injEq]; omega) t s
  have a4 := ref_lev 4 (fun t d => q (ix2 t d)) (kk (fun t d => l (ix2 t d))) (bc (fun t d => l (ix2 t d))) (fun t d => ref4 (hBc (F := Ideal) iR l) (ix2 t d)) _ hb
    (fun t => ⟨t.val / 8 * 8 + 3, by omega⟩) (fun t d => by rw [ref4_apply, hB]) (fun t s h => by simp only [Fin.mk.injEq]; omega) t s
  have a2 := ref_lev 2 (fun t d => q (ix2 t d)) (kk (fun t d => l (ix2 t d))) (bc (fun t d => l (ix2 t d))) (fun t d => ref2 (hBc (F := Ideal) iR l) (ix2 t d)) _ hb
    (fun t => ⟨t.val / 4 * 4 + 1, by omega⟩) (fun t d => by rw [ref2_apply, hB]) (fun t s h => by simp only [Fin.mk.injEq]; omega) t s
  have a1 : (if t.val / 2 = s.val / 2 then levO q (k0_pay4 (F := Ideal) l) (k0_pay3 (F := Ideal) l) (ix2 t s) else 0)
      = if kept 1 t s then ∑ d, q (ix2 t d) * kk (fun t d => l (ix2 t d)) s d * Ideal.exp (bc (fun t d => l (ix2 t d)) t d - bc (fun t d => l (ix2 t d)) s d) else 0 := by
    rw [levO_apply]
    by_cases h1 : kept 1 t s
    · have h2 := kept_one_iff t s h1
      rw [if_pos h1, if_pos (by unfold kept at h1; exact h1.1), if_pos (by unfold kept at h1; exact h1.2)]
      refine Finset.sum_congr rfl fun d _ => ?_
      rw [hk, he, hb, hb, ← EReal.coe_sub, bc_succ L t s h2, hL, mul_right_comm]
    · rw [if_neg h1]
      unfold kept at h1
      by_cases h3 : t.val / 2 = s.val / 2
      · rw [if_pos h3, if_neg (by tauto)]
      · rw [if_neg h3]
  rw [← a32, ← a16, ← a8, ← a4, ← a2, ← a1]
  unfold scV
  simp only [addf_apply]
  rw [levV_apply 32#32 32 (by decide +kernel), inBlk_apply 4294967264#32 32 (by decide +kernel), inBlk_apply 4294967280#32 16 (by decide +kernel), inBlk_apply 4294967288#32 8 (by decide +kernel),
    inBlk_apply 4294967292#32 4 (by decide +kernel), inBlk_apply 4294967294#32 2 (by decide +kernel), levV_apply 16#32 16 (by decide +kernel), levV_apply 8#32 8 (by decide +kernel), levV_apply 4#32 4 (by decide +kernel), levV_apply 2#32 2 (by decide +kernel),
    if_pos (show t.val / (2 * 32) = s.val / (2 * 32) by omega)]
  simp only [hB, hk]
  rfl

/-- One head's output rows: the reference's rows of the chunk, normed, weighted and gated. -/
theorem hOut_apply (q l v g : S64x128.Idx → EReal) (w : S1x128.Idx → EReal) (st : S1x128x128.Idx → EReal) (L : Fin 64 → Fin 128 → ℝ) (hL : ∀ t d, l (ix2 t d) = L t d) (t : Fin 64) (e : Fin 128) :
    hOut (F := Ideal) iR iA iB q l v g w st (ix2 t e)
      = nrm (oRow (fun t d => q (ix2 t d)) (fun t d => l (ix2 t d)) (fun t d => v (ix2 t d)) (fun e d => st (ix3 0 e d)) t) (fun e => w (ix2 0 e)) (fun e => g (ix2 t e)) e := by
  have hl : (fun t d => l (ix2 t d)) = fun t d => (L t d : EReal) := funext fun t => funext fun d => hL t d
  rw [hOut_eq, fin6V_apply]
  congr 1
  funext e
  have hK := fun s => scV_apply q l L hL t s
  rw [preV_apply]
  rw [hl] at hK ⊢
  refine (rows_eq (fun t d => q (ix2 t d)) (fun t d => v (ix2 t d)) L (fun e d => k0_pay21 (F := Ideal) st (ix2 e d)) (fun t s => scV q l (ix2 t s)) t e hK).trans ?_
  congr 1
  funext e d
  unfold k0_pay21
  simp only [pointwise, zero_add]

end Cert.Kernel6Ideal.Heads
-- ==== Proof.HeadsBlock.lean ====
module

public import proofs.«01_k».proof.Proof.HeadsRead
public import Idealize.ShloMosaic.Lib.Pipeline.ValueKit.Tiles

@[expose] public section

set_option maxRecDepth 16384

noncomputable section

open Idealize.ShloMosaic Idealize.ShloMosaic.TcCoe Idealize.SL.Sem

namespace Cert.Kernel6Ideal.Heads

open Cert.Kernel6Ideal Cert.Kernel6Ideal.Gen Cert.HeadsMath

theorem trips8 : k0_t1_loop.trips = 8 := by decide +kernel

theorem ld_at {e : EltTy} (X : Vec Ideal S512x512 e) (off : Fin 2 → ℕ) (inb) (k h : ℕ) (hk : k < 8) (hh : h < 4) (hoff : off = ![64 * k, 128 * h]) (t : Fin 64) (d : Fin 128) :
    View.ld X (Rect.unit (s := S512x512) off S64x128.size inb) (ix2 t d) = X (ix2 ⟨64 * k + t.val, by omega⟩ ⟨128 * h + d.val, by omega⟩) := by
  subst hoff
  refine View.ld_unit_apply_of X _ _ inb _ _ fun a => ?_
  match a with
  | ⟨0, _⟩ => rfl
  | ⟨1, _⟩ => rfl

theorem rws_at {m n : ℕ} (X : (⟨2, ![m, n]⟩ : Shape).Idx → EReal) (h k : ℕ) (t : Fin 64) (d : Fin 128) (hr : 64 * k + t.val < m) (hc : 128 * h + d.val < n) :
    rws X h k t d = X (ix2 ⟨64 * k + t.val, hr⟩ ⟨128 * h + d.val, hc⟩) := at2_of X _ _ hr hc

theorem ld_st (st : Vec Ideal S4x128x128 .f32) (h : ℕ) (hh : h < 4) (inb) (e d : Fin 128) :
    View.ld st (Rect.unit (s := S4x128x128) ![h, 0, 0] S1x128x128.size inb) (ix3 0 e d) = st (ix3 ⟨h, hh⟩ e d) := by
  refine View.ld_unit_apply_of st _ _ inb _ _ fun a => ?_
  match a with
  | ⟨0, _⟩ => rfl
  | ⟨1, _⟩ => exact (Nat.zero_add _).symm
  | ⟨2, _⟩ => exact (Nat.zero_add _).symm

theorem st_piece (x1 : Vec Ideal S512x512 .f32) (x2 : Vec Ideal S512x512 .bf16) (S : Vec Ideal S4x128x128 .f32) (off : Fin 2 → ℕ) (inb1) (h' k : ℕ) (hk : k < 8) (hh : h' < 4)
    (hoff : off = ![64 * k, 128 * h']) (inb') (h : Fin 4) (e d : Fin 128) :
    View.TileAt (Val := Elt Ideal) (e := .f32) (ix3 h e d : S4x128x128.Idx) ![h', 0, 0] S1x128x128.size
      (hSt (F := Ideal) iR (View.ld x1 (Rect.unit (s := S512x512) off S64x128.size inb1)) (View.ld x2 (Rect.unit (s := S512x512) off S64x128.size inb1)) (View.ld S (Rect.unit (s := S4x128x128) ![h', 0, 0] S1x128x128.size inb')))
      (stNext (rws x1 h.val k) (rws x2 h.val k) (fun e d => S (ix3 h e d)) e d) := by
  intro x hx
  have h0 : h.val = h' + (x 0).val := hx 0
  have h1 : e.val = 0 + (x 1).val := hx 1
  have h2 : d.val = 0 + (x 2).val := hx 2
  have h3 : (x 0).val < 1 := (x 0).isLt
  obtain rfl : h' = h.val := by omega
  obtain rfl : x = ix3 (0 : Fin 1) e d := by
    funext a; apply Fin.ext
    match a with
    | ⟨0, _⟩ => show (x 0).val = 0; omega
    | ⟨1, _⟩ => show (x 1).val = e.val; omega
    | ⟨2, _⟩ => show (x 2).val = d.val; omega
  refine (hSt_apply _ _ _ e d).trans ?_
  have a1 : (fun t d => View.ld x1 (Rect.unit (s := S512x512) off S64x128.size inb1) (ix2 t d)) = rws x1 h.val k :=
    funext fun t => funext fun d => (ld_at x1 off inb1 k h.val hk hh hoff t d).trans (rws_at x1 h.val k t d (by omega) (by omega)).symm
  have a2 : (fun t d => View.ld x2 (Rect.unit (s := S512x512) off S64x128.size inb1) (ix2 t d)) = rws x2 h.val k :=
    funext fun t => funext fun d => (ld_at x2 off inb1 k h.val hk hh hoff t d).trans (rws_at x2 h.val k t d (by omega) (by omega)).symm
  have a3 : (fun e d => View.ld S (Rect.unit (s := S4x128x128) ![h.val, 0, 0] S1x128x128.size inb') (ix3 0 e d)) = fun e d => S (ix3 h e d) :=
    funext fun e => funext fun d => ld_st S h.val h.isLt inb' e d
  exact congrFun (congrFun (congr (congr (congrArg stNext a1) a2) a3) e) d

/-- One trip's state, of the state it finds. -/
theorem stK_succ (x1 : Vec Ideal S512x512 .f32) (x2 : Vec Ideal S512x512 .bf16) (st : Vec Ideal S4x128x128 .f32) (k : ℕ) (hk : k < 8) (h : Fin 4) (e d : Fin 128) :
    stK (F := Ideal) iR x1 x2 st (k + 1) (ix3 h e d) = stNext (rws x1 h.val k) (rws x2 h.val k) (fun e d => stK (F := Ideal) iR x1 x2 st k (ix3 h e d)) e d := by
  have hk' : k < k0_t1_loop.trips := by rw [trips8]; exact hk
  rw [stK, dif_pos hk']
  generalize stK (F := Ideal) iR x1 x2 st k = S
  refine View.canon_eq_of_allAt _ _ _ (sPieces_cover iR x1 x2 ⟨k, hk'⟩ S _) ?_
  unfold sPieces
  refine View.allAt_cons_unit _ _ _ _ _ (st_piece x1 x2 S _ _ 3 k hk (by decide) (k0_off4_eq ⟨k, hk'⟩) _ h e d) ?_
  refine View.allAt_cons_unit _ _ _ _ _ (st_piece x1 x2 S _ _ 2 k hk (by decide) (k0_off3_eq ⟨k, hk'⟩) _ h e d) ?_
  refine View.allAt_cons_unit _ _ _ _ _ (st_piece x1 x2 S _ _ 1 k hk (by decide) (k0_off2_eq ⟨k, hk'⟩) _ h e d) ?_
  exact View.allAt_cons_unit _ _ _ _ _ (st_piece x1 x2 S _ _ 0 k hk (by decide) (k0_off1_eq ⟨k, hk'⟩) _ h e d) (View.allAt_nil _ _)

/-- One block's result at a row and a column, of the state the block starts from. -/
def cellB (x0 : Vec Ideal S512x512 .bf16) (x1 : Vec Ideal S512x512 .f32) (x2 x3 : Vec Ideal S512x512 .bf16) (x4 : Vec Ideal S1x512 .f32) (st : Vec Ideal S4x128x128 .f32) (r : Fin 512) (h : Fin 4) (e : Fin 128) : EReal :=
  nrm (oRow (rws x0 h.val (r.val / 64)) (rws x1 h.val (r.val / 64)) (rws x2 h.val (r.val / 64)) (fun e d => stK (F := Ideal) iR x1 x2 st (r.val / 64) (ix3 h e d)) ⟨r.val % 64, Nat.mod_lt _ (by decide)⟩)
    (fun e => at2 x4 0 (128 * h.val + e.val)) (fun e => at2 x3 r.val (128 * h.val + e.val)) e

theorem o_piece (x0 : Vec Ideal S512x512 .bf16) (x1 : Vec Ideal S512x512 .f32) (x2 x3 : Vec Ideal S512x512 .bf16) (x4 : Vec Ideal S1x512 .f32) (st : Vec Ideal S4x128x128 .f32)
    (hl : ∀ i, ∃ a : ℝ, x1 i = (a : EReal)) (off : Fin 2 → ℕ) (inb1) (h' k : ℕ) (hk : k < 8) (hh : h' < 4)
    (hoff : off = ![64 * k, 128 * h']) (inb' inbw) (r : Fin 512) (h : Fin 4) (e : Fin 128) :
    View.TileAt (Val := Elt Ideal) (e := .bf16) (ix2 r ⟨128 * h.val + e.val, by omega⟩ : S512x512.Idx) off S64x128.size
      (hOut (F := Ideal) iR iA iB (View.ld x0 (Rect.unit (s := S512x512) off S64x128.size inb1)) (View.ld x1 (Rect.unit (s := S512x512) off S64x128.size inb1)) (View.ld x2 (Rect.unit (s := S512x512) off S64x128.size inb1)) (View.ld x3 (Rect.unit (s := S512x512) off S64x128.size inb1))
        (View.ld x4 (Rect.unit (s := S1x512) ![0, 128 * h'] S1x128.size inbw)) (View.ld (stK (F := Ideal) iR x1 x2 st k) (Rect.unit (s := S4x128x128) ![h', 0, 0] S1x128x128.size inb')))
      (cellB x0 x1 x2 x3 x4 st r h e) := by
  intro x hx
  have h0 : r.val = off 0 + (x 0).val := hx 0
  have h1 : 128 * h.val + e.val = off 1 + (x 1).val := hx 1
  have h3 : (x 0).val < 64 := (x 0).isLt
  have h4 : (x 1).val < 128 := (x 1).isLt
  have o0 : off 0 = 64 * k := by rw [hoff]; rfl
  have o1 : off 1 = 128 * h' := by rw [hoff]; rfl
  obtain rfl : h' = h.val := by omega
  obtain rfl : k = r.val / 64 := by omega
  obtain rfl : x = ix2 (⟨r.val % 64, Nat.mod_lt _ (by decide)⟩ : Fin 64) e := by
    funext a; apply Fin.ext
    match a with
    | ⟨0, _⟩ => show (x 0).val = r.val % 64; omega
    | ⟨1, _⟩ => show (x 1).val = e.val; omega
  have rd : ∀ {ty : EltTy} (X : Vec Ideal S512x512 ty) (t : Fin 64) (d : Fin 128), View.ld X (Rect.unit (s := S512x512) off S64x128.size inb1) (ix2 t d) = X (ix2 ⟨64 * (r.val / 64) + t.val, by omega⟩ ⟨128 * h.val + d.val, by omega⟩) :=
    fun X t d => ld_at X off inb1 (r.val / 64) h.val hk hh hoff t d
  have hL : ∀ (t : Fin 64) (d : Fin 128), ∃ a : ℝ, View.ld x1 (Rect.unit (s := S512x512) off S64x128.size inb1) (ix2 t d) = (a : EReal) := fun t d => by rw [rd x1]; exact hl _
  choose L hL using hL
  refine (hOut_apply _ _ _ _ _ _ L hL _ e).trans ?_
  have a0 : (fun t d => View.ld x0 (Rect.unit (s := S512x512) off S64x128.size inb1) (ix2 t d)) = rws x0 h.val (r.val / 64) :=
    funext fun t => funext fun d => (rd x0 t d).trans (rws_at x0 h.val _ t d (by omega) (by omega)).symm
  have a1 : (fun t d => View.ld x1 (Rect.unit (s := S512x512) off S64x128.size inb1) (ix2 t d)) = rws x1 h.val (r.val / 64) :=
    funext fun t => funext fun d => (rd x1 t d).trans (rws_at x1 h.val _ t d (by omega) (by omega)).symm
  have a2 : (fun t d => View.ld x2 (Rect.unit (s := S512x512) off S64x128.size inb1) (ix2 t d)) = rws x2 h.val (r.val / 64) :=
    funext fun t => funext fun d => (rd x2 t d).trans (rws_at x2 h.val _ t d (by omega) (by omega)).symm
  have a3 : (fun e d => View.ld (stK (F := Ideal) iR x1 x2 st (r.val / 64)) (Rect.unit (s := S4x128x128) ![h.val, 0, 0] S1x128x128.size inb') (ix3 0 e d)) = fun e d => stK (F := Ideal) iR x1 x2 st (r.val / 64) (ix3 h e d) :=
    funext fun e => funext fun d => ld_st _ h.val h.isLt inb' e d
  have a4 : (fun e : Fin 128 => View.ld x4 (Rect.unit (s := S1x512) ![0, 128 * h.val] S1x128.size inbw) (ix2 (0 : Fin 1) e)) = fun e => at2 x4 0 (128 * h.val + e.val) :=
    funext fun e => (View.ld_unit_apply_of x4 _ _ inbw _ (ix2 (0 : Fin 1) ⟨128 * h.val + e.val, by omega⟩) (fun a => match a with | ⟨0, _⟩ => rfl | ⟨1, _⟩ => rfl)).trans (at2_of x4 0 (128 * h.val + e.val) (by decide) (by omega)).symm
  have a5 : (fun e' : Fin 128 => View.ld x3 (Rect.unit (s := S512x512) off S64x128.size inb1) (ix2 (⟨r.val % 64, Nat.mod_lt _ (by decide)⟩ : Fin 64) e')) = fun e => at2 x3 r.val (128 * h.val + e.val) :=
    funext fun e' => (rd x3 _ e').trans (Eq.trans (congrArg x3 (congrArg₂ ix2 (Fin.ext (Nat.div_add_mod r.val 64)) rfl)) (at2_of x3 r.val (128 * h.val + e'.val) r.isLt (by omega)).symm)
  unfold cellB
  exact congrFun (congr (congr (congrArg nrm (congrFun (congr (congr (congr (congrArg oRow a0) a1) a2) a3) _)) a4) a5) e

/-- One block's result, of the state the block starts from. -/
theorem oL_apply (x0 : Vec Ideal S512x512 .bf16) (x1 : Vec Ideal S512x512 .f32) (x2 x3 : Vec Ideal S512x512 .bf16) (x4 : Vec Ideal S1x512 .f32) (st : Vec Ideal S4x128x128 .f32)
    (hl : ∀ i, ∃ a : ℝ, x1 i = (a : EReal)) (r : Fin 512) (h : Fin 4) (e : Fin 128) :
    View.canon (oL (F := Ideal) iR iA iB x0 x1 x2 x3 x4 st k0_t1_loop.trips) (ix2 r ⟨128 * h.val + e.val, by omega⟩ : S512x512.Idx) = cellB x0 x1 x2 x3 x4 st r h e := by
  refine View.canon_eq_of_allAt _ _ _ (oL_cover iR iA iB x0 x1 x2 x3 x4 st _) ?_
  have key : ∀ K, K ≤ k0_t1_loop.trips → View.AllAt (oL (F := Ideal) iR iA iB x0 x1 x2 x3 x4 st K) (ix2 r ⟨128 * h.val + e.val, by omega⟩ : S512x512.Idx) (cellB x0 x1 x2 x3 x4 st r h e) := by
    intro K
    induction K with
    | zero => intro _; exact View.allAt_nil _ _
    | succ k ih =>
      intro hK
      have hk' : k < k0_t1_loop.trips := by omega
      have hk : k < 8 := by rw [← trips8]; exact hk'
      rw [oL, dif_pos hk']
      have hp : View.AllAt (oPieces (F := Ideal) iR iA iB x0 x1 x2 x3 x4 ⟨k, hk'⟩ (stK (F := Ideal) iR x1 x2 st k)) (ix2 r ⟨128 * h.val + e.val, by omega⟩ : S512x512.Idx) (cellB x0 x1 x2 x3 x4 st r h e) := by
        unfold oPieces
        refine View.allAt_cons_unit _ _ _ _ _ (o_piece x0 x1 x2 x3 x4 st hl _ _ 3 k hk (by decide) (k0_off4_eq ⟨k, hk'⟩) _ _ r h e) ?_
        refine View.allAt_cons_unit _ _ _ _ _ (o_piece x0 x1 x2 x3 x4 st hl _ _ 2 k hk (by decide) (k0_off3_eq ⟨k, hk'⟩) _ _ r h e) ?_
        refine View.allAt_cons_unit _ _ _ _ _ (o_piece x0 x1 x2 x3 x4 st hl _ _ 1 k hk (by decide) (k0_off2_eq ⟨k, hk'⟩) _ _ r h e) ?_
        exact View.allAt_cons_unit _ _ _ _ _ (o_piece x0 x1 x2 x3 x4 st hl _ _ 0 k hk (by decide) (k0_off1_eq ⟨k, hk'⟩) _ _ r h e) (View.allAt_nil _ _)
      exact fun p hp' => (List.mem_append.mp hp').elim (hp p) (ih (by omega) p)
  exact key _ le_rfl

theorem canon_append {Val : EltTy → Type} [∀ e, Nonempty (Val e)] {S : Shape} {e : EltTy} (L' : List (View.Piece Val S e)) (y : S.Idx) :
    ∀ (L : List (View.Piece Val S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L' y L ?_
      obtain ⟨q, hq, hyq⟩ := hy
      rcases List.mem_cons.mp hq with rfl | hq'
      · exact absurd hyq hm
      · exact ⟨q, hq', hyq⟩

/-- The state after the loop is the canon of its pieces. -/
theorem sL_canon (x1 : Vec Ideal S512x512 .f32) (x2 : Vec Ideal S512x512 .bf16) (st : Vec Ideal S4x128x128 .f32) :
    View.canon (sL (F := Ideal) iR x1 x2 st k0_t1_loop.trips) = stK (F := Ideal) iR x1 x2 st k0_t1_loop.trips := by
  rw [trips8]
  have h7 : 7 < k0_t1_loop.trips := by rw [trips8]; decide
  rw [show sL (F := Ideal) iR x1 x2 st 8 = sPieces iR x1 x2 ⟨7, h7⟩ (stK iR x1 x2 st 7) ++ sL iR x1 x2 st 7 from dif_pos h7,
    show stK (F := Ideal) iR x1 x2 st 8 = View.canon (sPieces iR x1 x2 ⟨7, h7⟩ (stK iR x1 x2 st 7)) from dif_pos h7]
  funext y
  exact canon_append _ y _ (sPieces_cover iR x1 x2 ⟨7, h7⟩ _ y)

end Cert.Kernel6Ideal.Heads
-- ==== Proof.HeadsArr.lean ====
module

public import proofs.«01_k».proof.Proof.HeadsBlock

@[expose] public section

set_option maxRecDepth 16384

noncomputable section

open Idealize.ShloMosaic Idealize.ShloMosaic.TcCoe Idealize.SL.Sem

namespace Cert.Kernel6Ideal.Heads

open Cert.Kernel6Ideal Cert.Kernel6Ideal.Gen Cert.HeadsMath

variable (m : (ℓ : Loc nD τ sig) → Buf (Elt Ideal) ℓ)

abbrev qA (c : Dev nD) : S16384x512.Idx → EReal := m ((c : Thread nD τ).loc main_arg0)
abbrev lA (c : Dev nD) : S16384x512.Idx → EReal := m ((c : Thread nD τ).loc main_arg1)
abbrev vA (c : Dev nD) : S16384x512.Idx → EReal := m ((c : Thread nD τ).loc main_arg2)
abbrev gA (c : Dev nD) : S16384x512.Idx → EReal := m ((c : Thread nD τ).loc main_arg3)
abbrev wA (c : Dev nD) : S512.Idx → EReal := m ((c : Thread nD τ).loc main_arg4)

/-- The norm's weights by column. -/
def wN (w : S512.Idx → EReal) (j : ℕ) : EReal := if h : j < 512 then w (ix1 ⟨j, h⟩) else 0

theorem V_v0 (c : Dev nD) (k : Fin 512) : V m c main_v0 (ix2 0 k) = m ((c : Thread nD τ).loc main_arg4) (ix1 k) := by
  have h : V m c main_v0 = (broadcastInDim S1x512 ![1] bcast_S512_S1x512_1 (m ((c : Thread nD τ).loc main_arg4) : FVec Ideal S512 .f32) : FVec Ideal S1x512 .f32) := by
    unfold_abbrev_sides
    after_results
  rw [h]
  simp only [pointwise]
  congr 1

theorem idx_all : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem t_lt (t : Fin cfg0.N) : t.val < 32 := lt_of_lt_of_eq t.isLt N_0

/-- A row of a block, among all rows. -/
def rAt (t : Fin cfg0.N) (r : Fin 512) : Fin 16384 := ⟨512 * t.val + r.val, by have := t_lt t; omega⟩

theorem iblk0 (c : Dev nD) (t : Fin cfg0.N) (r k : Fin 512) : (iblk m c 0 t : Vec Ideal S512x512 .bf16) (ix2 r k) = qA m c (ix2 (rAt t r) k) := by
  unfold qA
  rw [← V_main_arg0 m c]
  show V m c main_arg0 _ = V m c main_arg0 _
  congr 1
  obtain ⟨⟨e0, e1⟩, -⟩ := idx_all t
  funext a; apply Fin.ext
  match a with
  | ⟨0, _⟩ => show win0_0.index t (0 : Fin 2) * 512 + 1 * r.val = 512 * t.val + r.val; omega
  | ⟨1, _⟩ => show win0_0.index t (1 : Fin 2) * 512 + 1 * k.val = k.val; omega

theorem iblk1 (c : Dev nD) (t : Fin cfg0.N) (r k : Fin 512) : (iblk m c 1 t : Vec Ideal S512x512 .f32) (ix2 r k) = lA m c (ix2 (rAt t r) k) := by
  unfold lA
  rw [← V_main_arg1 m c]
  show V m c main_arg1 _ = V m c main_arg1 _
  congr 1
  obtain ⟨-, ⟨e0, e1⟩, -⟩ := idx_all t
  funext a; apply Fin.ext
  match a with
  | ⟨0, _⟩ => show win0_1.index t (0 : Fin 2) * 512 + 1 * r.val = 512 * t.val + r.val; omega
  | ⟨1, _⟩ => show win0_1.index t (1 : Fin 2) * 512 + 1 * k.val = k.val; omega

theorem iblk2 (c : Dev nD) (t : Fin cfg0.N) (r k : Fin 512) : (iblk m c 2 t : Vec Ideal S512x512 .bf16) (ix2 r k) = vA m c (ix2 (rAt t r) k) := by
  unfold vA
  rw [← V_main_arg2 m c]
  show V m c main_arg2 _ = V m c main_arg2 _
  congr 1
  obtain ⟨-, -, ⟨e0, e1⟩, -⟩ := idx_all t
  funext a; apply Fin.ext
  match a with
  | ⟨0, _⟩ => show win0_2.index t (0 : Fin 2) * 512 + 1 * r.val = 512 * t.val + r.val; omega
  | ⟨1, _⟩ => show win0_2.index t (1 : Fin 2) * 512 + 1 * k.val = k.val; omega

theorem iblk3 (c : Dev nD) (t : Fin cfg0.N) (r k : Fin 512) : (iblk m c 3 t : Vec Ideal S512x512 .bf16) (ix2 r k) = gA m c (ix2 (rAt t r) k) := by
  unfold gA
  rw [← V_main_arg3 m c]
  show V m c main_arg3 _ = V m c main_arg3 _
  congr 1
  obtain ⟨-, -, -, ⟨e0, e1⟩, -⟩ := idx_all t
  funext a; apply Fin.ext
  match a with
  | ⟨0, _⟩ => show win0_3.index t (0 : Fin 2) * 512 + 1 * r.val = 512 * t.val + r.val; omega
  | ⟨1, _⟩ => show win0_3.index t (1 : Fin 2) * 512 + 1 * k.val = k.val; omega

theorem iblk4 (c : Dev nD) (t : Fin cfg0.N) (k : Fin 512) : (iblk m c 4 t : Vec Ideal S1x512 .f32) (ix2 0 k) = wA m c (ix1 k) := by
  unfold wA
  rw [← V_v0 m c]
  show V m c main_v0 _ = V m c main_v0 _
  congr 1
  obtain ⟨-, -, -, -, ⟨e0, e1⟩, -⟩ := idx_all t
  funext a; apply Fin.ext
  match a with
  | ⟨0, _⟩ => show win0_4.index t (0 : Fin 2) * 1 + 1 * 0 = 0; omega
  | ⟨1, _⟩ => show win0_4.index t (1 : Fin 2) * 512 + 1 * k.val = k.val; omega

/-- A block's rows of a chunk are the array's. -/
theorem rws_blk (B : S512x512.Idx → EReal) (X : S16384x512.Idx → EReal) (t : Fin cfg0.N) (hB : ∀ r k, B (ix2 r k) = X (ix2 (rAt t r) k)) (h k : ℕ) (hh : h < 4) (hk : k < 8) :
    rws B h k = rws X h (8 * t.val + k) := by
  funext s d
  have ht := t_lt t
  rw [rws_at B h k s d (by omega) (by omega), rws_at X h (8 * t.val + k) s d (by omega) (by omega), hB]
  refine congrArg X (congrArg₂ ix2 (Fin.ext ?_) rfl)
  show 512 * t.val + (64 * k + s.val) = 64 * (8 * t.val + k) + s.val
  omega

/-- The state a point starts from. -/
def st0 (c : Dev nD) (t : Fin cfg0.N) : Vec Ideal S4x128x128 .f32 :=
  if t.val % 4 = 0 then k0_pay1 (F := Ideal) else (outsAt0 m c (t.val - 1) (Nat.lt_of_le_of_lt (Nat.sub_le _ _) t.isLt)).2

theorem outs_eq (c : Dev nD) (t : Fin cfg0.N) :
    outsAt0 m c t.val t.isLt = (View.canon (oL (F := Ideal) iR iA iB (iblk m c 0 t) (iblk m c 1 t) (iblk m c 2 t) (iblk m c 3 t) (iblk m c 4 t) (st0 m c t) k0_t1_loop.trips),
      stK (F := Ideal) iR (iblk m c 1 t) (iblk m c 2 t) (st0 m c t) k0_t1_loop.trips) := by
  by_cases h0 : t.val % 4 = 0
  · rw [outsAt0_A m c t h0, st0, if_pos h0]
    refine Prod.ext ?_ ?_
    · dsimp only
      rw [out0_A_5, View.read_writes_junk_eq_canon]
      rfl
    · dsimp only
      rw [sout0_A_0, View.read_writes_junk_eq_canon]
      exact sL_canon _ _ _
  · rw [outsAt0_B m c t h0, st0, if_neg h0]
    refine Prod.ext ?_ ?_
    · dsimp only
      rw [out0_B_5, View.read_writes_junk_eq_canon]
      rfl
    · dsimp only
      rw [sout0_B_0, View.read_writes_junk_eq_canon]
      exact sL_canon _ _ _

theorem pay_zero (i : S4x128x128.Idx) : k0_pay1 (F := Ideal) i = (0 : EReal) := by
  unfold k0_pay1
  simp only [pointwise]

theorem stK_at (c : Dev nD) (t : Fin cfg0.N) (h : Fin 4)
    (h0 : (fun e d => st0 m c t (ix3 h e d)) = stG (rws (lA m c) h.val) (rws (vA m c) h.val) (8 * t.val)) :
    ∀ k, k < 8 → (fun e d => stK (F := Ideal) iR (iblk m c 1 t) (iblk m c 2 t) (st0 m c t) k (ix3 h e d)) = stG (rws (lA m c) h.val) (rws (vA m c) h.val) (8 * t.val + k) := by
  intro k
  induction k with
  | zero => intro _; exact h0
  | succ k ih =>
    intro hk
    have hk' : k < 8 := by omega
    rw [← Nat.add_assoc, stG_step _ _ _ (by omega), ← ih hk']
    funext e d
    rw [stK_succ (iblk m c 1 t) (iblk m c 2 t) _ k hk' h e d]
    exact congrFun (congrFun (congrFun (congr (congrArg stNext (rws_blk _ _ t (iblk1 m c t) h.val k h.isLt hk')) (rws_blk _ _ t (iblk2 m c t) h.val k h.isLt hk')) _) e) d

theorem st0_at (c : Dev nD) (h : Fin 4) : ∀ (n : ℕ) (hn : n < cfg0.N),
    (fun e d => st0 m c ⟨n, hn⟩ (ix3 h e d)) = stG (rws (lA m c) h.val) (rws (vA m c) h.val) (8 * n) := by
  intro n
  induction n with
  | zero =>
    intro hn
    funext e d
    rw [st0, if_pos (Nat.zero_mod 4)]
    exact pay_zero _
  | succ n ih =>
    intro hn
    by_cases h4 : (n + 1) % 4 = 0
    · rw [stG_reset _ _ _ (by omega)]
      funext e d
      rw [st0, if_pos h4]
      exact pay_zero _
    · have hn' : n < cfg0.N := by omega
      have hk := stK_at m c ⟨n, hn'⟩ h (ih hn') 7 (by decide)
      rw [show 8 * (n + 1) = 8 * n + 7 + 1 by ring, stG_step _ _ _ (by omega), ← hk]
      funext e d
      rw [st0, if_neg h4]
      show (outsAt0 m c n hn').2 (ix3 h e d) = _
      rw [outs_eq m c ⟨n, hn'⟩, trips8]
      refine (stK_succ (iblk m c 1 ⟨n, hn'⟩) (iblk m c 2 ⟨n, hn'⟩) _ 7 (by decide) h e d).trans ?_
      exact congrFun (congrFun (congrFun (congr (congrArg stNext (rws_blk _ _ ⟨n, hn'⟩ (iblk1 m c ⟨n, hn'⟩) h.val 7 h.isLt (by decide))) (rws_blk _ _ ⟨n, hn'⟩ (iblk2 m c ⟨n, hn'⟩) h.val 7 h.isLt (by decide))) _) e) d

/-- The kernel's result, one element, where the logs are real. -/
theorem final5 (c : Dev nD) (hl : ∀ i, ∃ a : ℝ, lA m c i = (a : EReal)) (r : Fin 16384) (h : Fin 4) (e : Fin 128) :
    (dats m 0 c).arrAt 5 cfg0.N (ix2 r ⟨128 * h.val + e.val, by omega⟩ : S16384x512.Idx)
      = resG (qA m c) (lA m c) (vA m c) (gA m c) (wN (wA m c)) r.val h.val e := by
  obtain ⟨t, s, rfl⟩ : ∃ (t : Fin cfg0.N) (s : Fin 512), r = rAt t s :=
    ⟨⟨r.val / 512, by rw [show cfg0.N = 32 from N_0]; omega⟩, ⟨r.val % 512, Nat.mod_lt _ (by decide)⟩, Fin.ext (Nat.div_add_mod r.val 512).symm⟩
  have eb := congrFun (Value.blocks5 m c t (flush0_5 t)) (ix2 s ⟨128 * h.val + e.val, by omega⟩)
  rw [Value.flushed5, outs_eq] at eb
  have hl' : ∀ i, ∃ a : ℝ, (iblk m c 1 t : Vec Ideal S512x512 .f32) i = (a : EReal) := fun i => by
    obtain ⟨a, b, rfl⟩ : ∃ (a b : Fin 512), i = ix2 a b := ⟨i 0, i 1, by funext a; match a with | ⟨0, _⟩ => rfl | ⟨1, _⟩ => rfl⟩
    rw [iblk1]; exact hl _
  have ho := oL_apply (iblk m c 0 t) (iblk m c 1 t) (iblk m c 2 t) (iblk m c 3 t) (iblk m c 4 t) (st0 m c t) hl' s h e
  have ht := t_lt t
  have hs : s.val / 64 < 8 := by omega
  have hcell : cellB (iblk m c 0 t) (iblk m c 1 t) (iblk m c 2 t) (iblk m c 3 t) (iblk m c 4 t) (st0 m c t) s h e
      = resG (qA m c) (lA m c) (vA m c) (gA m c) (wN (wA m c)) (rAt t s).val h.val e := by
    have hr : (rAt t s).val / 64 = 8 * t.val + s.val / 64 := by show (512 * t.val + s.val) / 64 = _; omega
    have hm : (⟨s.val % 64, Nat.mod_lt _ (by decide)⟩ : Fin 64) = ⟨(rAt t s).val % 64, Nat.mod_lt _ (by decide)⟩ := Fin.ext (by show s.val % 64 = (512 * t.val + s.val) % 64; omega)
    unfold cellB resG
    rw [stK_at m c t h (st0_at m c h t.val t.isLt) _ hs, rws_blk _ _ t (iblk0 m c t) h.val _ h.isLt hs, rws_blk _ _ t (iblk1 m c t) h.val _ h.isLt hs, rws_blk _ _ t (iblk2 m c t) h.val _ h.isLt hs, hr, hm]
    have a4 : (fun e : Fin 128 => at2 (iblk m c 4 t : S1x512.Idx → EReal) 0 (128 * h.val + e.val)) = fun e => wN (wA m c) (128 * h.val + e.val) := funext fun e =>
      (at2_of (iblk m c 4 t : S1x512.Idx → EReal) 0 _ (by decide) (by omega)).trans ((iblk4 m c t ⟨128 * h.val + e.val, by omega⟩).trans (by unfold wN; rw [dif_pos (show 128 * h.val + e.val < 512 by omega)]))
    have a5 : (fun e : Fin 128 => at2 (iblk m c 3 t : S512x512.Idx → EReal) s.val (128 * h.val + e.val)) = fun e => at2 (gA m c) (rAt t s).val (128 * h.val + e.val) := funext fun e =>
      (at2_of (iblk m c 3 t : S512x512.Idx → EReal) s.val _ s.isLt (by omega)).trans ((iblk3 m c t s ⟨128 * h.val + e.val, by omega⟩).trans (at2_of (gA m c) (rAt t s).val (128 * h.val + e.val) (rAt t s).isLt (by omega)).symm)
    exact congrFun (congr (congrArg (nrm _) a4) a5) e
  refine Eq.trans ?_ (eb.trans (ho.trans hcell))
  show (dats m 0 c).arrAt 5 cfg0.N _ = (dats m 0 c).arrAt 5 cfg0.N _
  congr 1
  obtain ⟨-, -, -, -, -, ⟨e0, e1⟩⟩ := idx_all t
  funext a; apply Fin.ext
  match a with
  | ⟨0, _⟩ => show 512 * t.val + s.val = win0_5.index t (0 : Fin 2) * 512 + 1 * s.val; omega
  | ⟨1, _⟩ => show 128 * h.val + e.val = win0_5.index t (1 : Fin 2) * 512 + 1 * (128 * h.val + e.val); omega

end Cert.Kernel6Ideal.Heads
-- ==== Proof.HeadsStep.lean ====
module

public import proofs.«01_k».proof.Proof.HeadsMath
public import proofs.«01_k».proof.Proof.Gen.Reference6Ideal.Run
public import Idealize.ShloMosaic.Lib.Pointwise
public import Idealize.ShloMosaic.Lib.DynamicIndex

@[expose] public section

set_option maxRecDepth 16384

noncomputable section

open Idealize.ShloMosaic Idealize.ShloMosaic.TcCoe Idealize.SL.Sem

namespace Cert.Reference6Ideal.Heads

open Cert.Reference6Ideal Cert.Reference6Ideal.Gen Cert.Reference6Ideal.Value Cert.HeadsMath

/-- One chunk of an array. -/
def slc {α : Type} (x : S32x8x4x64x128.Idx → α) (i : S_.Idx → BitVec 32) : S8x4x64x128.Idx → α :=
  shapeCast S8x4x64x128 (Host.dynamicSlice S1x8x4x64x128 x (fun k => (((![i, constantI S_ 32 0#32, constantI S_ 32 0#32, constantI S_ 32 0#32, constantI S_ 32 0#32] : Fin 5 → (S_.Idx → BitVec 32))) k (Shape.Idx.first h_S_)).toInt) sliceFits_S32x8x4x64x128_S1x8x4x64x128) shapeCasts_S1x8x4x64x128_S8x4x64x128

theorem slc_apply {α : Type} (x : S32x8x4x64x128.Idx → α) (n : Fin 32) (b : Fin 8) (h : Fin 4) (t : Fin 64) (d : Fin 128) :
    slc x (fun _ => BitVec.ofNat 32 n.val) (ix4 b h t d) = x (ix5 n b h t d) := by
  unfold slc
  rw [Host.dynamicSlice_eq_extractStridedSlice S1x8x4x64x128 x _ ![n.val, 0, 0, 0, 0] _
    ⟨rfl, fun a => by
      match a with
      | ⟨0, _⟩ => show n.val + 1 ≤ 32; omega
      | ⟨1, _⟩ => exact le_rfl
      | ⟨2, _⟩ => exact le_rfl
      | ⟨3, _⟩ => exact le_rfl
      | ⟨4, _⟩ => exact le_rfl⟩
    (fun a => by
      match a with
      | ⟨0, _⟩ => exact toInt_ofNat_of_lt (by omega)
      | ⟨1, _⟩ => rfl
      | ⟨2, _⟩ => rfl
      | ⟨3, _⟩ => rfl
      | ⟨4, _⟩ => rfl)]
  simp only [pointwise]
  show x _ = x _
  congr 1
  funext a; apply Fin.ext
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

/-- Running sums down a chunk's rows. -/
def cums (y : FVec Ideal S8x4x64x128 .f32) : FVec Ideal S8x4x64x128 .f32 :=
  Host.reduceWindowAdd ![1, 1, 64, 1] ![1, 1, 1, 1] ![0, 0, 63, 0] ![0, 0, 0, 0] y (broadcastInDim S_ ![] bcast_S_S_ (constant S_ .f32 0x00000000#32 : FVec Ideal S_ .f32)) reduceWindows_S8x4x64x128_S8x4x64x128_w1s1p0_0_w1s1p0_0_w64s1p63_0_w1s1p0_0 h_S_

theorem v39_eq (V0 : Valuation τ sig (Elt Ideal)) : res_main_while0b_v39 V0 = slc (V0 (Proc.devRef .tc main_v16_0)) (V0 (Proc.devRef .tc main_v16_5)) := rfl
theorem v40_eq (V0 : Valuation τ sig (Elt Ideal)) : res_main_while0b_v40 V0 = slc (V0 (Proc.devRef .tc main_v16_1)) (V0 (Proc.devRef .tc main_v16_5)) := rfl
theorem v41_eq (V0 : Valuation τ sig (Elt Ideal)) : res_main_while0b_v41 V0 = slc (V0 (Proc.devRef .tc main_v16_2)) (V0 (Proc.devRef .tc main_v16_5)) := rfl
theorem v43_eq (V0 : Valuation τ sig (Elt Ideal)) : res_main_while0b_v43 V0 = cums (slc (V0 (Proc.devRef .tc main_v16_3)) (V0 (Proc.devRef .tc main_v16_5))) := rfl

/-- The last running sums. -/
def lastC (c : FVec Ideal S8x4x64x128 .f32) : FVec Ideal S8x4x1x128 .f32 := extractStridedSlice S8x4x1x128 ![0, 0, 63, 0] c slices_S8x4x64x128_S8x4x1x128_0_0_63_0

theorem lastC_apply (c : FVec Ideal S8x4x64x128 .f32) (b : Fin 8) (h : Fin 4) (d : Fin 128) : lastC c (ix4 b h 0 d) = c (ix4 b h 63 d) := by
  unfold lastC
  simp only [pointwise]
  show c _ = c _
  congr 1
  funext a; apply Fin.ext
  match a with
  | ⟨0, _⟩ => exact Nat.zero_add _
  | ⟨1, _⟩ => exact Nat.zero_add _
  | ⟨2, _⟩ => rfl
  | ⟨3, _⟩ => exact Nat.zero_add _

/-- The state's step. -/
def st6 (k v c : FVec Ideal S8x4x64x128 .f32) (c63 : FVec Ideal S8x4x1x128 .f32) (S : FVec Ideal S8x4x128x128 .f32) : FVec Ideal S8x4x128x128 .f32 :=
  id (addf (mulf (broadcastInDim S8x4x128x128 ![0, 1, 2, 3] bcast_S8x4x128x1_S8x4x128x128_0_1_2_3 (broadcastInDim S8x4x128x1 ![0, 1, 2] bcast_S8x4x128_S8x4x128x1_0_1_2 (Host.exp (shapeCast S8x4x128 c63 shapeCasts_S8x4x1x128_S8x4x128)))) S) (Host.dotGeneral dot_S8x4x64x128_S8x4x64x128_S8x4x128x128_2_2_3_3_01_01 none (mulf k (Host.exp (subf (broadcastInDim S8x4x64x128 ![0, 1, 2, 3] bcast_S8x4x1x128_S8x4x64x128_0_1_2_3 c63) c))) v))

theorem st6_eq (V0 : Valuation τ sig (Elt Ideal)) : step_main_v16_6 V0 = st6 (slc (V0 (Proc.devRef .tc main_v16_1)) (V0 (Proc.devRef .tc main_v16_5))) (slc (V0 (Proc.devRef .tc main_v16_2)) (V0 (Proc.devRef .tc main_v16_5)))
    (cums (slc (V0 (Proc.devRef .tc main_v16_3)) (V0 (Proc.devRef .tc main_v16_5)))) (lastC (cums (slc (V0 (Proc.devRef .tc main_v16_3)) (V0 (Proc.devRef .tc main_v16_5))))) (V0 (Proc.devRef .tc main_v16_6)) := rfl

theorem st6_apply (k v c : FVec Ideal S8x4x64x128 .f32) (c63 : FVec Ideal S8x4x1x128 .f32) (S : FVec Ideal S8x4x128x128 .f32) (b : Fin 8) (h : Fin 4) (d e : Fin 128) :
    st6 k v c c63 S (ix4 b h d e) = Ideal.exp (c63 (ix4 b h 0 d)) * S (ix4 b h d e) + ∑ s : Fin 64, k (ix4 b h s d) * Ideal.exp (c63 (ix4 b h 0 d) - c (ix4 b h s d)) * v (ix4 b h s e) := by
  unfold st6
  simp only [pointwise, id, zero_add]
  rfl

/-- One chunk's rows before the norm. -/
def st7 (q k v c : FVec Ideal S8x4x64x128 .f32) (M : IVec S64x64 1) (S : FVec Ideal S8x4x128x128 .f32) : FVec Ideal S8x4x64x128 .f32 :=
  (addf (Host.dotGeneral dot_S8x4x64x64_S8x4x64x128_S8x4x64x128_3_2_2_3_01_01 none (Host.reduceAdd (mulf (mulf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 q)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 k))) (Host.exp (select (broadcastInDim S8x4x64x64x128 ![0, 1, 2, 3, 4] bcast_S1x1x64x64x1_S8x4x64x64x128_0_1_2_3_4 (broadcastInDim S1x1x64x64x1 ![2, 3] bcast_S64x64_S1x1x64x64x1_2_3 M)) (subf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 c)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 c))) (broadcastInDim S8x4x64x64x128 ![] bcast_S_S8x4x64x64x128 (id (constant S_ .f32 0xFF800000#32)))))) (constant S_ .f32 0x00000000#32) reducesTo_S8x4x64x64x128_S8x4x64x64_d4 h_S_) v) (Host.dotGeneral dot_S8x4x64x128_S8x4x128x128_S8x4x64x128_3_2_2_3_01_01 none (mulf q (Host.exp c)) S))

theorem st7_apply (q k v c : FVec Ideal S8x4x64x128 .f32) (M : IVec S64x64 1) (S : FVec Ideal S8x4x128x128 .f32) (b : Fin 8) (h : Fin 4) (t : Fin 64) (e : Fin 128) :
    st7 q k v c M S (ix4 b h t e) = ∑ s : Fin 64, (∑ d : Fin 128, q (ix4 b h t d) * k (ix4 b h s d) * Ideal.exp (if M (ix2 t s) = 1 then c (ix4 b h t d) - c (ix4 b h s d) else Ideal.ofBits .f32 0xFF800000#32)) * v (ix4 b h s e)
      + ∑ d : Fin 128, q (ix4 b h t d) * Ideal.exp (c (ix4 b h t d)) * S (ix4 b h d e) := by
  unfold st7
  simp only [pointwise, id, zero_add]
  rfl

/-- One chunk written back. -/
def dus {α : Type} (x : S32x8x4x64x128.Idx → α) (u : S8x4x64x128.Idx → α) (i : S_.Idx → BitVec 32) : S32x8x4x64x128.Idx → α :=
  Host.dynamicUpdateSlice x (broadcastInDim S1x8x4x64x128 ![1, 2, 3, 4] bcast_S8x4x64x128_S1x8x4x64x128_1_2_3_4 u) (fun k => (((![i, constantI S_ 32 0#32, constantI S_ 32 0#32, constantI S_ 32 0#32, constantI S_ 32 0#32] : Fin 5 → (S_.Idx → BitVec 32))) k (Shape.Idx.first h_S_)).toInt) updateFits_S32x8x4x64x128_S1x8x4x64x128

theorem st7_eq (V0 : Valuation τ sig (Elt Ideal)) : step_main_v16_7 V0 = dus (V0 (Proc.devRef .tc main_v16_7)) (st7 (slc (V0 (Proc.devRef .tc main_v16_0)) (V0 (Proc.devRef .tc main_v16_5))) (slc (V0 (Proc.devRef .tc main_v16_1)) (V0 (Proc.devRef .tc main_v16_5))) (slc (V0 (Proc.devRef .tc main_v16_2)) (V0 (Proc.devRef .tc main_v16_5)))
    (cums (slc (V0 (Proc.devRef .tc main_v16_3)) (V0 (Proc.devRef .tc main_v16_5)))) (V0 (Proc.devRef .tc main_v16_4)) (V0 (Proc.devRef .tc main_v16_6))) (V0 (Proc.devRef .tc main_v16_5)) := by
  unfold step_main_v16_7 dus st7
  rw [v39_eq, v40_eq, v41_eq, v43_eq]
  rfl

theorem dus_apply {α : Type} (x : S32x8x4x64x128.Idx → α) (u : S8x4x64x128.Idx → α) (n n' : Fin 32) (b : Fin 8) (h : Fin 4) (t : Fin 64) (d : Fin 128) :
    dus x u (fun _ => BitVec.ofNat 32 n.val) (ix5 n' b h t d) = if n' = n then u (ix4 b h t d) else x (ix5 n' b h t d) := by
  unfold dus
  generalize hu : broadcastInDim S1x8x4x64x128 ![1, 2, 3, 4] bcast_S8x4x64x128_S1x8x4x64x128_1_2_3_4 u = w
  have hw : w (ix5 0 b h t d) = u (ix4 b h t d) := by
    rw [← hu]
    simp only [pointwise]
    rfl
  generalize hs : (fun k => (((![(fun _ => BitVec.ofNat 32 n.val), constantI S_ 32 0#32, constantI S_ 32 0#32, constantI S_ 32 0#32, constantI S_ 32 0#32] : Fin 5 → (S_.Idx → BitVec 32))) k (Shape.Idx.first h_S_)).toInt) = st
  have hc : ∀ a : Fin 5, Host.clampedStart S32x8x4x64x128 S1x8x4x64x128 updateFits_S32x8x4x64x128_S1x8x4x64x128.1 st a = ![n.val, 0, 0, 0, 0] a := fun a => by
    subst hs
    refine Host.clampedStart_of_le (s := S32x8x4x64x128) (t := S1x8x4x64x128) _ _ a _ ?_ ?_
    · match a with
      | ⟨0, _⟩ => exact toInt_ofNat_of_lt (by omega)
      | ⟨1, _⟩ => rfl
      | ⟨2, _⟩ => rfl
      | ⟨3, _⟩ => rfl
      | ⟨4, _⟩ => rfl
    · match a with
      | ⟨0, _⟩ => show n.val + 1 ≤ 32; omega
      | ⟨1, _⟩ => exact le_rfl
      | ⟨2, _⟩ => exact le_rfl
      | ⟨3, _⟩ => exact le_rfl
      | ⟨4, _⟩ => exact le_rfl
  rw [Host.dynamicUpdateSlice_apply]
  simp only [hc]
  by_cases hn : n' = n
  · subst hn
    rw [dif_pos (fun a => by
      match a with
      | ⟨0, _⟩ => exact ⟨le_rfl, Nat.lt_succ_self _⟩
      | ⟨1, _⟩ => exact ⟨Nat.zero_le _, by show b.val < 0 + 8; omega⟩
      | ⟨2, _⟩ => exact ⟨Nat.zero_le _, by show h.val < 0 + 4; omega⟩
      | ⟨3, _⟩ => exact ⟨Nat.zero_le _, by show t.val < 0 + 64; omega⟩
      | ⟨4, _⟩ => exact ⟨Nat.zero_le _, by show d.val < 0 + 128; omega⟩), if_pos rfl, ← hw]
    refine congrArg w ?_
    funext a; apply Fin.ext
    match a with
    | ⟨0, _⟩ => exact Nat.sub_self _
    | ⟨1, _⟩ => rfl
    | ⟨2, _⟩ => rfl
    | ⟨3, _⟩ => rfl
    | ⟨4, _⟩ => rfl
  · rw [dif_neg, if_neg hn]
    intro hin
    have h0 := hin ⟨0, by decide⟩
    have h1 : n.val ≤ n'.val := h0.1
    have h2 : n'.val < n.val + 1 := h0.2
    exact hn (Fin.ext (by omega))

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window of the running sums. -/
abbrev W64 : Shape := ⟨4, ![1, 1, 64, 1]⟩

/-- The window's positions by their row. -/
def wIdx : Fin 64 ≃ W64.Idx where
  toFun w := ix4 (0 : Fin 1) (0 : Fin 1) w (0 : Fin 1)
  invFun i := i 2
  left_inv w := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

theorem shift_sum (Y : ℕ → EReal) (t : Fin 64) :
    (∑ w : Fin 64, if 63 ≤ t.val + w.val then Y (t.val + w.val - 63) else 0) = ∑ s : Fin 64, if s ≤ t then Y s.val else 0 := by
  rw [← Finset.sum_filter, ← Finset.sum_filter]
  refine Finset.sum_nbij' (fun w => ⟨(t.val + w.val - 63) % 64, Nat.mod_lt _ (by decide)⟩) (fun s => ⟨(s.val + 63 - t.val) % 64, Nat.mod_lt _ (by decide)⟩) ?_ ?_ ?_ ?_ ?_
  · intro w hw
    have h1 := (Finset.mem_filter.mp hw).2
    refine Finset.mem_filter.mpr ⟨Finset.mem_univ _, ?_⟩
    show (t.val + w.val - 63) % 64 ≤ t.val
    omega
  · intro s hs
    have h1 : s.val ≤ t.val := (Finset.mem_filter.mp hs).2
    refine Finset.mem_filter.mpr ⟨Finset.mem_univ _, ?_⟩
    show 63 ≤ t.val + (s.val + 63 - t.val) % 64
    omega
  · intro w hw
    have h1 := (Finset.mem_filter.mp hw).2
    apply Fin.ext
    show ((t.val + w.val - 63) % 64 + 63 - t.val) % 64 = w.val
    omega
  · intro s hs
    have h1 : s.val ≤ t.val := (Finset.mem_filter.mp hs).2
    apply Fin.ext
    show (t.val + (s.val + 63 - t.val) % 64 - 63) % 64 = s.val
    omega
  · intro w hw
    have h1 := (Finset.mem_filter.mp hw).2
    show Y (t.val + w.val - 63) = Y ((t.val + w.val - 63) % 64)
    rw [Nat.mod_eq_of_lt (by omega)]

theorem cums_apply (y : FVec Ideal S8x4x64x128 .f32) (b : Fin 8) (h : Fin 4) (t : Fin 64) (d : Fin 128) :
    cums y (ix4 b h t d) = bc (fun s d => y (ix4 b h s d)) t d := by
  unfold cums Host.reduceWindowAdd
  rw [Ideal.hostReduceWindowAdd_def]
  unfold Ideal.hostReduceWindowAdd Host.reduceWindow
  dsimp only
  rw [foldl_add]
  simp only [pointwise]
  rw [zero_add, ← Fin.sum_univ_def]
  let Y : ℕ → EReal := fun n => if hn : n < 64 then y (ix4 b h ⟨n, hn⟩ d) else 0
  have hbc : bc (fun s d => y (ix4 b h s d)) t d = ∑ s : Fin 64, if s ≤ t then Y s.val else 0 := by
    unfold bc
    refine Finset.sum_congr rfl fun s _ => ?_
    rw [show Y s.val = y (ix4 b h s d) from dif_pos s.isLt]
  rw [hbc, ← shift_sum]
  let G : W64.Idx → EReal := fun j => if 63 ≤ t.val + (j 2).val then Y (t.val + (j 2).val - 63) else 0
  refine (Finset.sum_congr rfl fun i _ => ?_).trans ((Equiv.sum_comp W64.rowMajor.symm G).trans (Equiv.sum_comp wIdx G).symm)
  have h0 : (W64.rowMajor.symm i 0).val < 1 := (W64.rowMajor.symm i 0).isLt
  have h1 : (W64.rowMajor.symm i 1).val < 1 := (W64.rowMajor.symm i 1).isLt
  have h2 : (W64.rowMajor.symm i 2).val < 64 := (W64.rowMajor.symm i 2).isLt
  have h3 : (W64.rowMajor.symm i 3).val < 1 := (W64.rowMajor.symm i 3).isLt
  by_cases hj : 63 ≤ t.val + (W64.rowMajor.symm i 2).val
  · refine (dif_pos ⟨⟨Nat.zero_le _, ?_⟩, ⟨Nat.zero_le _, ?_⟩, ⟨?_, ?_⟩, Nat.zero_le _, ?_⟩).trans ?_
    · refine Eq.trans ?_ (show G (W64.rowMajor.symm i) = y (ix4 b h ⟨t.val + (W64.rowMajor.symm i 2).val - 63, by omega⟩ d) from (if_pos hj).trans (dif_pos (show t.val + (W64.rowMajor.symm i 2).val - 63 < 64 by omega))).symm
      refine congrArg y ?_
      funext a; apply Fin.ext
      match a with
      | ⟨0, _⟩ => show b.val * 1 + (W64.rowMajor.symm i 0).val - 0 = b.val; omega
      | ⟨1, _⟩ => show h.val * 1 + (W64.rowMajor.symm i 1).val - 0 = h.val; omega
      | ⟨2, _⟩ => show t.val * 1 + (W64.rowMajor.symm i 2).val - 63 = t.val + (W64.rowMajor.symm i 2).val - 63; omega
      | ⟨3, _⟩ => show d.val * 1 + (W64.rowMajor.symm i 3).val - 0 = d.val; omega
    · show b.val * 1 + 0 - 0 < 8; omega
    · show h.val * 1 + 0 - 0 < 4; omega
    · show 63 ≤ t.val * 1 + (W64.rowMajor.symm i 2).val; omega
    · show t.val * 1 + (W64.rowMajor.symm i 2).val - 63 < 64; omega
    · show d.val * 1 + 0 - 0 < 128; omega
  · refine (dif_neg fun hc => hj ?_).trans (if_neg hj).symm
    have h4 : 63 ≤ t.val * 1 + (W64.rowMajor.symm i 2).val := hc.2.2.1.1
    omega

end Cert.Reference6Ideal.Heads
-- ==== Proof.HeadsRef.lean ====
module

public import proofs.«01_k».proof.Proof.HeadsStep

@[expose] public section

set_option maxRecDepth 16384

noncomputable section

open Idealize.ShloMosaic Idealize.ShloMosaic.TcCoe Idealize.SL.Sem

namespace Cert.Reference6Ideal.Heads

open Cert.Reference6Ideal Cert.Reference6Ideal.Gen Cert.Reference6Ideal.Value Cert.HeadsMath
open Idealize.ShloMosaic.StableHlo

variable (m : (ℓ : Loc nD τ sig) → Buf (Elt Ideal) ℓ) (c : Dev nD)

abbrev qM : FVec Ideal S16384x512 .bf16 := m ((c : Thread nD τ).loc main_arg0)
abbrev lM : FVec Ideal S16384x512 .f32 := m ((c : Thread nD τ).loc main_arg1)
abbrev vM : FVec Ideal S16384x512 .bf16 := m ((c : Thread nD τ).loc main_arg2)

/-- An array cut into chunks, the chunk's number first. -/
def chunks (x : FVec Ideal S16384x512 .f32) : FVec Ideal S32x8x4x64x128 .f32 :=
  transpose S32x8x4x64x128 [1, 0, 3, 2, 4] (shapeCast S8x32x64x4x128 x shapeCasts_S16384x512_S8x32x64x4x128) transposes_S8x32x64x4x128_S32x8x4x64x128_1_0_3_2_4

theorem chunks_apply (x : FVec Ideal S16384x512 .f32) (n : Fin 32) (b : Fin 8) (h : Fin 4) (t : Fin 64) (d : Fin 128) :
    chunks x (ix5 n b h t d) = x (ix2 ⟨64 * (32 * b.val + n.val) + t.val, by omega⟩ ⟨128 * h.val + d.val, by omega⟩) := by
  unfold chunks
  simp only [pointwise]
  refine congrArg x (congrArg₂ ix2 (Fin.ext ?_) (Fin.ext ?_))
  · show b.val * 2048 + n.val * 64 + t.val = 64 * (32 * b.val + n.val) + t.val; omega
  · show h.val * 128 + d.val = 128 * h.val + d.val; omega

theorem entry0 : entryContents preI m c (Proc.devRef .tc main_v16_0) = chunks (extf .f32 (qM m c) bitsLt_bf16_f32) := by
  simp only [entryContents, afterL_cons, afterL_nil]
  after_reads_simp
  rfl

theorem entry1 : entryContents preI m c (Proc.devRef .tc main_v16_1) = chunks (Host.negf (Host.expm1 (lM m c))) := by
  simp only [entryContents, afterL_cons, afterL_nil]
  after_reads_simp
  rfl

theorem entry2 : entryContents preI m c (Proc.devRef .tc main_v16_2) = chunks (extf .f32 (vM m c) bitsLt_bf16_f32) := by
  simp only [entryContents, afterL_cons, afterL_nil]
  after_reads_simp
  rfl

theorem entry3 : entryContents preI m c (Proc.devRef .tc main_v16_3) = chunks (lM m c) := by
  simp only [entryContents, afterL_cons, afterL_nil]
  after_reads_simp
  rfl

/-- The causal mask. -/
def maskT : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem entry4 : entryContents preI m c (Proc.devRef .tc main_v16_4) = maskT := by
  simp only [entryContents, afterL_cons, afterL_nil]
  after_reads_simp
  rfl

theorem mask_bits : ∀ t s : Fin 64, Scalar.select (IntOp.cmpi CmpIPredicate.sge (IntOp.addi (BitVec.ofNat 32 t.val) 0#32) (BitVec.ofNat 32 s.val)) 1#1 0#1 = if s ≤ t then 1#1 else 0#1 := by
  decide +kernel

theorem maskT_apply (t s : Fin 64) : maskT (ix2 t s) = if s ≤ t then 1#1 else 0#1 := by
  unfold maskT
  simp only [pointwise]
  exact mask_bits t s

theorem entry6 (i : S8x4x128x128.Idx) : entryContents preI m c (Proc.devRef .tc main_v16_6) i = (0 : EReal) := by
  have h : entryContents preI m c (Proc.devRef .tc main_v16_6) = (broadcastInDim S8x4x128x128 ![] bcast_S_S8x4x128x128 (constant S_ .f32 0x00000000#32 : FVec Ideal S_ .f32) : FVec Ideal S8x4x128x128 .f32) := by
    simp only [entryContents, afterL_cons, afterL_nil]
    after_reads_simp
    rfl
  rw [h]
  simp only [pointwise]

/-- The rows after the loop, heads side by side. -/
def flat (x : FVec Ideal S32x8x4x64x128 .f32) : FVec Ideal S8x2048x4x128 .f32 :=
  shapeCast _ (transpose S8x32x64x4x128 [1, 0, 3, 2, 4] x transposes_S32x8x4x64x128_S8x32x64x4x128_1_0_3_2_4) shapeCasts_S8x32x64x4x128_S8x2048x4x128

theorem flat_apply (x : FVec Ideal S32x8x4x64x128 .f32) (n : Fin 32) (b : Fin 8) (h : Fin 4) (t : Fin 64) (d : Fin 128) :
    flat x (ix4 b ⟨64 * n.val + t.val, by omega⟩ h d) = x (ix5 n b h t d) := by
  unfold flat
  simp only [pointwise]

/-- The norm, the weight and the gate. -/
def fin38 (o : FVec Ideal S8x2048x4x128 .f32) (w : FVec Ideal S512 .f32) (g : FVec Ideal S16384x512 .bf16) : FVec Ideal S16384x512 .bf16 :=
  truncf .bf16 (shapeCast _ (mulf (shapeCast _ (mulf (mulf o (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf o o) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast _ w shapeCasts_S512_S4x128)))) shapeCasts_S8x2048x4x128_S8x2048x512) (shapeCast _ (extf .f32 g bitsLt_bf16_f32) shapeCasts_S16384x512_S8x2048x512)) shapeCasts_S8x2048x512_S16384x512) bitsLt_bf16_f32

theorem out_eq (V0 : Valuation τ sig (Elt Ideal)) : out_main_v38 V0 = fin38 (flat (V0 (Proc.devRef .tc main_v16_7))) (V0 (Proc.devRef .tc main_arg4)) (V0 (Proc.devRef .tc main_arg3)) := rfl

theorem fin38_apply (o : FVec Ideal S8x2048x4x128 .f32) (w : FVec Ideal S512 .f32) (g : FVec Ideal S16384x512 .bf16) (b : Fin 8) (t : Fin 2048) (h : Fin 4) (e : Fin 128) :
    fin38 o w g (ix2 ⟨2048 * b.val + t.val, by omega⟩ ⟨128 * h.val + e.val, by omega⟩)
      = nrm (fun e => o (ix4 b t h e)) (fun e => w (ix1 ⟨128 * h.val + e.val, by omega⟩)) (fun e => g (ix2 ⟨2048 * b.val + t.val, by omega⟩ ⟨128 * h.val + e.val, by omega⟩)) e := by
  unfold fin38
  simp only [pointwise, zero_add]
  unfold nrm
  refine congrArg₂ (· * ·) (congrArg₂ (· * ·) rfl (congrArg w (congrArg ix1 (Fin.ext ?_)))) (congrArg g (congrArg₂ ix2 (Fin.ext ?_) rfl))
  · show h.val * 128 + e.val = 128 * h.val + e.val; omega
  · show b.val * 2048 + t.val = 2048 * b.val + t.val; omega

/-- What the loop holds after `k` chunks. -/
structure Inv (k : ℕ) (V0 : Valuation τ sig (Elt Ideal)) : Prop where
  ctr : V0 (Proc.devRef .tc main_v16_5) = fun _ => BitVec.ofNat 32 k
  e0 : V0 (Proc.devRef .tc main_v16_0) = chunks (extf .f32 (qM m c) bitsLt_bf16_f32)
  e1 : V0 (Proc.devRef .tc main_v16_1) = chunks (Host.negf (Host.expm1 (lM m c)))
  e2 : V0 (Proc.devRef .tc main_v16_2) = chunks (extf .f32 (vM m c) bitsLt_bf16_f32)
  e3 : V0 (Proc.devRef .tc main_v16_3) = chunks (lM m c)
  e4 : V0 (Proc.devRef .tc main_v16_4) = maskT
  st : k < 32 → ∀ (b : Fin 8) (h : Fin 4) (d e : Fin 128), (V0 (Proc.devRef .tc main_v16_6) : FVec Ideal S8x4x128x128 .f32) (ix4 b h d e) = stG (rws (lM m c) h.val) (rws (vM m c) h.val) (32 * b.val + k) e d
  out : ∀ (n : Fin 32) (b : Fin 8) (h : Fin 4) (t : Fin 64) (e : Fin 128), n.val < k → (V0 (Proc.devRef .tc main_v16_7) : FVec Ideal S32x8x4x64x128 .f32) (ix5 n b h t e)
    = oRow (rws (qM m c) h.val (32 * b.val + n.val)) (rws (lM m c) h.val (32 * b.val + n.val)) (rws (vM m c) h.val (32 * b.val + n.val)) (stG (rws (lM m c) h.val) (rws (vM m c) h.val) (32 * b.val + n.val)) t e

theorem inv_entry : Inv m c 0 (entryContents preI m c) where
  ctr := ctr_entry m c
  e0 := entry0 m c
  e1 := entry1 m c
  e2 := entry2 m c
  e3 := entry3 m c
  e4 := entry4 m c
  st := fun _ b h d e => by
    rw [stG_reset _ _ _ (by omega)]
    exact entry6 m c _
  out := fun n _ _ _ _ hn => absurd hn (Nat.not_lt_zero _)

theorem chunk_rows (X : FVec Ideal S16384x512 .f32) (n : Fin 32) (b : Fin 8) (h : Fin 4) (t : Fin 64) (d : Fin 128) :
    slc (chunks X) (fun _ => BitVec.ofNat 32 n.val) (ix4 b h t d) = rws (X : S16384x512.Idx → EReal) h.val (32 * b.val + n.val) t d :=
  (slc_apply _ n b h t d).trans ((chunks_apply X n b h t d).trans (at2_of (X : S16384x512.Idx → EReal) _ _ (by omega) (by omega)).symm)

theorem key_real (a : ℝ) : -(Ideal.exp (a : EReal) - 1) = 1 - Ideal.exp (a : EReal) := by
  rw [Ideal.exp_coe]
  rw [← EReal.coe_one, ← EReal.coe_sub, ← EReal.coe_sub, ← EReal.coe_neg]
  congr 1
  ring

theorem key_rows (hl : ∀ i, ∃ a : ℝ, lM m c i = (a : EReal)) (n : Fin 32) (b : Fin 8) (h : Fin 4) (t : Fin 64) (d : Fin 128) :
    slc (chunks (Host.negf (Host.expm1 (lM m c)))) (fun _ => BitVec.ofNat 32 n.val) (ix4 b h t d) = kk (rws (lM m c) h.val (32 * b.val + n.val)) t d := by
  refine (slc_apply _ n b h t d).trans ((chunks_apply _ n b h t d).trans ?_)
  unfold kk
  rw [show rws (lM m c) h.val (32 * b.val + n.val) t d = lM m c (ix2 ⟨64 * (32 * b.val + n.val) + t.val, by omega⟩ ⟨128 * h.val + d.val, by omega⟩) from at2_of _ _ _ (by omega) (by omega)]
  obtain ⟨a, ha⟩ := hl (ix2 ⟨64 * (32 * b.val + n.val) + t.val, by omega⟩ ⟨128 * h.val + d.val, by omega⟩)
  simp only [pointwise]
  rw [ha]
  exact key_real a

theorem bot_bits : Ideal.ofBits .f32 0xFF800000#32 = ⊥ := by
  simp [Ideal.ofBits, Ideal.ieee]

theorem inv_step (hl : ∀ i, ∃ a : ℝ, lM m c i = (a : EReal)) (k : ℕ) (hk : k < 32) (V0 : Valuation τ sig (Elt Ideal)) (H : Inv m c k V0) : Inv m c (k + 1) (STEP V0) where
  ctr := by
    rw [STEP_main_v16_5]
    unfold step_main_v16_5
    rw [H.ctr]
    funext i
    show BitVec.ofNat 32 k + 1#32 = BitVec.ofNat 32 (k + 1)
    exact (BitVec.ofNat_add k 1).symm
  e0 := (STEP_main_v16_0 V0).trans H.e0
  e1 := (STEP_main_v16_1 V0).trans H.e1
  e2 := (STEP_main_v16_2 V0).trans H.e2
  e3 := (STEP_main_v16_3 V0).trans H.e3
  e4 := (STEP_main_v16_4 V0).trans H.e4
  st := fun hk1 b h d e => by
    rw [STEP_main_v16_6, st6_eq, H.ctr, H.e1, H.e2, H.e3]
    refine (st6_apply _ _ _ _ _ b h d e).trans ?_
    rw [← Nat.add_assoc, stG_step _ _ _ (by omega)]
    unfold stNext
    rw [← H.st hk b h d e, mul_comm (Ideal.exp _)]
    have hc : ∀ s : Fin 64, cums (slc (chunks (lM m c)) fun _ => BitVec.ofNat 32 k) (ix4 b h s d) = bc (rws (lM m c) h.val (32 * b.val + k)) s d := fun s => by
      rw [cums_apply]
      exact congrFun (congrFun (congrArg bc (funext fun s => funext fun d => chunk_rows (lM m c) ⟨k, hk⟩ b h s d)) s) d
    rw [lastC_apply]
    refine congrArg₂ (· + ·) (congrArg (_ * Ideal.exp ·) (hc 63)) (Finset.sum_congr rfl fun s _ => ?_)
    rw [mul_comm]
    exact congrArg₂ (· * ·) (chunk_rows (extf .f32 (vM m c) bitsLt_bf16_f32) ⟨k, hk⟩ b h s e) (congrArg₂ (· * ·) (key_rows m c hl ⟨k, hk⟩ b h s d) (congrArg Ideal.exp (congrArg₂ (· - ·) (hc 63) (hc s))))
  out := fun n b h t e hn => by
    rw [STEP_main_v16_7, st7_eq, H.ctr]
    refine (dus_apply _ _ ⟨k, hk⟩ n b h t e).trans ?_
    by_cases hnk : n = ⟨k, hk⟩
    · subst hnk
      rw [if_pos rfl, H.e0, H.e1, H.e2, H.e3, H.e4]
      refine (st7_apply _ _ _ _ _ _ b h t e).trans ?_
      have hc : ∀ (s : Fin 64) (d : Fin 128), cums (slc (chunks (lM m c)) fun _ => BitVec.ofNat 32 k) (ix4 b h s d) = bc (rws (lM m c) h.val (32 * b.val + k)) s d := fun s d => by
        rw [cums_apply]
        exact congrFun (congrFun (congrArg bc (funext fun s => funext fun d => chunk_rows (lM m c) ⟨k, hk⟩ b h s d)) s) d
      have hq : ∀ (s : Fin 64) (d : Fin 128), slc (chunks (extf .f32 (qM m c) bitsLt_bf16_f32)) (fun _ => BitVec.ofNat 32 k) (ix4 b h s d) = rws (qM m c) h.val (32 * b.val + k) s d := fun s d =>
        chunk_rows (extf .f32 (qM m c) bitsLt_bf16_f32) ⟨k, hk⟩ b h s d
      have hv : ∀ (s : Fin 64) (d : Fin 128), slc (chunks (extf .f32 (vM m c) bitsLt_bf16_f32)) (fun _ => BitVec.ofNat 32 k) (ix4 b h s d) = rws (vM m c) h.val (32 * b.val + k) s d := fun s d =>
        chunk_rows (extf .f32 (vM m c) bitsLt_bf16_f32) ⟨k, hk⟩ b h s d
      have hkk : ∀ (s : Fin 64) (d : Fin 128), slc (chunks (Host.negf (Host.expm1 (lM m c)))) (fun _ => BitVec.ofNat 32 k) (ix4 b h s d) = kk (rws (lM m c) h.val (32 * b.val + k)) s d := fun s d =>
        key_rows m c hl ⟨k, hk⟩ b h s d
      unfold oRow sc
      refine congrArg₂ (· + ·) (Finset.sum_congr rfl fun s _ => congrArg₂ (· * ·) (Finset.sum_congr rfl fun d _ => ?_) (hv s e)) (Finset.sum_congr rfl fun d _ => ?_)
      · refine congrArg₂ (· * ·) (congrArg₂ (· * ·) (hq t d) (hkk s d)) (congrArg Ideal.exp ?_)
        rw [maskT_apply, bot_bits]
        by_cases hs : s ≤ t
        · rw [if_pos hs, if_pos hs]
          exact (if_pos rfl).trans (congrArg₂ (· - ·) (hc t d) (hc s d))
        · rw [if_neg hs, if_neg hs, if_neg (by decide)]
      · exact congrArg₂ (· * ·) (congrArg₂ (· * ·) (hq t d) (congrArg Ideal.exp (hc t d))) (H.st hk b h d e)
    · rw [if_neg hnk]
      have : n.val ≠ k := fun h => hnk (Fin.ext h)
      exact H.out n b h t e (by omega)

theorem inv_all (hl : ∀ i, ∃ a : ℝ, lM m c i = (a : EReal)) : ∀ k, k ≤ 32 → Inv m c k (STEP^[k] (entryContents preI m c)) := by
  intro k
  induction k with
  | zero => intro _; exact inv_entry m c
  | succ k ih =>
    intro hk
    rw [Function.iterate_succ_apply']
    exact inv_step m c hl k (by omega) _ (ih (by omega))

/-- The reference's result, one element, where the logs are real. -/
theorem ref38 (hl : ∀ i, ∃ a : ℝ, lM m c i = (a : EReal)) (w : ℕ → EReal) (hw : ∀ j : Fin 512, (m ((c : Thread nD τ).loc main_arg4) : FVec Ideal S512 .f32) (ix1 j) = w j.val)
    (r : Fin 16384) (h : Fin 4) (e : Fin 128) :
    (out_main_v38 (STEP^[32] (entryContents preI m c)) : FVec Ideal S16384x512 .bf16) (ix2 r ⟨128 * h.val + e.val, by omega⟩)
      = resG (qM m c) (lM m c) (vM m c) (m ((c : Thread nD τ).loc main_arg3) : FVec Ideal S16384x512 .bf16) w r.val h.val e := by
  have H := inv_all m c hl 32 le_rfl
  obtain ⟨b, n, t, rfl⟩ : ∃ (b : Fin 8) (n : Fin 32) (t : Fin 64), r = ⟨2048 * b.val + (64 * n.val + t.val), by omega⟩ :=
    ⟨⟨r.val / 2048, by omega⟩, ⟨r.val / 64 % 32, by omega⟩, ⟨r.val % 64, by omega⟩, Fin.ext (by show r.val = 2048 * (r.val / 2048) + (64 * (r.val / 64 % 32) + r.val % 64); omega)⟩
  rw [out_eq, iter_main_arg4, iter_main_arg3]
  refine (fin38_apply _ _ _ b ⟨64 * n.val + t.val, by omega⟩ h e).trans ?_
  have hr : (2048 * b.val + (64 * n.val + t.val)) / 64 = 32 * b.val + n.val := by omega
  have hm : (⟨(2048 * b.val + (64 * n.val + t.val)) % 64, Nat.mod_lt _ (by decide)⟩ : Fin 64) = t := Fin.ext (by show (2048 * b.val + (64 * n.val + t.val)) % 64 = t.val; omega)
  unfold resG
  have a1 : (fun e => flat ((STEP^[32] (entryContents preI m c)) (Proc.devRef .tc main_v16_7)) (ix4 b ⟨64 * n.val + t.val, by omega⟩ h e))
      = oRow (rws (qM m c) h.val (32 * b.val + n.val)) (rws (lM m c) h.val (32 * b.val + n.val)) (rws (vM m c) h.val (32 * b.val + n.val)) (stG (rws (lM m c) h.val) (rws (vM m c) h.val) (32 * b.val + n.val)) t :=
    funext fun e => (flat_apply _ n b h t e).trans (H.out n b h t e n.isLt)
  rw [hr, hm, a1]
  refine congrFun (congr (congrArg (nrm _) (funext fun e => hw _)) (funext fun e => (at2_of _ _ _ _ _).symm)) e

end Cert.Reference6Ideal.Heads
-- ==== Proof.HeadsClaim.lean ====
module

public import proofs.«01_k».proof.Defs
public import proofs.«01_k».proof.Proof.HeadsArr
public import proofs.«01_k».proof.Proof.HeadsRef
public import proofs.«01_k».proof.Proof.CombReal
public import Idealize.ShloMosaic.Lib.Claim

@[expose] public section

noncomputable section

open Idealize.ShloMosaic Idealize.ShloMosaic.TcCoe Idealize.SL.Sem

namespace Cert.Proof.HeadsClaim

open Cert.HeadsMath Cert.CombReal Cert.Kernel6Ideal.Heads

/-- The precondition's side condition. -/
theorem facts : Cert.Pre_finite_log_f.Facts := ⟨by decide⟩

attribute [local instance] facts

/-- The recurrent heads' reference runs and leaves its arguments. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Every index is a row, a head and a column of the head. -/
theorem ix_surj (i : Cert.Kernel6Ideal.S16384x512.Idx) : ∃ (r : Fin 16384) (h : Fin 4) (e : Fin 128), i = ix2 r ⟨128 * h.val + e.val, by omega⟩ := by
  have h1 : (i 1).val < 512 := (i 1).isLt
  refine ⟨i 0, ⟨(i 1).val / 128, by omega⟩, ⟨(i 1).val % 128, by omega⟩, ?_⟩
  funext a
  match a with
  | ⟨0, _⟩ => rfl
  | ⟨1, _⟩ => exact Fin.ext (Nat.div_add_mod (i 1).val 128).symm

/-- The kernel's heads are the reference's, over the extended reals, where the logarithms of the forget gates are finite. -/
theorem algebraic : Cert.algebraic_Kernel6Ideal_Reference6Ideal_pre_finite_log_f := by
  intro m ρ m' ρ' hpre hagree
  refine ⟨fun c => (Cert.Kernel6Ideal.Heads.dats m 0 c).arrAt 5 Cert.Kernel6Ideal.cfg0.N,
    Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1, a2, a3, a4⟩ := hagree c
  obtain ⟨h0, hargs⟩ := h c
  refine ⟨h0.trans ?_, hargs⟩
  have hl : ∀ i, ∃ a : ℝ, lA m c i = (a : EReal) := fun i => real_of_abs (congrFun (hpre c) i)
  have hl' : ∀ i, ∃ a : ℝ, Cert.Reference6Ideal.Heads.lM m' c i = (a : EReal) := fun i => by
    obtain ⟨a, ha⟩ := hl i
    exact ⟨a, (congrFun a1 i).trans ha⟩
  funext i
  obtain ⟨r, h, e, rfl⟩ := ix_surj i
  refine (Cert.Reference6Ideal.Heads.ref38 m' c hl' (wN (wA m c)) (fun j => ?_) r h e).trans (Eq.trans ?_ (final5 m c hl r h e).symm)
  · refine (congrFun a4 (ix1 j)).trans ?_
    unfold wN
    rw [dif_pos j.isLt]
  · unfold Cert.Reference6Ideal.Heads.qM Cert.Reference6Ideal.Heads.lM Cert.Reference6Ideal.Heads.vM
    rw [a0, a1, a2, a3]

end Cert.Proof.HeadsClaim
-- ==== Proof.FirstMoeStep.lean ====
module

public import proofs.«01_k».proof.Proof.Gen.Kernel7Ideal.Value
public import proofs.«01_k».proof.Proof.MoeStep
public import Idealize.ShloMosaic.Lib.Pipeline.Value
public import Idealize.ShloMosaic.Lib.ValueIdx
public import Idealize.ShloMosaic.Lib.Tactic
public import Idealize.ShloMosaic.PureOps.Ideal.Laws

@[expose] public section

noncomputable section

open Idealize.ShloMosaic Idealize.ShloMosaic.TcCoe Idealize.SL.Sem

namespace Cert.Kernel7Ideal.Moe

open Cert.Kernel7Ideal Cert.Kernel7Ideal.Gen
open Cert.Kernel2Ideal.Moe (hz step)

variable {F : FTy → Type} [FloatOps F]

/-- The middle points of a row tile: the scratch over what it held. -/
theorem sout_B (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : ¬cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    sout0_B_0 c i a2 h2 a3 h3 a4 h4 a5 h5 a6 h6 a7 h7 a8 h8 a9 h9 a10 h10 hc0 hc1 x0 x1 x2 x3 x4 x5 x6 xs = step i x0 x1 x3 x4 x5 xs := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs)]
  unfold kernelRun0_B
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The last point of a row tile: the scratch over what it held. -/
theorem sout_C (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    sout0_C_0 c i a2 h2 a3 h3 a4 h4 a5 h5 a6 h6 a7 h7 a8 h8 a9 h9 a10 h10 hc0 hc1 x0 x1 x2 x3 x4 x5 x6 xs = step i x0 x1 x3 x4 x5 xs := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The first point of a row tile: the scratch over a block of zeros. -/
theorem sout_A (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : cond0_0 i) (hc1 : ¬cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) :
    sout0_A_0 c i a2 h2 a3 h3 a4 h4 a5 h5 a6 h6 a7 h7 a8 h8 a9 h9 a10 h10 hc0 hc1 x0 x1 x2 x3 x4 x5 x6 = step i x0 x1 x3 x4 x5 k0_pay3 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x1024) hz]
  simp only [View.readCov_cons_toLoadRect, View.readAt_eq_ld, h2.read_unread, h3.read_unread, h5.read_unread, h6.read_unread, h7.read_unread, h10.read_unread,
    View.ld_unit_zero (S := S1024x1024) hz, View.ld_unit_zero (S := S1024x128) hz]
  rfl

/-- The last point of a row tile: the output block, of the residual rows and the finished accumulator. -/
theorem out_C (c : Dev nD) (i : grid0.Coords) (a2 : Memref sig .tc .vmem S1024x1024 .bf16) (h2 : a2.IsWhole) (a3 : Memref sig .tc .vmem S1024x128 .f32) (h3 : a3.IsWhole) (a4 : Memref sig .tc .vmem S1024x1024 .f32) (h4 : a4.IsWhole) (a5 : Memref sig .tc .vmem S4x1024x256 .bf16) (h5 : a5.IsWhole) (a6 : Memref sig .tc .vmem S4x1024x256 .bf16) (h6 : a6.IsWhole) (a7 : Memref sig .tc .vmem S4x256x1024 .bf16) (h7 : a7.IsWhole) (a8 : Memref sig .tc .vmem S1x1024 .f32) (h8 : a8.IsWhole) (a9 : Memref sig .tc .vmem S1024x1024 .f32) (h9 : a9.IsWhole) (a10 : Memref sig .tc .vmem S1024x1024 .f32) (h10 : a10.IsWhole) (hc0 : ¬cond0_0 i) (hc1 : cond0_1 i)
    (x0 : Vec F S1024x1024 .bf16) (x1 : Vec F S1024x128 .f32) (x2 : Vec F S1024x1024 .f32) (x3 : Vec F S4x1024x256 .bf16) (x4 : Vec F S4x1024x256 .bf16) (x5 : Vec F S4x256x1024 .bf16) (x6 : Vec F S1x1024 .f32) (xs : Vec F S1024x1024 .f32) :
    out0_C_7 c i a2 h2 a3 h3 a4 h4 a5 h5 a6 h6 a7 h7 a8 h8 a9 h9 a10 h10 hc0 hc1 x0 x1 x2 x3 x4 x5 x6 xs = k0_pay2 x2 (step i x0 x1 x3 x4 x5 xs) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_unit_zero (S := S1024x1024) hz]
  simp only [View.readCov_cons_toLoadRect, View.readAt_eq_ld, h2.read_unread, h3.read_unread, h4.read_unread, h5.read_unread, h6.read_unread, h7.read_unread, h8.read_unread, h10.read_unread,
    View.ld_unit_zero (S := S1024x1024) hz, View.ld_unit_zero (S := S1024x128) hz, View.ld_unit_zero (S := S1x1024) hz]
  rfl

end Cert.Kernel7Ideal.Moe
-- ==== Proof.FirstMoeArr.lean ====
module

public import proofs.«01_k».proof.Proof.FirstMoeStep
public import Idealize.ShloMosaic.Lib.Pointwise

@[expose] public section

noncomputable section

open Idealize.ShloMosaic Idealize.ShloMosaic.TcCoe Idealize.SL.Sem

namespace Cert.Kernel7Ideal.Moe

open Cert.Kernel7Ideal Cert.Kernel7Ideal.Gen

variable (m : (ℓ : Loc nD τ sig) → Buf (Elt Ideal) ℓ)

theorem V_v0 (c : Dev nD) (e : Fin 32) (k : Fin 1024) (f : Fin 256) : V m c main_v0 (ix3 e k f) = m ((c : Thread nD τ).loc main_arg3) (ix3 e k f) := by
  have h : V m c main_v0 = (truncf .bf16 (m ((c : Thread nD τ).loc main_arg3) : FVec Ideal S32x1024x256 .f32) bitsLt_bf16_f32 : FVec Ideal S32x1024x256 .bf16) := by
    unfold_abbrev_sides
    after_results
  rw [h]; rfl

theorem V_v1 (c : Dev nD) (e : Fin 32) (k : Fin 1024) (f : Fin 256) : V m c main_v1 (ix3 e k f) = m ((c : Thread nD τ).loc main_arg4) (ix3 e k f) := by
  have h : V m c main_v1 = (truncf .bf16 (m ((c : Thread nD τ).loc main_arg4) : FVec Ideal S32x1024x256 .f32) bitsLt_bf16_f32 : FVec Ideal S32x1024x256 .bf16) := by
    unfold_abbrev_sides
    after_results
  rw [h]; rfl

theorem V_v2 (c : Dev nD) (e : Fin 32) (f : Fin 256) (d : Fin 1024) : V m c main_v2 (ix3 e f d) = m ((c : Thread nD τ).loc main_arg5) (ix3 e f d) := by
  have h : V m c main_v2 = (truncf .bf16 (m ((c : Thread nD τ).loc main_arg5) : FVec Ideal S32x256x1024 .f32) bitsLt_bf16_f32 : FVec Ideal S32x256x1024 .bf16) := by
    unfold_abbrev_sides
    after_results
  rw [h]; rfl

/-- Which block each window reads at each grid point. -/
theorem idx_in : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 3) = t.val % 8 ∧ win0_5.index t (1 : Fin 3) = 0 ∧ win0_5.index t (2 : Fin 3) = 0
    ∧ win0_6.index t (0 : Fin 2) = 0 ∧ win0_6.index t (1 : Fin 2) = 0 ∧ (grid0.coords t 1).val = t.val % 8 :=
  (by decide +kernel : ∀ t : Fin grid0.N, _)

theorem tdiv (t : Fin cfg0.N) : t.val / 8 < 16 := by
  have : t.val < 128 := lt_of_lt_of_eq t.isLt (show cfg0.N = 128 from N_0)
  omega

theorem iblk0 (c : Dev nD) (t : Fin cfg0.N) (r k : Fin 1024) :
    (iblk m c 0 t : Vec Ideal S1024x1024 .bf16) (ix2 r k) = m ((c : Thread nD τ).loc main_arg0) (ix2 ⟨1024 * (t.val / 8) + r.val, by have := tdiv t; omega⟩ k) := by
  rw [← V_main_arg0 m c]
  show V m c main_arg0 _ = V m c main_arg0 _
  congr 1
  obtain ⟨e0, e1, -⟩ := idx_in t
  funext a; apply Fin.ext
  match a with
  | ⟨0, _⟩ => show win0_0.index t (0 : Fin 2) * 1024 + 1 * r.val = 1024 * (t.val / 8) + r.val; omega
  | ⟨1, _⟩ => show win0_0.index t (1 : Fin 2) * 1024 + 1 * k.val = k.val; omega

theorem iblk1 (c : Dev nD) (t : Fin cfg0.N) (r : Fin 1024) (l : Fin 128) :
    (iblk m c 1 t : Vec Ideal S1024x128 .f32) (ix2 r l) = m ((c : Thread nD τ).loc main_arg1) (ix2 ⟨1024 * (t.val / 8) + r.val, by have := tdiv t; omega⟩ l) := by
  rw [← V_main_arg1 m c]
  show V m c main_arg1 _ = V m c main_arg1 _
  congr 1
  obtain ⟨-, -, e0, e1, -⟩ := idx_in t
  funext a; apply Fin.ext
  match a with
  | ⟨0, _⟩ => show win0_1.index t (0 : Fin 2) * 1024 + 1 * r.val = 1024 * (t.val / 8) + r.val; omega
  | ⟨1, _⟩ => show win0_1.index t (1 : Fin 2) * 128 + 1 * l.val = l.val; omega

theorem iblk2 (c : Dev nD) (t : Fin cfg0.N) (r k : Fin 1024) :
    (iblk m c 2 t : Vec Ideal S1024x1024 .f32) (ix2 r k) = m ((c : Thread nD τ).loc main_arg2) (ix2 ⟨1024 * (t.val / 8) + r.val, by have := tdiv t; omega⟩ k) := by
  rw [← V_main_arg2 m c]
  show V m c main_arg2 _ = V m c main_arg2 _
  congr 1
  obtain ⟨-, -, -, -, e0, e1, -⟩ := idx_in t
  funext a; apply Fin.ext
  match a with
  | ⟨0, _⟩ => show win0_2.index t (0 : Fin 2) * 1024 + 1 * r.val = 1024 * (t.val / 8) + r.val; omega
  | ⟨1, _⟩ => show win0_2.index t (1 : Fin 2) * 1024 + 1 * k.val = k.val; omega

theorem iblk3 (c : Dev nD) (t : Fin cfg0.N) (j : Fin 4) (k : Fin 1024) (f : Fin 256) :
    (iblk m c 3 t : Vec Ideal S4x1024x256 .bf16) (ix3 j k f) = m ((c : Thread nD τ).loc main_arg3) (ix3 ⟨4 * (t.val % 8) + j.val, by omega⟩ k f) := by
  rw [← V_v0 m c]
  show V m c main_v0 _ = V m c main_v0 _
  congr 1
  obtain ⟨-, -, -, -, -, -, e0, e1, e2, -⟩ := idx_in t
  funext a; apply Fin.ext
  match a with
  | ⟨0, _⟩ => show win0_3.index t (0 : Fin 3) * 4 + 1 * j.val = 4 * (t.val % 8) + j.val; omega
  | ⟨1, _⟩ => show win0_3.index t (1 : Fin 3) * 1024 + 1 * k.val = k.val; omega
  | ⟨2, _⟩ => show win0_3.index t (2 : Fin 3) * 256 + 1 * f.val = f.val; omega

theorem iblk4 (c : Dev nD) (t : Fin cfg0.N) (j : Fin 4) (k : Fin 1024) (f : Fin 256) :
    (iblk m c 4 t : Vec Ideal S4x1024x256 .bf16) (ix3 j k f) = m ((c : Thread nD τ).loc main_arg4) (ix3 ⟨4 * (t.val % 8) + j.val, by omega⟩ k f) := by
  rw [← V_v1 m c]
  show V m c main_v1 _ = V m c main_v1 _
  congr 1
  obtain ⟨-, -, -, -, -, -, -, -, -, e0, e1, e2, -⟩ := idx_in t
  funext a; apply Fin.ext
  match a with
  | ⟨0, _⟩ => show win0_4.index t (0 : Fin 3) * 4 + 1 * j.val = 4 * (t.val % 8) + j.val; omega
  | ⟨1, _⟩ => show win0_4.index t (1 : Fin 3) * 1024 + 1 * k.val = k.val; omega
  | ⟨2, _⟩ => show win0_4.index t (2 : Fin 3) * 256 + 1 * f.val = f.val; omega

theorem iblk5 (c : Dev nD) (t : Fin cfg0.N) (j : Fin 4) (f : Fin 256) (d : Fin 1024) :
    (iblk m c 5 t : Vec Ideal S4x256x1024 .bf16) (ix3 j f d) = m ((c : Thread nD τ).loc main_arg5) (ix3 ⟨4 * (t.val % 8) + j.val, by omega⟩ f d) := by
  rw [← V_v2 m c]
  show V m c main_v2 _ = V m c main_v2 _
  congr 1
  obtain ⟨-, -, -, -, -, -, -, -, -, -, -, -, e0, e1, e2, -⟩ := idx_in t
  funext a; apply Fin.ext
  match a with
  | ⟨0, _⟩ => show win0_5.index t (0 : Fin 3) * 4 + 1 * j.val = 4 * (t.val % 8) + j.val; omega
  | ⟨1, _⟩ => show win0_5.index t (1 : Fin 3) * 256 + 1 * f.val = f.val; omega
  | ⟨2, _⟩ => show win0_5.index t (2 : Fin 3) * 1024 + 1 * d.val = d.val; omega

end Cert.Kernel7Ideal.Moe
-- ==== Proof.FirstMoeFold.lean ====
module

public import proofs.«01_k».proof.Proof.MoeFold
public import proofs.«01_k».proof.Proof.FirstMoeArr

@[expose] public section

noncomputable section

open Idealize.ShloMosaic Idealize.ShloMosaic.TcCoe Idealize.SL.Sem

namespace Cert.Kernel7Ideal.Moe

open Cert.Kernel7Ideal Cert.Kernel7Ideal.Gen
open Cert.Kernel2Ideal.Moe (step step_apply expB expG)

theorem pay2_apply (x acc : Vec Ideal S1024x1024 .f32) (r d : Fin 1024) :
    k0_pay2 (F := Ideal) x acc (ix2 r d) = x (ix2 r d) + acc (ix2 r d) := by
  unfold k0_pay2
  simp only [pointwise]

theorem pay3_apply (r d : Fin 1024) : k0_pay3 (F := Ideal) (ix2 r d) = 0 := by
  unfold k0_pay3
  simp only [pointwise]

variable (m : (ℓ : Loc nD τ sig) → Buf (Elt Ideal) ℓ)

/-- The same at the launch's arrays, numbered by a natural number. -/
def termM (c : Dev nD) (r : Fin 16384) (d : Fin 1024) (e : ℕ) : EReal :=
  if h : e < 32 then expG (m ((c : Thread nD τ).loc main_arg0)) (m ((c : Thread nD τ).loc main_arg1)) (m ((c : Thread nD τ).loc main_arg3))
    (m ((c : Thread nD τ).loc main_arg4)) (m ((c : Thread nD τ).loc main_arg5)) ⟨e, h⟩ r d else 0

theorem expB_eq (c : Dev nD) (t : Fin cfg0.N) (j : Fin 4) (e : Fin 128) (he : e.val = 4 * (t.val % 8) + j.val) (r d : Fin 1024) :
    expB (iblk m c 0 t) (iblk m c 1 t) (iblk m c 3 t) (iblk m c 4 t) (iblk m c 5 t) j e r d
      = termM m c ⟨1024 * (t.val / 8) + r.val, by have := tdiv t; omega⟩ d (4 * (t.val % 8) + j.val) := by
  unfold termM
  rw [dif_pos (show 4 * (t.val % 8) + j.val < 32 by omega)]
  unfold expB expG
  obtain ⟨ev, hev⟩ := e
  obtain rfl : ev = 4 * (t.val % 8) + j.val := he
  simp only [iblk0, iblk1, iblk3, iblk4, iblk5]

theorem step_eq (c : Dev nD) (t : Fin cfg0.N) (acc : Vec Ideal S1024x1024 .f32) (r d : Fin 1024) :
    step (F := Ideal) (grid0.coords t) (iblk m c 0 t) (iblk m c 1 t) (iblk m c 3 t) (iblk m c 4 t) (iblk m c 5 t) acc (ix2 r d)
      = acc (ix2 r d) + (∑ j ∈ Finset.range 4, termM m c ⟨1024 * (t.val / 8) + r.val, by have := tdiv t; omega⟩ d (4 * (t.val % 8) + j)) := by
  have hq : t.val % 8 = (grid0.coords t 1).val := by
    obtain ⟨-, -, -, -, -, -, -, -, -, -, -, -, -, -, -, -, -, e⟩ := idx_in t
    exact e.symm
  rw [step_apply (grid0.coords t) (t.val % 8) hq (Nat.mod_lt _ (by decide)),
    expB_eq m c t 0 _ rfl, expB_eq m c t 1 _ rfl, expB_eq m c t 2 _ rfl, expB_eq m c t 3 _ rfl]
  simp only [Finset.sum_range_succ, Finset.sum_range_zero, zero_add, add_assoc]
  rfl

/-- The accumulator after the points of a row tile up to its `k`th: the experts so far, summed. -/
theorem scratch_eq (c : Dev nD) (q : ℕ) : ∀ (k : ℕ) (hk : k < 8) (h : 8 * q + k < cfg0.N) (r d : Fin 1024) (R : Fin 16384) (hR : R.val = 1024 * q + r.val),
    (outsAt0 m c (8 * q + k) h).2 (ix2 r d) = ∑ e ∈ Finset.range (4 * (k + 1)), termM m c R d e := by
  intro k
  induction k with
  | zero =>
    intro hk h r d R hR
    have h0 : (⟨8 * q + 0, h⟩ : Fin cfg0.N).val % 8 = 0 := by show (8 * q + 0) % 8 = 0; omega
    have h1 : ¬(⟨8 * q + 0, h⟩ : Fin cfg0.N).val % 8 = 7 := by rw [h0]; decide
    have e := outsAt0_A m c ⟨8 * q + 0, h⟩ h0 h1
    dsimp only at e
    rw [e]
    dsimp only
    rw [sout_A, step_eq, pay3_apply, zero_add]
    refine Finset.sum_congr rfl fun j _ => ?_
    congr 1
    · apply Fin.ext; show 1024 * ((8 * q + 0) / 8) + r.val = R.val; omega
    · show 4 * ((8 * q + 0) % 8) + j = j; omega
  | succ k ih =>
    intro hk h r d R hR
    have hq0 : (8 * q + (k + 1)) % 8 = k + 1 := by omega
    have hq1 : (8 * q + (k + 1)) / 8 = q := by omega
    have h0 : ¬(⟨8 * q + (k + 1), h⟩ : Fin cfg0.N).val % 8 = 0 := by show ¬(8 * q + (k + 1)) % 8 = 0; omega
    have hs : (outsAt0 m c (8 * q + (k + 1)) h).2 (ix2 r d) = (outsAt0 m c (8 * q + k) (Nat.lt_of_succ_lt h)).2 (ix2 r d)
        + (∑ j ∈ Finset.range 4, termM m c R d (4 * (k + 1) + j)) := by
      have key : ∀ acc : Vec Ideal S1024x1024 .f32, step (F := Ideal) (grid0.coords ⟨8 * q + (k + 1), h⟩) (iblk m c 0 ⟨8 * q + (k + 1), h⟩) (iblk m c 1 ⟨8 * q + (k + 1), h⟩)
          (iblk m c 3 ⟨8 * q + (k + 1), h⟩) (iblk m c 4 ⟨8 * q + (k + 1), h⟩) (iblk m c 5 ⟨8 * q + (k + 1), h⟩) acc (ix2 r d)
          = acc (ix2 r d) + (∑ j ∈ Finset.range 4, termM m c R d (4 * (k + 1) + j)) := by
        intro acc
        rw [step_eq]
        refine congrArg (acc (ix2 r d) + ·) (Finset.sum_congr rfl fun j _ => ?_)
        congr 1
        · apply Fin.ext; show 1024 * ((8 * q + (k + 1)) / 8) + r.val = R.val; omega
        · show 4 * ((8 * q + (k + 1)) % 8) + j = 4 * (k + 1) + j; omega
      by_cases h1 : (⟨8 * q + (k + 1), h⟩ : Fin cfg0.N).val % 8 = 7
      · have e := outsAt0_C m c ⟨8 * q + (k + 1), h⟩ h0 h1
        dsimp only at e
        rw [e]
        dsimp only
        rw [sout_C]
        exact key _
      · have e := outsAt0_B m c ⟨8 * q + (k + 1), h⟩ h0 h1
        dsimp only at e
        rw [e]
        dsimp only
        rw [sout_B]
        exact key _
    rw [hs, ih (by omega) (Nat.lt_of_succ_lt h) r d R hR, show 4 * (k + 1 + 1) = 4 * (k + 1) + 4 by ring, Finset.sum_range_add]

/-- The sum over all 32 experts. -/
def moeSum (c : Dev nD) (r : Fin 16384) (d : Fin 1024) : EReal :=
  ∑ e : Fin 32, expG (m ((c : Thread nD τ).loc main_arg0)) (m ((c : Thread nD τ).loc main_arg1)) (m ((c : Thread nD τ).loc main_arg3))
    (m ((c : Thread nD τ).loc main_arg4)) (m ((c : Thread nD τ).loc main_arg5)) e r d

theorem range_moeSum (c : Dev nD) (r : Fin 16384) (d : Fin 1024) : ∑ e ∈ Finset.range 32, termM m c r d e = moeSum m c r d := by
  rw [Finset.sum_range]
  refine Finset.sum_congr rfl fun e _ => ?_
  unfold termM
  rw [dif_pos e.isLt]

/-- The residual stream as launched. -/
abbrev x1A (c : Dev nD) : S16384x1024.Idx → EReal := m ((c : Thread nD τ).loc main_arg2)

/-- The residual stream after the layer's experts. -/
def resid (c : Dev nD) (r : Fin 16384) (d : Fin 1024) : EReal :=
  x1A m c (ix2 r d) + moeSum m c r d

/-- The kernel's result, one element. -/
theorem G7_apply (c : Dev nD) (r : Fin 16384) (d : Fin 1024) :
    Value.G7 m c (ix2 r d) = resid m c r d := by
  have hp : Value.pt7Of (ix2 r d) = 8 * (r.val / 1024) + 7 := by
    show 8 * (1 * (r.val / 1024 - 0) + 1 * (d.val / 1024 - 0)) + 7 = _
    have := d.isLt
    omega
  have hlt : 8 * (r.val / 1024) + 7 < cfg0.N := by
    have := r.isLt
    rw [show cfg0.N = 128 from N_0]; omega
  have hl : Value.loc7Of (ix2 r d) = ix2 (⟨r.val % 1024, Nat.mod_lt _ (by decide)⟩ : Fin 1024) d := by
    funext a; apply Fin.ext
    match a with
    | ⟨0, _⟩ => rfl
    | ⟨1, _⟩ => exact Nat.mod_eq_of_lt d.isLt
  unfold Value.G7
  rw [dif_pos (by rw [hp]; exact hlt), hl, Value.fold0_congr m c _ _ (8 * (r.val / 1024) + 7) (by omega) hp, ← Value.outsAt0_sweep m c _ hlt]
  have h0 : ¬(⟨8 * (r.val / 1024) + 7, hlt⟩ : Fin cfg0.N).val % 8 = 0 := by show ¬(8 * (r.val / 1024) + 7) % 8 = 0; omega
  have h1 : (⟨8 * (r.val / 1024) + 7, hlt⟩ : Fin cfg0.N).val % 8 = 7 := by show (8 * (r.val / 1024) + 7) % 8 = 7; omega
  have e := outsAt0_C m c ⟨8 * (r.val / 1024) + 7, hlt⟩ h0 h1
  have hsc : ∀ k : Fin 1024, (outsAt0 m c (8 * (r.val / 1024) + 7) hlt).2 (ix2 (⟨r.val % 1024, Nat.mod_lt _ (by decide)⟩ : Fin 1024) k) = moeSum m c r k := by
    intro k
    rw [scratch_eq m c (r.val / 1024) 7 (by decide) hlt _ k r (by show r.val = 1024 * (r.val / 1024) + r.val % 1024; omega)]
    exact range_moeSum m c r k
  dsimp only at e
  rw [e] at hsc ⊢
  dsimp only at hsc ⊢
  rw [sout_C] at hsc
  rw [out_C, pay2_apply]
  have hx : ∀ k : Fin 1024, (iblk m c 2 ⟨8 * (r.val / 1024) + 7, hlt⟩ : Vec Ideal S1024x1024 .f32) (ix2 (⟨r.val % 1024, Nat.mod_lt _ (by decide)⟩ : Fin 1024) k)
      = x1A m c (ix2 r k) := by
    intro k
    rw [iblk2]
    unfold x1A
    congr 2
    apply Fin.ext
    show 1024 * ((8 * (r.val / 1024) + 7) / 8) + r.val % 1024 = r.val
    omega
  rw [hx, hsc]
  rfl

end Cert.Kernel7Ideal.Moe
-- ==== Proof.FirstMoeRef.lean ====
module

public import proofs.«01_k».proof.Proof.Gen.Reference7Ideal.Read
public import proofs.«01_k».proof.Proof.MoeRef
public import Idealize.ShloMosaic.Lib.Pointwise
public import Idealize.ShloMosaic.PureOps.Ideal.Laws

@[expose] public section

noncomputable section

open Idealize.ShloMosaic Idealize.ShloMosaic.TcCoe Idealize.SL.Sem

namespace Cert.Reference7Ideal.Moe

open Cert.Reference7Ideal Cert.Reference7Ideal.Read
open Cert.Reference2Ideal.Moe (expG resid)

variable (x0 : Vec Ideal S16384x1024 .bf16) (x1 : Vec Ideal S16384x128 .f32) (x2 : Vec Ideal S16384x1024 .f32) (x3 x4 : Vec Ideal S32x1024x256 .f32)
  (x5 : Vec Ideal S32x256x1024 .f32)

theorem v9_apply (r : Fin 16384) (d : Fin 1024) :
    val_main_v9 (F := Ideal) x0 x1 x3 x4 x5 (ix2 r d) = ∑ e : Fin 32, expG x0 x1 x3 x4 x5 e r d := by
  exact Cert.Reference2Ideal.Moe.v9_apply x0 x1 x3 x4 x5 r d

/-- The reference's result, one element. -/
theorem result_apply (r : Fin 16384) (d : Fin 1024) :
    val_main_v10 (F := Ideal) x0 x1 x2 x3 x4 x5 (ix2 r d) = resid x0 x1 x2 x3 x4 x5 r d := by
  unfold val_main_v10
  simp only [pointwise]
  rw [v9_apply]
  rfl

end Cert.Reference7Ideal.Moe
-- ==== Proof.FirstMoeClaim.lean ====
module

public import proofs.«01_k».proof.Defs
public import proofs.«01_k».proof.Proof.FirstMoeFold
public import proofs.«01_k».proof.Proof.FirstMoeRef
public import proofs.«01_k».proof.Proof.Gen.Reference7Ideal.Run
public import Idealize.ShloMosaic.Lib.Claim

@[expose] public section

noncomputable section

open Idealize.ShloMosaic Idealize.ShloMosaic.TcCoe Idealize.SL.Sem

namespace Cert.Proof.FirstMoeClaim

/-- The reference of the first layer's experts runs and leaves its arguments. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel's result array is the reference's, over the extended reals. -/
theorem algebraic : Cert.algebraic_Kernel7Ideal_Reference7Ideal := by
  intro m ρ m' ρ' _ hagree
  refine ⟨fun c => Cert.Kernel7Ideal.Value.G7 m c, Cert.Kernel7Ideal.Value.run (F := Ideal) m ρ, ?_⟩
  refine (θ_run Cert.Reference7Ideal.defs _ _).mono (fun _ h c => ⟨(h c).1.trans ?_, (h c).2⟩) (Cert.Reference7Ideal.Value.run (F := Ideal) m' ρ')
  obtain ⟨a0, a1, a2, a3, a4, a5, a6⟩ := hagree c
  rw [Cert.Reference7Ideal.Read.val_main_v10_eq, a0, a1, a2, a3, a4, a5]
  funext i
  obtain ⟨r, d, rfl⟩ : ∃ (r : Fin 16384) (d : Fin 1024), i = ix2 r d := ⟨i 0, i 1, by funext a; match a with | ⟨0, _⟩ => rfl | ⟨1, _⟩ => rfl⟩
  exact (Cert.Reference7Ideal.Moe.result_apply _ _ _ _ _ _ r d).trans (Cert.Kernel7Ideal.Moe.G7_apply m c r d).symm

end Cert.Proof.FirstMoeClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.HeadsWordFrame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.HeadsFrame
public import proofs.«01_k».proof.Proof.HeadsValue
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.AttnClaim
public import proofs.«01_k».proof.Proof.MoeClaim
public import proofs.«01_k».proof.Proof.NormClaim
public import proofs.«01_k».proof.Proof.OutClaim
public import proofs.«01_k».proof.Proof.CombClaim
public import proofs.«01_k».proof.Proof.HeadsClaim
public import proofs.«01_k».proof.Proof.FirstMoeClaim
public import Idealize.ShloMosaic.Adequacy
public import Idealize.ShloMosaic.Init

@[expose] public section

noncomputable section

namespace Cert.Proof

open Idealize.ShloMosaic Idealize.SL.Sem Cert.Kernel

/-- The attention's reference runs and leaves its arguments. -/
theorem frame_attention_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.CombReal.facts, HeadsClaim.facts,
  fun m ρ _ => Cert.Kernel.Gen.frame m ρ, fun m ρ _ => Cert.KernelIdeal.Gen.frame m ρ, frame_attention_reference,
  fun m ρ _ => Cert.Kernel2.Gen.frame m ρ, fun m ρ _ => Cert.Kernel2Ideal.Gen.frame m ρ, MoeClaim.frame_reference,
  fun m ρ _ => Cert.Kernel3.Gen.frame m ρ, fun m ρ _ => Cert.Kernel3Ideal.Gen.frame m ρ, NormClaim.frame_reference,
  fun m ρ _ => Cert.Kernel4.Gen.frame m ρ, fun m ρ _ => Cert.Kernel4Ideal.Gen.frame m ρ, OutClaim.frame_reference,
  fun m ρ _ => Cert.Kernel5.Gen.frame m ρ, fun m ρ _ => Cert.Kernel5Ideal.Gen.frame m ρ, fun m ρ _ => Cert.Kernel5Ideal.Gen.frame m ρ, CombClaim.frame_reference, fun m ρ _ => CombClaim.frame_reference m ρ trivial,
  fun m ρ _ => Cert.Kernel6.Heads.frame m ρ, fun m ρ _ => Cert.Kernel6Ideal.Heads.frame m ρ, fun m ρ _ => Cert.Kernel6Ideal.Heads.frame m ρ, HeadsClaim.frame_reference, fun m ρ _ => HeadsClaim.frame_reference m ρ trivial,
  fun m ρ _ => Cert.Kernel7.Gen.frame m ρ, fun m ρ _ => Cert.Kernel7Ideal.Gen.frame m ρ, FirstMoeClaim.frame_reference,
  IdealRules.named_const.statement Cert.KernelIdeal.κ "mask" .f32 0xF149F2CA#32 ⊥ rfl, AttnClaim.algebraic, trivial, MoeClaim.algebraic, trivial, NormClaim.algebraic, trivial, OutClaim.algebraic, trivial, CombClaim.algebraic, trivial, HeadsClaim.algebraic, trivial, FirstMoeClaim.algebraic⟩

end Cert.Proof

end
